-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjIdeal_finite_logits [hPre_finite_logits : Cert.Pre_finite_logits.Facts] (m : (ℓ : Loc Cert.InProjIdeal.nD Cert.InProjIdeal.τ Cert.InProjIdeal.sig) → Buf (Elt Ideal) ℓ) : Prop :=
  ∀ c : Dev Cert.InProjIdeal.nD,
    (Cert.Pre_finite_logits.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4)) (m ((c.tc : Thread Cert.InProjIdeal.nD Cert.InProjIdeal.τ).loc Cert.InProjIdeal.main_arg5)) (m ((c.tc : Thread Cert.InProjIdeal.nD Cert.InProjIdeal.τ).loc Cert.InProjIdeal.main_arg6))) = (fun _ => 1#1)

def Pre_InProjReferenceIdeal (m : (ℓ : Loc Cert.InProjReferenceIdeal.nD Cert.InProjReferenceIdeal.τ Cert.InProjReferenceIdeal.sig) → Buf (Elt Ideal) ℓ) : Prop :=
  True

def Pre_InProjReferenceIdeal_finite_logits [hPre_finite_logits : Cert.Pre_finite_logits.Facts] (m : (ℓ : Loc Cert.InProjReferenceIdeal.nD Cert.InProjReferenceIdeal.τ Cert.InProjReferenceIdeal.sig) → Buf (Elt Ideal) ℓ) : Prop :=
  ∀ c : Dev Cert.InProjReferenceIdeal.nD,
    (Cert.Pre_finite_logits.fn (F := Ideal) (m ((c.tc : Thread Cert.InProjReferenceIdeal.nD Cert.InProjReferenceIdeal.τ).loc Cert.InProjReferenceIdeal.main_arg0)) (m ((c.tc : Thread Cert.InProjReferenceIdeal.nD Cert.InProjReferenceIdeal.τ).loc Cert.InProjReferenceIdeal.main_arg1)) (m ((c.tc : Thread Cert.InProjReferenceIdeal.nD Cert.InProjReferenceIdeal.τ).loc Cert.InProjReferenceIdeal.main_arg2)) (m ((c.tc : Thread Cert.InProjReferenceIdeal.nD Cert.InProjReferenceIdeal.τ).loc Cert.InProjReferenceIdeal.main_arg3)) (m ((c.tc : Thread Cert.InProjReferenceIdeal.nD Cert.InProjReferenceIdeal.τ).loc Cert.InProjReferenceIdeal.main_arg4)) (m ((c.tc : Thread Cert.InProjReferenceIdeal.nD Cert.InProjReferenceIdeal.τ).loc Cert.InProjReferenceIdeal.main_arg5)) (m ((c.tc : Thread Cert.InProjReferenceIdeal.nD Cert.InProjReferenceIdeal.τ).loc Cert.InProjReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5)
      ∧ r.2.mem ((c.tc : Thread Cert.InProj.nD Cert.InProj.τ).loc Cert.InProj.main_arg6) = m ((c.tc : Thread Cert.InProj.nD Cert.InProj.τ).loc Cert.InProj.main_arg6))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
      ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6))
      ∧ r.2.sem = fun _ => 0)

def quiescent_InProjIdeal_pre_finite_logits [hInProjIdeal : Cert.InProjIdeal.Facts] [hPre_finite_logits : Cert.Pre_finite_logits.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal_finite_logits m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
      ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2)
      ∧ r.2.mem ((c.tc : Thread Cert.InProjReferenceIdeal.nD Cert.InProjReferenceIdeal.τ).loc Cert.InProjReferenceIdeal.main_arg3) = m ((c.tc : Thread Cert.InProjReferenceIdeal.nD Cert.InProjReferenceIdeal.τ).loc Cert.InProjReferenceIdeal.main_arg3)
      ∧ r.2.mem ((c.tc : Thread Cert.InProjReferenceIdeal.nD Cert.InProjReferenceIdeal.τ).loc Cert.InProjReferenceIdeal.main_arg4) = m ((c.tc : Thread Cert.InProjReferenceIdeal.nD Cert.InProjReferenceIdeal.τ).loc Cert.InProjReferenceIdeal.main_arg4)
      ∧ r.2.mem ((c.tc : Thread Cert.InProjReferenceIdeal.nD Cert.InProjReferenceIdeal.τ).loc Cert.InProjReferenceIdeal.main_arg5) = m ((c.tc : Thread Cert.InProjReferenceIdeal.nD Cert.InProjReferenceIdeal.τ).loc Cert.InProjReferenceIdeal.main_arg5)
      ∧ r.2.mem ((c.tc : Thread Cert.InProjReferenceIdeal.nD Cert.InProjReferenceIdeal.τ).loc Cert.InProjReferenceIdeal.main_arg6) = m ((c.tc : Thread Cert.InProjReferenceIdeal.nD Cert.InProjReferenceIdeal.τ).loc Cert.InProjReferenceIdeal.main_arg6))
      ∧ r.2.sem = fun _ => 0)

def quiescent_InProjReferenceIdeal_pre_finite_logits [hInProjReferenceIdeal : Cert.InProjReferenceIdeal.Facts] [hPre_finite_logits : Cert.Pre_finite_logits.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal_finite_logits m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2)
      ∧ r.2.mem ((c.tc : Thread Cert.InProjReferenceIdeal.nD Cert.InProjReferenceIdeal.τ).loc Cert.InProjReferenceIdeal.main_arg3) = m ((c.tc : Thread Cert.InProjReferenceIdeal.nD Cert.InProjReferenceIdeal.τ).loc Cert.InProjReferenceIdeal.main_arg3)
      ∧ r.2.mem ((c.tc : Thread Cert.InProjReferenceIdeal.nD Cert.InProjReferenceIdeal.τ).loc Cert.InProjReferenceIdeal.main_arg4) = m ((c.tc : Thread Cert.InProjReferenceIdeal.nD Cert.InProjReferenceIdeal.τ).loc Cert.InProjReferenceIdeal.main_arg4)
      ∧ r.2.mem ((c.tc : Thread Cert.InProjReferenceIdeal.nD Cert.InProjReferenceIdeal.τ).loc Cert.InProjReferenceIdeal.main_arg5) = m ((c.tc : Thread Cert.InProjReferenceIdeal.nD Cert.InProjReferenceIdeal.τ).loc Cert.InProjReferenceIdeal.main_arg5)
      ∧ r.2.mem ((c.tc : Thread Cert.InProjReferenceIdeal.nD Cert.InProjReferenceIdeal.τ).loc Cert.InProjReferenceIdeal.main_arg6) = m ((c.tc : Thread Cert.InProjReferenceIdeal.nD Cert.InProjReferenceIdeal.τ).loc Cert.InProjReferenceIdeal.main_arg6))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v16_0)) (v1 : (c : Dev Cert.KernelIdeal.nD) → Buf (Elt Ideal) ((c.tc : Thread Cert.KernelIdeal.nD Cert.KernelIdeal.τ).loc Cert.KernelIdeal.main_v16_1)) (v2 : (c : Dev Cert.KernelIdeal.nD) → Buf (Elt Ideal) ((c.tc : Thread Cert.KernelIdeal.nD Cert.KernelIdeal.τ).loc Cert.KernelIdeal.main_v16_2)) (v3 : (c : Dev Cert.KernelIdeal.nD) → Buf (Elt Ideal) ((c.tc : Thread Cert.KernelIdeal.nD Cert.KernelIdeal.τ).loc Cert.KernelIdeal.main_v16_3)) (v4 : (c : Dev Cert.KernelIdeal.nD) → Buf (Elt Ideal) ((c.tc : Thread Cert.KernelIdeal.nD Cert.KernelIdeal.τ).loc Cert.KernelIdeal.main_v16_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16_0) = v0 c
          ∧ r.2.mem ((c.tc : Thread Cert.KernelIdeal.nD Cert.KernelIdeal.τ).loc Cert.KernelIdeal.main_v16_1) = v1 c
          ∧ r.2.mem ((c.tc : Thread Cert.KernelIdeal.nD Cert.KernelIdeal.τ).loc Cert.KernelIdeal.main_v16_2) = v2 c
          ∧ r.2.mem ((c.tc : Thread Cert.KernelIdeal.nD Cert.KernelIdeal.τ).loc Cert.KernelIdeal.main_v16_3) = v3 c
          ∧ r.2.mem ((c.tc : Thread Cert.KernelIdeal.nD Cert.KernelIdeal.τ).loc Cert.KernelIdeal.main_v16_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_v99) = v1 c
          ∧ r.2.mem ((c.tc : Thread Cert.ReferenceIdeal.nD Cert.ReferenceIdeal.τ).loc Cert.ReferenceIdeal.main_v100) = v2 c
          ∧ r.2.mem ((c.tc : Thread Cert.ReferenceIdeal.nD Cert.ReferenceIdeal.τ).loc Cert.ReferenceIdeal.main_v101) = v3 c
          ∧ r.2.mem ((c.tc : Thread Cert.ReferenceIdeal.nD Cert.ReferenceIdeal.τ).loc Cert.ReferenceIdeal.main_v103) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v0)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v8) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v0_0)) (v1 : (c : Dev Cert.MergeIdeal.nD) → Buf (Elt Ideal) ((c.tc : Thread Cert.MergeIdeal.nD Cert.MergeIdeal.τ).loc Cert.MergeIdeal.main_v0_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0_0) = v0 c
          ∧ r.2.mem ((c.tc : Thread Cert.MergeIdeal.nD Cert.MergeIdeal.τ).loc Cert.MergeIdeal.main_v0_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v15) = v0 c
          ∧ r.2.mem ((c.tc : Thread Cert.MergeReferenceIdeal.nD Cert.MergeReferenceIdeal.τ).loc Cert.MergeReferenceIdeal.main_v28) = v1 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7))

def preserves_InProj_InProjIdeal : Prop :=
  IdealRules.named_const.Statement Cert.InProjIdeal.κ "log2e" .f32 0x3FB8AA3B#32 (((Real.log 2)⁻¹ : ℝ) : EReal)
  ∧ IdealRules.named_const.Statement Cert.InProjIdeal.κ "scale" .f32 0x3E0293EE#32 ((((Real.sqrt 128) * (Real.log 2))⁻¹ : ℝ) : EReal)

def algebraic_InProjIdeal_InProjReferenceIdeal_pre_finite_logits [hInProjIdeal : Cert.InProjIdeal.Facts] [hInProjReferenceIdeal : Cert.InProjReferenceIdeal.Facts] [hPre_finite_logits : Cert.Pre_finite_logits.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal_finite_logits m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)
      ∧ m' ((c.tc : Thread Cert.InProjReferenceIdeal.nD Cert.InProjReferenceIdeal.τ).loc Cert.InProjReferenceIdeal.main_arg2) = m ((c.tc : Thread Cert.InProjIdeal.nD Cert.InProjIdeal.τ).loc Cert.InProjIdeal.main_arg2)
      ∧ m' ((c.tc : Thread Cert.InProjReferenceIdeal.nD Cert.InProjReferenceIdeal.τ).loc Cert.InProjReferenceIdeal.main_arg3) = m ((c.tc : Thread Cert.InProjIdeal.nD Cert.InProjIdeal.τ).loc Cert.InProjIdeal.main_arg3)
      ∧ m' ((c.tc : Thread Cert.InProjReferenceIdeal.nD Cert.InProjReferenceIdeal.τ).loc Cert.InProjReferenceIdeal.main_arg4) = m ((c.tc : Thread Cert.InProjIdeal.nD Cert.InProjIdeal.τ).loc Cert.InProjIdeal.main_arg4)
      ∧ m' ((c.tc : Thread Cert.InProjReferenceIdeal.nD Cert.InProjReferenceIdeal.τ).loc Cert.InProjReferenceIdeal.main_arg5) = m ((c.tc : Thread Cert.InProjIdeal.nD Cert.InProjIdeal.τ).loc Cert.InProjIdeal.main_arg5)
      ∧ m' ((c.tc : Thread Cert.InProjReferenceIdeal.nD Cert.InProjReferenceIdeal.τ).loc Cert.InProjReferenceIdeal.main_arg6) = m ((c.tc : Thread Cert.InProjIdeal.nD Cert.InProjIdeal.τ).loc Cert.InProjIdeal.main_arg6)) →
    ∃ (v0 : (c : Dev Cert.InProjIdeal.nD) → Buf (Elt Ideal) ((c.tc : Thread Cert.InProjIdeal.nD Cert.InProjIdeal.τ).loc Cert.InProjIdeal.main_v0_0)) (v1 : (c : Dev Cert.InProjIdeal.nD) → Buf (Elt Ideal) ((c.tc : Thread Cert.InProjIdeal.nD Cert.InProjIdeal.τ).loc Cert.InProjIdeal.main_v0_1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0_0) = v0 c
          ∧ r.2.mem ((c.tc : Thread Cert.InProjIdeal.nD Cert.InProjIdeal.τ).loc Cert.InProjIdeal.main_v0_1) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
          ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v101) = v0 c
          ∧ r.2.mem ((c.tc : Thread Cert.InProjReferenceIdeal.nD Cert.InProjReferenceIdeal.τ).loc Cert.InProjReferenceIdeal.main_v102) = v1 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1)
          ∧ r.2.mem ((c.tc : Thread Cert.InProjReferenceIdeal.nD Cert.InProjReferenceIdeal.τ).loc Cert.InProjReferenceIdeal.main_arg2) = m' ((c.tc : Thread Cert.InProjReferenceIdeal.nD Cert.InProjReferenceIdeal.τ).loc Cert.InProjReferenceIdeal.main_arg2)
          ∧ r.2.mem ((c.tc : Thread Cert.InProjReferenceIdeal.nD Cert.InProjReferenceIdeal.τ).loc Cert.InProjReferenceIdeal.main_arg3) = m' ((c.tc : Thread Cert.InProjReferenceIdeal.nD Cert.InProjReferenceIdeal.τ).loc Cert.InProjReferenceIdeal.main_arg3)
          ∧ r.2.mem ((c.tc : Thread Cert.InProjReferenceIdeal.nD Cert.InProjReferenceIdeal.τ).loc Cert.InProjReferenceIdeal.main_arg4) = m' ((c.tc : Thread Cert.InProjReferenceIdeal.nD Cert.InProjReferenceIdeal.τ).loc Cert.InProjReferenceIdeal.main_arg4)
          ∧ r.2.mem ((c.tc : Thread Cert.InProjReferenceIdeal.nD Cert.InProjReferenceIdeal.τ).loc Cert.InProjReferenceIdeal.main_arg5) = m' ((c.tc : Thread Cert.InProjReferenceIdeal.nD Cert.InProjReferenceIdeal.τ).loc Cert.InProjReferenceIdeal.main_arg5)
          ∧ r.2.mem ((c.tc : Thread Cert.InProjReferenceIdeal.nD Cert.InProjReferenceIdeal.τ).loc Cert.InProjReferenceIdeal.main_arg6) = m' ((c.tc : Thread Cert.InProjReferenceIdeal.nD Cert.InProjReferenceIdeal.τ).loc Cert.InProjReferenceIdeal.main_arg6))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hMerge : Cert.Merge.Facts) (hMergeIdeal : Cert.MergeIdeal.Facts) (hMergeReferenceIdeal : Cert.MergeReferenceIdeal.Facts) (hInProj : Cert.InProj.Facts) (hInProjIdeal : Cert.InProjIdeal.Facts) (hInProjReferenceIdeal : Cert.InProjReferenceIdeal.Facts) (hPre_finite_scores : Cert.Pre_finite_scores.Facts) (hPre_finite_logits : Cert.Pre_finite_logits.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_InProj (hInProj := hInProj)
    ∧ quiescent_InProjIdeal (hInProjIdeal := hInProjIdeal)
    ∧ quiescent_InProjIdeal_pre_finite_logits (hInProjIdeal := hInProjIdeal) (hPre_finite_logits := hPre_finite_logits)
    ∧ quiescent_InProjReferenceIdeal (hInProjReferenceIdeal := hInProjReferenceIdeal)
    ∧ quiescent_InProjReferenceIdeal_pre_finite_logits (hInProjReferenceIdeal := hInProjReferenceIdeal) (hPre_finite_logits := hPre_finite_logits)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Ffn_FfnIdeal
    ∧ algebraic_FfnIdeal_FfnReferenceIdeal (hFfnIdeal := hFfnIdeal) (hFfnReferenceIdeal := hFfnReferenceIdeal)
    ∧ preserves_Merge_MergeIdeal
    ∧ algebraic_MergeIdeal_MergeReferenceIdeal (hMergeIdeal := hMergeIdeal) (hMergeReferenceIdeal := hMergeReferenceIdeal)
    ∧ preserves_InProj_InProjIdeal
    ∧ algebraic_InProjIdeal_InProjReferenceIdeal_pre_finite_logits (hInProjIdeal := hInProjIdeal) (hInProjReferenceIdeal := hInProjReferenceIdeal) (hPre_finite_logits := hPre_finite_logits)
-- ==== Pre_finite_logits.lean ====
abbrev S8192x2048 : Shape := ⟨2, ![8192, 2048]⟩
abbrev S1x2048 : Shape := ⟨2, ![1, 2048]⟩
abbrev S2048x11264 : Shape := ⟨2, ![2048, 11264]⟩
abbrev S1x4096 : Shape := ⟨2, ![1, 4096]⟩
abbrev S2x1024 : Shape := ⟨2, ![2, 1024]⟩
abbrev S1x128 : Shape := ⟨2, ![1, 128]⟩
abbrev S_ : Shape := ⟨0, ![]⟩

class Facts : Prop where
  bcast_S_S2x1024 : S_.BroadcastsInDim S2x1024 (![] : Fin 0 → Fin S2x1024.rank)
  reducesTo_S2x1024_S_d0_1 : S2x1024.ReducesTo [0, 1] S_
  h_S_ : 0 < S_.numel

variable [Facts]

def fn {F : FTy → Type} [FloatOps F] (main_arg0 : FVec F S8192x2048 .f32) (main_arg1 : FVec F S1x2048 .f32) (main_arg2 : FVec F S2048x11264 .f32) (main_arg3 : FVec F S1x4096 .f32) (main_arg4 : FVec F S2x1024 .f32) (main_arg5 : FVec F S1x128 .f32) (main_arg6 : FVec F S1x128 .f32) : IVec S_ 1 :=
  let main_v0 : FVec F S2x1024 .f32 := Host.absf main_arg4
  let main_cst : FVec F S_ .f32 := constant S_ .f32 0x7F800000#32
  let main_v1 : FVec F S2x1024 .f32 := broadcastInDim S2x1024 ![] bcast_S_S2x1024 main_cst
  let main_v2 : IVec S2x1024 1 := cmpf .olt main_v0 main_v1
  let main_c : IVec S_ 1 := constantI S_ 1 1#1
  let main_v3 : IVec S_ 1 := (fun x v => Host.reduce IntOp.andi x v reducesTo_S2x1024_S_d0_1 h_S_) main_v2 main_c
  main_v3
-- ==== Pre_finite_scores.lean ====
abbrev S4x2048x11264 : Shape := ⟨3, ![4, 2048, 11264]⟩
abbrev S8x191 : Shape := ⟨2, ![8, 191]⟩
abbrev S1024x2048 : Shape := ⟨2, ![1024, 2048]⟩
abbrev S2048x2048 : Shape := ⟨2, ![2048, 2048]⟩
abbrev S2048x11264 : Shape := ⟨2, ![2048, 11264]⟩
abbrev S4x2048x2048 : Shape := ⟨3, ![4, 2048, 2048]⟩
abbrev S_ : Shape := ⟨0, ![]⟩

class Facts : Prop where
  slices_S4x2048x11264_S4x2048x2048_0_0_4096 : S4x2048x11264.Slices ![0, 0, 4096] S4x2048x2048
  bitsLt_bf16_f32 : FTy.bits .bf16 < FTy.bits .f32
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S8x191 : S_.BroadcastsInDim S8x191 (![] : Fin 0 → Fin S8x191.rank)
  reducesTo_S8x191_S_d0_1 : S8x191.ReducesTo [0, 1] S_

variable [Facts]

def fn {F : FTy → Type} [FloatOps F] (main_arg0 : FVec F S4x2048x11264 .bf16) (main_arg1 : FVec F S8x191 .f32) (main_arg2 : FVec F S1024x2048 .f32) (main_arg3 : FVec F S1024x2048 .f32) (main_arg4 : FVec F S2048x2048 .f32) (main_arg5 : FVec F S2048x11264 .f32) : IVec S_ 1 :=
  let main_v0 : FVec F S4x2048x2048 .bf16 := (extractStridedSlice S4x2048x2048 ![0, 0, 4096] · slices_S4x2048x11264_S4x2048x2048_0_0_4096) main_arg0
  let main_v1 : FVec F S4x2048x2048 .f32 := (extf .f32 · bitsLt_bf16_f32) main_v0
  let main_v2 : FVec F S4x2048x2048 .f32 := Host.absf main_v1
  let main_cst : FVec F S_ .f32 := constant S_ .f32 0x7F800000#32
  let main_v3 : FVec F S4x2048x2048 .f32 := broadcastInDim S4x2048x2048 ![] bcast_S_S4x2048x2048 main_cst
  let main_v4 : IVec S4x2048x2048 1 := cmpf .olt main_v2 main_v3
  let main_c : IVec S_ 1 := constantI S_ 1 1#1
  let main_v5 : IVec S_ 1 := (fun x v => Host.reduce IntOp.andi x v reducesTo_S4x2048x2048_S_d0_1_2 h_S_) main_v4 main_c
  let main_v6 : FVec F S8x191 .f32 := Host.absf main_arg1
  let main_cst_0 : FVec F S_ .f32 := constant S_ .f32 0x7F800000#32
  let main_v7 : FVec F S8x191 .f32 := broadcastInDim S8x191 ![] bcast_S_S8x191 main_cst_0
  let main_v8 : IVec S8x191 1 := cmpf .olt main_v6 main_v7
  let main_c_1 : IVec S_ 1 := constantI S_ 1 1#1
  let main_v9 : IVec S_ 1 := (fun x v => Host.reduce IntOp.andi x v reducesTo_S8x191_S_d0_1 h_S_) main_v8 main_c_1
  let main_v10 : IVec S_ 1 := andi main_v5 main_v9
  main_v10
-- ==== Kernel.lean ====
abbrev S4x2048x11264 : Shape := ⟨3, ![4, 2048, 11264]⟩
abbrev S8x191 : Shape := ⟨2, ![8, 191]⟩
abbrev S1024x2048 : Shape := ⟨2, ![1024, 2048]⟩
abbrev S2048x2048 : Shape := ⟨2, ![2048, 2048]⟩
abbrev S2048x11264 : Shape := ⟨2, ![2048, 11264]⟩
abbrev S1x191 : Shape := ⟨2, ![1, 191]⟩
abbrev S1x0x191 : Shape := ⟨3, ![1, 0, 191]⟩
abbrev S0x191 : Shape := ⟨2, ![0, 191]⟩
abbrev S8x1 : Shape := ⟨2, ![8, 1]⟩
abbrev S8x1x65 : Shape := ⟨3, ![8, 1, 65]⟩
abbrev S8x65 : Shape := ⟨2, ![8, 65]⟩
abbrev S8x1x0 : Shape := ⟨3, ![8, 1, 0]⟩
abbrev S8x0 : Shape := ⟨2, ![8, 0]⟩
abbrev S8x256 : Shape := ⟨2, ![8, 256]⟩
abbrev S8x1x256 : Shape := ⟨3, ![8, 1, 256]⟩
abbrev S4x2048x1024 : Shape := ⟨3, ![4, 2048, 1024]⟩
abbrev S2048x5632 : Shape := ⟨2, ![2048, 5632]⟩
abbrev S1x2048x512 : Shape := ⟨3, ![1, 2048, 512]⟩
abbrev S4x1x256 : Shape := ⟨3, ![4, 1, 256]⟩
abbrev S128x2048 : Shape := ⟨2, ![128, 2048]⟩
abbrev S256x2048 : Shape := ⟨2, ![256, 2048]⟩
abbrev S256x5632 : Shape := ⟨2, ![256, 5632]⟩
abbrev S64x960 : Shape := ⟨2, ![64, 960]⟩
abbrev S4x256x768 : Shape := ⟨3, ![4, 256, 768]⟩
abbrev S4x2048x256 : Shape := ⟨3, ![4, 2048, 256]⟩
abbrev S1x1x256 : Shape := ⟨3, ![1, 1, 256]⟩
abbrev S1x256 : Shape := ⟨2, ![1, 256]⟩
abbrev S64x256 : Shape := ⟨2, ![64, 256]⟩
abbrev S1x1 : Shape := ⟨2, ![1, 1]⟩
abbrev S64x192 : Shape := ⟨2, ![64, 192]⟩
abbrev S64x384 : Shape := ⟨2, ![64, 384]⟩
abbrev S64x768 : Shape := ⟨2, ![64, 768]⟩
abbrev S1x64x768 : Shape := ⟨3, ![1, 64, 768]⟩
abbrev S1x2048x128 : Shape := ⟨3, ![1, 2048, 128]⟩
abbrev S2048x128 : Shape := ⟨2, ![2048, 128]⟩
abbrev S1x256x128 : Shape := ⟨3, ![1, 256, 128]⟩
abbrev S256x128 : Shape := ⟨2, ![256, 128]⟩
abbrev S256x256 : Shape := ⟨2, ![256, 256]⟩
abbrev S1x256x256 : Shape := ⟨3, ![1, 256, 256]⟩
abbrev S256 : Shape := ⟨1, ![256]⟩
abbrev S256x1 : Shape := ⟨2, ![256, 1]⟩
abbrev S1x512x128 : Shape := ⟨3, ![1, 512, 128]⟩
abbrev S512x128 : Shape := ⟨2, ![512, 128]⟩
abbrev S256x512 : Shape := ⟨2, ![256, 512]⟩
abbrev S1x256x512 : Shape := ⟨3, ![1, 256, 512]⟩
abbrev S1x512x256 : Shape := ⟨3, ![1, 512, 256]⟩
abbrev S512x256 : Shape := ⟨2, ![512, 256]⟩
abbrev S1x768x128 : Shape := ⟨3, ![1, 768, 128]⟩
abbrev S768x128 : Shape := ⟨2, ![768, 128]⟩
abbrev S256x768 : Shape := ⟨2, ![256, 768]⟩
abbrev S1x256x768 : Shape := ⟨3, ![1, 256, 768]⟩
abbrev S1x768x256 : Shape := ⟨3, ![1, 768, 256]⟩
abbrev S768x256 : Shape := ⟨2, ![768, 256]⟩

abbrev nBuf : Space → Nat
  | .hbm => 27
  | .vmem => 29
  | .smem => 0
  | _ => 0

abbrev bufTy : (tb : Table) → Fin (tcTables nBuf tb) → BufTy
  | .hbm, ⟨0, _⟩ => ⟨S4x2048x11264, .bf16⟩
  | .hbm, ⟨1, _⟩ => ⟨S8x191, .f32⟩
  | .hbm, ⟨2, _⟩ => ⟨S1024x2048, .f32⟩
  | .hbm, ⟨3, _⟩ => ⟨S1024x2048, .f32⟩
  | .hbm, ⟨4, _⟩ => ⟨S2048x2048, .f32⟩
  | .hbm, ⟨5, _⟩ => ⟨S2048x11264, .f32⟩
  | .hbm, ⟨6, _⟩ => ⟨S8x191, .f32⟩
  | .hbm, ⟨7, _⟩ => ⟨S1x191, .f32⟩
  | .hbm, ⟨8, _⟩ => ⟨S1x0x191, .f32⟩
  | .hbm, ⟨9, _⟩ => ⟨S0x191, .f32⟩
  | .hbm, ⟨10, _⟩ => ⟨S1x191, .f32⟩
  | .hbm, ⟨11, _⟩ => ⟨S1x0x191, .f32⟩
  | .hbm, ⟨12, _⟩ => ⟨S0x191, .f32⟩
  | .hbm, ⟨13, _⟩ => ⟨S8x191, .f32⟩
  | .hbm, ⟨14, _⟩ => ⟨S8x1, .f32⟩
  | .hbm, ⟨15, _⟩ => ⟨S8x1x65, .f32⟩
  | .hbm, ⟨16, _⟩ => ⟨S8x65, .f32⟩
  | .hbm, ⟨17, _⟩ => ⟨S8x1, .f32⟩
  | .hbm, ⟨18, _⟩ => ⟨S8x1x0, .f32⟩
  | .hbm, ⟨19, _⟩ => ⟨S8x0, .f32⟩
  | .hbm, ⟨20, _⟩ => ⟨S8x256, .f32⟩
  | .hbm, ⟨21, _⟩ => ⟨S8x1x256, .f32⟩
  | .hbm, ⟨22, _⟩ => ⟨S4x2048x1024, .bf16⟩
  | .hbm, ⟨23, _⟩ => ⟨S1024x2048, .bf16⟩
  | .hbm, ⟨24, _⟩ => ⟨S1024x2048, .bf16⟩
  | .hbm, ⟨25, _⟩ => ⟨S2048x2048, .bf16⟩
  | .hbm, ⟨26, _⟩ => ⟨S2048x5632, .bf16⟩
  | .local _ .vmem, ⟨0, _⟩ => ⟨S1x2048x512, .bf16⟩
  | .local _ .vmem, ⟨1, _⟩ => ⟨S1x2048x512, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S4x1x256, .f32⟩
  | .local _ .vmem, ⟨7, _⟩ => ⟨S4x1x256, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S256x2048, .f32⟩
  | .local _ .vmem, ⟨13, _⟩ => ⟨S256x2048, .f32⟩
  | .local _ .vmem, ⟨14, _⟩ => ⟨S256x5632, .f32⟩
  | .local _ .vmem, ⟨15, _⟩ => ⟨S256x5632, .f32⟩
  | .local _ .vmem, ⟨16, _⟩ => ⟨S1x2048x512, .bf16⟩
  | .local _ .vmem, ⟨17, _⟩ => ⟨S1x2048x512, .bf16⟩
  | .local _ .vmem, ⟨18, _⟩ => ⟨S128x2048, .bf16⟩
  | .local _ .vmem, ⟨19, _⟩ => ⟨S128x2048, .bf16⟩
  | .local _ .vmem, ⟨20, _⟩ => ⟨S128x2048, .bf16⟩
  | .local _ .vmem, ⟨21, _⟩ => ⟨S128x2048, .bf16⟩
  | .local _ .vmem, ⟨22, _⟩ => ⟨S256x2048, .bf16⟩
  | .local _ .vmem, ⟨23, _⟩ => ⟨S256x2048, .bf16⟩
  | .local _ .vmem, ⟨24, _⟩ => ⟨S256x5632, .bf16⟩
  | .local _ .vmem, ⟨25, _⟩ => ⟨S256x5632, .bf16⟩
  | .local _ .vmem, ⟨26, _⟩ => ⟨S64x960, .f32⟩
  | .local _ .vmem, ⟨27, _⟩ => ⟨S4x256x768, .f32⟩
  | .local _ .vmem, ⟨28, _⟩ => ⟨S4x2048x256, .bf16⟩
  | _, _ => ⟨S4x2048x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16_0 : Ref sig .tc := ⟨.hbm, 22, rfl⟩
abbrev main_v16_1 : Ref sig .tc := ⟨.hbm, 23, rfl⟩
abbrev main_v16_2 : Ref sig .tc := ⟨.hbm, 24, rfl⟩
abbrev main_v16_3 : Ref sig .tc := ⟨.hbm, 25, rfl⟩
abbrev main_v16_4 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![arg1.toNat, c0_i32.toNat, v0.toNat]

def cc0_transform_1 (i : grid0.Coords) : Fin 3 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg0
  let c0_i32 : BitVec 32 := 0#32
  let c0_i32_0 : BitVec 32 := 0#32
  ![arg1.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  let c0_i32_0 : BitVec 32 := 0#32
  ![arg1.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c0_i32 : BitVec 32 := 0#32
  let v1 : BitVec 32 := Scalar.addi c0_i32 v0
  let c1_i32 : BitVec 32 := 1#32
  let v2 : BitVec 32 := Scalar.muli arg1 c1_i32
  let v3 : BitVec 32 := Scalar.addi v1 v2
  let c0_i32_0 : BitVec 32 := 0#32
  let c0_i32_1 : BitVec 32 := 0#32
  ![v3.toNat, c0_i32_0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c0_i32 : BitVec 32 := 0#32
  let v1 : BitVec 32 := Scalar.addi c0_i32 v0
  let c1_i32 : BitVec 32 := 1#32
  let v2 : BitVec 32 := Scalar.muli arg1 c1_i32
  let v3 : BitVec 32 := Scalar.addi v1 v2
  let c0_i32_0 : BitVec 32 := 0#32
  let c0_i32_1 : BitVec 32 := 0#32
  ![v3.toNat, c0_i32_0.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c0_i32 : BitVec 32 := 0#32
  let v1 : BitVec 32 := Scalar.addi c0_i32 v0
  let c1_i32 : BitVec 32 := 1#32
  let v2 : BitVec 32 := Scalar.muli arg1 c1_i32
  let v3 : BitVec 32 := Scalar.addi v1 v2
  let c0_i32_0 : BitVec 32 := 0#32
  let c0_i32_1 : BitVec 32 := 0#32
  ![v3.toNat, c0_i32_0.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c0_i32 : BitVec 32 := 0#32
  let v1 : BitVec 32 := Scalar.addi c0_i32 v0
  let c1_i32 : BitVec 32 := 1#32
  let v2 : BitVec 32 := Scalar.muli arg1 c1_i32
  let v3 : BitVec 32 := Scalar.addi v1 v2
  let c1_i32_0 : BitVec 32 := 1#32
  let c0_i32_1 : BitVec 32 := 0#32
  ![v3.toNat, c1_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c0_i32 : BitVec 32 := 0#32
  let v1 : BitVec 32 := Scalar.addi c0_i32 v0
  let c1_i32 : BitVec 32 := 1#32
  let v2 : BitVec 32 := Scalar.muli arg1 c1_i32
  let v3 : BitVec 32 := Scalar.addi v1 v2
  let c0_i32_0 : BitVec 32 := 0#32
  let c0_i32_1 : BitVec 32 := 0#32
  ![v3.toNat, c0_i32_0.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c0_i32 : BitVec 32 := 0#32
  let v1 : BitVec 32 := Scalar.addi c0_i32 v0
  let c1_i32 : BitVec 32 := 1#32
  let v2 : BitVec 32 := Scalar.muli arg1 c1_i32
  let v3 : BitVec 32 := Scalar.addi v1 v2
  let c0_i32_0 : BitVec 32 := 0#32
  let c0_i32_1 : BitVec 32 := 0#32
  ![v3.toNat, c0_i32_0.toNat]

def cc0_transform_11 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c0_i32 : BitVec 32 := 0#32
  let v1 : BitVec 32 := Scalar.addi c0_i32 v0
  let c1_i32 : BitVec 32 := 1#32
  let v2 : BitVec 32 := Scalar.muli arg1 c1_i32
  let v3 : BitVec 32 := Scalar.addi v1 v2
  let c0_i32_0 : BitVec 32 := 0#32
  let c0_i32_1 : BitVec 32 := 0#32
  ![v3.toNat, c0_i32_0.toNat]

def cc0_transform_12 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c0_i32 : BitVec 32 := 0#32
  let v1 : BitVec 32 := Scalar.addi c0_i32 v0
  let c1_i32 : BitVec 32 := 1#32
  let v2 : BitVec 32 := Scalar.muli arg1 c1_i32
  let v3 : BitVec 32 := Scalar.addi v1 v2
  let c0_i32_0 : BitVec 32 := 0#32
  let c0_i32_1 : BitVec 32 := 0#32
  ![v3.toNat, c0_i32_0.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x5632 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2048x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S256x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S256x5632 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== KernelIdeal.lean ====
variable {F : FTy → Type} [FloatOps F] [Named F]
def κ : String → Option EReal := fun
  | "log2e" => some (((Real.log 2)⁻¹ : ℝ) : EReal)
  | "mask" => some ⊥
  | _ => none
-- ==== ReferenceIdeal.lean ====
abbrev S4x2048x11264 : Shape := ⟨3, ![4, 2048, 11264]⟩
abbrev S8x191 : Shape := ⟨2, ![8, 191]⟩
abbrev S1024x2048 : Shape := ⟨2, ![1024, 2048]⟩
abbrev S2048x2048 : Shape := ⟨2, ![2048, 2048]⟩
abbrev S2048x11264 : Shape := ⟨2, ![2048, 11264]⟩
abbrev S4x2048x1024 : Shape := ⟨3, ![4, 2048, 1024]⟩
abbrev S4x32x64x8x128 : Shape := ⟨5, ![4, 32, 64, 8, 128]⟩
abbrev S4x8x32x64x128 : Shape := ⟨5, ![4, 8, 32, 64, 128]⟩
abbrev S32 : Shape := ⟨1, ![32]⟩
abbrev S32x1 : Shape := ⟨2, ![32, 1]⟩
abbrev S9 : Shape := ⟨1, ![9]⟩
abbrev S1x9 : Shape := ⟨2, ![1, 9]⟩
abbrev S32x9 : Shape := ⟨2, ![32, 9]⟩
abbrev S_ : Shape := ⟨0, ![]⟩
abbrev S4x8x40x64x128 : Shape := ⟨5, ![4, 8, 40, 64, 128]⟩
abbrev S32x9x1 : Shape := ⟨3, ![32, 9, 1]⟩
abbrev S4x8x32x9x64x128 : Shape := ⟨6, ![4, 8, 32, 9, 64, 128]⟩
abbrev S4x8x32x576x128 : Shape := ⟨5, ![4, 8, 32, 576, 128]⟩
abbrev S64 : Shape := ⟨1, ![64]⟩
abbrev S1x64 : Shape := ⟨2, ![1, 64]⟩
abbrev S32x64 : Shape := ⟨2, ![32, 64]⟩
abbrev S1x1x64 : Shape := ⟨3, ![1, 1, 64]⟩
abbrev S32x9x64 : Shape := ⟨3, ![32, 9, 64]⟩
abbrev S32x576 : Shape := ⟨2, ![32, 576]⟩
abbrev S32x64x1 : Shape := ⟨3, ![32, 64, 1]⟩
abbrev S32x1x576 : Shape := ⟨3, ![32, 1, 576]⟩
abbrev S32x64x576 : Shape := ⟨3, ![32, 64, 576]⟩
abbrev S32x64x576x1 : Shape := ⟨4, ![32, 64, 576, 1]⟩
abbrev S8x32x64x576 : Shape := ⟨4, ![8, 32, 64, 576]⟩
abbrev S4x8x32x64x576 : Shape := ⟨5, ![4, 8, 32, 64, 576]⟩
abbrev S1x8x32x64x576 : Shape := ⟨5, ![1, 8, 32, 64, 576]⟩
abbrev S1x1x32x1x576 : Shape := ⟨5, ![1, 1, 32, 1, 576]⟩
abbrev S4x8x32x64 : Shape := ⟨4, ![4, 8, 32, 64]⟩
abbrev S4x8x32x64x1 : Shape := ⟨5, ![4, 8, 32, 64, 1]⟩
abbrev S2048x5632 : Shape := ⟨2, ![2048, 5632]⟩

abbrev nBuf : Space → Nat
  | .hbm => 140
  | .vmem => 0
  | .smem => 0
  | _ => 0

abbrev hbmTy0_0 (i : Nat) : BufTy := match i % 128 with
  | 0 => ⟨S4x2048x11264, .bf16⟩
  | 1 => ⟨S8x191, .f32⟩
  | 2 => ⟨S1024x2048, .f32⟩
  | 3 => ⟨S1024x2048, .f32⟩
  | 4 => ⟨S2048x2048, .f32⟩
  | 5 => ⟨S2048x11264, .f32⟩
  | 6 => ⟨S4x2048x1024, .bf16⟩
  | 7 => ⟨S4x2048x1024, .f32⟩
  | 8 => ⟨S4x2048x1024, .bf16⟩
  | 9 => ⟨S4x2048x1024, .f32⟩
  | 10 => ⟨S4x2048x1024, .bf16⟩
  | 11 => ⟨S4x2048x1024, .f32⟩
  | 12 => ⟨S4x32x64x8x128, .f32⟩
  | 13 => ⟨S4x8x32x64x128, .f32⟩
  | 14 => ⟨S4x32x64x8x128, .f32⟩
  | 15 => ⟨S4x8x32x64x128, .f32⟩
  | 16 => ⟨S4x32x64x8x128, .f32⟩
  | 17 => ⟨S4x8x32x64x128, .f32⟩
  | 18 => ⟨S32, .i32⟩
  | 19 => ⟨S32x1, .i32⟩
  | 20 => ⟨S9, .i32⟩
  | 21 => ⟨S1x9, .i32⟩
  | 22 => ⟨S32x9, .i32⟩
  | 23 => ⟨S32x9, .i32⟩
  | 24 => ⟨S32x9, .i32⟩
  | 25 => ⟨S_, .i32⟩
  | 26 => ⟨S_, .f32⟩
  | 27 => ⟨S4x8x40x64x128, .f32⟩
  | 28 => ⟨S_, .i32⟩
  | 29 => ⟨S32x9, .i32⟩
  | 30 => ⟨S32x9, .i1⟩
  | 31 => ⟨S_, .i32⟩
  | 32 => ⟨S32x9, .i32⟩
  | 33 => ⟨S32x9, .i32⟩
  | 34 => ⟨S32x9, .i32⟩
  | 35 => ⟨S32x9x1, .i32⟩
  | 36 => ⟨S4x8x32x9x64x128, .f32⟩
  | 37 => ⟨S4x8x32x576x128, .f32⟩
  | 38 => ⟨S_, .i32⟩
  | 39 => ⟨S_, .f32⟩
  | 40 => ⟨S4x8x40x64x128, .f32⟩
  | 41 => ⟨S_, .i32⟩
  | 42 => ⟨S32x9, .i32⟩
  | 43 => ⟨S32x9, .i1⟩
  | 44 => ⟨S_, .i32⟩
  | 45 => ⟨S32x9, .i32⟩
  | 46 => ⟨S32x9, .i32⟩
  | 47 => ⟨S32x9, .i32⟩
  | 48 => ⟨S32x9x1, .i32⟩
  | 49 => ⟨S4x8x32x9x64x128, .f32⟩
  | 50 => ⟨S4x8x32x576x128, .f32⟩
  | 51 => ⟨S32, .i32⟩
  | 52 => ⟨S32x1, .i32⟩
  | 53 => ⟨S_, .i32⟩
  | 54 => ⟨S32x1, .i32⟩
  | 55 => ⟨S32x1, .i32⟩
  | 56 => ⟨S64, .i32⟩
  | 57 => ⟨S1x64, .i32⟩
  | 58 => ⟨S32x64, .i32⟩
  | 59 => ⟨S32x64, .i32⟩
  | 60 => ⟨S32x64, .i32⟩
  | 61 => ⟨S_, .i32⟩
  | 62 => ⟨S32x9, .i32⟩
  | 63 => ⟨S32x9, .i32⟩
  | 64 => ⟨S32x9x1, .i32⟩
  | 65 => ⟨S_, .i32⟩
  | 66 => ⟨S32x9x1, .i32⟩
  | 67 => ⟨S32x9x1, .i32⟩
  | 68 => ⟨S64, .i32⟩
  | 69 => ⟨S1x1x64, .i32⟩
  | 70 => ⟨S32x9x64, .i32⟩
  | 71 => ⟨S32x9x64, .i32⟩
  | 72 => ⟨S32x9x64, .i32⟩
  | 73 => ⟨S32x576, .i32⟩
  | 74 => ⟨S_, .i32⟩
  | 75 => ⟨S32x576, .i32⟩
  | 76 => ⟨S32x576, .i1⟩
  | 77 => ⟨S32x64x1, .i32⟩
  | 78 => ⟨S32x1x576, .i32⟩
  | 79 => ⟨S32x64x576, .i32⟩
  | 80 => ⟨S32x64x576, .i32⟩
  | 81 => ⟨S32x64x576, .i32⟩
  | 82 => ⟨S_, .i32⟩
  | 83 => ⟨S_, .i32⟩
  | 84 => ⟨S_, .i32⟩
  | 85 => ⟨S32x64x576, .i32⟩
  | 86 => ⟨S32x64x576, .i32⟩
  | 87 => ⟨S_, .i32⟩
  | 88 => ⟨S32x64x576, .i32⟩
  | 89 => ⟨S32x64x576, .i32⟩
  | 90 => ⟨S_, .i32⟩
  | 91 => ⟨S32x64x576, .i32⟩
  | 92 => ⟨S32x64x576, .i32⟩
  | 93 => ⟨S_, .i32⟩
  | 94 => ⟨S32x64x576, .i32⟩
  | 95 => ⟨S32x64x576, .i1⟩
  | 96 => ⟨S_, .i32⟩
  | 97 => ⟨S32x64x576, .i32⟩
  | 98 => ⟨S32x64x576, .i32⟩
  | 99 => ⟨S32x64x576, .i32⟩
  | 100 => ⟨S32x64x576x1, .i32⟩
  | 101 => ⟨S8x32x64x576, .f32⟩
  | 102 => ⟨S4x8x32x64x576, .f32⟩
  | 103 => ⟨S_, .f32⟩
  | 104 => ⟨S_, .f32⟩
  | 105 => ⟨S_, .f32⟩
  | 106 => ⟨S4x8x32x64x576, .f32⟩
  | 107 => ⟨S4x8x32x64x576, .f32⟩
  | 108 => ⟨S1x8x32x64x576, .f32⟩
  | 109 => ⟨S4x8x32x64x576, .f32⟩
  | 110 => ⟨S4x8x32x64x576, .f32⟩
  | 111 => ⟨S1x1x32x1x576, .i1⟩
  | 112 => ⟨S_, .f32⟩
  | 113 => ⟨S_, .f32⟩
  | 114 => ⟨S4x8x32x64x576, .i1⟩
  | 115 => ⟨S4x8x32x64x576, .f32⟩
  | 116 => ⟨S4x8x32x64x576, .f32⟩
  | 117 => ⟨S_, .f32⟩
  | 118 => ⟨S4x8x32x64, .f32⟩
  | 119 => ⟨S_, .f32⟩
  | 120 => ⟨S4x8x32x64, .f32⟩
  | 121 => ⟨S4x8x32x64, .f32⟩
  | 122 => ⟨S4x8x32x64x1, .f32⟩
  | 123 => ⟨S4x8x32x64x576, .f32⟩
  | 124 => ⟨S4x8x32x64x576, .f32⟩
  | 125 => ⟨S4x8x32x64x576, .f32⟩
  | 126 => ⟨S_, .f32⟩
  | 127 => ⟨S4x8x32x64, .f32⟩
  | _ => ⟨S4x2048x11264, .bf16⟩

abbrev hbmTy0_1 (i : Nat) : BufTy := match i % 128 with
  | 0 => ⟨S4x8x32x64x1, .f32⟩
  | 1 => ⟨S4x8x32x64x576, .f32⟩
  | 2 => ⟨S4x8x32x64x576, .f32⟩
  | 3 => ⟨S4x8x32x64x128, .f32⟩
  | 4 => ⟨S4x32x64x8x128, .f32⟩
  | 5 => ⟨S4x2048x1024, .f32⟩
  | 6 => ⟨S4x2048x1024, .bf16⟩
  | 7 => ⟨S1024x2048, .bf16⟩
  | 8 => ⟨S1024x2048, .bf16⟩
  | 9 => ⟨S2048x2048, .bf16⟩
  | 10 => ⟨S2048x5632, .f32⟩
  | 11 => ⟨S2048x5632, .bf16⟩
  | _ => ⟨S4x2048x11264, .bf16⟩

abbrev hbmTy (i : Nat) : BufTy := match i / 128 with
  | 0 => hbmTy0_0 i
  | 1 => hbmTy0_1 i
  | _ => ⟨S4x2048x11264, .bf16⟩

abbrev bufTy : (tb : Table) → Fin (tcTables nBuf tb) → BufTy
  | .hbm, ⟨i, _⟩ => hbmTy i
  | _, _ => ⟨S4x2048x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c : Ref sig .tc := ⟨.hbm, 25, rfl⟩
abbrev main_call0_v0 : Ref sig .tc := ⟨.hbm, 26, rfl⟩
abbrev main_v19 : Ref sig .tc := ⟨.hbm, 27, rfl⟩
abbrev main_c_0 : Ref sig .tc := ⟨.hbm, 28, rfl⟩
abbrev main_v20 : Ref sig .tc := ⟨.hbm, 29, rfl⟩
abbrev main_v21 : Ref sig .tc := ⟨.hbm, 30, rfl⟩
abbrev main_c_1 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_c_2 : Ref sig .tc := ⟨.hbm, 38, rfl⟩
abbrev main_call1_v0 : Ref sig .tc := ⟨.hbm, 39, rfl⟩
abbrev main_v28 : Ref sig .tc := ⟨.hbm, 40, rfl⟩
abbrev main_c_3 : Ref sig .tc := ⟨.hbm, 41, rfl⟩
abbrev main_v29 : Ref sig .tc := ⟨.hbm, 42, rfl⟩
abbrev main_v30 : Ref sig .tc := ⟨.hbm, 43, rfl⟩
abbrev main_c_4 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_c_5 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_c_6 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_c_7 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_c_8 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_c_9 : Ref sig .tc := ⟨.hbm, 82, rfl⟩
abbrev main_c_10 : Ref sig .tc := ⟨.hbm, 83, rfl⟩
abbrev main_call2_v0 : Ref sig .tc := ⟨.hbm, 84, rfl⟩
abbrev main_call2_v1 : Ref sig .tc := ⟨.hbm, 85, rfl⟩
abbrev main_call2_v2 : Ref sig .tc := ⟨.hbm, 86, rfl⟩
abbrev main_call2_v3 : Ref sig .tc := ⟨.hbm, 87, rfl⟩
abbrev main_call2_v4 : Ref sig .tc := ⟨.hbm, 88, rfl⟩
abbrev main_v64 : Ref sig .tc := ⟨.hbm, 89, rfl⟩
abbrev main_c_11 : Ref sig .tc := ⟨.hbm, 90, rfl⟩
abbrev main_v65 : Ref sig .tc := ⟨.hbm, 91, rfl⟩
abbrev main_v66 : Ref sig .tc := ⟨.hbm, 92, rfl⟩
abbrev main_c_12 : Ref sig .tc := ⟨.hbm, 93, rfl⟩
abbrev main_v67 : Ref sig .tc := ⟨.hbm, 94, rfl⟩
abbrev main_v68 : Ref sig .tc := ⟨.hbm, 95, rfl⟩
abbrev main_c_13 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_cst : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_cst_14 : Ref sig .tc := ⟨.hbm, 112, rfl⟩
abbrev main_call3_v0 : Ref sig .tc := ⟨.hbm, 113, rfl⟩
abbrev main_call3_v1 : Ref sig .tc := ⟨.hbm, 114, rfl⟩
abbrev main_call3_v2 : Ref sig .tc := ⟨.hbm, 115, rfl⟩
abbrev main_v83 : Ref sig .tc := ⟨.hbm, 116, rfl⟩
abbrev main_cst_15 : Ref sig .tc := ⟨.hbm, 117, rfl⟩
abbrev main_v84 : Ref sig .tc := ⟨.hbm, 118, rfl⟩
abbrev main_cst_16 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_cst_17 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩

abbrev nD : Nat := 1
abbrev τ : Topo := Topo.v7x

variable {F : FTy → Type} [FloatOps F]
-- ==== Ffn.lean ====
abbrev S8192x2048 : Shape := ⟨2, ![8192, 2048]⟩
abbrev S2048x5632 : Shape := ⟨2, ![2048, 5632]⟩
abbrev S5632x2048 : Shape := ⟨2, ![5632, 2048]⟩
abbrev S1024x2048 : Shape := ⟨2, ![1024, 2048]⟩
abbrev S2048x512 : Shape := ⟨2, ![2048, 512]⟩
abbrev S512x2048 : Shape := ⟨2, ![512, 2048]⟩
abbrev S_ : Shape := ⟨0, ![]⟩
abbrev S1024x512 : Shape := ⟨2, ![1024, 512]⟩

abbrev nBuf : Space → Nat
  | .hbm => 6
  | .vmem => 11
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S2048x5632, .bf16⟩
  | .hbm, ⟨3, _⟩ => ⟨S2048x5632, .bf16⟩
  | .hbm, ⟨4, _⟩ => ⟨S5632x2048, .f32⟩
  | .hbm, ⟨5, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S512x2048, .f32⟩
  | .local _ .vmem, ⟨7, _⟩ => ⟨S512x2048, .f32⟩
  | .local _ .vmem, ⟨8, _⟩ => ⟨S1024x2048, .f32⟩
  | .local _ .vmem, ⟨9, _⟩ => ⟨S1024x2048, .f32⟩
  | .local _ .vmem, ⟨10, _⟩ => ⟨S1024x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off1 (i : grid0.Coords) : Fin 2 → Nat :=
  let arg0 : BitVec 32 := BitVec.ofNat 32 (i 0).val
  let c1024_i32 : BitVec 32 := 1024#32
  let v11 : BitVec 32 := Scalar.muli arg0 c1024_i32
  let c0_i32_5 : BitVec 32 := 0#32
  ![v11.toNat, 0]
def k0_cond3 (i : grid0.Coords) : BitVec 1 :=
  let arg1 : BitVec 32 := BitVec.ofNat 32 (i 1).val
  let c10_i32_3 : BitVec 32 := 10#32
  let v8 : BitVec 1 := Scalar.cmpi .eq arg1 c10_i32_3
  let v9 : BitVec 32 := Scalar.extui v8
  let c0_i32_4 : BitVec 32 := 0#32
  let v10 : BitVec 1 := Scalar.cmpi .ne v9 c0_i32_4
  v10

def k0_off2 (i : grid0.Coords) : Fin 2 → Nat :=
  let arg0 : BitVec 32 := BitVec.ofNat 32 (i 0).val
  let c1024_i32 : BitVec 32 := 1024#32
  let v11 : BitVec 32 := Scalar.muli arg0 c1024_i32
  let c0_i32_5 : BitVec 32 := 0#32
  ![v11.toNat, 0]
def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c10_i32 : BitVec 32 := 10#32
  let v4 : BitVec 1 := Scalar.cmpi .slt arg1 c10_i32
  let v5 : BitVec 1 := Scalar.andi v3 v4
  let v6 : BitVec 32 := Scalar.extui v5
  let c0_i32_2 : BitVec 32 := 0#32
  let v7 : BitVec 1 := Scalar.cmpi .ne v6 c0_i32_2
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== FfnReferenceIdeal.lean ====
abbrev S8192x2048 : Shape := ⟨2, ![8192, 2048]⟩
abbrev S2048x5632 : Shape := ⟨2, ![2048, 5632]⟩
abbrev S5632x2048 : Shape := ⟨2, ![5632, 2048]⟩
abbrev S8192x5632 : Shape := ⟨2, ![8192, 5632]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S2048x5632, .bf16⟩
  | .hbm, ⟨3, _⟩ => ⟨S2048x5632, .bf16⟩
  | .hbm, ⟨4, _⟩ => ⟨S5632x2048, .f32⟩
  | .hbm, ⟨5, _⟩ => ⟨S8192x2048, .f32⟩
  | .hbm, ⟨6, _⟩ => ⟨S2048x5632, .f32⟩
  | .hbm, ⟨7, _⟩ => ⟨S8192x5632, .f32⟩
  | .hbm, ⟨8, _⟩ => ⟨S2048x5632, .f32⟩
  | .hbm, ⟨9, _⟩ => ⟨S8192x5632, .f32⟩
  | .hbm, ⟨10, _⟩ => ⟨S8192x5632, .f32⟩
  | .hbm, ⟨11, _⟩ => ⟨S8192x5632, .f32⟩
  | .hbm, ⟨12, _⟩ => ⟨S_, .f32⟩
  | .hbm, ⟨13, _⟩ => ⟨S8192x5632, .f32⟩
  | .hbm, ⟨14, _⟩ => ⟨S8192x5632, .f32⟩
  | .hbm, ⟨15, _⟩ => ⟨S_, .f32⟩
  | .hbm, ⟨16, _⟩ => ⟨S8192x5632, .f32⟩
  | .hbm, ⟨17, _⟩ => ⟨S8192x5632, .f32⟩
  | .hbm, ⟨18, _⟩ => ⟨S8192x5632, .f32⟩
  | .hbm, ⟨19, _⟩ => ⟨S8192x5632, .f32⟩
  | .hbm, ⟨20, _⟩ => ⟨S8192x2048, .f32⟩
  | .hbm, ⟨21, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩

abbrev nD : Nat := 1
abbrev τ : Topo := Topo.v7x

variable {F : FTy → Type} [FloatOps F]
-- ==== Merge.lean ====
abbrev S8192x1024 : Shape := ⟨2, ![8192, 1024]⟩
abbrev S8192x11264 : Shape := ⟨2, ![8192, 11264]⟩
abbrev S8192x2048 : Shape := ⟨2, ![8192, 2048]⟩
abbrev S1024x2048 : Shape := ⟨2, ![1024, 2048]⟩
abbrev S2048x2048 : Shape := ⟨2, ![2048, 2048]⟩
abbrev S1x2048 : Shape := ⟨2, ![1, 2048]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩

abbrev nBuf : Space → Nat
  | .hbm => 10
  | .vmem => 22
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x11264, .bf16⟩
  | .hbm, ⟨3, _⟩ => ⟨S8192x2048, .f32⟩
  | .hbm, ⟨4, _⟩ => ⟨S1024x2048, .bf16⟩
  | .hbm, ⟨5, _⟩ => ⟨S1024x2048, .bf16⟩
  | .hbm, ⟨6, _⟩ => ⟨S2048x2048, .bf16⟩
  | .hbm, ⟨7, _⟩ => ⟨S1x2048, .f32⟩
  | .hbm, ⟨8, _⟩ => ⟨S8192x2048, .f32⟩
  | .hbm, ⟨9, _⟩ => ⟨S8192x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x2048, .f32⟩
  | .local _ .vmem, ⟨13, _⟩ => ⟨S512x2048, .f32⟩
  | .local _ .vmem, ⟨14, _⟩ => ⟨S1024x2048, .bf16⟩
  | .local _ .vmem, ⟨15, _⟩ => ⟨S1024x2048, .bf16⟩
  | .local _ .vmem, ⟨16, _⟩ => ⟨S2048x2048, .bf16⟩
  | .local _ .vmem, ⟨17, _⟩ => ⟨S1x2048, .f32⟩
  | .local _ .vmem, ⟨18, _⟩ => ⟨S512x2048, .f32⟩
  | .local _ .vmem, ⟨19, _⟩ => ⟨S512x2048, .f32⟩
  | .local _ .vmem, ⟨20, _⟩ => ⟨S512x2048, .bf16⟩
  | .local _ .vmem, ⟨21, _⟩ => ⟨S512x2048, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_3 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_4 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_5 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MergeReferenceIdeal.lean ====
abbrev S8192x1024 : Shape := ⟨2, ![8192, 1024]⟩
abbrev S8192x11264 : Shape := ⟨2, ![8192, 11264]⟩
abbrev S8192x2048 : Shape := ⟨2, ![8192, 2048]⟩
abbrev S1024x2048 : Shape := ⟨2, ![1024, 2048]⟩
abbrev S2048x2048 : Shape := ⟨2, ![2048, 2048]⟩
abbrev S1x2048 : Shape := ⟨2, ![1, 2048]⟩
abbrev S8192x4096 : Shape := ⟨2, ![8192, 4096]⟩
abbrev S_ : Shape := ⟨0, ![]⟩
abbrev S8192 : Shape := ⟨1, ![8192]⟩
abbrev S8192x1 : Shape := ⟨2, ![8192, 1]⟩

abbrev nBuf : Space → Nat
  | .hbm => 40
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x11264, .bf16⟩
  | .hbm, ⟨3, _⟩ => ⟨S8192x2048, .f32⟩
  | .hbm, ⟨4, _⟩ => ⟨S1024x2048, .bf16⟩
  | .hbm, ⟨5, _⟩ => ⟨S1024x2048, .bf16⟩
  | .hbm, ⟨6, _⟩ => ⟨S2048x2048, .bf16⟩
  | .hbm, ⟨7, _⟩ => ⟨S1x2048, .f32⟩
  | .hbm, ⟨8, _⟩ => ⟨S8192x4096, .bf16⟩
  | .hbm, ⟨9, _⟩ => ⟨S8192x4096, .f32⟩
  | .hbm, ⟨10, _⟩ => ⟨S8192x2048, .f32⟩
  | .hbm, ⟨11, _⟩ => ⟨S8192x2048, .f32⟩
  | .hbm, ⟨12, _⟩ => ⟨S8192x1024, .f32⟩
  | .hbm, ⟨13, _⟩ => ⟨S1024x2048, .f32⟩
  | .hbm, ⟨14, _⟩ => ⟨S8192x2048, .f32⟩
  | .hbm, ⟨15, _⟩ => ⟨S8192x2048, .f32⟩
  | .hbm, ⟨16, _⟩ => ⟨S8192x1024, .f32⟩
  | .hbm, ⟨17, _⟩ => ⟨S1024x2048, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S2048x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_v17 : Ref sig .tc := ⟨.hbm, 26, rfl⟩
abbrev main_v18 : Ref sig .tc := ⟨.hbm, 27, rfl⟩
abbrev main_cst_0 : Ref sig .tc := ⟨.hbm, 28, rfl⟩
abbrev main_v19 : Ref sig .tc := ⟨.hbm, 29, rfl⟩
abbrev main_v20 : Ref sig .tc := ⟨.hbm, 30, rfl⟩
abbrev main_cst_1 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== InProj.lean ====
abbrev S8192x2048 : Shape := ⟨2, ![8192, 2048]⟩
abbrev S1x2048 : Shape := ⟨2, ![1, 2048]⟩
abbrev S2048x11264 : Shape := ⟨2, ![2048, 11264]⟩
abbrev S1x4096 : Shape := ⟨2, ![1, 4096]⟩
abbrev S2x1024 : Shape := ⟨2, ![2, 1024]⟩
abbrev S1x128 : Shape := ⟨2, ![1, 128]⟩
abbrev S8192x11264 : Shape := ⟨2, ![8192, 11264]⟩
abbrev S8192x3072 : Shape := ⟨2, ![8192, 3072]⟩
abbrev S1x1024 : Shape := ⟨2, ![1, 1024]⟩
abbrev S1024x1024 : Shape := ⟨2, ![1024, 1024]⟩
abbrev S1024x3072 : Shape := ⟨2, ![1024, 3072]⟩
abbrev S1024x2048 : Shape := ⟨2, ![1024, 2048]⟩
abbrev S3x2048x1024 : Shape := ⟨3, ![3, 2048, 1024]⟩
abbrev S_ : Shape := ⟨0, ![]⟩
abbrev S3 : Shape := ⟨1, ![3]⟩
abbrev S1 : Shape := ⟨1, ![1]⟩
abbrev S1x2048x1024 : Shape := ⟨3, ![1, 2048, 1024]⟩
abbrev S2048x1024 : Shape := ⟨2, ![2048, 1024]⟩
abbrev S256x2048 : Shape := ⟨2, ![256, 2048]⟩
abbrev S256 : Shape := ⟨1, ![256]⟩
abbrev S256x1 : Shape := ⟨2, ![256, 1]⟩
abbrev S2048x256 : Shape := ⟨2, ![2048, 256]⟩
abbrev S1024x256 : Shape := ⟨2, ![1024, 256]⟩
abbrev S1024 : Shape := ⟨1, ![1024]⟩
abbrev S1x256 : Shape := ⟨2, ![1, 256]⟩
abbrev S1024x128 : Shape := ⟨2, ![1024, 128]⟩
abbrev S1024x1 : Shape := ⟨2, ![1024, 1]⟩

abbrev nBuf : Space → Nat
  | .hbm => 9
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048x11264, .f32⟩
  | .hbm, ⟨3, _⟩ => ⟨S1x4096, .f32⟩
  | .hbm, ⟨4, _⟩ => ⟨S2x1024, .f32⟩
  | .hbm, ⟨5, _⟩ => ⟨S1x128, .f32⟩
  | .hbm, ⟨6, _⟩ => ⟨S1x128, .f32⟩
  | .hbm, ⟨7, _⟩ => ⟨S8192x11264, .bf16⟩
  | .hbm, ⟨8, _⟩ => ⟨S8192x3072, .bf16⟩
  | .local _ .vmem, ⟨0, _⟩ => ⟨S1x2048, .f32⟩
  | .local _ .vmem, ⟨1, _⟩ => ⟨S1x1024, .f32⟩
  | .local _ .vmem, ⟨2, _⟩ => ⟨S1x1024, .f32⟩
  | .local _ .vmem, ⟨3, _⟩ => ⟨S2x1024, .f32⟩
  | .local _ .vmem, ⟨4, _⟩ => ⟨S1x128, .f32⟩
  | .local _ .vmem, ⟨5, _⟩ => ⟨S1x128, .f32⟩
  | .local _ .vmem, ⟨6, _⟩ => ⟨S1024x1024, .bf16⟩
  | .local _ .vmem, ⟨7, _⟩ => ⟨S1024x1024, .bf16⟩
  | .local _ .vmem, ⟨8, _⟩ => ⟨S1024x3072, .bf16⟩
  | .local _ .vmem, ⟨9, _⟩ => ⟨S1024x3072, .bf16⟩
  | .local _ .vmem, ⟨10, _⟩ => ⟨S1024x2048, .bf16⟩
  | .local _ .vmem, ⟨11, _⟩ => ⟨S1024x2048, .f32⟩
  | .local _ .vmem, ⟨12, _⟩ => ⟨S3x2048x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![8, 11], ![false, false]⟩

def k0_cond1 (i : grid0.Coords) : BitVec 1 :=
  let arg0 : BitVec 32 := BitVec.ofNat 32 (i 0).val
  let c11_i32 : BitVec 32 := 11#32
  let v0 : BitVec 32 := Scalar.muli arg0 c11_i32
  let arg1 : BitVec 32 := BitVec.ofNat 32 (i 1).val
  let v1 : BitVec 32 := Scalar.addi v0 arg1
  let c0_i32 : BitVec 32 := 0#32
  let v2 : BitVec 1 := Scalar.cmpi .eq v1 c0_i32
  let v3 : BitVec 32 := Scalar.extui v2
  let c0_i32_0 : BitVec 32 := 0#32
  let v4 : BitVec 1 := Scalar.cmpi .ne v3 c0_i32_0
  v4

def k0_mult1 : BitVec 32 :=
  let c0_i32_26 : BitVec 32 := 0#32
  let c11_i32_27 : BitVec 32 := 11#32
  let v55 : BitVec 32 := Scalar.remsi c0_i32_26 c11_i32_27
  let c1024_i32_28 : BitVec 32 := 1024#32
  let v56 : BitVec 32 := Scalar.muli v55 c1024_i32_28
  v56
def k0_off1 (c0_i32_24 : BitVec 32) : Fin 1 → Nat :=
  let c3_i32_25 : BitVec 32 := 3#32
  let v54 : BitVec 32 := Scalar.remsi c0_i32_24 c3_i32_25
  ![v54.toNat]
def k0_off2 (c0_i32_24 : BitVec 32) : Fin 3 → Nat :=
  let c3_i32_25 : BitVec 32 := 3#32
  let v54 : BitVec 32 := Scalar.remsi c0_i32_24 c3_i32_25
  let c0_i32_29 : BitVec 32 := 0#32
  let c0_i32_30 : BitVec 32 := 0#32
  ![v54.toNat, 0, 0]
def k0_off3 (c0_i32_26 : BitVec 32) : Fin 2 → Nat :=
  let c0_i32_31 : BitVec 32 := 0#32
  let c11_i32_27 : BitVec 32 := 11#32
  let v55 : BitVec 32 := Scalar.remsi c0_i32_26 c11_i32_27
  let c1024_i32_28 : BitVec 32 := 1024#32
  let v56 : BitVec 32 := Scalar.muli v55 c1024_i32_28
  let v57 : BitVec 32 := v56
  ![0, v57.toNat]
def k0_mult2 : BitVec 32 :=
  let c1_i32_34 : BitVec 32 := 1#32
  let c11_i32_35 : BitVec 32 := 11#32
  let v64 : BitVec 32 := Scalar.remsi c1_i32_34 c11_i32_35
  let c1024_i32_36 : BitVec 32 := 1024#32
  let v65 : BitVec 32 := Scalar.muli v64 c1024_i32_36
  v65
def k0_mult3 (i : grid0.Coords) : BitVec 32 :=
  let arg0 : BitVec 32 := BitVec.ofNat 32 (i 0).val
  let c11_i32 : BitVec 32 := 11#32
  let v0 : BitVec 32 := Scalar.muli arg0 c11_i32
  let arg1 : BitVec 32 := BitVec.ofNat 32 (i 1).val
  let v1 : BitVec 32 := Scalar.addi v0 arg1
  let c11_i32_1 : BitVec 32 := 11#32
  let v6 : BitVec 32 := Scalar.remsi v1 c11_i32_1
  let c1024_i32 : BitVec 32 := 1024#32
  let v7 : BitVec 32 := Scalar.muli v6 c1024_i32
  v7
def k0_off4 (i : grid0.Coords) : Fin 1 → Nat :=
  let arg0 : BitVec 32 := BitVec.ofNat 32 (i 0).val
  let c11_i32 : BitVec 32 := 11#32
  let v0 : BitVec 32 := Scalar.muli arg0 c11_i32
  let arg1 : BitVec 32 := BitVec.ofNat 32 (i 1).val
  let v1 : BitVec 32 := Scalar.addi v0 arg1
  let c3_i32 : BitVec 32 := 3#32
  let v5 : BitVec 32 := Scalar.remsi v1 c3_i32
  ![v5.toNat]
def k0_off5 (i : grid0.Coords) : Fin 3 → Nat :=
  let arg0 : BitVec 32 := BitVec.ofNat 32 (i 0).val
  let c11_i32 : BitVec 32 := 11#32
  let v0 : BitVec 32 := Scalar.muli arg0 c11_i32
  let arg1 : BitVec 32 := BitVec.ofNat 32 (i 1).val
  let v1 : BitVec 32 := Scalar.addi v0 arg1
  let c3_i32 : BitVec 32 := 3#32
  let v5 : BitVec 32 := Scalar.remsi v1 c3_i32
  let c0_i32_2 : BitVec 32 := 0#32
  let c0_i32_3 : BitVec 32 := 0#32
  ![v5.toNat, 0, 0]
def k0_off6 (i : grid0.Coords) : Fin 2 → Nat :=
  let c0_i32_4 : BitVec 32 := 0#32
  let arg0 : BitVec 32 := BitVec.ofNat 32 (i 0).val
  let c11_i32 : BitVec 32 := 11#32
  let v0 : BitVec 32 := Scalar.muli arg0 c11_i32
  let arg1 : BitVec 32 := BitVec.ofNat 32 (i 1).val
  let v1 : BitVec 32 := Scalar.addi v0 arg1
  let c11_i32_1 : BitVec 32 := 11#32
  let v6 : BitVec 32 := Scalar.remsi v1 c11_i32_1
  let c1024_i32 : BitVec 32 := 1024#32
  let v7 : BitVec 32 := Scalar.muli v6 c1024_i32
  let v8 : BitVec 32 := v7
  ![0, v8.toNat]
def k0_cond2 (i : grid0.Coords) : BitVec 1 :=
  let arg0 : BitVec 32 := BitVec.ofNat 32 (i 0).val
  let c11_i32 : BitVec 32 := 11#32
  let v0 : BitVec 32 := Scalar.muli arg0 c11_i32
  let arg1 : BitVec 32 := BitVec.ofNat 32 (i 1).val
  let v1 : BitVec 32 := Scalar.addi v0 arg1
  let c3_i32_5 : BitVec 32 := 3#32
  let v14 : BitVec 32 := Scalar.addi v1 c3_i32_5
  let c1_i32 : BitVec 32 := 1#32
  let v15 : BitVec 32 := Scalar.subi v14 c1_i32
  let c88_i32 : BitVec 32 := 88#32
  let v16 : BitVec 1 := Scalar.cmpi .slt v15 c88_i32
  let v17 : BitVec 32 := Scalar.extui v16
  let c0_i32_6 : BitVec 32 := 0#32
  let v18 : BitVec 1 := Scalar.cmpi .ne v17 c0_i32_6
  v18

def k0_mult4 (i : grid0.Coords) : BitVec 32 :=
  let arg0 : BitVec 32 := BitVec.ofNat 32 (i 0).val
  let c11_i32 : BitVec 32 := 11#32
  let v0 : BitVec 32 := Scalar.muli arg0 c11_i32
  let arg1 : BitVec 32 := BitVec.ofNat 32 (i 1).val
  let v1 : BitVec 32 := Scalar.addi v0 arg1
  let c3_i32_24 : BitVec 32 := 3#32
  let v54 : BitVec 32 := Scalar.addi v1 c3_i32_24
  let c1_i32_25 : BitVec 32 := 1#32
  let v55 : BitVec 32 := Scalar.subi v54 c1_i32_25
  let c11_i32_27 : BitVec 32 := 11#32
  let v57 : BitVec 32 := Scalar.remsi v55 c11_i32_27
  let c1024_i32_28 : BitVec 32 := 1024#32
  let v58 : BitVec 32 := Scalar.muli v57 c1024_i32_28
  v58
def k0_off7 (i : grid0.Coords) : Fin 1 → Nat :=
  let arg0 : BitVec 32 := BitVec.ofNat 32 (i 0).val
  let c11_i32 : BitVec 32 := 11#32
  let v0 : BitVec 32 := Scalar.muli arg0 c11_i32
  let arg1 : BitVec 32 := BitVec.ofNat 32 (i 1).val
  let v1 : BitVec 32 := Scalar.addi v0 arg1
  let c3_i32_24 : BitVec 32 := 3#32
  let v54 : BitVec 32 := Scalar.addi v1 c3_i32_24
  let c1_i32_25 : BitVec 32 := 1#32
  let v55 : BitVec 32 := Scalar.subi v54 c1_i32_25
  let c3_i32_26 : BitVec 32 := 3#32
  let v56 : BitVec 32 := Scalar.remsi v55 c3_i32_26
  ![v56.toNat]
def k0_off8 (i : grid0.Coords) : Fin 3 → Nat :=
  let arg0 : BitVec 32 := BitVec.ofNat 32 (i 0).val
  let c11_i32 : BitVec 32 := 11#32
  let v0 : BitVec 32 := Scalar.muli arg0 c11_i32
  let arg1 : BitVec 32 := BitVec.ofNat 32 (i 1).val
  let v1 : BitVec 32 := Scalar.addi v0 arg1
  let c3_i32_24 : BitVec 32 := 3#32
  let v54 : BitVec 32 := Scalar.addi v1 c3_i32_24
  let c1_i32_25 : BitVec 32 := 1#32
  let v55 : BitVec 32 := Scalar.subi v54 c1_i32_25
  let c3_i32_26 : BitVec 32 := 3#32
  let v56 : BitVec 32 := Scalar.remsi v55 c3_i32_26
  let c0_i32_29 : BitVec 32 := 0#32
  let c0_i32_30 : BitVec 32 := 0#32
  ![v56.toNat, 0, 0]
def k0_off9 (i : grid0.Coords) : Fin 2 → Nat :=
  let c0_i32_31 : BitVec 32 := 0#32
  let arg0 : BitVec 32 := BitVec.ofNat 32 (i 0).val
  let c11_i32 : BitVec 32 := 11#32
  let v0 : BitVec 32 := Scalar.muli arg0 c11_i32
  let arg1 : BitVec 32 := BitVec.ofNat 32 (i 1).val
  let v1 : BitVec 32 := Scalar.addi v0 arg1
  let c3_i32_24 : BitVec 32 := 3#32
  let v54 : BitVec 32 := Scalar.addi v1 c3_i32_24
  let c1_i32_25 : BitVec 32 := 1#32
  let v55 : BitVec 32 := Scalar.subi v54 c1_i32_25
  let c11_i32_27 : BitVec 32 := 11#32
  let v57 : BitVec 32 := Scalar.remsi v55 c11_i32_27
  let c1024_i32_28 : BitVec 32 := 1024#32
  let v58 : BitVec 32 := Scalar.muli v57 c1024_i32_28
  let v59 : BitVec 32 := v58
  ![0, v59.toNat]
def k0_cond4 (i : grid0.Coords) : BitVec 1 :=
  let arg1 : BitVec 32 := BitVec.ofNat 32 (i 1).val
  let c1_i32_11 : BitVec 32 := 1#32
  let v25 : BitVec 1 := Scalar.cmpi .eq arg1 c1_i32_11
  let arg0 : BitVec 32 := BitVec.ofNat 32 (i 0).val
  let c1_i32_12 : BitVec 32 := 1#32
  let v26 : BitVec 32 := Scalar.addi arg0 c1_i32_12
  let c8_i32 : BitVec 32 := 8#32
  let v27 : BitVec 1 := Scalar.cmpi .slt v26 c8_i32
  let v28 : BitVec 1 := Scalar.andi v25 v27
  let v29 : BitVec 32 := Scalar.extui v28
  let c0_i32_13 : BitVec 32 := 0#32
  let v30 : BitVec 1 := Scalar.cmpi .ne v29 c0_i32_13
  v30

def k0_off10 (i : grid0.Coords) : Fin 2 → Nat :=
  let arg0 : BitVec 32 := BitVec.ofNat 32 (i 0).val
  let c1_i32_24 : BitVec 32 := 1#32
  let v54 : BitVec 32 := Scalar.addi arg0 c1_i32_24
  let c1024_i32_25 : BitVec 32 := 1024#32
  let v55 : BitVec 32 := Scalar.muli v54 c1024_i32_25
  let c0_i32_26 : BitVec 32 := 0#32
  ![v55.toNat, 0]
def k0_cond5 (i : grid0.Coords) : BitVec 1 :=
  let arg1 : BitVec 32 := BitVec.ofNat 32 (i 1).val
  let c0_i32_14 : BitVec 32 := 0#32
  let v31 : BitVec 1 := Scalar.cmpi .eq arg1 c0_i32_14
  let v32 : BitVec 32 := Scalar.extui v31
  let c0_i32_15 : BitVec 32 := 0#32
  let v33 : BitVec 1 := Scalar.cmpi .ne v32 c0_i32_15
  v33

def k0_off11 (i : grid0.Coords) : Fin 2 → Nat :=
  let arg0 : BitVec 32 := BitVec.ofNat 32 (i 0).val
  let c1024_i32_24 : BitVec 32 := 1024#32
  let v54 : BitVec 32 := Scalar.muli arg0 c1024_i32_24
  let c0_i32_25 : BitVec 32 := 0#32
  ![v54.toNat, 0]
def k0_off12 (i : grid0.Coords) : Fin 3 → Nat :=
  let arg0 : BitVec 32 := BitVec.ofNat 32 (i 0).val
  let c11_i32 : BitVec 32 := 11#32
  let v0 : BitVec 32 := Scalar.muli arg0 c11_i32
  let arg1 : BitVec 32 := BitVec.ofNat 32 (i 1).val
  let v1 : BitVec 32 := Scalar.addi v0 arg1
  let c3_i32_7 : BitVec 32 := 3#32
  let v19 : BitVec 32 := Scalar.remsi v1 c3_i32_7
  let c0_i32_59 : BitVec 32 := 0#32
  let c0_i32_60 : BitVec 32 := 0#32
  ![v19.toNat, 0, 0]
def k0_cond6 (i : grid0.Coords) : BitVec 1 :=
  let arg1 : BitVec 32 := BitVec.ofNat 32 (i 1).val
  let c3_i32_16 : BitVec 32 := 3#32
  let v34 : BitVec 1 := Scalar.cmpi .eq arg1 c3_i32_16
  let v35 : BitVec 32 := Scalar.extui v34
  let c0_i32_17 : BitVec 32 := 0#32
  let v36 : BitVec 1 := Scalar.cmpi .ne v35 c0_i32_17
  v36

def k0_off13 (i : grid0.Coords) : Fin 3 → Nat :=
  let arg0 : BitVec 32 := BitVec.ofNat 32 (i 0).val
  let c11_i32 : BitVec 32 := 11#32
  let v0 : BitVec 32 := Scalar.muli arg0 c11_i32
  let arg1 : BitVec 32 := BitVec.ofNat 32 (i 1).val
  let v1 : BitVec 32 := Scalar.addi v0 arg1
  let c3_i32_7 : BitVec 32 := 3#32
  let v19 : BitVec 32 := Scalar.remsi v1 c3_i32_7
  let c0_i32_25 : BitVec 32 := 0#32
  let c0_i32_26 : BitVec 32 := 0#32
  ![v19.toNat, 0, 0]
def k0_cond7 (i : grid0.Coords) : BitVec 1 :=
  let arg1 : BitVec 32 := BitVec.ofNat 32 (i 1).val
  let c1_i32_18 : BitVec 32 := 1#32
  let v37 : BitVec 1 := Scalar.cmpi .eq arg1 c1_i32_18
  let v38 : BitVec 32 := Scalar.extui v37
  let c0_i32_19 : BitVec 32 := 0#32
  let v39 : BitVec 1 := Scalar.cmpi .ne v38 c0_i32_19
  v39

def k0_off14 (i : grid0.Coords) : Fin 3 → Nat :=
  let arg0 : BitVec 32 := BitVec.ofNat 32 (i 0).val
  let c11_i32 : BitVec 32 := 11#32
  let v0 : BitVec 32 := Scalar.muli arg0 c11_i32
  let arg1 : BitVec 32 := BitVec.ofNat 32 (i 1).val
  let v1 : BitVec 32 := Scalar.addi v0 arg1
  let c3_i32_7 : BitVec 32 := 3#32
  let v19 : BitVec 32 := Scalar.remsi v1 c3_i32_7
  let c0_i32_28 : BitVec 32 := 0#32
  let c0_i32_29 : BitVec 32 := 0#32
  ![v19.toNat, 0, 0]
def k0_cond8 (i : grid0.Coords) : BitVec 1 :=
  let arg1 : BitVec 32 := BitVec.ofNat 32 (i 1).val
  let c2_i32 : BitVec 32 := 2#32
  let v40 : BitVec 1 := Scalar.cmpi .eq arg1 c2_i32
  let c6_i32 : BitVec 32 := 6#32
  let v41 : BitVec 1 := Scalar.cmpi .eq arg1 c6_i32
  let v42 : BitVec 1 := Scalar.ori v40 v41
  let v43 : BitVec 32 := Scalar.extui v42
  let c0_i32_20 : BitVec 32 := 0#32
  let v44 : BitVec 1 := Scalar.cmpi .ne v43 c0_i32_20
  v44

def k0_off15 (i : grid0.Coords) : Fin 3 → Nat :=
  let arg0 : BitVec 32 := BitVec.ofNat 32 (i 0).val
  let c11_i32 : BitVec 32 := 11#32
  let v0 : BitVec 32 := Scalar.muli arg0 c11_i32
  let arg1 : BitVec 32 := BitVec.ofNat 32 (i 1).val
  let v1 : BitVec 32 := Scalar.addi v0 arg1
  let c3_i32_7 : BitVec 32 := 3#32
  let v19 : BitVec 32 := Scalar.remsi v1 c3_i32_7
  let c0_i32_25 : BitVec 32 := 0#32
  let c0_i32_26 : BitVec 32 := 0#32
  ![v19.toNat, 0, 0]
def k0_cond9 (i : grid0.Coords) : BitVec 1 :=
  let arg1 : BitVec 32 := BitVec.ofNat 32 (i 1).val
  let c4_i32 : BitVec 32 := 4#32
  let v45 : BitVec 1 := Scalar.cmpi .eq arg1 c4_i32
  let v46 : BitVec 32 := Scalar.extui v45
  let c0_i32_21 : BitVec 32 := 0#32
  let v47 : BitVec 1 := Scalar.cmpi .ne v46 c0_i32_21
  v47

def k0_off16 (i : grid0.Coords) : Fin 3 → Nat :=
  let arg0 : BitVec 32 := BitVec.ofNat 32 (i 0).val
  let c11_i32 : BitVec 32 := 11#32
  let v0 : BitVec 32 := Scalar.muli arg0 c11_i32
  let arg1 : BitVec 32 := BitVec.ofNat 32 (i 1).val
  let v1 : BitVec 32 := Scalar.addi v0 arg1
  let c3_i32_7 : BitVec 32 := 3#32
  let v19 : BitVec 32 := Scalar.remsi v1 c3_i32_7
  let c0_i32_25 : BitVec 32 := 0#32
  let c0_i32_26 : BitVec 32 := 0#32
  ![v19.toNat, 0, 0]
def k0_cond10 (i : grid0.Coords) : BitVec 1 :=
  let arg1 : BitVec 32 := BitVec.ofNat 32 (i 1).val
  let c5_i32 : BitVec 32 := 5#32
  let v48 : BitVec 1 := Scalar.cmpi .eq arg1 c5_i32
  let v49 : BitVec 32 := Scalar.extui v48
  let c0_i32_22 : BitVec 32 := 0#32
  let v50 : BitVec 1 := Scalar.cmpi .ne v49 c0_i32_22
  v50

def k0_off17 (i : grid0.Coords) : Fin 3 → Nat :=
  let arg0 : BitVec 32 := BitVec.ofNat 32 (i 0).val
  let c11_i32 : BitVec 32 := 11#32
  let v0 : BitVec 32 := Scalar.muli arg0 c11_i32
  let arg1 : BitVec 32 := BitVec.ofNat 32 (i 1).val
  let v1 : BitVec 32 := Scalar.addi v0 arg1
  let c3_i32_7 : BitVec 32 := 3#32
  let v19 : BitVec 32 := Scalar.remsi v1 c3_i32_7
  let c0_i32_25 : BitVec 32 := 0#32
  let c0_i32_26 : BitVec 32 := 0#32
  ![v19.toNat, 0, 0]
def k0_cond11 (i : grid0.Coords) : BitVec 1 :=
  let arg1 : BitVec 32 := BitVec.ofNat 32 (i 1).val
  let c7_i32 : BitVec 32 := 7#32
  let v51 : BitVec 1 := Scalar.cmpi .sge arg1 c7_i32
  let v52 : BitVec 32 := Scalar.extui v51
  let c0_i32_23 : BitVec 32 := 0#32
  let v53 : BitVec 1 := Scalar.cmpi .ne v52 c0_i32_23
  v53

def k0_off18 (i : grid0.Coords) : Fin 3 → Nat :=
  let arg0 : BitVec 32 := BitVec.ofNat 32 (i 0).val
  let c11_i32 : BitVec 32 := 11#32
  let v0 : BitVec 32 := Scalar.muli arg0 c11_i32
  let arg1 : BitVec 32 := BitVec.ofNat 32 (i 1).val
  let v1 : BitVec 32 := Scalar.addi v0 arg1
  let c3_i32_7 : BitVec 32 := 3#32
  let v19 : BitVec 32 := Scalar.remsi v1 c3_i32_7
  let c0_i32_25 : BitVec 32 := 0#32
  let c0_i32_26 : BitVec 32 := 0#32
  ![v19.toNat, 0, 0]
def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi arg1 c7_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== InProjIdeal.lean ====
variable {F : FTy → Type} [FloatOps F] [Named F]
def κ : String → Option EReal := fun
  | "log2e" => some (((Real.log 2)⁻¹ : ℝ) : EReal)
  | "scale" => some ((((Real.sqrt 128) * (Real.log 2))⁻¹ : ℝ) : EReal)
  | _ => none
-- ==== InProjReferenceIdeal.lean ====
abbrev S8192x2048 : Shape := ⟨2, ![8192, 2048]⟩
abbrev S1x2048 : Shape := ⟨2, ![1, 2048]⟩
abbrev S2048x11264 : Shape := ⟨2, ![2048, 11264]⟩
abbrev S1x4096 : Shape := ⟨2, ![1, 4096]⟩
abbrev S2x1024 : Shape := ⟨2, ![2, 1024]⟩
abbrev S1x128 : Shape := ⟨2, ![1, 128]⟩
abbrev S_ : Shape := ⟨0, ![]⟩
abbrev S8192 : Shape := ⟨1, ![8192]⟩
abbrev S8192x1 : Shape := ⟨2, ![8192, 1]⟩
abbrev S8192x11264 : Shape := ⟨2, ![8192, 11264]⟩
abbrev S8192x1024 : Shape := ⟨2, ![8192, 1024]⟩
abbrev S8192x4096 : Shape := ⟨2, ![8192, 4096]⟩
abbrev S1024 : Shape := ⟨1, ![1024]⟩
abbrev S1x1024 : Shape := ⟨2, ![1, 1024]⟩
abbrev S8192x8x128 : Shape := ⟨3, ![8192, 8, 128]⟩
abbrev S1x1x128 : Shape := ⟨3, ![1, 1, 128]⟩
abbrev S8192x8 : Shape := ⟨2, ![8192, 8]⟩
abbrev S8192x8x1 : Shape := ⟨3, ![8192, 8, 1]⟩
abbrev S8192x3072 : Shape := ⟨2, ![8192, 3072]⟩

abbrev nBuf : Space → Nat
  | .hbm => 148
  | .vmem => 0
  | .smem => 0
  | _ => 0

abbrev hbmTy0_0 (i : Nat) : BufTy := match i % 128 with
  | 0 => ⟨S8192x2048, .f32⟩
  | 1 => ⟨S1x2048, .f32⟩
  | 2 => ⟨S2048x11264, .f32⟩
  | 3 => ⟨S1x4096, .f32⟩
  | 4 => ⟨S2x1024, .f32⟩
  | 5 => ⟨S1x128, .f32⟩
  | 6 => ⟨S1x128, .f32⟩
  | 7 => ⟨S8192x2048, .f32⟩
  | 8 => ⟨S_, .f32⟩
  | 9 => ⟨S8192, .f32⟩
  | 10 => ⟨S8192x1, .f32⟩
  | 11 => ⟨S_, .f32⟩
  | 12 => ⟨S8192x1, .f32⟩
  | 13 => ⟨S8192x1, .f32⟩
  | 14 => ⟨S_, .f32⟩
  | 15 => ⟨S8192x1, .f32⟩
  | 16 => ⟨S8192x1, .f32⟩
  | 17 => ⟨S8192x1, .f32⟩
  | 18 => ⟨S8192x2048, .f32⟩
  | 19 => ⟨S8192x2048, .f32⟩
  | 20 => ⟨S8192x2048, .f32⟩
  | 21 => ⟨S8192x2048, .f32⟩
  | 22 => ⟨S8192x11264, .f32⟩
  | 23 => ⟨S8192x1024, .f32⟩
  | 24 => ⟨S8192x1024, .f32⟩
  | 25 => ⟨S8192x1024, .f32⟩
  | 26 => ⟨S8192x1024, .f32⟩
  | 27 => ⟨S8192x1024, .f32⟩
  | 28 => ⟨S8192x1024, .f32⟩
  | 29 => ⟨S8192x1024, .f32⟩
  | 30 => ⟨S8192x4096, .f32⟩
  | 31 => ⟨S_, .f32⟩
  | 32 => ⟨S1024, .f32⟩
  | 33 => ⟨S_, .f32⟩
  | 34 => ⟨S1024, .f32⟩
  | 35 => ⟨S1024, .f32⟩
  | 36 => ⟨S1x1024, .f32⟩
  | 37 => ⟨S2x1024, .f32⟩
  | 38 => ⟨S2x1024, .f32⟩
  | 39 => ⟨S2x1024, .f32⟩
  | 40 => ⟨S_, .f32⟩
  | 41 => ⟨S1024, .f32⟩
  | 42 => ⟨S1x1024, .f32⟩
  | 43 => ⟨S2x1024, .f32⟩
  | 44 => ⟨S2x1024, .f32⟩
  | 45 => ⟨S1x1024, .f32⟩
  | 46 => ⟨S_, .f32⟩
  | 47 => ⟨S1x1024, .f32⟩
  | 48 => ⟨S1x1024, .f32⟩
  | 49 => ⟨S8192x1024, .f32⟩
  | 50 => ⟨S8192x1024, .f32⟩
  | 51 => ⟨S_, .f32⟩
  | 52 => ⟨S8192x1024, .f32⟩
  | 53 => ⟨S8192x1024, .f32⟩
  | 54 => ⟨S_, .f32⟩
  | 55 => ⟨S8192x1024, .f32⟩
  | 56 => ⟨S8192x1024, .f32⟩
  | 57 => ⟨S8192x1024, .f32⟩
  | 58 => ⟨S8192x1024, .f32⟩
  | 59 => ⟨S8192x1024, .f32⟩
  | 60 => ⟨S8192x1024, .f32⟩
  | 61 => ⟨S8192x8x128, .f32⟩
  | 62 => ⟨S1x1x128, .f32⟩
  | 63 => ⟨S8192x8x128, .f32⟩
  | 64 => ⟨S_, .f32⟩
  | 65 => ⟨S8192x8, .f32⟩
  | 66 => ⟨S8192x8x1, .f32⟩
  | 67 => ⟨S_, .f32⟩
  | 68 => ⟨S8192x8x1, .f32⟩
  | 69 => ⟨S8192x8x1, .f32⟩
  | 70 => ⟨S_, .f32⟩
  | 71 => ⟨S8192x8x1, .f32⟩
  | 72 => ⟨S8192x8x1, .f32⟩
  | 73 => ⟨S8192x8x1, .f32⟩
  | 74 => ⟨S8192x8x128, .f32⟩
  | 75 => ⟨S8192x8x128, .f32⟩
  | 76 => ⟨S8192x8x128, .f32⟩
  | 77 => ⟨S8192x8x128, .f32⟩
  | 78 => ⟨S8192x1024, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S8192x1024, .f32⟩
  | 86 => ⟨S8192x1024, .f32⟩
  | 87 => ⟨S8192x8x128, .f32⟩
  | 88 => ⟨S1x1x128, .f32⟩
  | 89 => ⟨S8192x8x128, .f32⟩
  | 90 => ⟨S_, .f32⟩
  | 91 => ⟨S8192x8, .f32⟩
  | 92 => ⟨S8192x8x1, .f32⟩
  | 93 => ⟨S_, .f32⟩
  | 94 => ⟨S8192x8x1, .f32⟩
  | 95 => ⟨S8192x8x1, .f32⟩
  | 96 => ⟨S_, .f32⟩
  | 97 => ⟨S8192x8x1, .f32⟩
  | 98 => ⟨S8192x8x1, .f32⟩
  | 99 => ⟨S8192x8x1, .f32⟩
  | 100 => ⟨S8192x8x128, .f32⟩
  | 101 => ⟨S8192x8x128, .f32⟩
  | 102 => ⟨S8192x8x128, .f32⟩
  | 103 => ⟨S8192x8x128, .f32⟩
  | 104 => ⟨S8192x1024, .f32⟩
  | 105 => ⟨S8192x1024, .f32⟩
  | 106 => ⟨S8192x1024, .f32⟩
  | 107 => ⟨S_, .f32⟩
  | 108 => ⟨S8192x1024, .f32⟩
  | 109 => ⟨S8192x1024, .f32⟩
  | 110 => ⟨S_, .f32⟩
  | 111 => ⟨S8192x1024, .f32⟩
  | 112 => ⟨S8192x1024, .f32⟩
  | 113 => ⟨S8192x1024, .f32⟩
  | 114 => ⟨S_, .f32⟩
  | 115 => ⟨S8192x1024, .f32⟩
  | 116 => ⟨S8192x1024, .f32⟩
  | 117 => ⟨S8192x1024, .f32⟩
  | 118 => ⟨S8192x1024, .f32⟩
  | 119 => ⟨S_, .f32⟩
  | 120 => ⟨S8192x1024, .f32⟩
  | 121 => ⟨S8192x1024, .f32⟩
  | 122 => ⟨S_, .f32⟩
  | 123 => ⟨S8192x1024, .f32⟩
  | 124 => ⟨S8192x1024, .f32⟩
  | 125 => ⟨S8192x1024, .f32⟩
  | 126 => ⟨S8192x4096, .f32⟩
  | 127 => ⟨S8192x4096, .f32⟩
  | _ => ⟨S8192x2048, .f32⟩

abbrev hbmTy0_1 (i : Nat) : BufTy := match i % 128 with
  | 0 => ⟨S8192x4096, .f32⟩
  | 1 => ⟨S8192x4096, .f32⟩
  | 2 => ⟨S_, .f32⟩
  | 3 => ⟨S8192x4096, .f32⟩
  | 4 => ⟨S8192x4096, .f32⟩
  | 5 => ⟨S_, .f32⟩
  | 6 => ⟨S8192x4096, .f32⟩
  | 7 => ⟨S8192x4096, .f32⟩
  | 8 => ⟨S8192x11264, .f32⟩
  | 9 => ⟨S8192x1024, .f32⟩
  | 10 => ⟨S_, .f32⟩
  | 11 => ⟨S_, .f32⟩
  | 12 => ⟨S_, .f32⟩
  | 13 => ⟨S8192x1024, .f32⟩
  | 14 => ⟨S8192x1024, .f32⟩
  | 15 => ⟨S_, .f32⟩
  | 16 => ⟨S8192x2048, .f32⟩
  | 17 => ⟨S8192x3072, .f32⟩
  | 18 => ⟨S8192x11264, .bf16⟩
  | 19 => ⟨S8192x3072, .bf16⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_8 : Ref sig .tc := ⟨.hbm, 64, rfl⟩
abbrev main_v48 : Ref sig .tc := ⟨.hbm, 65, rfl⟩
abbrev main_v49 : Ref sig .tc := ⟨.hbm, 66, rfl⟩
abbrev main_cst_9 : Ref sig .tc := ⟨.hbm, 67, rfl⟩
abbrev main_v50 : Ref sig .tc := ⟨.hbm, 68, rfl⟩
abbrev main_v51 : Ref sig .tc := ⟨.hbm, 69, rfl⟩
abbrev main_cst_10 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_11 : Ref sig .tc := ⟨.hbm, 79, rfl⟩
abbrev main_v60 : Ref sig .tc := ⟨.hbm, 80, rfl⟩
abbrev main_cst_12 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_cst_13 : Ref sig .tc := ⟨.hbm, 90, rfl⟩
abbrev main_v69 : Ref sig .tc := ⟨.hbm, 91, rfl⟩
abbrev main_v70 : Ref sig .tc := ⟨.hbm, 92, rfl⟩
abbrev main_cst_14 : Ref sig .tc := ⟨.hbm, 93, rfl⟩
abbrev main_v71 : Ref sig .tc := ⟨.hbm, 94, rfl⟩
abbrev main_v72 : Ref sig .tc := ⟨.hbm, 95, rfl⟩
abbrev main_cst_15 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_call0_v0 : Ref sig .tc := ⟨.hbm, 105, rfl⟩
abbrev main_call0_v1 : Ref sig .tc := ⟨.hbm, 106, rfl⟩
abbrev main_call0_cst : Ref sig .tc := ⟨.hbm, 107, rfl⟩
abbrev main_call0_v2 : Ref sig .tc := ⟨.hbm, 108, rfl⟩
abbrev main_call0_v3 : Ref sig .tc := ⟨.hbm, 109, rfl⟩
abbrev main_call0_cst_0 : Ref sig .tc := ⟨.hbm, 110, rfl⟩
abbrev main_call0_v4 : Ref sig .tc := ⟨.hbm, 111, rfl⟩
abbrev main_call0_v5 : Ref sig .tc := ⟨.hbm, 112, rfl⟩
abbrev main_v81 : Ref sig .tc := ⟨.hbm, 113, rfl⟩
abbrev main_cst_16 : Ref sig .tc := ⟨.hbm, 114, rfl⟩
abbrev main_v82 : Ref sig .tc := ⟨.hbm, 115, rfl⟩
abbrev main_v83 : Ref sig .tc := ⟨.hbm, 116, rfl⟩
abbrev main_call1_v0 : Ref sig .tc := ⟨.hbm, 117, rfl⟩
abbrev main_call1_v1 : Ref sig .tc := ⟨.hbm, 118, rfl⟩
abbrev main_call1_cst : Ref sig .tc := ⟨.hbm, 119, rfl⟩
abbrev main_call1_v2 : Ref sig .tc := ⟨.hbm, 120, rfl⟩
abbrev main_call1_v3 : Ref sig .tc := ⟨.hbm, 121, rfl⟩
abbrev main_call1_cst_0 : Ref sig .tc := ⟨.hbm, 122, rfl⟩
abbrev main_call1_v4 : Ref sig .tc := ⟨.hbm, 123, rfl⟩
abbrev main_call1_v5 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_cst_17 : Ref sig .tc := ⟨.hbm, 130, rfl⟩
abbrev main_v89 : Ref sig .tc := ⟨.hbm, 131, rfl⟩
abbrev main_v90 : Ref sig .tc := ⟨.hbm, 132, rfl⟩
abbrev main_cst_18 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_cst_19 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_cst_20 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩

abbrev nD : Nat := 1
abbrev τ : Topo := Topo.v7x

variable {F : FTy → Type} [FloatOps F]
-- ==== Proof.Blocks.lean ====
/- What the launch's input blocks hold: the arguments read where the point says, and the bias vector the host makes. -/
module

public import proofs.«01_k».proof.Proof.Gen.KernelIdeal.Frame
public import proofs.«01_k».proof.Proof.Gen.KernelIdeal.Value
public import Idealize.ShloMosaic.Lib.Pipeline.CanonAppend
public import Idealize.ShloMosaic.Lib.Pipeline.ValueKit
public import Idealize.ShloMosaic.Lib.Pipeline.ReadBack
public import Idealize.ShloMosaic.Lib.Pointwise
public import Idealize.ShloMosaic.Lib.StableHlo.RunClose

@[expose] public section

set_option maxRecDepth 16384

noncomputable section

namespace Cert.KernelIdeal.Attn

open Idealize.ShloMosaic Idealize.ShloMosaic.TcCoe Idealize.ShloMosaic.Tactic
open Idealize.SL.Sem
open Cert.KernelIdeal.Gen Cert.KernelIdeal.Value

variable (m : (ℓ : Loc nD τ sig) → Buf (Elt Ideal) ℓ) (c : Dev nD)

/-- Where each input window's block lies, over the points: four batches to a group of four heads. -/
theorem starts : ∀ t : Fin cfg0.N,
    (win0_0.index t (0 : Fin 3) = t.val % 4 ∧ win0_0.index t (1 : Fin 3) = 0 ∧ win0_0.index t (2 : Fin 3) = 8 + t.val / 4)
    ∧ (win0_1.index t (0 : Fin 3) = t.val % 4 ∧ win0_1.index t (1 : Fin 3) = 0 ∧ win0_1.index t (2 : Fin 3) = 10 + t.val / 4)
    ∧ (win0_2.index t (0 : Fin 3) = t.val % 4 ∧ win0_2.index t (1 : Fin 3) = 0 ∧ win0_2.index t (2 : Fin 3) = 12 + t.val / 4)
    ∧ (win0_3.index t (0 : Fin 3) = t.val / 4 ∧ win0_3.index t (1 : Fin 3) = 0 ∧ win0_3.index t (2 : Fin 3) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 1) :=
  (by decide +kernel : ∀ t : Fin grid0.N, _)

/-- The block of queries: the point's batch, every position, the point's four heads. -/
theorem block_queries (t : Fin cfg0.N) (y : S1x2048x512.Idx) (x : S4x2048x11264.Idx) (h0 : (x 0).val = t.val % 4)
    (h1 : (x 1).val = (y 1).val) (h2 : (x 2).val = 4096 + 512 * (t.val / 4) + (y 2).val) :
    (iblk m c 0 t : Vec Ideal S1x2048x512 .bf16) y = m ((c : Thread nD τ).loc main_arg0) x := by
  obtain ⟨e0, e1, e2⟩ := (starts t).1
  unfold iblk
  rw [View.read_apply]
  show V m c main_arg0 _ = _
  rw [show V m c main_arg0 = m ((c : Thread nD τ).loc main_arg0) from by unfold V; after_results]
  congr 1
  funext a
  apply Fin.ext
  have hy : (y 0).val < 1 := (y 0).isLt
  match a with
  | ⟨0, _⟩ => show win0_0.index t (0 : Fin 3) * 1 + 1 * (y 0).val = (x 0).val; omega
  | ⟨1, _⟩ => show win0_0.index t (1 : Fin 3) * 2048 + 1 * (y 1).val = (x 1).val; omega
  | ⟨2, _⟩ => show win0_0.index t (2 : Fin 3) * 512 + 1 * (y 2).val = (x 2).val; omega

/-- The block of keys: the point's batch, every position, the point's four heads. -/
theorem block_keys (t : Fin cfg0.N) (y : S1x2048x512.Idx) (x : S4x2048x11264.Idx) (h0 : (x 0).val = t.val % 4)
    (h1 : (x 1).val = (y 1).val) (h2 : (x 2).val = 5120 + 512 * (t.val / 4) + (y 2).val) :
    (iblk m c 1 t : Vec Ideal S1x2048x512 .bf16) y = m ((c : Thread nD τ).loc main_arg0) x := by
  obtain ⟨e0, e1, e2⟩ := (starts t).2.1
  unfold iblk
  rw [View.read_apply]
  show V m c main_arg0 _ = _
  rw [show V m c main_arg0 = m ((c : Thread nD τ).loc main_arg0) from by unfold V; after_results]
  congr 1
  funext a
  apply Fin.ext
  have hy : (y 0).val < 1 := (y 0).isLt
  match a with
  | ⟨0, _⟩ => show win0_1.index t (0 : Fin 3) * 1 + 1 * (y 0).val = (x 0).val; omega
  | ⟨1, _⟩ => show win0_1.index t (1 : Fin 3) * 2048 + 1 * (y 1).val = (x 1).val; omega
  | ⟨2, _⟩ => show win0_1.index t (2 : Fin 3) * 512 + 1 * (y 2).val = (x 2).val; omega

/-- The block of values: the point's batch, every position, the point's four heads. -/
theorem block_values (t : Fin cfg0.N) (y : S1x2048x512.Idx) (x : S4x2048x11264.Idx) (h0 : (x 0).val = t.val % 4)
    (h1 : (x 1).val = (y 1).val) (h2 : (x 2).val = 6144 + 512 * (t.val / 4) + (y 2).val) :
    (iblk m c 2 t : Vec Ideal S1x2048x512 .bf16) y = m ((c : Thread nD τ).loc main_arg0) x := by
  obtain ⟨e0, e1, e2⟩ := (starts t).2.2.1
  unfold iblk
  rw [View.read_apply]
  show V m c main_arg0 _ = _
  rw [show V m c main_arg0 = m ((c : Thread nD τ).loc main_arg0) from by unfold V; after_results]
  congr 1
  funext a
  apply Fin.ext
  have hy : (y 0).val < 1 := (y 0).isLt
  match a with
  | ⟨0, _⟩ => show win0_2.index t (0 : Fin 3) * 1 + 1 * (y 0).val = (x 0).val; omega
  | ⟨1, _⟩ => show win0_2.index t (1 : Fin 3) * 2048 + 1 * (y 1).val = (x 1).val; omega
  | ⟨2, _⟩ => show win0_2.index t (2 : Fin 3) * 512 + 1 * (y 2).val = (x 2).val; omega

/-- Weight block 0: the point's 128 rows of its matrix. -/
theorem block_weight0 (t : Fin cfg0.N) (y : S128x2048.Idx) (x : S1024x2048.Idx) (h0 : (x 0).val = 128 * t.val + (y 0).val)
    (h1 : (x 1).val = 0 + (y 1).val) :
    (iblk m c 4 t : Vec Ideal S128x2048 .f32) y = m ((c : Thread nD τ).loc main_arg2) x := by
  obtain ⟨e0, e1⟩ := (starts t).2.2.2.2.1
  unfold iblk
  rw [View.read_apply]
  show V m c main_arg2 _ = _
  rw [show V m c main_arg2 = m ((c : Thread nD τ).loc main_arg2) from by unfold V; after_results]
  congr 1
  funext a
  apply Fin.ext
  match a with
  | ⟨0, _⟩ => show win0_4.index t (0 : Fin 2) * 128 + 1 * (y 0).val = (x 0).val; omega
  | ⟨1, _⟩ => show win0_4.index t (1 : Fin 2) * 2048 + 1 * (y 1).val = (x 1).val; omega

/-- Weight block 1: the point's 128 rows of its matrix. -/
theorem block_weight1 (t : Fin cfg0.N) (y : S128x2048.Idx) (x : S1024x2048.Idx) (h0 : (x 0).val = 128 * t.val + (y 0).val)
    (h1 : (x 1).val = 0 + (y 1).val) :
    (iblk m c 5 t : Vec Ideal S128x2048 .f32) y = m ((c : Thread nD τ).loc main_arg3) x := by
  obtain ⟨e0, e1⟩ := (starts t).2.2.2.2.2.1
  unfold iblk
  rw [View.read_apply]
  show V m c main_arg3 _ = _
  rw [show V m c main_arg3 = m ((c : Thread nD τ).loc main_arg3) from by unfold V; after_results]
  congr 1
  funext a
  apply Fin.ext
  match a with
  | ⟨0, _⟩ => show win0_5.index t (0 : Fin 2) * 128 + 1 * (y 0).val = (x 0).val; omega
  | ⟨1, _⟩ => show win0_5.index t (1 : Fin 2) * 2048 + 1 * (y 1).val = (x 1).val; omega

/-- Weight block 2: the point's 256 rows of its matrix. -/
theorem block_weight2 (t : Fin cfg0.N) (y : S256x2048.Idx) (x : S2048x2048.Idx) (h0 : (x 0).val = 256 * t.val + (y 0).val)
    (h1 : (x 1).val = 0 + (y 1).val) :
    (iblk m c 6 t : Vec Ideal S256x2048 .f32) y = m ((c : Thread nD τ).loc main_arg4) x := by
  obtain ⟨e0, e1⟩ := (starts t).2.2.2.2.2.2.1
  unfold iblk
  rw [View.read_apply]
  show V m c main_arg4 _ = _
  rw [show V m c main_arg4 = m ((c : Thread nD τ).loc main_arg4) from by unfold V; after_results]
  congr 1
  funext a
  apply Fin.ext
  match a with
  | ⟨0, _⟩ => show win0_6.index t (0 : Fin 2) * 256 + 1 * (y 0).val = (x 0).val; omega
  | ⟨1, _⟩ => show win0_6.index t (1 : Fin 2) * 2048 + 1 * (y 1).val = (x 1).val; omega

/-- Weight block 3: the point's 256 rows of its matrix. -/
theorem block_weight3 (t : Fin cfg0.N) (y : S256x5632.Idx) (x : S2048x11264.Idx) (h0 : (x 0).val = 256 * t.val + (y 0).val)
    (h1 : (x 1).val = 5632 + (y 1).val) :
    (iblk m c 7 t : Vec Ideal S256x5632 .f32) y = m ((c : Thread nD τ).loc main_arg5) x := by
  obtain ⟨e0, e1⟩ := (starts t).2.2.2.2.2.2.2
  unfold iblk
  rw [View.read_apply]
  show V m c main_arg5 _ = _
  rw [show V m c main_arg5 = m ((c : Thread nD τ).loc main_arg5) from by unfold V; after_results]
  congr 1
  funext a
  apply Fin.ext
  match a with
  | ⟨0, _⟩ => show win0_7.index t (0 : Fin 2) * 256 + 1 * (y 0).val = (x 0).val; omega
  | ⟨1, _⟩ => show win0_7.index t (1 : Fin 2) * 5632 + 1 * (y 1).val = (x 1).val; omega

/-- The biases with their columns reversed. -/
def reversed (A : Vec Ideal S8x191 .f32) : Vec Ideal S8x191 .f32 :=
  concatenate S8x191 0 [⟨S0x191, shapeCast S0x191 (broadcastInDim S1x0x191 ![0, 2] bcast_S1x191_S1x0x191_0_2
      (extractStridedSlice S1x191 ![0, 0] (Host.reverse [1] A) slices_S8x191_S1x191_0_0)) shapeCasts_S1x0x191_S0x191⟩,
    ⟨S8x191, Host.reverse [1] A⟩,
    ⟨S0x191, shapeCast S0x191 (broadcastInDim S1x0x191 ![0, 2] bcast_S1x191_S1x0x191_0_2
      (extractStridedSlice S1x191 ![7, 0] (Host.reverse [1] A) slices_S8x191_S1x191_7_0)) shapeCasts_S1x0x191_S0x191⟩]
    concatenates_S0x191_S8x191_S0x191_S8x191_d0

/-- The reversed biases at a column. -/
theorem reversed_apply (A : Vec Ideal S8x191 .f32) (h : Fin 8) (e : Fin 191) :
    reversed A (ix2 h e) = A (ix2 h ⟨190 - e.val, by omega⟩) := by
  have hh := h.isLt
  unfold reversed
  pointwise []
  rw [dif_neg (Nat.not_lt_zero _)]
  congr 1
  funext a
  match a with
  | ⟨0, _⟩ => rfl
  | ⟨1, _⟩ => apply Fin.ext; show 191 - (e.val + 1) = 190 - e.val; omega

/-- The reversed biases with their first column repeated before them. -/
def lengthened (B : Vec Ideal S8x191 .f32) : Vec Ideal S8x1x256 .f32 :=
  broadcastInDim S8x1x256 ![0, 2] bcast_S8x256_S8x1x256_0_2
    (concatenate S8x256 1 [⟨S8x65, shapeCast S8x65 (broadcastInDim S8x1x65 ![0, 1] bcast_S8x1_S8x1x65_0_1
        (extractStridedSlice S8x1 ![0, 0] B slices_S8x191_S8x1_0_0)) shapeCasts_S8x1x65_S8x65⟩,
      ⟨S8x191, B⟩,
      ⟨S8x0, shapeCast S8x0 (broadcastInDim S8x1x0 ![0, 1] bcast_S8x1_S8x1x0_0_1
        (extractStridedSlice S8x1 ![0, 190] B slices_S8x191_S8x1_0_190)) shapeCasts_S8x1x0_S8x0⟩]
      concatenates_S8x65_S8x191_S8x0_S8x256_d1)

/-- The lengthened biases at a column. -/
theorem lengthened_apply (B : Vec Ideal S8x191 .f32) (h : Fin 8) (e : Fin 256) :
    lengthened B (ix3 h 0 e) = B (ix2 h ⟨e.val - 65, by omega⟩) := by
  have he := e.isLt
  unfold lengthened
  pointwise []
  split
  · congr 2
    apply Fin.ext
    show 0 = e.val - 65
    omega
  · rw [dif_pos (by omega)]

/-- What the host's operations leave as the bias vector. -/
theorem hostVector_eq : (V m c main_v15 : Vec Ideal S8x1x256 .f32) = lengthened (reversed (m ((c : Thread nD τ).loc main_arg1))) := by
  unfold lengthened reversed V
  after_results_entrywise (rounds := 3) []

/-- The bias vector the host makes, at a head and an offset: the bias at the reversed, clipped distance. -/
theorem hostVector (h : Fin 8) (e : Fin 256) :
    (V m c main_v15 : Vec Ideal S8x1x256 .f32) (ix3 h 0 e) = m ((c : Thread nD τ).loc main_arg1) (ix2 h ⟨min 190 (255 - e.val), by omega⟩) := by
  rw [hostVector_eq, lengthened_apply, reversed_apply]
  have he := e.isLt
  congr 2
  apply Fin.ext
  show 190 - (e.val - 65) = min 190 (255 - e.val)
  omega

/-- The bias block: the point's four heads of the host's vector. -/
theorem block_bias (t : Fin cfg0.N) (hl : Fin 4) (e : Fin 256) (x : S8x191.Idx) (h0 : (x 0).val = 4 * (t.val / 4) + hl.val)
    (h1 : (x 1).val = min 190 (255 - e.val)) :
    (iblk m c 3 t : Vec Ideal S4x1x256 .f32) (ix3 hl 0 e) = m ((c : Thread nD τ).loc main_arg1) x := by
  obtain ⟨e0, e1, e2⟩ := (starts t).2.2.2.1
  have ht : t.val < 8 := lt_of_lt_of_eq t.isLt N_0
  unfold iblk
  rw [View.read_apply]
  show V m c main_v15 _ = _
  have hx : x = ix2 (⟨4 * (t.val / 4) + hl.val, by omega⟩ : Fin 8) (⟨min 190 (255 - e.val), by omega⟩ : Fin 191) := by
    funext a
    match a with
    | ⟨0, _⟩ => exact Fin.ext h0
    | ⟨1, _⟩ => exact Fin.ext h1
  rw [hx, ← hostVector m c]
  congr 1
  funext a
  apply Fin.ext
  match a with
  | ⟨0, _⟩ => show win0_3.index t (0 : Fin 3) * 4 + 1 * hl.val = 4 * (t.val / 4) + hl.val; omega
  | ⟨1, _⟩ => show win0_3.index t (1 : Fin 3) * 1 + 1 * 0 = 0; omega
  | ⟨2, _⟩ => show win0_3.index t (2 : Fin 3) * 256 + 1 * e.val = e.val; omega

end Cert.KernelIdeal.Attn

end
-- ==== Proof.Softmax.lean ====
/- The arithmetic of a masked softmax over the extended reals: a common positive factor of the weights cancels,
so that the two ways the programs normalise (divide the weights, or divide the weighted sum) agree. -/
module

public import Idealize.ShloMosaic.PureOps
public import Idealize.ShloMosaic.PureOps.Ideal
public import Idealize.ShloMosaic.Lib.Pointwise

@[expose] public section

noncomputable section

namespace Cert.Attn

open Idealize.ShloMosaic

/-- A nonnegative real multiplied into a sum of extended reals goes into every summand. -/
theorem coe_mul_sum {ι : Type} (s : Finset ι) (a : ℝ) (ha : 0 ≤ a) (f : ι → EReal) :
    (a : EReal) * ∑ i ∈ s, f i = ∑ i ∈ s, (a : EReal) * f i := by
  classical
  induction s using Finset.induction_on with
  | empty => simp
  | insert i s hi ih =>
    rw [Finset.sum_insert hi, Finset.sum_insert hi, EReal.left_distrib_of_nonneg_of_ne_top, ih]
    · exact EReal.coe_nonneg.mpr ha
    · exact EReal.coe_ne_top a

/-- A finite sum of reals, each read as an extended real, is the real sum. -/
theorem coe_sum {ι : Type} (s : Finset ι) (f : ι → ℝ) :
    ∑ i ∈ s, ((f i : ℝ) : EReal) = ((∑ i ∈ s, f i : ℝ) : EReal) := by
  classical
  induction s using Finset.induction_on with
  | empty => simp
  | insert i s hi ih => rw [Finset.sum_insert hi, Finset.sum_insert hi, ih, EReal.coe_add]

/-- The value of the attention at one place: the weights are the exponentials of the scores `σ`, over the keys `s`,
    the values `v`. -/
def attend (s : Finset ℕ) (σ : ℕ → ℝ) (v : ℕ → EReal) : EReal :=
  (∑ k ∈ s, (Real.exp (σ k) : EReal) * v k) * (((∑ k ∈ s, Real.exp (σ k))⁻¹ : ℝ) : EReal)

/-- The weighted sum divided by the sum of the weights, the weights scaled by a common positive factor. -/
theorem div_sum_eq_attend (s : Finset ℕ) (hs : s.Nonempty) (σ : ℕ → ℝ) (v : ℕ → EReal) (a : ℝ) (ha : 0 < a) :
    Ideal.div (∑ k ∈ s, ((Real.exp (σ k) * a : ℝ) : EReal) * v k) (∑ k ∈ s, ((Real.exp (σ k) * a : ℝ) : EReal))
      = attend s σ v := by
  have hL : 0 < ∑ k ∈ s, Real.exp (σ k) := Finset.sum_pos (fun k _ => Real.exp_pos _) hs
  have h1 : (∑ k ∈ s, ((Real.exp (σ k) * a : ℝ) : EReal) * v k) = (a : EReal) * ∑ k ∈ s, (Real.exp (σ k) : EReal) * v k := by
    rw [coe_mul_sum _ _ ha.le]
    refine Finset.sum_congr rfl fun k _ => ?_
    rw [EReal.coe_mul, mul_comm (Real.exp (σ k) : EReal), mul_assoc]
  have h2 : (∑ k ∈ s, ((Real.exp (σ k) * a : ℝ) : EReal)) = ((a * ∑ k ∈ s, Real.exp (σ k) : ℝ) : EReal) := by
    rw [coe_sum, ← Finset.sum_mul, mul_comm]
  have hne : ((a * ∑ k ∈ s, Real.exp (σ k) : ℝ) : EReal) ≠ 0 := by
    have := (mul_pos ha hL).ne'
    exact_mod_cast this
  rw [h1, h2]
  unfold Ideal.div attend
  rw [if_neg hne, ← EReal.coe_inv, mul_comm (a : EReal), mul_assoc, ← EReal.coe_mul]
  congr 2
  field_simp

/-- The sum of the values weighted by the divided weights, the weights scaled by a common positive factor. -/
theorem sum_div_eq_attend (s : Finset ℕ) (hs : s.Nonempty) (σ : ℕ → ℝ) (v : ℕ → EReal) (a : ℝ) (ha : 0 < a) :
    ∑ k ∈ s, Ideal.div ((Real.exp (σ k) * a : ℝ) : EReal) (∑ k ∈ s, ((Real.exp (σ k) * a : ℝ) : EReal)) * v k
      = attend s σ v := by
  have hL : 0 < ∑ k ∈ s, Real.exp (σ k) := Finset.sum_pos (fun k _ => Real.exp_pos _) hs
  have h2 : (∑ k ∈ s, ((Real.exp (σ k) * a : ℝ) : EReal)) = ((a * ∑ k ∈ s, Real.exp (σ k) : ℝ) : EReal) := by
    rw [coe_sum, ← Finset.sum_mul, mul_comm]
  have hne : ((a * ∑ k ∈ s, Real.exp (σ k) : ℝ) : EReal) ≠ 0 := by
    have := (mul_pos ha hL).ne'
    exact_mod_cast this
  rw [h2]
  unfold attend
  rw [mul_comm (∑ k ∈ s, _) (((∑ k ∈ s, Real.exp (σ k))⁻¹ : ℝ) : EReal), coe_mul_sum _ _ (inv_nonneg.mpr hL.le)]
  refine Finset.sum_congr rfl fun k _ => ?_
  unfold Ideal.div
  rw [if_neg hne, ← EReal.coe_inv, ← EReal.coe_mul, ← mul_assoc, ← EReal.coe_mul]
  congr 2
  field_simp

/-- The base-two exponential of a score, its largest taken away, is the exponential of the score in natural units times a
    positive factor. -/
theorem exp2_sub (σ M : ℝ) :
    Ideal.exp2 (((σ * (Real.log 2)⁻¹ : ℝ) : EReal) - (M : EReal)) = ((Real.exp σ * Real.exp (-(M * Real.log 2)) : ℝ) : EReal) := by
  have hl : Real.log 2 ≠ 0 := (Real.log_pos (by norm_num)).ne'
  rw [← EReal.coe_sub]
  show ((Real.rpow 2 _ : ℝ) : EReal) = _
  congr 1
  rw [Real.rpow_eq_pow, Real.rpow_def_of_pos (by norm_num), ← Real.exp_add]
  congr 1
  field_simp
  ring

/-- The exponential of a score, its largest taken away, is the exponential of the score times a positive factor. -/
theorem exp_sub (σ M : ℝ) :
    Ideal.exp ((σ : EReal) - (M : EReal)) = ((Real.exp σ * Real.exp (-M) : ℝ) : EReal) := by
  rw [← EReal.coe_sub]
  show ((Real.exp _ : ℝ) : EReal) = _
  rw [sub_eq_add_neg, Real.exp_add]

/-- A masked score has weight zero in base two. -/
theorem exp2_bot_sub (M : ℝ) : Ideal.exp2 (⊥ - (M : EReal)) = 0 := by
  rw [EReal.bot_sub]; rfl

/-- A masked score has weight zero. -/
theorem exp_bot_sub (M : ℝ) : Ideal.exp (⊥ - (M : EReal)) = 0 := by
  rw [EReal.bot_sub]; rfl

/-- The largest of finitely many scores that are reals or masked, one of them a real, is a real. -/
theorem fold_max_real {n : ℕ} (f : Fin n → EReal) (h : ∀ i, f i ≠ ⊤) (i : Fin n) (hi : f i ≠ ⊥) :
    ∃ M : ℝ, Finset.fold max ⊥ f Finset.univ = (M : EReal) := by
  have e : Finset.fold max ⊥ f Finset.univ = Finset.univ.sup f := rfl
  rw [e]
  have h1 : Finset.univ.sup f ≠ ⊤ := by
    refine ((Finset.sup_lt_iff (by simp)).mpr fun i _ => lt_top_iff_ne_top.mpr (h i)).ne
  have h2 : Finset.univ.sup f ≠ ⊥ := fun h0 => hi (le_bot_iff.mp (h0 ▸ Finset.le_sup (Finset.mem_univ i)))
  exact ⟨_, (EReal.coe_toReal h1 h2).symm⟩

/-- A sum over the places of a window is the sum over the keys the window holds. -/
theorem sum_window {n : ℕ} (lo : ℕ) (s : Finset ℕ) (f : ℕ → EReal) (hs : s ⊆ Finset.Ico lo (lo + n))
    (h0 : ∀ k, k ∉ s → lo ≤ k → k < lo + n → f k = 0) : ∑ c : Fin n, f (lo + c.val) = ∑ k ∈ s, f k := by
  rw [Finset.sum_subset hs (fun k hk hns => h0 k hns (Finset.mem_Ico.mp hk).1 (Finset.mem_Ico.mp hk).2),
    Finset.sum_Ico_eq_sum_range, Nat.add_sub_cancel_left, Finset.sum_range]

end Cert.Attn

end
-- ==== Proof.Task.lean ====
/- One query block of the attention kernel as one function of what it loads, and its value. -/
module

public import proofs.«01_k».proof.Proof.Gen.KernelIdeal.Skeleton
public import proofs.«01_k».proof.Proof.Softmax
public import Idealize.ShloMosaic.Lib.Pointwise

@[expose] public section

set_option maxRecDepth 16384

noncomputable section

namespace Cert.KernelIdeal.Attn

open Idealize.ShloMosaic Idealize.SL.Sem
open Cert.KernelIdeal.Gen Cert.Attn

/-- The weighted values over the weights of one query row: scores `s`, the values `v`, the ones `w`. -/
def softRow {n : ℕ} (s v w : Fin n → EReal) : EReal :=
  Ideal.div (∑ c, Ideal.exp2 (s c - Finset.fold max ⊥ s Finset.univ) * v c)
    (∑ c, Ideal.exp2 (s c - Finset.fold max ⊥ s Finset.univ) * w c)

/-- The keys a query at position `t` attends to: its own chunk of 64 and the 8 chunks before it. -/
def bandOf (t : ℕ) : Finset ℕ := Finset.Ico (64 * (t / 64) - 512) (64 * (t / 64) + 64)

theorem mem_bandOf {t k : ℕ} : k ∈ bandOf t ↔ 64 * (t / 64) - 512 ≤ k ∧ k < 64 * (t / 64) + 64 := Finset.mem_Ico

theorem bandOf_nonempty (t : ℕ) : (bandOf t).Nonempty := ⟨64 * (t / 64), mem_bandOf.mpr ⟨by omega, by omega⟩⟩

/-- The score in natural units of the query at `t` and the key at `key`, head `hl`: the product of the two rows (the query's
    carries a factor 1/log 2) and the bias of their distance. -/
def score (Q K : ℕ → ℕ → ℝ) (β : ℕ → ℝ) (hl t key : ℕ) : ℝ :=
  (∑ e : Fin 128, Q t (128 * hl + e.val) * K key (128 * hl + e.val)) * Real.log 2 + β (min 190 (63 + t - key))

/-- The word of minus infinity is `⊥`. -/
theorem negInf : Ideal.ofBits FTy.f32 0xFF800000#32 = ⊥ := by simp [Ideal.ofBits, Ideal.ieee]

/-- One query row over a window of `n` keys from `lo`: the keys outside the band are masked, the others have the score
    `σ` in base-two units; the row's value is the softmax attention over the band. -/
theorem softRow_attend {n : ℕ} (lo : ℕ) (band : Finset ℕ) (σ : ℕ → ℝ) (V : ℕ → EReal) (s v w : Fin n → EReal)
    (hne : band.Nonempty) (hsub : band ⊆ Finset.Ico lo (lo + n))
    (hs : ∀ c : Fin n, lo + c.val ∈ band → s c = ((σ (lo + c.val) * (Real.log 2)⁻¹ : ℝ) : EReal))
    (hm : ∀ c : Fin n, lo + c.val ∉ band → s c = ⊥)
    (hv : ∀ c : Fin n, v c = V (lo + c.val)) (hw : ∀ c, w c = 1) :
    softRow s v w = attend band σ V := by
  obtain ⟨k0, hk0⟩ := hne
  have hk1 := Finset.mem_Ico.mp (hsub hk0)
  obtain ⟨M, hM⟩ := fold_max_real s (fun c => by
    by_cases h : lo + c.val ∈ band
    · rw [hs c h]; exact EReal.coe_ne_top _
    · rw [hm c h]; exact bot_ne_top) ⟨k0 - lo, by omega⟩ (by
    rw [hs ⟨k0 - lo, by omega⟩ (by show lo + (k0 - lo) ∈ band; rwa [Nat.add_sub_cancel' hk1.1])]
    exact EReal.coe_ne_bot _)
  unfold softRow
  rw [hM]
  have hp : ∀ c : Fin n, Ideal.exp2 (s c - (M : EReal))
      = (fun k => if k ∈ band then ((Real.exp (σ k) * Real.exp (-(M * Real.log 2)) : ℝ) : EReal) else 0) (lo + c.val) := by
    intro c
    by_cases h : lo + c.val ∈ band
    · rw [hs c h, exp2_sub]; simp only [h, if_true]
    · rw [hm c h, exp2_bot_sub]; simp only [h, if_false]
  have e1 : (∑ c, Ideal.exp2 (s c - (M : EReal)) * v c)
      = ∑ k ∈ band, ((Real.exp (σ k) * Real.exp (-(M * Real.log 2)) : ℝ) : EReal) * V k := by
    rw [Finset.sum_congr rfl fun c _ => by rw [hp c, hv c]]
    rw [sum_window (n := n) lo band (fun k => (if k ∈ band then ((Real.exp (σ k) * Real.exp (-(M * Real.log 2)) : ℝ) : EReal) else 0) * V k)
      hsub (fun k hk _ _ => by simp only [hk, if_false, zero_mul])]
    refine Finset.sum_congr rfl fun k hk => ?_
    rw [if_pos hk]
  have e2 : (∑ c, Ideal.exp2 (s c - (M : EReal)) * w c)
      = ∑ k ∈ band, ((Real.exp (σ k) * Real.exp (-(M * Real.log 2)) : ℝ) : EReal) := by
    rw [Finset.sum_congr rfl fun c _ => by rw [hp c, hw c, mul_one]]
    rw [sum_window (n := n) lo band (fun k => (if k ∈ band then ((Real.exp (σ k) * Real.exp (-(M * Real.log 2)) : ℝ) : EReal) else 0))
      hsub (fun k hk _ _ => by simp only [hk, if_false])]
    refine Finset.sum_congr rfl fun k hk => ?_
    rw [if_pos hk]
  rw [e1, e2]
  exact div_sum_eq_attend band ⟨k0, hk0⟩ σ V _ (Real.exp_pos _)

/-- The bias with the band mask, as the kernel keeps it for one head: column `w` of the row `r` of a group of 256 queries. -/
def biasAt (β : ℕ → ℝ) (r w : ℕ) : EReal :=
  if 64 * (r / 64) ≤ w ∧ w < 64 * (r / 64) + 576 then ((β (min 190 (575 + r - w)) * (Real.log 2)⁻¹ : ℝ) : EReal) else ⊥

/-- The body's operations on a block of 256 queries `q` and 256 keys `k`, with the bias `b` and the values beside ones `x`. -/
def task256 {F : FTy → Type} [FloatOps F] (q : Vec F S1x256x128 .bf16) (k : Vec F S1x256x128 .bf16) (b : Vec F S1x256x256 .f32)
    (x : Vec F S1x256x256 .bf16) : FVec F S1x256x128 .bf16 :=
  have s : FVec F S256x256 .f32 := addf (matmul dot_S256x128_S256x128_S256x256_1_1_0_0_n_n none
    (shapeCast S256x128 q shapeCasts_S1x256x128_S256x128 : FVec F S256x128 .bf16)
    (shapeCast S256x128 k shapeCasts_S1x256x128_S256x128 : FVec F S256x128 .bf16) (constant S256x256 .f32 0x00000000#32))
    (shapeCast S256x256 b shapeCasts_S1x256x256_S256x256)
  have mx : FVec F S256x256 .f32 := broadcastTo S256x256 (shapeCast S256x1
    (multiReduction .maximumf [1] S256 s 0xFF800000#32 reduces_S256x256_S256 (.inl rfl) rfl : FVec F S256 .f32) shapeCasts_S256_S256x1)
    broadcasts_S256x1_S256x256
  have p : FVec F S256x256 .bf16 := truncf .bf16 (exp2 (subf s mx)) bitsLt_bf16_f32
  have o : FVec F S256x256 .f32 := matmul dot_S256x256_S256x256_S256x256_1_0_0_1_n_n none p
    (shapeCast S256x256 x shapeCasts_S1x256x256_S256x256 : FVec F S256x256 .bf16) (constant S256x256 .f32 0x00000000#32)
  have y : FVec F S256x128 .f32 := divf (extractStridedSlice S256x128 ![0, 0] o slices_S256x256_o0_0_S256x128)
    (extractStridedSlice S256x128 ![0, 128] o slices_S256x256_o0_128_S256x128)
  shapeCast S1x256x128 (truncf .bf16 y bitsLt_bf16_f32) shapeCasts_S256x128_S1x256x128

theorem task256_apply (q : Vec Ideal S1x256x128 .bf16) (k : Vec Ideal S1x256x128 .bf16) (b : Vec Ideal S1x256x256 .f32)
    (x : Vec Ideal S1x256x256 .bf16) (r : Fin 256) (d : Fin 128) :
    task256 q k b x (ix3 0 r d) = softRow (fun c : Fin 256 => (∑ e : Fin 128, q (ix3 0 r e) * k (ix3 0 c e)) + b (ix3 0 r c))
      (fun c => x (ix3 0 c ⟨d.val, by omega⟩)) (fun c => x (ix3 0 c ⟨128 + d.val, by omega⟩)) := by
  pointwise [task256, softRow]
  rw [negInf]
  rfl

/-- The body's operations on a block of 256 queries `q` and 512 keys `k`, with the bias `b` and the values beside ones `x`. -/
def task512 {F : FTy → Type} [FloatOps F] (q : Vec F S1x256x128 .bf16) (k : Vec F S1x512x128 .bf16) (b : Vec F S1x256x512 .f32)
    (x : Vec F S1x512x256 .bf16) : FVec F S1x256x128 .bf16 :=
  have s : FVec F S256x512 .f32 := addf (matmul dot_S256x128_S512x128_S256x512_1_1_0_0_n_n none
    (shapeCast S256x128 q shapeCasts_S1x256x128_S256x128 : FVec F S256x128 .bf16)
    (shapeCast S512x128 k shapeCasts_S1x512x128_S512x128 : FVec F S512x128 .bf16) (constant S256x512 .f32 0x00000000#32))
    (shapeCast S256x512 b shapeCasts_S1x256x512_S256x512)
  have mx : FVec F S256x512 .f32 := broadcastTo S256x512 (shapeCast S256x1
    (multiReduction .maximumf [1] S256 s 0xFF800000#32 reduces_S256x512_S256 (.inl rfl) rfl : FVec F S256 .f32) shapeCasts_S256_S256x1)
    broadcasts_S256x1_S256x512
  have p : FVec F S256x512 .bf16 := truncf .bf16 (exp2 (subf s mx)) bitsLt_bf16_f32
  have o : FVec F S256x256 .f32 := matmul dot_S256x512_S512x256_S256x256_1_0_0_1_n_n none p
    (shapeCast S512x256 x shapeCasts_S1x512x256_S512x256 : FVec F S512x256 .bf16) (constant S256x256 .f32 0x00000000#32)
  have y : FVec F S256x128 .f32 := divf (extractStridedSlice S256x128 ![0, 0] o slices_S256x256_o0_0_S256x128)
    (extractStridedSlice S256x128 ![0, 128] o slices_S256x256_o0_128_S256x128)
  shapeCast S1x256x128 (truncf .bf16 y bitsLt_bf16_f32) shapeCasts_S256x128_S1x256x128

theorem task512_apply (q : Vec Ideal S1x256x128 .bf16) (k : Vec Ideal S1x512x128 .bf16) (b : Vec Ideal S1x256x512 .f32)
    (x : Vec Ideal S1x512x256 .bf16) (r : Fin 256) (d : Fin 128) :
    task512 q k b x (ix3 0 r d) = softRow (fun c : Fin 512 => (∑ e : Fin 128, q (ix3 0 r e) * k (ix3 0 c e)) + b (ix3 0 r c))
      (fun c => x (ix3 0 c ⟨d.val, by omega⟩)) (fun c => x (ix3 0 c ⟨128 + d.val, by omega⟩)) := by
  pointwise [task512, softRow]
  rw [negInf]
  rfl

/-- The body's operations on a block of 256 queries `q` and 768 keys `k`, with the bias `b` and the values beside ones `x`. -/
def task768 {F : FTy → Type} [FloatOps F] (q : Vec F S1x256x128 .bf16) (k : Vec F S1x768x128 .bf16) (b : Vec F S1x256x768 .f32)
    (x : Vec F S1x768x256 .bf16) : FVec F S1x256x128 .bf16 :=
  have s : FVec F S256x768 .f32 := addf (matmul dot_S256x128_S768x128_S256x768_1_1_0_0_n_n none
    (shapeCast S256x128 q shapeCasts_S1x256x128_S256x128 : FVec F S256x128 .bf16)
    (shapeCast S768x128 k shapeCasts_S1x768x128_S768x128 : FVec F S768x128 .bf16) (constant S256x768 .f32 0x00000000#32))
    (shapeCast S256x768 b shapeCasts_S1x256x768_S256x768)
  have mx : FVec F S256x768 .f32 := broadcastTo S256x768 (shapeCast S256x1
    (multiReduction .maximumf [1] S256 s 0xFF800000#32 reduces_S256x768_S256 (.inl rfl) rfl : FVec F S256 .f32) shapeCasts_S256_S256x1)
    broadcasts_S256x1_S256x768
  have p : FVec F S256x768 .bf16 := truncf .bf16 (exp2 (subf s mx)) bitsLt_bf16_f32
  have o : FVec F S256x256 .f32 := matmul dot_S256x768_S768x256_S256x256_1_0_0_1_n_n none p
    (shapeCast S768x256 x shapeCasts_S1x768x256_S768x256 : FVec F S768x256 .bf16) (constant S256x256 .f32 0x00000000#32)
  have y : FVec F S256x128 .f32 := divf (extractStridedSlice S256x128 ![0, 0] o slices_S256x256_o0_0_S256x128)
    (extractStridedSlice S256x128 ![0, 128] o slices_S256x256_o0_128_S256x128)
  shapeCast S1x256x128 (truncf .bf16 y bitsLt_bf16_f32) shapeCasts_S256x128_S1x256x128

theorem task768_apply (q : Vec Ideal S1x256x128 .bf16) (k : Vec Ideal S1x768x128 .bf16) (b : Vec Ideal S1x256x768 .f32)
    (x : Vec Ideal S1x768x256 .bf16) (r : Fin 256) (d : Fin 128) :
    task768 q k b x (ix3 0 r d) = softRow (fun c : Fin 768 => (∑ e : Fin 128, q (ix3 0 r e) * k (ix3 0 c e)) + b (ix3 0 r c))
      (fun c => x (ix3 0 c ⟨d.val, by omega⟩)) (fun c => x (ix3 0 c ⟨128 + d.val, by omega⟩)) := by
  pointwise [task768, softRow]
  rw [negInf]
  rfl

/-- Query block `g` of head `hl` of the block, over its 256 keys from `lo`: each query's value is the attention over its band. -/
theorem task256_attend (Q K : ℕ → ℕ → ℝ) (V : ℕ → ℕ → EReal) (β : ℕ → ℝ) (g hl lo : ℕ) (hlo : lo = 256 * g - 512) (hn : lo + 256 = 256 * g + 256)
    (q : Vec Ideal S1x256x128 .bf16) (k : Vec Ideal S1x256x128 .bf16) (b : Vec Ideal S1x256x256 .f32) (x : Vec Ideal S1x256x256 .bf16)
    (hq : ∀ (r : Fin 256) (e : Fin 128), q (ix3 0 r e) = (Q (256 * g + r.val) (128 * hl + e.val) : EReal))
    (hk : ∀ (c : Fin 256) (e : Fin 128), k (ix3 0 c e) = (K (lo + c.val) (128 * hl + e.val) : EReal))
    (hb : ∀ (r : Fin 256) (c : Fin 256), b (ix3 0 r c) = biasAt β r.val (512 + c.val))
    (hx : ∀ (c : Fin 256) (d : Fin 128), x (ix3 0 c ⟨d.val, by omega⟩) = V (lo + c.val) (128 * hl + d.val))
    (hx1 : ∀ (c : Fin 256) (d : Fin 128), x (ix3 0 c ⟨128 + d.val, by omega⟩) = 1)
    (r : Fin 256) (d : Fin 128) (t dd : ℕ) (ht : t = 256 * g + r.val) (hd : dd = 128 * hl + d.val) :
    task256 q k b x (ix3 0 r d) = attend (bandOf t) (score Q K β hl t) (fun key => V key dd) := by
  subst ht hd
  rw [task256_apply]
  have hr := r.isLt
  refine softRow_attend lo _ _ _ _ _ _ (bandOf_nonempty _) ?_ ?_ ?_ ?_ ?_
  · intro key hkey
    have := mem_bandOf.mp hkey
    exact Finset.mem_Ico.mpr ⟨by omega, by omega⟩
  · intro c hc
    have hc' := mem_bandOf.mp hc
    rw [hb, Finset.sum_congr rfl fun e _ => by rw [hq, hk, ← EReal.coe_mul], coe_sum]
    unfold biasAt
    rw [if_pos (by omega), ← EReal.coe_add]
    unfold score
    rw [show 63 + (256 * g + r.val) - (lo + c.val) = 575 + r.val - (512 + c.val) by omega]
    congr 1
    have hl2 : Real.log 2 ≠ 0 := (Real.log_pos (by norm_num)).ne'
    field_simp
  · intro c hc
    rw [mem_bandOf] at hc
    rw [hb]
    unfold biasAt
    rw [if_neg (by omega)]
    exact EReal.add_bot _
  · intro c; exact hx c d
  · intro c; exact hx1 c d

/-- Query block `g` of head `hl` of the block, over its 512 keys from `lo`: each query's value is the attention over its band. -/
theorem task512_attend (Q K : ℕ → ℕ → ℝ) (V : ℕ → ℕ → EReal) (β : ℕ → ℝ) (g hl lo : ℕ) (hlo : lo = 256 * g - 512) (hn : lo + 512 = 256 * g + 256)
    (q : Vec Ideal S1x256x128 .bf16) (k : Vec Ideal S1x512x128 .bf16) (b : Vec Ideal S1x256x512 .f32) (x : Vec Ideal S1x512x256 .bf16)
    (hq : ∀ (r : Fin 256) (e : Fin 128), q (ix3 0 r e) = (Q (256 * g + r.val) (128 * hl + e.val) : EReal))
    (hk : ∀ (c : Fin 512) (e : Fin 128), k (ix3 0 c e) = (K (lo + c.val) (128 * hl + e.val) : EReal))
    (hb : ∀ (r : Fin 256) (c : Fin 512), b (ix3 0 r c) = biasAt β r.val (256 + c.val))
    (hx : ∀ (c : Fin 512) (d : Fin 128), x (ix3 0 c ⟨d.val, by omega⟩) = V (lo + c.val) (128 * hl + d.val))
    (hx1 : ∀ (c : Fin 512) (d : Fin 128), x (ix3 0 c ⟨128 + d.val, by omega⟩) = 1)
    (r : Fin 256) (d : Fin 128) (t dd : ℕ) (ht : t = 256 * g + r.val) (hd : dd = 128 * hl + d.val) :
    task512 q k b x (ix3 0 r d) = attend (bandOf t) (score Q K β hl t) (fun key => V key dd) := by
  subst ht hd
  rw [task512_apply]
  have hr := r.isLt
  refine softRow_attend lo _ _ _ _ _ _ (bandOf_nonempty _) ?_ ?_ ?_ ?_ ?_
  · intro key hkey
    have := mem_bandOf.mp hkey
    exact Finset.mem_Ico.mpr ⟨by omega, by omega⟩
  · intro c hc
    have hc' := mem_bandOf.mp hc
    rw [hb, Finset.sum_congr rfl fun e _ => by rw [hq, hk, ← EReal.coe_mul], coe_sum]
    unfold biasAt
    rw [if_pos (by omega), ← EReal.coe_add]
    unfold score
    rw [show 63 + (256 * g + r.val) - (lo + c.val) = 575 + r.val - (256 + c.val) by omega]
    congr 1
    have hl2 : Real.log 2 ≠ 0 := (Real.log_pos (by norm_num)).ne'
    field_simp
  · intro c hc
    rw [mem_bandOf] at hc
    rw [hb]
    unfold biasAt
    rw [if_neg (by omega)]
    exact EReal.add_bot _
  · intro c; exact hx c d
  · intro c; exact hx1 c d

/-- Query block `g` of head `hl` of the block, over its 768 keys from `lo`: each query's value is the attention over its band. -/
theorem task768_attend (Q K : ℕ → ℕ → ℝ) (V : ℕ → ℕ → EReal) (β : ℕ → ℝ) (g hl lo : ℕ) (hlo : lo = 256 * g - 512) (hn : lo + 768 = 256 * g + 256)
    (q : Vec Ideal S1x256x128 .bf16) (k : Vec Ideal S1x768x128 .bf16) (b : Vec Ideal S1x256x768 .f32) (x : Vec Ideal S1x768x256 .bf16)
    (hq : ∀ (r : Fin 256) (e : Fin 128), q (ix3 0 r e) = (Q (256 * g + r.val) (128 * hl + e.val) : EReal))
    (hk : ∀ (c : Fin 768) (e : Fin 128), k (ix3 0 c e) = (K (lo + c.val) (128 * hl + e.val) : EReal))
    (hb : ∀ (r : Fin 256) (c : Fin 768), b (ix3 0 r c) = biasAt β r.val (0 + c.val))
    (hx : ∀ (c : Fin 768) (d : Fin 128), x (ix3 0 c ⟨d.val, by omega⟩) = V (lo + c.val) (128 * hl + d.val))
    (hx1 : ∀ (c : Fin 768) (d : Fin 128), x (ix3 0 c ⟨128 + d.val, by omega⟩) = 1)
    (r : Fin 256) (d : Fin 128) (t dd : ℕ) (ht : t = 256 * g + r.val) (hd : dd = 128 * hl + d.val) :
    task768 q k b x (ix3 0 r d) = attend (bandOf t) (score Q K β hl t) (fun key => V key dd) := by
  subst ht hd
  rw [task768_apply]
  have hr := r.isLt
  refine softRow_attend lo _ _ _ _ _ _ (bandOf_nonempty _) ?_ ?_ ?_ ?_ ?_
  · intro key hkey
    have := mem_bandOf.mp hkey
    exact Finset.mem_Ico.mpr ⟨by omega, by omega⟩
  · intro c hc
    have hc' := mem_bandOf.mp hc
    rw [hb, Finset.sum_congr rfl fun e _ => by rw [hq, hk, ← EReal.coe_mul], coe_sum]
    unfold biasAt
    rw [if_pos (by omega), ← EReal.coe_add]
    unfold score
    rw [show 63 + (256 * g + r.val) - (lo + c.val) = 575 + r.val - (0 + c.val) by omega]
    congr 1
    have hl2 : Real.log 2 ≠ 0 := (Real.log_pos (by norm_num)).ne'
    field_simp
  · intro c hc
    rw [mem_bandOf] at hc
    rw [hb]
    unfold biasAt
    rw [if_neg (by omega)]
    exact EReal.add_bot _
  · intro c; exact hx c d
  · intro c; exact hx1 c d

end Cert.KernelIdeal.Attn

end
-- ==== Proof.Pieces.lean ====
/- What the attention kernel's body leaves in its output block, read from the blocks it loads. -/
module

public import proofs.«01_k».proof.Proof.Gen.KernelIdeal.Frame
public import proofs.«01_k».proof.Proof.Task
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Attn

open Idealize.ShloMosaic Idealize.ShloMosaic.TcCoe Idealize.ShloMosaic.Tactic
open Idealize.SL.Sem
open Cert.KernelIdeal.Gen Cert.Attn

/-- The values of the four heads, each beside a block of ones. -/
def besideOnes (p0 p1 p2 p3 : Vec Ideal S1x2048x128 .bf16) : Vec Ideal S4x2048x256 .bf16 := fun j =>
  if h : (j 2).val < 128 then (if (j 0).val = 0 then p0 else if (j 0).val = 1 then p1 else if (j 0).val = 2 then p2 else p3) (ix3 0 (j 1) ⟨(j 2).val, h⟩) else 1

theorem besideOnes_readCov {sig : RefSig} {κ : Kind} {sp : Space} (v : View sig κ sp S4x2048x256 .bf16)
    (p0 p1 p2 p3 : Vec Ideal S1x2048x128 .bf16) (B : LoadRect S4x2048x256) :
    v.readCov (Val := Elt Ideal) [⟨Rect.unit ![3, 0, 128] ![1, 2048, 128] inb_S4x2048x256_S1x2048x128_3_0_128, k0_pay61 (F := Ideal) k0_pay60⟩,
      ⟨Rect.unit ![3, 0, 0] ![1, 2048, 128] inb_S4x2048x256_S1x2048x128_3_0_0, k0_pay59 p3⟩,
      ⟨Rect.unit ![2, 0, 128] ![1, 2048, 128] inb_S4x2048x256_S1x2048x128_2_0_128, k0_pay58 (F := Ideal)⟩,
      ⟨Rect.unit ![2, 0, 0] ![1, 2048, 128] inb_S4x2048x256_S1x2048x128_2_0_0, k0_pay57 p2⟩,
      ⟨Rect.unit ![1, 0, 128] ![1, 2048, 128] inb_S4x2048x256_S1x2048x128_1_0_128, k0_pay56 (F := Ideal)⟩,
      ⟨Rect.unit ![1, 0, 0] ![1, 2048, 128] inb_S4x2048x256_S1x2048x128_1_0_0, k0_pay55 p1⟩,
      ⟨Rect.unit ![0, 0, 128] ![1, 2048, 128] inb_S4x2048x256_S1x2048x128_0_0_128, k0_pay54 (F := Ideal)⟩,
      ⟨Rect.unit ![0, 0, 0] ![1, 2048, 128] inb_S4x2048x256_S1x2048x128_0_0_0, k0_pay53 p0⟩] B
    = fun j => besideOnes p0 p1 p2 p3 (B.idx j) := by
  rw [View.readCov_eq_canon']
  funext j
  generalize B.idx j = y
  canon_tiles x h
  all_goals pointwise [k0_pay53, k0_pay54, k0_pay55, k0_pay56, k0_pay57, k0_pay58, k0_pay59, k0_pay60, k0_pay61, besideOnes]
  all_goals first
    | (rw [dif_neg (by omega)])
    | (rw [dif_pos (by omega)]
       first
         | (rw [if_neg (by omega), if_neg (by omega), if_neg (by omega)]; congr 1; blk_ext; all_goals omega)
         | (rw [if_neg (by omega), if_neg (by omega), if_pos (by omega)]; congr 1; blk_ext; all_goals omega)
         | (rw [if_neg (by omega), if_pos (by omega)]; congr 1; blk_ext; all_goals omega)
         | (rw [if_pos (by omega)]; congr 1; blk_ext; all_goals omega))

theorem besideOnes_one (p0 p1 p2 p3 : Vec Ideal S1x2048x128 .bf16) (j : S4x2048x256.Idx) (h : 128 ≤ (j 2).val) :
    besideOnes p0 p1 p2 p3 j = 1 := dif_neg (by omega)

/-- The values beside the ones, at a head, a key and a column. -/
theorem besideOnes_value (V : ℕ → ℕ → EReal) (x2 : Vec Ideal S1x2048x512 .bf16)
    (h2 : ∀ (t : Fin 2048) (e : Fin 512), x2 (ix3 0 t e) = V t.val e.val) (hl : ℕ) (hhl : hl < 4) (i0 i1 i2 i3) (j : S4x2048x256.Idx)
    (c : Fin 2048) (d : Fin 128) (j0 : (j 0).val = hl) (j1 : (j 1).val = c.val) (j2 : (j 2).val = d.val) :
    besideOnes (View.ld x2 (Rect.unit ![0, 0, 0] ![1, 2048, 128] i0)) (View.ld x2 (Rect.unit ![0, 0, 128] ![1, 2048, 128] i1))
        (View.ld x2 (Rect.unit ![0, 0, 256] ![1, 2048, 128] i2)) (View.ld x2 (Rect.unit ![0, 0, 384] ![1, 2048, 128] i3)) j
      = V c.val (128 * hl + d.val) := by
  have hd := d.isLt
  have key : ∀ (o : ℕ) (ho : o = 128 * hl) (i), View.ld x2 (Rect.unit ![0, 0, o] ![1, 2048, 128] i) (ix3 0 (j 1) ⟨(j 2).val, by omega⟩)
      = V c.val (128 * hl + d.val) := by
    intro o ho i
    subst ho
    refine Eq.trans ?_ (h2 c ⟨128 * hl + d.val, by omega⟩)
    exact View.ld_unit_apply_of _ _ _ _ _ _ (fun (a : Fin 3) => match a with
      | 0 => rfl
      | 1 => by show c.val = 0 + (j 1).val; omega
      | 2 => by show 128 * hl + d.val = 128 * hl + (j 2).val; omega)
  unfold besideOnes
  rw [dif_pos (by omega)]
  by_cases e0 : (j 0).val = 0
  · rw [if_pos e0]; exact key 0 (by omega) i0
  rw [if_neg e0]
  by_cases e1 : (j 0).val = 1
  · rw [if_pos e1]; exact key 128 (by omega) i1
  rw [if_neg e1]
  by_cases e2 : (j 0).val = 2
  · rw [if_pos e2]; exact key 256 (by omega) i2
  rw [if_neg e2]; exact key 384 (by omega) i3

/-- One query block of one head of the output: 256 keys. -/
theorem piece256 (Q K : ℕ → ℕ → ℝ) (V : ℕ → ℕ → EReal) (β : ℕ → ℕ → ℝ) (x0 x1 x2 : Vec Ideal S1x2048x512 .bf16)
    (h0 : ∀ (t : Fin 2048) (e : Fin 512), x0 (ix3 0 t e) = ((Q t.val e.val : ℝ) : EReal))
    (h1 : ∀ (t : Fin 2048) (e : Fin 512), x1 (ix3 0 t e) = ((K t.val e.val : ℝ) : EReal))
    (h2 : ∀ (t : Fin 2048) (e : Fin 512), x2 (ix3 0 t e) = V t.val e.val)
    (g hl lo : ℕ) (hg : g < 8) (hhl : hl < 4) (hlo : lo = 256 * g - 512) (hn : lo + 256 = 256 * g + 256)
    (b : Vec Ideal S1x256x256 .f32) (hb : ∀ (r : Fin 256) (c : Fin 256), b (ix3 0 r c) = biasAt (β hl) r.val (512 + c.val))
    (iq ik i0 i1 i2 i3 ix) (x : S1x256x128.Idx) (y : S1x2048x512.Idx) (hy1 : (y 1).val = 256 * g + (x 1).val) (hy2 : (y 2).val = 128 * hl + (x 2).val) :
    task256 (F := Ideal) (View.ld x0 (Rect.unit ![0, 256 * g, 128 * hl] ![1, 256, 128] iq)) (View.ld x1 (Rect.unit ![0, lo, 128 * hl] ![1, 256, 128] ik))
      b
      (fun j => besideOnes (View.ld x2 (Rect.unit ![0, 0, 0] ![1, 2048, 128] i0)) (View.ld x2 (Rect.unit ![0, 0, 128] ![1, 2048, 128] i1))
        (View.ld x2 (Rect.unit ![0, 0, 256] ![1, 2048, 128] i2)) (View.ld x2 (Rect.unit ![0, 0, 384] ![1, 2048, 128] i3))
        ((Rect.unit (s := S4x2048x256) ![hl, lo, 0] ![1, 256, 256] ix).toLoadRect.idx j)) x
    = attend (bandOf (y 1).val) (score Q K (β ((y 2).val / 128)) ((y 2).val / 128) (y 1).val) (fun key => V key (y 2).val) := by
  have hx1 : (x 1).val < 256 := (x 1).isLt
  have hx2 : (x 2).val < 128 := (x 2).isLt
  have hh : (y 2).val / 128 = hl := by omega
  rw [hh, show x = ix3 0 (x 1) (x 2) from by blk_ext; all_goals omega]
  refine task256_attend Q K V (β hl) g hl lo hlo hn _ _ _ _ ?_ ?_ ?_ ?_ ?_ (x 1) (x 2) _ _ hy1 hy2
  · intro r e
    refine Eq.trans ?_ (h0 ⟨256 * g + r.val, by omega⟩ ⟨128 * hl + e.val, by omega⟩)
    exact View.ld_unit_apply_of _ _ _ _ _ _ (fun (a : Fin 3) => match a with | 0 => (by first | rfl | exact (Nat.zero_add _).symm) | 1 => (by first | rfl | exact (Nat.zero_add _).symm) | 2 => (by first | rfl | exact (Nat.zero_add _).symm))
  · intro r e
    refine Eq.trans ?_ (h1 ⟨lo + r.val, by omega⟩ ⟨128 * hl + e.val, by omega⟩)
    exact View.ld_unit_apply_of _ _ _ _ _ _ (fun (a : Fin 3) => match a with | 0 => (by first | rfl | exact (Nat.zero_add _).symm) | 1 => (by first | rfl | exact (Nat.zero_add _).symm) | 2 => (by first | rfl | exact (Nat.zero_add _).symm))
  · exact hb
  · intro r e
    have hr := r.isLt
    exact besideOnes_value V x2 h2 hl hhl i0 i1 i2 i3 _ ⟨lo + r.val, by omega⟩ e (by show hl + 1 * 0 = hl; rfl) (by show lo + 1 * r.val = lo + r.val; omega) (by show 0 + 1 * e.val = e.val; omega)
  · intro r e
    exact besideOnes_one _ _ _ _ _ (by show 128 ≤ 0 + 1 * (128 + e.val); omega)

/-- One query block of one head of the output: 512 keys. -/
theorem piece512 (Q K : ℕ → ℕ → ℝ) (V : ℕ → ℕ → EReal) (β : ℕ → ℕ → ℝ) (x0 x1 x2 : Vec Ideal S1x2048x512 .bf16)
    (h0 : ∀ (t : Fin 2048) (e : Fin 512), x0 (ix3 0 t e) = ((Q t.val e.val : ℝ) : EReal))
    (h1 : ∀ (t : Fin 2048) (e : Fin 512), x1 (ix3 0 t e) = ((K t.val e.val : ℝ) : EReal))
    (h2 : ∀ (t : Fin 2048) (e : Fin 512), x2 (ix3 0 t e) = V t.val e.val)
    (g hl lo : ℕ) (hg : g < 8) (hhl : hl < 4) (hlo : lo = 256 * g - 512) (hn : lo + 512 = 256 * g + 256)
    (b : Vec Ideal S1x256x512 .f32) (hb : ∀ (r : Fin 256) (c : Fin 512), b (ix3 0 r c) = biasAt (β hl) r.val (256 + c.val))
    (iq ik i0 i1 i2 i3 ix) (x : S1x256x128.Idx) (y : S1x2048x512.Idx) (hy1 : (y 1).val = 256 * g + (x 1).val) (hy2 : (y 2).val = 128 * hl + (x 2).val) :
    task512 (F := Ideal) (View.ld x0 (Rect.unit ![0, 256 * g, 128 * hl] ![1, 256, 128] iq)) (View.ld x1 (Rect.unit ![0, lo, 128 * hl] ![1, 512, 128] ik))
      b
      (fun j => besideOnes (View.ld x2 (Rect.unit ![0, 0, 0] ![1, 2048, 128] i0)) (View.ld x2 (Rect.unit ![0, 0, 128] ![1, 2048, 128] i1))
        (View.ld x2 (Rect.unit ![0, 0, 256] ![1, 2048, 128] i2)) (View.ld x2 (Rect.unit ![0, 0, 384] ![1, 2048, 128] i3))
        ((Rect.unit (s := S4x2048x256) ![hl, lo, 0] ![1, 512, 256] ix).toLoadRect.idx j)) x
    = attend (bandOf (y 1).val) (score Q K (β ((y 2).val / 128)) ((y 2).val / 128) (y 1).val) (fun key => V key (y 2).val) := by
  have hx1 : (x 1).val < 256 := (x 1).isLt
  have hx2 : (x 2).val < 128 := (x 2).isLt
  have hh : (y 2).val / 128 = hl := by omega
  rw [hh, show x = ix3 0 (x 1) (x 2) from by blk_ext; all_goals omega]
  refine task512_attend Q K V (β hl) g hl lo hlo hn _ _ _ _ ?_ ?_ ?_ ?_ ?_ (x 1) (x 2) _ _ hy1 hy2
  · intro r e
    refine Eq.trans ?_ (h0 ⟨256 * g + r.val, by omega⟩ ⟨128 * hl + e.val, by omega⟩)
    exact View.ld_unit_apply_of _ _ _ _ _ _ (fun (a : Fin 3) => match a with | 0 => (by first | rfl | exact (Nat.zero_add _).symm) | 1 => (by first | rfl | exact (Nat.zero_add _).symm) | 2 => (by first | rfl | exact (Nat.zero_add _).symm))
  · intro r e
    refine Eq.trans ?_ (h1 ⟨lo + r.val, by omega⟩ ⟨128 * hl + e.val, by omega⟩)
    exact View.ld_unit_apply_of _ _ _ _ _ _ (fun (a : Fin 3) => match a with | 0 => (by first | rfl | exact (Nat.zero_add _).symm) | 1 => (by first | rfl | exact (Nat.zero_add _).symm) | 2 => (by first | rfl | exact (Nat.zero_add _).symm))
  · exact hb
  · intro r e
    have hr := r.isLt
    exact besideOnes_value V x2 h2 hl hhl i0 i1 i2 i3 _ ⟨lo + r.val, by omega⟩ e (by show hl + 1 * 0 = hl; rfl) (by show lo + 1 * r.val = lo + r.val; omega) (by show 0 + 1 * e.val = e.val; omega)
  · intro r e
    exact besideOnes_one _ _ _ _ _ (by show 128 ≤ 0 + 1 * (128 + e.val); omega)

/-- One query block of one head of the output: 768 keys. -/
theorem piece768 (Q K : ℕ → ℕ → ℝ) (V : ℕ → ℕ → EReal) (β : ℕ → ℕ → ℝ) (x0 x1 x2 : Vec Ideal S1x2048x512 .bf16)
    (h0 : ∀ (t : Fin 2048) (e : Fin 512), x0 (ix3 0 t e) = ((Q t.val e.val : ℝ) : EReal))
    (h1 : ∀ (t : Fin 2048) (e : Fin 512), x1 (ix3 0 t e) = ((K t.val e.val : ℝ) : EReal))
    (h2 : ∀ (t : Fin 2048) (e : Fin 512), x2 (ix3 0 t e) = V t.val e.val)
    (g hl lo : ℕ) (hg : g < 8) (hhl : hl < 4) (hlo : lo = 256 * g - 512) (hn : lo + 768 = 256 * g + 256)
    (b : Vec Ideal S1x256x768 .f32) (hb : ∀ (r : Fin 256) (c : Fin 768), b (ix3 0 r c) = biasAt (β hl) r.val (0 + c.val))
    (iq ik i0 i1 i2 i3 ix) (x : S1x256x128.Idx) (y : S1x2048x512.Idx) (hy1 : (y 1).val = 256 * g + (x 1).val) (hy2 : (y 2).val = 128 * hl + (x 2).val) :
    task768 (F := Ideal) (View.ld x0 (Rect.unit ![0, 256 * g, 128 * hl] ![1, 256, 128] iq)) (View.ld x1 (Rect.unit ![0, lo, 128 * hl] ![1, 768, 128] ik))
      b
      (fun j => besideOnes (View.ld x2 (Rect.unit ![0, 0, 0] ![1, 2048, 128] i0)) (View.ld x2 (Rect.unit ![0, 0, 128] ![1, 2048, 128] i1))
        (View.ld x2 (Rect.unit ![0, 0, 256] ![1, 2048, 128] i2)) (View.ld x2 (Rect.unit ![0, 0, 384] ![1, 2048, 128] i3))
        ((Rect.unit (s := S4x2048x256) ![hl, lo, 0] ![1, 768, 256] ix).toLoadRect.idx j)) x
    = attend (bandOf (y 1).val) (score Q K (β ((y 2).val / 128)) ((y 2).val / 128) (y 1).val) (fun key => V key (y 2).val) := by
  have hx1 : (x 1).val < 256 := (x 1).isLt
  have hx2 : (x 2).val < 128 := (x 2).isLt
  have hh : (y 2).val / 128 = hl := by omega
  rw [hh, show x = ix3 0 (x 1) (x 2) from by blk_ext; all_goals omega]
  refine task768_attend Q K V (β hl) g hl lo hlo hn _ _ _ _ ?_ ?_ ?_ ?_ ?_ (x 1) (x 2) _ _ hy1 hy2
  · intro r e
    refine Eq.trans ?_ (h0 ⟨256 * g + r.val, by omega⟩ ⟨128 * hl + e.val, by omega⟩)
    exact View.ld_unit_apply_of _ _ _ _ _ _ (fun (a : Fin 3) => match a with | 0 => (by first | rfl | exact (Nat.zero_add _).symm) | 1 => (by first | rfl | exact (Nat.zero_add _).symm) | 2 => (by first | rfl | exact (Nat.zero_add _).symm))
  · intro r e
    refine Eq.trans ?_ (h1 ⟨lo + r.val, by omega⟩ ⟨128 * hl + e.val, by omega⟩)
    exact View.ld_unit_apply_of _ _ _ _ _ _ (fun (a : Fin 3) => match a with | 0 => (by first | rfl | exact (Nat.zero_add _).symm) | 1 => (by first | rfl | exact (Nat.zero_add _).symm) | 2 => (by first | rfl | exact (Nat.zero_add _).symm))
  · exact hb
  · intro r e
    have hr := r.isLt
    exact besideOnes_value V x2 h2 hl hhl i0 i1 i2 i3 _ ⟨lo + r.val, by omega⟩ e (by show hl + 1 * 0 = hl; rfl) (by show lo + 1 * r.val = lo + r.val; omega) (by show 0 + 1 * e.val = e.val; omega)
  · intro r e
    exact besideOnes_one _ _ _ _ _ (by show 128 ≤ 0 + 1 * (128 + e.val); omega)

/-- The bias tiles of four heads, in base-two units. -/
def biasTiles (β : ℕ → ℕ → ℝ) : Vec Ideal S4x256x768 .f32 := fun y => biasAt (β (y 0).val) (y 1).val (y 2).val

/-- A head's columns of the bias tiles. -/
theorem bias_ld (β : ℕ → ℕ → ℝ) (X : Vec Ideal S4x256x768 .f32)
    (hX : ∀ (hl : Fin 4) (r : Fin 256) (w : Fin 768), X (ix3 hl r w) = biasAt (β hl.val) r.val w.val)
    (n hl : ℕ) (hn : n ≤ 768) (hhl : hl < 4) (ib) (r : Fin 256) (c : Fin n) :
    View.ld X (Rect.unit (s := S4x256x768) ![hl, 0, 768 - n] ![1, 256, n] ib) (ix3 0 r c) = biasAt (β hl) r.val (768 - n + c.val) := by
  refine Eq.trans ?_ (hX ⟨hl, hhl⟩ r ⟨768 - n + c.val, by have := c.isLt; omega⟩)
  exact View.ld_unit_apply_of _ _ _ _ _ _ (fun (a : Fin 3) => match a with
    | 0 => rfl
    | 1 => (Nat.zero_add _).symm
    | 2 => rfl)

end Cert.KernelIdeal.Attn

end
-- ==== Proof.Bias.lean ====
/- The bias tiles the attention kernel's body builds at the first point of a run of heads. -/
module

public import proofs.«01_k».proof.Proof.Gen.KernelIdeal.Frame
public import proofs.«01_k».proof.Proof.Pieces
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Attn

open Idealize.ShloMosaic Idealize.ShloMosaic.TcCoe Idealize.ShloMosaic.Tactic
open Idealize.SL.Sem
open Cert.KernelIdeal.Gen Cert.Attn

/-- Sixteen stored chunk rows, read back: each agrees with `X` on its rows. -/
theorem stack_canon (X : Vec Ideal S4x256x768 .f32) (p33 p32 p31 p30 p23 p22 p21 p20 p13 p12 p11 p10 p03 p02 p01 p00 : Vec Ideal S1x64x768 .f32)
    (h33 : ∀ (r : Fin 64) (w : Fin 768), p33 (ix3 0 r w) = X (ix3 3 ⟨192 + r.val, by omega⟩ w))
    (h32 : ∀ (r : Fin 64) (w : Fin 768), p32 (ix3 0 r w) = X (ix3 3 ⟨128 + r.val, by omega⟩ w))
    (h31 : ∀ (r : Fin 64) (w : Fin 768), p31 (ix3 0 r w) = X (ix3 3 ⟨64 + r.val, by omega⟩ w))
    (h30 : ∀ (r : Fin 64) (w : Fin 768), p30 (ix3 0 r w) = X (ix3 3 ⟨0 + r.val, by omega⟩ w))
    (h23 : ∀ (r : Fin 64) (w : Fin 768), p23 (ix3 0 r w) = X (ix3 2 ⟨192 + r.val, by omega⟩ w))
    (h22 : ∀ (r : Fin 64) (w : Fin 768), p22 (ix3 0 r w) = X (ix3 2 ⟨128 + r.val, by omega⟩ w))
    (h21 : ∀ (r : Fin 64) (w : Fin 768), p21 (ix3 0 r w) = X (ix3 2 ⟨64 + r.val, by omega⟩ w))
    (h20 : ∀ (r : Fin 64) (w : Fin 768), p20 (ix3 0 r w) = X (ix3 2 ⟨0 + r.val, by omega⟩ w))
    (h13 : ∀ (r : Fin 64) (w : Fin 768), p13 (ix3 0 r w) = X (ix3 1 ⟨192 + r.val, by omega⟩ w))
    (h12 : ∀ (r : Fin 64) (w : Fin 768), p12 (ix3 0 r w) = X (ix3 1 ⟨128 + r.val, by omega⟩ w))
    (h11 : ∀ (r : Fin 64) (w : Fin 768), p11 (ix3 0 r w) = X (ix3 1 ⟨64 + r.val, by omega⟩ w))
    (h10 : ∀ (r : Fin 64) (w : Fin 768), p10 (ix3 0 r w) = X (ix3 1 ⟨0 + r.val, by omega⟩ w))
    (h03 : ∀ (r : Fin 64) (w : Fin 768), p03 (ix3 0 r w) = X (ix3 0 ⟨192 + r.val, by omega⟩ w))
    (h02 : ∀ (r : Fin 64) (w : Fin 768), p02 (ix3 0 r w) = X (ix3 0 ⟨128 + r.val, by omega⟩ w))
    (h01 : ∀ (r : Fin 64) (w : Fin 768), p01 (ix3 0 r w) = X (ix3 0 ⟨64 + r.val, by omega⟩ w))
    (h00 : ∀ (r : Fin 64) (w : Fin 768), p00 (ix3 0 r w) = X (ix3 0 ⟨0 + r.val, by omega⟩ w))
    (y : S4x256x768.Idx) : View.canon (Val := Elt Ideal) (e := .f32) [⟨Rect.unit (s := S4x256x768) ![3, 192, 0] S1x64x768.size inb_S4x256x768_S1x64x768_3_192_0, p33⟩,
      ⟨Rect.unit (s := S4x256x768) ![3, 128, 0] S1x64x768.size inb_S4x256x768_S1x64x768_3_128_0, p32⟩,
      ⟨Rect.unit (s := S4x256x768) ![3, 64, 0] S1x64x768.size inb_S4x256x768_S1x64x768_3_64_0, p31⟩,
      ⟨Rect.unit (s := S4x256x768) ![3, 0, 0] S1x64x768.size inb_S4x256x768_S1x64x768_3_0_0, p30⟩,
      ⟨Rect.unit (s := S4x256x768) ![2, 192, 0] S1x64x768.size inb_S4x256x768_S1x64x768_2_192_0, p23⟩,
      ⟨Rect.unit (s := S4x256x768) ![2, 128, 0] S1x64x768.size inb_S4x256x768_S1x64x768_2_128_0, p22⟩,
      ⟨Rect.unit (s := S4x256x768) ![2, 64, 0] S1x64x768.size inb_S4x256x768_S1x64x768_2_64_0, p21⟩,
      ⟨Rect.unit (s := S4x256x768) ![2, 0, 0] S1x64x768.size inb_S4x256x768_S1x64x768_2_0_0, p20⟩,
      ⟨Rect.unit (s := S4x256x768) ![1, 192, 0] S1x64x768.size inb_S4x256x768_S1x64x768_1_192_0, p13⟩,
      ⟨Rect.unit (s := S4x256x768) ![1, 128, 0] S1x64x768.size inb_S4x256x768_S1x64x768_1_128_0, p12⟩,
      ⟨Rect.unit (s := S4x256x768) ![1, 64, 0] S1x64x768.size inb_S4x256x768_S1x64x768_1_64_0, p11⟩,
      ⟨Rect.unit (s := S4x256x768) ![1, 0, 0] S1x64x768.size inb_S4x256x768_S1x64x768_1_0_0, p10⟩,
      ⟨Rect.unit (s := S4x256x768) ![0, 192, 0] S1x64x768.size inb_S4x256x768_S1x64x768_0_192_0, p03⟩,
      ⟨Rect.unit (s := S4x256x768) ![0, 128, 0] S1x64x768.size inb_S4x256x768_S1x64x768_0_128_0, p02⟩,
      ⟨Rect.unit (s := S4x256x768) ![0, 64, 0] S1x64x768.size inb_S4x256x768_S1x64x768_0_64_0, p01⟩,
      ⟨Rect.unit (s := S4x256x768) ![0, 0, 0] S1x64x768.size inb_S4x256x768_S1x64x768_0_0_0, p00⟩] y = X y := by
  canon_tiles x h
  · exact (congrArg p33 (show x = ix3 (0 : Fin 1) (⟨(x 1).val, x1_lt⟩ : Fin 64) (⟨(x 2).val, x2_lt⟩ : Fin 768) from by blk_ext; all_goals first | omega | rfl)).trans ((h33 ⟨(x 1).val, x1_lt⟩ ⟨(x 2).val, x2_lt⟩).trans (congrArg X (by blk_ext; all_goals first | omega | (show _ = (_ : ℕ); simp only [ix3]; omega))))
  · exact (congrArg p32 (show x = ix3 (0 : Fin 1) (⟨(x 1).val, x1_lt⟩ : Fin 64) (⟨(x 2).val, x2_lt⟩ : Fin 768) from by blk_ext; all_goals first | omega | rfl)).trans ((h32 ⟨(x 1).val, x1_lt⟩ ⟨(x 2).val, x2_lt⟩).trans (congrArg X (by blk_ext; all_goals first | omega | (show _ = (_ : ℕ); simp only [ix3]; omega))))
  · exact (congrArg p31 (show x = ix3 (0 : Fin 1) (⟨(x 1).val, x1_lt⟩ : Fin 64) (⟨(x 2).val, x2_lt⟩ : Fin 768) from by blk_ext; all_goals first | omega | rfl)).trans ((h31 ⟨(x 1).val, x1_lt⟩ ⟨(x 2).val, x2_lt⟩).trans (congrArg X (by blk_ext; all_goals first | omega | (show _ = (_ : ℕ); simp only [ix3]; omega))))
  · exact (congrArg p30 (show x = ix3 (0 : Fin 1) (⟨(x 1).val, x1_lt⟩ : Fin 64) (⟨(x 2).val, x2_lt⟩ : Fin 768) from by blk_ext; all_goals first | omega | rfl)).trans ((h30 ⟨(x 1).val, x1_lt⟩ ⟨(x 2).val, x2_lt⟩).trans (congrArg X (by blk_ext; all_goals first | omega | (show _ = (_ : ℕ); simp only [ix3]; omega))))
  · exact (congrArg p23 (show x = ix3 (0 : Fin 1) (⟨(x 1).val, x1_lt⟩ : Fin 64) (⟨(x 2).val, x2_lt⟩ : Fin 768) from by blk_ext; all_goals first | omega | rfl)).trans ((h23 ⟨(x 1).val, x1_lt⟩ ⟨(x 2).val, x2_lt⟩).trans (congrArg X (by blk_ext; all_goals first | omega | (show _ = (_ : ℕ); simp only [ix3]; omega))))
  · exact (congrArg p22 (show x = ix3 (0 : Fin 1) (⟨(x 1).val, x1_lt⟩ : Fin 64) (⟨(x 2).val, x2_lt⟩ : Fin 768) from by blk_ext; all_goals first | omega | rfl)).trans ((h22 ⟨(x 1).val, x1_lt⟩ ⟨(x 2).val, x2_lt⟩).trans (congrArg X (by blk_ext; all_goals first | omega | (show _ = (_ : ℕ); simp only [ix3]; omega))))
  · exact (congrArg p21 (show x = ix3 (0 : Fin 1) (⟨(x 1).val, x1_lt⟩ : Fin 64) (⟨(x 2).val, x2_lt⟩ : Fin 768) from by blk_ext; all_goals first | omega | rfl)).trans ((h21 ⟨(x 1).val, x1_lt⟩ ⟨(x 2).val, x2_lt⟩).trans (congrArg X (by blk_ext; all_goals first | omega | (show _ = (_ : ℕ); simp only [ix3]; omega))))
  · exact (congrArg p20 (show x = ix3 (0 : Fin 1) (⟨(x 1).val, x1_lt⟩ : Fin 64) (⟨(x 2).val, x2_lt⟩ : Fin 768) from by blk_ext; all_goals first | omega | rfl)).trans ((h20 ⟨(x 1).val, x1_lt⟩ ⟨(x 2).val, x2_lt⟩).trans (congrArg X (by blk_ext; all_goals first | omega | (show _ = (_ : ℕ); simp only [ix3]; omega))))
  · exact (congrArg p13 (show x = ix3 (0 : Fin 1) (⟨(x 1).val, x1_lt⟩ : Fin 64) (⟨(x 2).val, x2_lt⟩ : Fin 768) from by blk_ext; all_goals first | omega | rfl)).trans ((h13 ⟨(x 1).val, x1_lt⟩ ⟨(x 2).val, x2_lt⟩).trans (congrArg X (by blk_ext; all_goals first | omega | (show _ = (_ : ℕ); simp only [ix3]; omega))))
  · exact (congrArg p12 (show x = ix3 (0 : Fin 1) (⟨(x 1).val, x1_lt⟩ : Fin 64) (⟨(x 2).val, x2_lt⟩ : Fin 768) from by blk_ext; all_goals first | omega | rfl)).trans ((h12 ⟨(x 1).val, x1_lt⟩ ⟨(x 2).val, x2_lt⟩).trans (congrArg X (by blk_ext; all_goals first | omega | (show _ = (_ : ℕ); simp only [ix3]; omega))))
  · exact (congrArg p11 (show x = ix3 (0 : Fin 1) (⟨(x 1).val, x1_lt⟩ : Fin 64) (⟨(x 2).val, x2_lt⟩ : Fin 768) from by blk_ext; all_goals first | omega | rfl)).trans ((h11 ⟨(x 1).val, x1_lt⟩ ⟨(x 2).val, x2_lt⟩).trans (congrArg X (by blk_ext; all_goals first | omega | (show _ = (_ : ℕ); simp only [ix3]; omega))))
  · exact (congrArg p10 (show x = ix3 (0 : Fin 1) (⟨(x 1).val, x1_lt⟩ : Fin 64) (⟨(x 2).val, x2_lt⟩ : Fin 768) from by blk_ext; all_goals first | omega | rfl)).trans ((h10 ⟨(x 1).val, x1_lt⟩ ⟨(x 2).val, x2_lt⟩).trans (congrArg X (by blk_ext; all_goals first | omega | (show _ = (_ : ℕ); simp only [ix3]; omega))))
  · exact (congrArg p03 (show x = ix3 (0 : Fin 1) (⟨(x 1).val, x1_lt⟩ : Fin 64) (⟨(x 2).val, x2_lt⟩ : Fin 768) from by blk_ext; all_goals first | omega | rfl)).trans ((h03 ⟨(x 1).val, x1_lt⟩ ⟨(x 2).val, x2_lt⟩).trans (congrArg X (by blk_ext; all_goals first | omega | (show _ = (_ : ℕ); simp only [ix3]; omega))))
  · exact (congrArg p02 (show x = ix3 (0 : Fin 1) (⟨(x 1).val, x1_lt⟩ : Fin 64) (⟨(x 2).val, x2_lt⟩ : Fin 768) from by blk_ext; all_goals first | omega | rfl)).trans ((h02 ⟨(x 1).val, x1_lt⟩ ⟨(x 2).val, x2_lt⟩).trans (congrArg X (by blk_ext; all_goals first | omega | (show _ = (_ : ℕ); simp only [ix3]; omega))))
  · exact (congrArg p01 (show x = ix3 (0 : Fin 1) (⟨(x 1).val, x1_lt⟩ : Fin 64) (⟨(x 2).val, x2_lt⟩ : Fin 768) from by blk_ext; all_goals first | omega | rfl)).trans ((h01 ⟨(x 1).val, x1_lt⟩ ⟨(x 2).val, x2_lt⟩).trans (congrArg X (by blk_ext; all_goals first | omega | (show _ = (_ : ℕ); simp only [ix3]; omega))))
  · exact (congrArg p00 (show x = ix3 (0 : Fin 1) (⟨(x 1).val, x1_lt⟩ : Fin 64) (⟨(x 2).val, x2_lt⟩ : Fin 768) from by blk_ext; all_goals first | omega | rfl)).trans ((h00 ⟨(x 1).val, x1_lt⟩ ⟨(x 2).val, x2_lt⟩).trans (congrArg X (by blk_ext; all_goals first | omega | (show _ = (_ : ℕ); simp only [ix3]; omega))))

/-- One step of the bitwise row shear: the rows whose bit `k` is set are moved right by `amt`, around the end. -/
def rollStep {F : FTy → Type} [FloatOps F] (k amt : BitVec 32) (x : FVec F S64x256 .f32) : FVec F S64x256 .f32 :=
  select (cmpi .eq (andi (shrsi (iota .tc S64x256 32 [0] iota_S64x256_d0_w32) (broadcast S64x256 k)) (broadcast S64x256 1#32))
    (broadcast S64x256 1#32)) (dynamicRotate 1 amt none x rotates_S64x256_d1) x

theorem rollStep_apply (k amt : BitVec 32) (m : ℕ) (hm : amt.toNat = m) (hm' : m < 256)
    (hb : ∀ r : Fin 64, IntOp.cmpi CmpIPredicate.eq (IntOp.andi (IntOp.shrsi ArithUnit.vector (BitVec.ofNat 32 r.val) k) 1#32) 1#32
      = if r.val / m % 2 = 1 then 1#1 else 0#1) (x : FVec Ideal S64x256 .f32) (r : Fin 64) (c : Fin 256) :
    rollStep k amt x (ix2 r c) = if r.val / m % 2 = 1 then x (ix2 r ⟨(c.val + 256 - m) % 256, Nat.mod_lt _ (by norm_num)⟩) else x (ix2 r c) := by
  pointwise [rollStep]
  rw [hb r]
  by_cases h : r.val / m % 2 = 1
  · rw [if_pos h, if_pos h]
    refine (if_pos rfl).trans (congrArg x ?_)
    blk_ext
    all_goals first | omega | rfl | (show (c.val + 256 - amt.toNat % 256) % 256 = (c.val + 256 - m) % 256; rw [hm, Nat.mod_eq_of_lt hm'])
  · rw [if_neg h, if_neg h]
    exact if_neg (by decide)

/-- The rows of `row` repeated, row `r` moved right by `r`, around the end: six steps. -/
def sheared {F : FTy → Type} [FloatOps F] (row : FVec F S1x256 .f32) : FVec F S64x256 .f32 :=
  rollStep 5#32 32#32 (rollStep 4#32 16#32 (rollStep 3#32 8#32 (rollStep 2#32 4#32 (rollStep 1#32 2#32 (rollStep 0#32 1#32
    (broadcastTo S64x256 (shapeCast S1x256 row shapeCasts_S1x256_S1x256) broadcasts_S1x256_S64x256))))))

theorem sheared_apply (row : FVec Ideal S1x256 .f32) (r : Fin 64) (c : Fin 256) :
    sheared row (ix2 r c) = row (ix2 0 ⟨(c.val + 256 - r.val) % 256, Nat.mod_lt _ (by norm_num)⟩) := by
  have g : ∀ a b : Fin 256, a.val = b.val → row (ix2 0 a) = row (ix2 0 b) := fun a b h => by rw [Fin.ext h]
  have e0 : ∀ (r : Fin 64) (c : Fin 256), (broadcastTo S64x256 (shapeCast S1x256 row shapeCasts_S1x256_S1x256) broadcasts_S1x256_S64x256 : FVec Ideal S64x256 .f32) (ix2 r c)
      = row (ix2 0 c) := by intro r c; pointwise
  unfold sheared
  generalize (broadcastTo S64x256 (shapeCast S1x256 row shapeCasts_S1x256_S1x256) broadcasts_S1x256_S64x256 : FVec Ideal S64x256 .f32) = x0 at e0
  have e1 : ∀ (r : Fin 64) (c : Fin 256), rollStep 0#32 1#32 x0 (ix2 r c) = row (ix2 0 ⟨(c.val + 256 - r.val % 2) % 256, Nat.mod_lt _ (by norm_num)⟩) := by
    intro r c
    rw [rollStep_apply 0#32 1#32 1 rfl (by norm_num) (by decide +kernel)]
    split_ifs with h
    · rw [e0]; apply g; (try simp only); omega
    · rw [e0]; apply g; (try simp only); omega
  generalize rollStep 0#32 1#32 x0 = x1 at e1
  have e2 : ∀ (r : Fin 64) (c : Fin 256), rollStep 1#32 2#32 x1 (ix2 r c) = row (ix2 0 ⟨(c.val + 256 - r.val % 4) % 256, Nat.mod_lt _ (by norm_num)⟩) := by
    intro r c
    rw [rollStep_apply 1#32 2#32 2 rfl (by norm_num) (by decide +kernel)]
    split_ifs with h
    · rw [e1]; apply g; (try simp only); omega
    · rw [e1]; apply g; (try simp only); omega
  generalize rollStep 1#32 2#32 x1 = x2 at e2
  have e3 : ∀ (r : Fin 64) (c : Fin 256), rollStep 2#32 4#32 x2 (ix2 r c) = row (ix2 0 ⟨(c.val + 256 - r.val % 8) % 256, Nat.mod_lt _ (by norm_num)⟩) := by
    intro r c
    rw [rollStep_apply 2#32 4#32 4 rfl (by norm_num) (by decide +kernel)]
    split_ifs with h
    · rw [e2]; apply g; (try simp only); omega
    · rw [e2]; apply g; (try simp only); omega
  generalize rollStep 2#32 4#32 x2 = x3 at e3
  have e4 : ∀ (r : Fin 64) (c : Fin 256), rollStep 3#32 8#32 x3 (ix2 r c) = row (ix2 0 ⟨(c.val + 256 - r.val % 16) % 256, Nat.mod_lt _ (by norm_num)⟩) := by
    intro r c
    rw [rollStep_apply 3#32 8#32 8 rfl (by norm_num) (by decide +kernel)]
    split_ifs with h
    · rw [e3]; apply g; (try simp only); omega
    · rw [e3]; apply g; (try simp only); omega
  generalize rollStep 3#32 8#32 x3 = x4 at e4
  have e5 : ∀ (r : Fin 64) (c : Fin 256), rollStep 4#32 16#32 x4 (ix2 r c) = row (ix2 0 ⟨(c.val + 256 - r.val % 32) % 256, Nat.mod_lt _ (by norm_num)⟩) := by
    intro r c
    rw [rollStep_apply 4#32 16#32 16 rfl (by norm_num) (by decide +kernel)]
    split_ifs with h
    · rw [e4]; apply g; (try simp only); omega
    · rw [e4]; apply g; (try simp only); omega
  generalize rollStep 4#32 16#32 x4 = x5 at e5
  have e6 : ∀ (r : Fin 64) (c : Fin 256), rollStep 5#32 32#32 x5 (ix2 r c) = row (ix2 0 ⟨(c.val + 256 - r.val % 64) % 256, Nat.mod_lt _ (by norm_num)⟩) := by
    intro r c
    rw [rollStep_apply 5#32 32#32 32 rfl (by norm_num) (by decide +kernel)]
    split_ifs with h
    · rw [e5]; apply g; (try simp only); omega
    · rw [e5]; apply g; (try simp only); omega
  generalize rollStep 5#32 32#32 x5 = x6 at e6
  rw [e6]; apply g; (try simp only); omega

/-- The row of one head, in base-two units. -/
def scaled {F : FTy → Type} [FloatOps F] [Named F] (v : Vec F S1x1x256 .f32) : FVec F S1x256 .f32 :=
  mulf (shapeCast S1x256 v shapeCasts_S1x1x256_S1x256) (broadcast S1x256 (Named.named κ "log2e" 0x3FB8AA3B#32 : F .f32))

theorem log2e_eq : (Named.named κ "log2e" 0x3FB8AA3B#32 : Ideal .f32) = (((Real.log 2)⁻¹ : ℝ) : EReal) := rfl

theorem mask_eq : (Named.named κ "mask" 0xF149F2CA#32 : Ideal .f32) = (⊥ : EReal) := rfl

theorem scaled_apply (v : Vec Ideal S1x1x256 .f32) (e : Fin 256) : scaled v (ix2 0 e) = v (ix3 0 0 e) * (((Real.log 2)⁻¹ : ℝ) : EReal) := by
  pointwise [scaled]
  rw [log2e_eq]

end Cert.KernelIdeal.Attn

end
-- ==== Proof.Weights.lean ====
/- The four weight blocks a point writes: each is the block it read. -/
module

public import proofs.«01_k».proof.Proof.Gen.KernelIdeal.Frame
public import proofs.«01_k».proof.Proof.Bias
public import proofs.«01_k».proof.Proof.Pieces
public import Idealize.ShloMosaic.Lib.Pipeline.CanonAppend
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Attn

open Idealize.ShloMosaic Idealize.ShloMosaic.TcCoe Idealize.ShloMosaic.Tactic
open Idealize.SL.Sem
open Cert.KernelIdeal.Gen Cert.Attn

/-- The weight block output 9 writes is the block read, its cast the identity on extended reals. -/
theorem weight_A_9 (c : Dev nD) (i : grid0.Coords) (arg2 : Memref sig .tc .vmem S1x2048x512 .bf16) (harg2 : arg2.IsWhole) (arg3 : Memref sig .tc .vmem S1x2048x512 .bf16) (harg3 : arg3.IsWhole) (arg4 : Memref sig .tc .vmem S1x2048x512 .bf16) (harg4 : arg4.IsWhole) (arg5 : Memref sig .tc .vmem S4x1x256 .f32) (harg5 : arg5.IsWhole) (arg6 : Memref sig .tc .vmem S128x2048 .f32) (harg6 : arg6.IsWhole) (arg7 : Memref sig .tc .vmem S128x2048 .f32) (harg7 : arg7.IsWhole) (arg8 : Memref sig .tc .vmem S256x2048 .f32) (harg8 : arg8.IsWhole) (arg9 : Memref sig .tc .vmem S256x5632 .f32) (harg9 : arg9.IsWhole) (arg10 : Memref sig .tc .vmem S1x2048x512 .bf16) (harg10 : arg10.IsWhole) (arg11 : Memref sig .tc .vmem S128x2048 .bf16) (harg11 : arg11.IsWhole) (arg12 : Memref sig .tc .vmem S128x2048 .bf16) (harg12 : arg12.IsWhole) (arg13 : Memref sig .tc .vmem S256x2048 .bf16) (harg13 : arg13.IsWhole) (arg14 : Memref sig .tc .vmem S256x5632 .bf16) (harg14 : arg14.IsWhole) (arg15 : Memref sig .tc .vmem S64x960 .f32) (harg15 : arg15.IsWhole) (arg16 : Memref sig .tc .vmem S4x256x768 .f32) (harg16 : arg16.IsWhole) (arg17 : Memref sig .tc .vmem S4x2048x256 .bf16) (harg17 : arg17.IsWhole) (hc0 : cond0_0 i)
    (x0 : Vec Ideal S1x2048x512 .bf16) (x1 : Vec Ideal S1x2048x512 .bf16) (x2 : Vec Ideal S1x2048x512 .bf16) (x3 : Vec Ideal S4x1x256 .f32) (x4 : Vec Ideal S128x2048 .f32) (x5 : Vec Ideal S128x2048 .f32) (x6 : Vec Ideal S256x2048 .f32) (x7 : Vec Ideal S256x5632 .f32)
    (y : S128x2048.Idx) : out0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 y = x4 y := by
  unfold out0_A_9
  frame_out
  rfl

/-- The weight block output 10 writes is the block read, its cast the identity on extended reals. -/
theorem weight_A_10 (c : Dev nD) (i : grid0.Coords) (arg2 : Memref sig .tc .vmem S1x2048x512 .bf16) (harg2 : arg2.IsWhole) (arg3 : Memref sig .tc .vmem S1x2048x512 .bf16) (harg3 : arg3.IsWhole) (arg4 : Memref sig .tc .vmem S1x2048x512 .bf16) (harg4 : arg4.IsWhole) (arg5 : Memref sig .tc .vmem S4x1x256 .f32) (harg5 : arg5.IsWhole) (arg6 : Memref sig .tc .vmem S128x2048 .f32) (harg6 : arg6.IsWhole) (arg7 : Memref sig .tc .vmem S128x2048 .f32) (harg7 : arg7.IsWhole) (arg8 : Memref sig .tc .vmem S256x2048 .f32) (harg8 : arg8.IsWhole) (arg9 : Memref sig .tc .vmem S256x5632 .f32) (harg9 : arg9.IsWhole) (arg10 : Memref sig .tc .vmem S1x2048x512 .bf16) (harg10 : arg10.IsWhole) (arg11 : Memref sig .tc .vmem S128x2048 .bf16) (harg11 : arg11.IsWhole) (arg12 : Memref sig .tc .vmem S128x2048 .bf16) (harg12 : arg12.IsWhole) (arg13 : Memref sig .tc .vmem S256x2048 .bf16) (harg13 : arg13.IsWhole) (arg14 : Memref sig .tc .vmem S256x5632 .bf16) (harg14 : arg14.IsWhole) (arg15 : Memref sig .tc .vmem S64x960 .f32) (harg15 : arg15.IsWhole) (arg16 : Memref sig .tc .vmem S4x256x768 .f32) (harg16 : arg16.IsWhole) (arg17 : Memref sig .tc .vmem S4x2048x256 .bf16) (harg17 : arg17.IsWhole) (hc0 : cond0_0 i)
    (x0 : Vec Ideal S1x2048x512 .bf16) (x1 : Vec Ideal S1x2048x512 .bf16) (x2 : Vec Ideal S1x2048x512 .bf16) (x3 : Vec Ideal S4x1x256 .f32) (x4 : Vec Ideal S128x2048 .f32) (x5 : Vec Ideal S128x2048 .f32) (x6 : Vec Ideal S256x2048 .f32) (x7 : Vec Ideal S256x5632 .f32)
    (y : S128x2048.Idx) : out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 y = x5 y := by
  unfold out0_A_10
  frame_out
  rfl

/-- The weight block output 11 writes is the block read, its cast the identity on extended reals. -/
theorem weight_A_11 (c : Dev nD) (i : grid0.Coords) (arg2 : Memref sig .tc .vmem S1x2048x512 .bf16) (harg2 : arg2.IsWhole) (arg3 : Memref sig .tc .vmem S1x2048x512 .bf16) (harg3 : arg3.IsWhole) (arg4 : Memref sig .tc .vmem S1x2048x512 .bf16) (harg4 : arg4.IsWhole) (arg5 : Memref sig .tc .vmem S4x1x256 .f32) (harg5 : arg5.IsWhole) (arg6 : Memref sig .tc .vmem S128x2048 .f32) (harg6 : arg6.IsWhole) (arg7 : Memref sig .tc .vmem S128x2048 .f32) (harg7 : arg7.IsWhole) (arg8 : Memref sig .tc .vmem S256x2048 .f32) (harg8 : arg8.IsWhole) (arg9 : Memref sig .tc .vmem S256x5632 .f32) (harg9 : arg9.IsWhole) (arg10 : Memref sig .tc .vmem S1x2048x512 .bf16) (harg10 : arg10.IsWhole) (arg11 : Memref sig .tc .vmem S128x2048 .bf16) (harg11 : arg11.IsWhole) (arg12 : Memref sig .tc .vmem S128x2048 .bf16) (harg12 : arg12.IsWhole) (arg13 : Memref sig .tc .vmem S256x2048 .bf16) (harg13 : arg13.IsWhole) (arg14 : Memref sig .tc .vmem S256x5632 .bf16) (harg14 : arg14.IsWhole) (arg15 : Memref sig .tc .vmem S64x960 .f32) (harg15 : arg15.IsWhole) (arg16 : Memref sig .tc .vmem S4x256x768 .f32) (harg16 : arg16.IsWhole) (arg17 : Memref sig .tc .vmem S4x2048x256 .bf16) (harg17 : arg17.IsWhole) (hc0 : cond0_0 i)
    (x0 : Vec Ideal S1x2048x512 .bf16) (x1 : Vec Ideal S1x2048x512 .bf16) (x2 : Vec Ideal S1x2048x512 .bf16) (x3 : Vec Ideal S4x1x256 .f32) (x4 : Vec Ideal S128x2048 .f32) (x5 : Vec Ideal S128x2048 .f32) (x6 : Vec Ideal S256x2048 .f32) (x7 : Vec Ideal S256x5632 .f32)
    (y : S256x2048.Idx) : out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 y = x6 y := by
  unfold out0_A_11
  frame_out
  rfl

/-- The weight block output 12 writes is the block read, its cast the identity on extended reals. -/
theorem weight_A_12 (c : Dev nD) (i : grid0.Coords) (arg2 : Memref sig .tc .vmem S1x2048x512 .bf16) (harg2 : arg2.IsWhole) (arg3 : Memref sig .tc .vmem S1x2048x512 .bf16) (harg3 : arg3.IsWhole) (arg4 : Memref sig .tc .vmem S1x2048x512 .bf16) (harg4 : arg4.IsWhole) (arg5 : Memref sig .tc .vmem S4x1x256 .f32) (harg5 : arg5.IsWhole) (arg6 : Memref sig .tc .vmem S128x2048 .f32) (harg6 : arg6.IsWhole) (arg7 : Memref sig .tc .vmem S128x2048 .f32) (harg7 : arg7.IsWhole) (arg8 : Memref sig .tc .vmem S256x2048 .f32) (harg8 : arg8.IsWhole) (arg9 : Memref sig .tc .vmem S256x5632 .f32) (harg9 : arg9.IsWhole) (arg10 : Memref sig .tc .vmem S1x2048x512 .bf16) (harg10 : arg10.IsWhole) (arg11 : Memref sig .tc .vmem S128x2048 .bf16) (harg11 : arg11.IsWhole) (arg12 : Memref sig .tc .vmem S128x2048 .bf16) (harg12 : arg12.IsWhole) (arg13 : Memref sig .tc .vmem S256x2048 .bf16) (harg13 : arg13.IsWhole) (arg14 : Memref sig .tc .vmem S256x5632 .bf16) (harg14 : arg14.IsWhole) (arg15 : Memref sig .tc .vmem S64x960 .f32) (harg15 : arg15.IsWhole) (arg16 : Memref sig .tc .vmem S4x256x768 .f32) (harg16 : arg16.IsWhole) (arg17 : Memref sig .tc .vmem S4x2048x256 .bf16) (harg17 : arg17.IsWhole) (hc0 : cond0_0 i)
    (x0 : Vec Ideal S1x2048x512 .bf16) (x1 : Vec Ideal S1x2048x512 .bf16) (x2 : Vec Ideal S1x2048x512 .bf16) (x3 : Vec Ideal S4x1x256 .f32) (x4 : Vec Ideal S128x2048 .f32) (x5 : Vec Ideal S128x2048 .f32) (x6 : Vec Ideal S256x2048 .f32) (x7 : Vec Ideal S256x5632 .f32)
    (y : S256x5632.Idx) : out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 y = x7 y := by
  unfold out0_A_12
  frame_out
  rfl

/-- The weight block output 9 writes is the block read, its cast the identity on extended reals. -/
theorem weight_B_9 (c : Dev nD) (i : grid0.Coords) (arg2 : Memref sig .tc .vmem S1x2048x512 .bf16) (harg2 : arg2.IsWhole) (arg3 : Memref sig .tc .vmem S1x2048x512 .bf16) (harg3 : arg3.IsWhole) (arg4 : Memref sig .tc .vmem S1x2048x512 .bf16) (harg4 : arg4.IsWhole) (arg5 : Memref sig .tc .vmem S4x1x256 .f32) (harg5 : arg5.IsWhole) (arg6 : Memref sig .tc .vmem S128x2048 .f32) (harg6 : arg6.IsWhole) (arg7 : Memref sig .tc .vmem S128x2048 .f32) (harg7 : arg7.IsWhole) (arg8 : Memref sig .tc .vmem S256x2048 .f32) (harg8 : arg8.IsWhole) (arg9 : Memref sig .tc .vmem S256x5632 .f32) (harg9 : arg9.IsWhole) (arg10 : Memref sig .tc .vmem S1x2048x512 .bf16) (harg10 : arg10.IsWhole) (arg11 : Memref sig .tc .vmem S128x2048 .bf16) (harg11 : arg11.IsWhole) (arg12 : Memref sig .tc .vmem S128x2048 .bf16) (harg12 : arg12.IsWhole) (arg13 : Memref sig .tc .vmem S256x2048 .bf16) (harg13 : arg13.IsWhole) (arg14 : Memref sig .tc .vmem S256x5632 .bf16) (harg14 : arg14.IsWhole) (arg15 : Memref sig .tc .vmem S64x960 .f32) (harg15 : arg15.IsWhole) (arg16 : Memref sig .tc .vmem S4x256x768 .f32) (harg16 : arg16.IsWhole) (arg17 : Memref sig .tc .vmem S4x2048x256 .bf16) (harg17 : arg17.IsWhole) (hc0 : ¬cond0_0 i)
    (x0 : Vec Ideal S1x2048x512 .bf16) (x1 : Vec Ideal S1x2048x512 .bf16) (x2 : Vec Ideal S1x2048x512 .bf16) (x3 : Vec Ideal S4x1x256 .f32) (x4 : Vec Ideal S128x2048 .f32) (x5 : Vec Ideal S128x2048 .f32) (x6 : Vec Ideal S256x2048 .f32) (x7 : Vec Ideal S256x5632 .f32) (xs1 : Vec Ideal S4x256x768 .f32)
    (y : S128x2048.Idx) : out0_B_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xs1 y = x4 y := by
  unfold out0_B_9
  frame_out
  rfl

/-- The weight block output 10 writes is the block read, its cast the identity on extended reals. -/
theorem weight_B_10 (c : Dev nD) (i : grid0.Coords) (arg2 : Memref sig .tc .vmem S1x2048x512 .bf16) (harg2 : arg2.IsWhole) (arg3 : Memref sig .tc .vmem S1x2048x512 .bf16) (harg3 : arg3.IsWhole) (arg4 : Memref sig .tc .vmem S1x2048x512 .bf16) (harg4 : arg4.IsWhole) (arg5 : Memref sig .tc .vmem S4x1x256 .f32) (harg5 : arg5.IsWhole) (arg6 : Memref sig .tc .vmem S128x2048 .f32) (harg6 : arg6.IsWhole) (arg7 : Memref sig .tc .vmem S128x2048 .f32) (harg7 : arg7.IsWhole) (arg8 : Memref sig .tc .vmem S256x2048 .f32) (harg8 : arg8.IsWhole) (arg9 : Memref sig .tc .vmem S256x5632 .f32) (harg9 : arg9.IsWhole) (arg10 : Memref sig .tc .vmem S1x2048x512 .bf16) (harg10 : arg10.IsWhole) (arg11 : Memref sig .tc .vmem S128x2048 .bf16) (harg11 : arg11.IsWhole) (arg12 : Memref sig .tc .vmem S128x2048 .bf16) (harg12 : arg12.IsWhole) (arg13 : Memref sig .tc .vmem S256x2048 .bf16) (harg13 : arg13.IsWhole) (arg14 : Memref sig .tc .vmem S256x5632 .bf16) (harg14 : arg14.IsWhole) (arg15 : Memref sig .tc .vmem S64x960 .f32) (harg15 : arg15.IsWhole) (arg16 : Memref sig .tc .vmem S4x256x768 .f32) (harg16 : arg16.IsWhole) (arg17 : Memref sig .tc .vmem S4x2048x256 .bf16) (harg17 : arg17.IsWhole) (hc0 : ¬cond0_0 i)
    (x0 : Vec Ideal S1x2048x512 .bf16) (x1 : Vec Ideal S1x2048x512 .bf16) (x2 : Vec Ideal S1x2048x512 .bf16) (x3 : Vec Ideal S4x1x256 .f32) (x4 : Vec Ideal S128x2048 .f32) (x5 : Vec Ideal S128x2048 .f32) (x6 : Vec Ideal S256x2048 .f32) (x7 : Vec Ideal S256x5632 .f32) (xs1 : Vec Ideal S4x256x768 .f32)
    (y : S128x2048.Idx) : out0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xs1 y = x5 y := by
  unfold out0_B_10
  frame_out
  rfl

/-- The weight block output 11 writes is the block read, its cast the identity on extended reals. -/
theorem weight_B_11 (c : Dev nD) (i : grid0.Coords) (arg2 : Memref sig .tc .vmem S1x2048x512 .bf16) (harg2 : arg2.IsWhole) (arg3 : Memref sig .tc .vmem S1x2048x512 .bf16) (harg3 : arg3.IsWhole) (arg4 : Memref sig .tc .vmem S1x2048x512 .bf16) (harg4 : arg4.IsWhole) (arg5 : Memref sig .tc .vmem S4x1x256 .f32) (harg5 : arg5.IsWhole) (arg6 : Memref sig .tc .vmem S128x2048 .f32) (harg6 : arg6.IsWhole) (arg7 : Memref sig .tc .vmem S128x2048 .f32) (harg7 : arg7.IsWhole) (arg8 : Memref sig .tc .vmem S256x2048 .f32) (harg8 : arg8.IsWhole) (arg9 : Memref sig .tc .vmem S256x5632 .f32) (harg9 : arg9.IsWhole) (arg10 : Memref sig .tc .vmem S1x2048x512 .bf16) (harg10 : arg10.IsWhole) (arg11 : Memref sig .tc .vmem S128x2048 .bf16) (harg11 : arg11.IsWhole) (arg12 : Memref sig .tc .vmem S128x2048 .bf16) (harg12 : arg12.IsWhole) (arg13 : Memref sig .tc .vmem S256x2048 .bf16) (harg13 : arg13.IsWhole) (arg14 : Memref sig .tc .vmem S256x5632 .bf16) (harg14 : arg14.IsWhole) (arg15 : Memref sig .tc .vmem S64x960 .f32) (harg15 : arg15.IsWhole) (arg16 : Memref sig .tc .vmem S4x256x768 .f32) (harg16 : arg16.IsWhole) (arg17 : Memref sig .tc .vmem S4x2048x256 .bf16) (harg17 : arg17.IsWhole) (hc0 : ¬cond0_0 i)
    (x0 : Vec Ideal S1x2048x512 .bf16) (x1 : Vec Ideal S1x2048x512 .bf16) (x2 : Vec Ideal S1x2048x512 .bf16) (x3 : Vec Ideal S4x1x256 .f32) (x4 : Vec Ideal S128x2048 .f32) (x5 : Vec Ideal S128x2048 .f32) (x6 : Vec Ideal S256x2048 .f32) (x7 : Vec Ideal S256x5632 .f32) (xs1 : Vec Ideal S4x256x768 .f32)
    (y : S256x2048.Idx) : out0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xs1 y = x6 y := by
  unfold out0_B_11
  frame_out
  rfl

/-- The weight block output 12 writes is the block read, its cast the identity on extended reals. -/
theorem weight_B_12 (c : Dev nD) (i : grid0.Coords) (arg2 : Memref sig .tc .vmem S1x2048x512 .bf16) (harg2 : arg2.IsWhole) (arg3 : Memref sig .tc .vmem S1x2048x512 .bf16) (harg3 : arg3.IsWhole) (arg4 : Memref sig .tc .vmem S1x2048x512 .bf16) (harg4 : arg4.IsWhole) (arg5 : Memref sig .tc .vmem S4x1x256 .f32) (harg5 : arg5.IsWhole) (arg6 : Memref sig .tc .vmem S128x2048 .f32) (harg6 : arg6.IsWhole) (arg7 : Memref sig .tc .vmem S128x2048 .f32) (harg7 : arg7.IsWhole) (arg8 : Memref sig .tc .vmem S256x2048 .f32) (harg8 : arg8.IsWhole) (arg9 : Memref sig .tc .vmem S256x5632 .f32) (harg9 : arg9.IsWhole) (arg10 : Memref sig .tc .vmem S1x2048x512 .bf16) (harg10 : arg10.IsWhole) (arg11 : Memref sig .tc .vmem S128x2048 .bf16) (harg11 : arg11.IsWhole) (arg12 : Memref sig .tc .vmem S128x2048 .bf16) (harg12 : arg12.IsWhole) (arg13 : Memref sig .tc .vmem S256x2048 .bf16) (harg13 : arg13.IsWhole) (arg14 : Memref sig .tc .vmem S256x5632 .bf16) (harg14 : arg14.IsWhole) (arg15 : Memref sig .tc .vmem S64x960 .f32) (harg15 : arg15.IsWhole) (arg16 : Memref sig .tc .vmem S4x256x768 .f32) (harg16 : arg16.IsWhole) (arg17 : Memref sig .tc .vmem S4x2048x256 .bf16) (harg17 : arg17.IsWhole) (hc0 : ¬cond0_0 i)
    (x0 : Vec Ideal S1x2048x512 .bf16) (x1 : Vec Ideal S1x2048x512 .bf16) (x2 : Vec Ideal S1x2048x512 .bf16) (x3 : Vec Ideal S4x1x256 .f32) (x4 : Vec Ideal S128x2048 .f32) (x5 : Vec Ideal S128x2048 .f32) (x6 : Vec Ideal S256x2048 .f32) (x7 : Vec Ideal S256x5632 .f32) (xs1 : Vec Ideal S4x256x768 .f32)
    (y : S256x5632.Idx) : out0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xs1 y = x7 y := by
  unfold out0_B_12
  frame_out
  rfl

end Cert.KernelIdeal.Attn

end
-- ==== Proof.Out.lean ====
/- What the attention kernel's body leaves in its output block, read from the blocks it loads. -/
module

public import proofs.«01_k».proof.Proof.Gen.KernelIdeal.Frame
public import proofs.«01_k».proof.Proof.Pieces
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Attn

open Idealize.ShloMosaic Idealize.ShloMosaic.TcCoe Idealize.ShloMosaic.Tactic
open Idealize.SL.Sem
open Cert.KernelIdeal.Gen Cert.Attn

/-- The output block of a point that keeps the bias of its run of heads. -/
theorem out_B (c : Dev nD) (i : grid0.Coords) (arg2 : Memref sig .tc .vmem S1x2048x512 .bf16) (harg2 : arg2.IsWhole) (arg3 : Memref sig .tc .vmem S1x2048x512 .bf16) (harg3 : arg3.IsWhole) (arg4 : Memref sig .tc .vmem S1x2048x512 .bf16) (harg4 : arg4.IsWhole) (arg5 : Memref sig .tc .vmem S4x1x256 .f32) (harg5 : arg5.IsWhole) (arg6 : Memref sig .tc .vmem S128x2048 .f32) (harg6 : arg6.IsWhole) (arg7 : Memref sig .tc .vmem S128x2048 .f32) (harg7 : arg7.IsWhole) (arg8 : Memref sig .tc .vmem S256x2048 .f32) (harg8 : arg8.IsWhole) (arg9 : Memref sig .tc .vmem S256x5632 .f32) (harg9 : arg9.IsWhole) (arg10 : Memref sig .tc .vmem S1x2048x512 .bf16) (harg10 : arg10.IsWhole) (arg11 : Memref sig .tc .vmem S128x2048 .bf16) (harg11 : arg11.IsWhole) (arg12 : Memref sig .tc .vmem S128x2048 .bf16) (harg12 : arg12.IsWhole) (arg13 : Memref sig .tc .vmem S256x2048 .bf16) (harg13 : arg13.IsWhole) (arg14 : Memref sig .tc .vmem S256x5632 .bf16) (harg14 : arg14.IsWhole) (arg15 : Memref sig .tc .vmem S64x960 .f32) (harg15 : arg15.IsWhole) (arg16 : Memref sig .tc .vmem S4x256x768 .f32) (harg16 : arg16.IsWhole) (arg17 : Memref sig .tc .vmem S4x2048x256 .bf16) (harg17 : arg17.IsWhole) (hc0 : ¬cond0_0 i)
    (x0 : Vec Ideal S1x2048x512 .bf16) (x1 : Vec Ideal S1x2048x512 .bf16) (x2 : Vec Ideal S1x2048x512 .bf16) (x3 : Vec Ideal S4x1x256 .f32) (x4 : Vec Ideal S128x2048 .f32) (x5 : Vec Ideal S128x2048 .f32) (x6 : Vec Ideal S256x2048 .f32) (x7 : Vec Ideal S256x5632 .f32) (xs1 : Vec Ideal S4x256x768 .f32)
    (Q K : ℕ → ℕ → ℝ) (V : ℕ → ℕ → EReal) (β : ℕ → ℕ → ℝ)
    (h0' : ∀ (t : Fin 2048) (e : Fin 512), x0 (ix3 0 t e) = ((Q t.val e.val : ℝ) : EReal))
    (h1' : ∀ (t : Fin 2048) (e : Fin 512), x1 (ix3 0 t e) = ((K t.val e.val : ℝ) : EReal))
    (h2' : ∀ (t : Fin 2048) (e : Fin 512), x2 (ix3 0 t e) = V t.val e.val)
    (hb : ∀ (hl : Fin 4) (r : Fin 256) (w : Fin 768), xs1 (ix3 hl r w) = biasAt (β hl.val) r.val w.val)
    (y : S1x2048x512.Idx) :
    out0_B_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xs1 y = attend (bandOf (y 1).val) (score Q K (β ((y 2).val / 128)) ((y 2).val / 128) (y 1).val) (fun key => V key (y 2).val) := by
  frame_open
  frame_out
  canon_tiles x h
  · rw [besideOnes_readCov]; exact piece768 Q K V β x0 x1 x2 h0' h1' h2' 7 3 1280 (by omega) (by omega) (by omega) (by omega) _ (bias_ld β xs1 hb 768 3 (by norm_num) (by norm_num) _) _ _ _ _ _ _ _ x y (by omega) (by omega)
  · rw [besideOnes_readCov]; exact piece768 Q K V β x0 x1 x2 h0' h1' h2' 7 2 1280 (by omega) (by omega) (by omega) (by omega) _ (bias_ld β xs1 hb 768 2 (by norm_num) (by norm_num) _) _ _ _ _ _ _ _ x y (by omega) (by omega)
  · rw [besideOnes_readCov]; exact piece768 Q K V β x0 x1 x2 h0' h1' h2' 7 1 1280 (by omega) (by omega) (by omega) (by omega) _ (bias_ld β xs1 hb 768 1 (by norm_num) (by norm_num) _) _ _ _ _ _ _ _ x y (by omega) (by omega)
  · rw [besideOnes_readCov]; exact piece768 Q K V β x0 x1 x2 h0' h1' h2' 7 0 1280 (by omega) (by omega) (by omega) (by omega) _ (bias_ld β xs1 hb 768 0 (by norm_num) (by norm_num) _) _ _ _ _ _ _ _ x y (by omega) (by omega)
  · rw [besideOnes_readCov]; exact piece768 Q K V β x0 x1 x2 h0' h1' h2' 6 3 1024 (by omega) (by omega) (by omega) (by omega) _ (bias_ld β xs1 hb 768 3 (by norm_num) (by norm_num) _) _ _ _ _ _ _ _ x y (by omega) (by omega)
  · rw [besideOnes_readCov]; exact piece768 Q K V β x0 x1 x2 h0' h1' h2' 6 2 1024 (by omega) (by omega) (by omega) (by omega) _ (bias_ld β xs1 hb 768 2 (by norm_num) (by norm_num) _) _ _ _ _ _ _ _ x y (by omega) (by omega)
  · rw [besideOnes_readCov]; exact piece768 Q K V β x0 x1 x2 h0' h1' h2' 6 1 1024 (by omega) (by omega) (by omega) (by omega) _ (bias_ld β xs1 hb 768 1 (by norm_num) (by norm_num) _) _ _ _ _ _ _ _ x y (by omega) (by omega)
  · rw [besideOnes_readCov]; exact piece768 Q K V β x0 x1 x2 h0' h1' h2' 6 0 1024 (by omega) (by omega) (by omega) (by omega) _ (bias_ld β xs1 hb 768 0 (by norm_num) (by norm_num) _) _ _ _ _ _ _ _ x y (by omega) (by omega)
  · rw [besideOnes_readCov]; exact piece768 Q K V β x0 x1 x2 h0' h1' h2' 5 3 768 (by omega) (by omega) (by omega) (by omega) _ (bias_ld β xs1 hb 768 3 (by norm_num) (by norm_num) _) _ _ _ _ _ _ _ x y (by omega) (by omega)
  · rw [besideOnes_readCov]; exact piece768 Q K V β x0 x1 x2 h0' h1' h2' 5 2 768 (by omega) (by omega) (by omega) (by omega) _ (bias_ld β xs1 hb 768 2 (by norm_num) (by norm_num) _) _ _ _ _ _ _ _ x y (by omega) (by omega)
  · rw [besideOnes_readCov]; exact piece768 Q K V β x0 x1 x2 h0' h1' h2' 5 1 768 (by omega) (by omega) (by omega) (by omega) _ (bias_ld β xs1 hb 768 1 (by norm_num) (by norm_num) _) _ _ _ _ _ _ _ x y (by omega) (by omega)
  · rw [besideOnes_readCov]; exact piece768 Q K V β x0 x1 x2 h0' h1' h2' 5 0 768 (by omega) (by omega) (by omega) (by omega) _ (bias_ld β xs1 hb 768 0 (by norm_num) (by norm_num) _) _ _ _ _ _ _ _ x y (by omega) (by omega)
  · rw [besideOnes_readCov]; exact piece768 Q K V β x0 x1 x2 h0' h1' h2' 4 3 512 (by omega) (by omega) (by omega) (by omega) _ (bias_ld β xs1 hb 768 3 (by norm_num) (by norm_num) _) _ _ _ _ _ _ _ x y (by omega) (by omega)
  · rw [besideOnes_readCov]; exact piece768 Q K V β x0 x1 x2 h0' h1' h2' 4 2 512 (by omega) (by omega) (by omega) (by omega) _ (bias_ld β xs1 hb 768 2 (by norm_num) (by norm_num) _) _ _ _ _ _ _ _ x y (by omega) (by omega)
  · rw [besideOnes_readCov]; exact piece768 Q K V β x0 x1 x2 h0' h1' h2' 4 1 512 (by omega) (by omega) (by omega) (by omega) _ (bias_ld β xs1 hb 768 1 (by norm_num) (by norm_num) _) _ _ _ _ _ _ _ x y (by omega) (by omega)
  · rw [besideOnes_readCov]; exact piece768 Q K V β x0 x1 x2 h0' h1' h2' 4 0 512 (by omega) (by omega) (by omega) (by omega) _ (bias_ld β xs1 hb 768 0 (by norm_num) (by norm_num) _) _ _ _ _ _ _ _ x y (by omega) (by omega)
  · rw [besideOnes_readCov]; exact piece768 Q K V β x0 x1 x2 h0' h1' h2' 3 3 256 (by omega) (by omega) (by omega) (by omega) _ (bias_ld β xs1 hb 768 3 (by norm_num) (by norm_num) _) _ _ _ _ _ _ _ x y (by omega) (by omega)
  · rw [besideOnes_readCov]; exact piece768 Q K V β x0 x1 x2 h0' h1' h2' 3 2 256 (by omega) (by omega) (by omega) (by omega) _ (bias_ld β xs1 hb 768 2 (by norm_num) (by norm_num) _) _ _ _ _ _ _ _ x y (by omega) (by omega)
  · rw [besideOnes_readCov]; exact piece768 Q K V β x0 x1 x2 h0' h1' h2' 3 1 256 (by omega) (by omega) (by omega) (by omega) _ (bias_ld β xs1 hb 768 1 (by norm_num) (by norm_num) _) _ _ _ _ _ _ _ x y (by omega) (by omega)
  · rw [besideOnes_readCov]; exact piece768 Q K V β x0 x1 x2 h0' h1' h2' 3 0 256 (by omega) (by omega) (by omega) (by omega) _ (bias_ld β xs1 hb 768 0 (by norm_num) (by norm_num) _) _ _ _ _ _ _ _ x y (by omega) (by omega)
  · rw [besideOnes_readCov]; exact piece768 Q K V β x0 x1 x2 h0' h1' h2' 2 3 0 (by omega) (by omega) (by omega) (by omega) _ (bias_ld β xs1 hb 768 3 (by norm_num) (by norm_num) _) _ _ _ _ _ _ _ x y (by omega) (by omega)
  · rw [besideOnes_readCov]; exact piece768 Q K V β x0 x1 x2 h0' h1' h2' 2 2 0 (by omega) (by omega) (by omega) (by omega) _ (bias_ld β xs1 hb 768 2 (by norm_num) (by norm_num) _) _ _ _ _ _ _ _ x y (by omega) (by omega)
  · rw [besideOnes_readCov]; exact piece768 Q K V β x0 x1 x2 h0' h1' h2' 2 1 0 (by omega) (by omega) (by omega) (by omega) _ (bias_ld β xs1 hb 768 1 (by norm_num) (by norm_num) _) _ _ _ _ _ _ _ x y (by omega) (by omega)
  · rw [besideOnes_readCov]; exact piece768 Q K V β x0 x1 x2 h0' h1' h2' 2 0 0 (by omega) (by omega) (by omega) (by omega) _ (bias_ld β xs1 hb 768 0 (by norm_num) (by norm_num) _) _ _ _ _ _ _ _ x y (by omega) (by omega)
  · rw [besideOnes_readCov]; exact piece512 Q K V β x0 x1 x2 h0' h1' h2' 1 3 0 (by omega) (by omega) (by omega) (by omega) _ (bias_ld β xs1 hb 512 3 (by norm_num) (by norm_num) _) _ _ _ _ _ _ _ x y (by omega) (by omega)
  · rw [besideOnes_readCov]; exact piece512 Q K V β x0 x1 x2 h0' h1' h2' 1 2 0 (by omega) (by omega) (by omega) (by omega) _ (bias_ld β xs1 hb 512 2 (by norm_num) (by norm_num) _) _ _ _ _ _ _ _ x y (by omega) (by omega)
  · rw [besideOnes_readCov]; exact piece512 Q K V β x0 x1 x2 h0' h1' h2' 1 1 0 (by omega) (by omega) (by omega) (by omega) _ (bias_ld β xs1 hb 512 1 (by norm_num) (by norm_num) _) _ _ _ _ _ _ _ x y (by omega) (by omega)
  · rw [besideOnes_readCov]; exact piece512 Q K V β x0 x1 x2 h0' h1' h2' 1 0 0 (by omega) (by omega) (by omega) (by omega) _ (bias_ld β xs1 hb 512 0 (by norm_num) (by norm_num) _) _ _ _ _ _ _ _ x y (by omega) (by omega)
  · rw [besideOnes_readCov]; exact piece256 Q K V β x0 x1 x2 h0' h1' h2' 0 3 0 (by omega) (by omega) (by omega) (by omega) _ (bias_ld β xs1 hb 256 3 (by norm_num) (by norm_num) _) _ _ _ _ _ _ _ x y (by omega) (by omega)
  · rw [besideOnes_readCov]; exact piece256 Q K V β x0 x1 x2 h0' h1' h2' 0 2 0 (by omega) (by omega) (by omega) (by omega) _ (bias_ld β xs1 hb 256 2 (by norm_num) (by norm_num) _) _ _ _ _ _ _ _ x y (by omega) (by omega)
  · rw [besideOnes_readCov]; exact piece256 Q K V β x0 x1 x2 h0' h1' h2' 0 1 0 (by omega) (by omega) (by omega) (by omega) _ (bias_ld β xs1 hb 256 1 (by norm_num) (by norm_num) _) _ _ _ _ _ _ _ x y (by omega) (by omega)
  · rw [besideOnes_readCov]; exact piece256 Q K V β x0 x1 x2 h0' h1' h2' 0 0 0 (by omega) (by omega) (by omega) (by omega) _ (bias_ld β xs1 hb 256 0 (by norm_num) (by norm_num) _) _ _ _ _ _ _ _ x y (by omega) (by omega)

end Cert.KernelIdeal.Attn

end
-- ==== Proof.Strip.lean ====
/- One head's bias strip read back from its four column stores, and the bias tiles of a run of heads. -/
module

public import proofs.«01_k».proof.Proof.Gen.KernelIdeal.Frame
public import proofs.«01_k».proof.Proof.Bias
public import proofs.«01_k».proof.Proof.Pieces
public import Idealize.ShloMosaic.Lib.Pipeline.CanonAppend
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Attn

open Idealize.ShloMosaic Idealize.ShloMosaic.TcCoe Idealize.ShloMosaic.Tactic
open Idealize.SL.Sem
open Cert.KernelIdeal.Gen Cert.Attn

/-- The strip of one head: row `r` at strip column `w`, masked outside the 576 keys of its chunk. -/
def strip (β : ℕ → ℝ) (r w : ℕ) : EReal :=
  if 192 ≤ w ∧ w < 768 then ((β (min 190 (767 + r - w)) * (Real.log 2)⁻¹ : ℝ) : EReal) else ⊥

/-- A chunk row's window of the strip is its rows of the bias. -/
theorem strip_window (β : ℕ → ℝ) (q r w : ℕ) (hq : q < 4) (hr : r < 64) : strip β r (192 - 64 * q + w) = biasAt β (64 * q + r) w := by
  have h1 : 64 * ((64 * q + r) / 64) = 64 * q := by omega
  unfold strip biasAt
  rw [h1]
  by_cases h : 64 * q ≤ w ∧ w < 64 * q + 576
  · rw [if_pos h, if_pos (by omega), show 767 + r - (192 - 64 * q + w) = 575 + (64 * q + r) - w from by omega]
  · rw [if_neg h, if_neg (by omega)]

/-- The four column stores of one head, over any earlier stores, read back through a window of the strip. -/
theorem strip_readCov {sig : RefSig} {κ' : Kind} {sp : Space} (v : View sig κ' sp S64x960 .f32) (β : ℕ → ℝ)
    (m1 : Vec Ideal S64x192 .f32) (ed : Vec Ideal S64x384 .f32) (ro m2 : Vec Ideal S64x192 .f32) (L : List (View.Piece (Elt Ideal) S64x960 .f32))
    (h1 : ∀ (r : Fin 64) (c : Fin 192), m1 (ix2 r c) = (⊥ : EReal)) (h2 : ∀ (r : Fin 64) (c : Fin 192), m2 (ix2 r c) = (⊥ : EReal))
    (he : ∀ (r : Fin 64) (c : Fin 384), ed (ix2 r c) = ((β 190 * (Real.log 2)⁻¹ : ℝ) : EReal))
    (hr : ∀ (r : Fin 64) (c : Fin 192), ro (ix2 r c) = ((β (min 190 (191 + r.val - c.val)) * (Real.log 2)⁻¹ : ℝ) : EReal))
    (q : ℕ) (hq : q < 4) (i0 i1 i2 i3 ib) (r : Fin 64) (w : Fin 768) :
    v.readCov (Val := Elt Ideal) (⟨Rect.unit (s := S64x960) ![0, 768] S64x192.size i0, m2⟩ :: ⟨Rect.unit (s := S64x960) ![0, 576] S64x192.size i1, ro⟩ ::
      ⟨Rect.unit (s := S64x960) ![0, 192] S64x384.size i2, ed⟩ :: ⟨Rect.unit (s := S64x960) ![0, 0] S64x192.size i3, m1⟩ :: L)
      (Rect.unit (s := S64x960) ![0, 192 - 64 * q] S64x768.size ib).toLoadRect (ix2 r w) = biasAt β (64 * q + r.val) w.val := by
  rw [View.readCov_eq_canon', ← strip_window β q r.val w.val hq r.isLt]
  set y : S64x960.Idx := (Rect.unit (s := S64x960) ![0, 192 - 64 * q] S64x768.size ib).toLoadRect.idx (ix2 r w) with hy
  have y0 : (y 0).val = r.val := by show 0 + 1 * r.val = r.val; omega
  have y1 : (y 1).val = 192 - 64 * q + w.val := by show 192 - 64 * q + 1 * w.val = _; omega
  have hw := w.isLt
  rw [← y0, ← y1]
  have b0 : (y 0).val < 64 := (y 0).isLt
  have b1 : (y 1).val < 960 := (y 1).isLt
  refine View.canon_append_of_piecesOf (fun y : S64x960.Idx => strip β (y 0).val (y 1).val) L
    [⟨Rect.unit (s := S64x960) ![0, 768] S64x192.size i0, m2⟩, ⟨Rect.unit (s := S64x960) ![0, 576] S64x192.size i1, ro⟩,
     ⟨Rect.unit (s := S64x960) ![0, 192] S64x384.size i2, ed⟩, ⟨Rect.unit (s := S64x960) ![0, 0] S64x192.size i3, m1⟩] ⟨?_, ?_, ?_, ?_, trivial⟩ y ?_
  · intro x
    have x1 : (x 1).val < 192 := (x 1).isLt
    refine (congrArg m2 (show x = ix2 (x 0 : Fin 64) (x 1 : Fin 192) from by blk_ext; all_goals first | omega | rfl)).trans ((h2 _ _).trans ?_)
    exact (if_neg (by show ¬(192 ≤ 768 + 1 * (x 1).val ∧ 768 + 1 * (x 1).val < 768); omega)).symm
  · intro x
    have x1 : (x 1).val < 192 := (x 1).isLt
    refine (congrArg ro (show x = ix2 (x 0 : Fin 64) (x 1 : Fin 192) from by blk_ext; all_goals first | omega | rfl)).trans ((hr _ _).trans ?_)
    refine Eq.trans ?_ (if_pos (by show 192 ≤ 576 + 1 * (x 1).val ∧ 576 + 1 * (x 1).val < 768; omega)).symm
    rw [show 191 + ((x 0 : Fin 64)).val - ((x 1 : Fin 192)).val = 767 + (0 + 1 * (x 0).val) - (576 + 1 * (x 1).val) from by show 191 + (x 0).val - (x 1).val = _; omega]
    rfl
  · intro x
    have x1 : (x 1).val < 384 := (x 1).isLt
    refine (congrArg ed (show x = ix2 (x 0 : Fin 64) (x 1 : Fin 384) from by blk_ext; all_goals first | omega | rfl)).trans ((he _ _).trans ?_)
    refine Eq.trans ?_ (if_pos (by show 192 ≤ 192 + 1 * (x 1).val ∧ 192 + 1 * (x 1).val < 768; omega)).symm
    rw [show β 190 = β (min 190 (767 + (0 + 1 * (x 0).val) - (192 + 1 * (x 1).val))) from congrArg β (by omega)]
    rfl
  · intro x
    have x1 : (x 1).val < 192 := (x 1).isLt
    refine (congrArg m1 (show x = ix2 (x 0 : Fin 64) (x 1 : Fin 192) from by blk_ext; all_goals first | omega | rfl)).trans ((h1 _ _).trans ?_)
    exact (if_neg (by show ¬(192 ≤ 0 + 1 * (x 1).val ∧ 0 + 1 * (x 1).val < 768); omega)).symm
  · have hc : ∀ (o n : ℕ) (i : ∀ a, ![0, o] a + ![64, n] a ≤ S64x960.size a), o ≤ (y 1).val → (y 1).val < o + n → y ∈ (Rect.unit (s := S64x960) ![0, o] ![64, n] i).set := by
      intro o n i h1 h2
      exact Rect.mem_set_unit.mpr fun (a : Fin 2) => match a with
        | 0 => ⟨Nat.zero_le _, by show (y 0).val < 0 + 64; omega⟩
        | 1 => ⟨h1, h2⟩
    by_cases c3 : (y 1).val < 192
    · exact ⟨_, List.mem_cons_of_mem _ (List.mem_cons_of_mem _ (List.mem_cons_of_mem _ List.mem_cons_self)), hc 0 192 i3 (by omega) (by omega)⟩
    by_cases c2 : (y 1).val < 576
    · exact ⟨_, List.mem_cons_of_mem _ (List.mem_cons_of_mem _ List.mem_cons_self), hc 192 384 i2 (by omega) (by omega)⟩
    by_cases c1 : (y 1).val < 768
    · exact ⟨_, List.mem_cons_of_mem _ List.mem_cons_self, hc 576 192 i1 (by omega) (by omega)⟩
    · exact ⟨_, List.mem_cons_self, hc 768 192 i0 (by omega) (by omega)⟩

/-- The masked columns. -/
def maskCols {F : FTy → Type} [FloatOps F] [Named F] : FVec F S64x192 .f32 :=
  shapeCast S64x192 (broadcast S64x192 (Named.named κ "mask" 0xF149F2CA#32 : F .f32)) shapeCasts_S64x192_S64x192

/-- The columns of the far keys. -/
def edgeCols {F : FTy → Type} [FloatOps F] (row : FVec F S1x256 .f32) : FVec F S64x384 .f32 :=
  shapeCast S64x384 (broadcastTo S64x384 (shapeCast S1x1 (extractStridedSlice S1x1 ![0, 0] row slices_S1x256_o0_0_S1x1) shapeCasts_S1x1_S1x1)
    broadcasts_S1x1_S64x384) shapeCasts_S64x384_S64x384

/-- The columns of the near keys. -/
def nearCols {F : FTy → Type} [FloatOps F] (row : FVec F S1x256 .f32) : FVec F S64x192 .f32 :=
  shapeCast S64x192 (extractStridedSlice S64x192 ![0, 64] (sheared row) slices_S64x256_o0_64_S64x192) shapeCasts_S64x192_S64x192

theorem maskCols_apply (r : Fin 64) (c : Fin 192) : maskCols (F := Ideal) (ix2 r c) = (⊥ : EReal) := by
  pointwise [maskCols]
  exact mask_eq

theorem edgeCols_apply (β : ℕ → ℝ) (v : Vec Ideal S1x1x256 .f32)
    (hv : ∀ e : Fin 256, v (ix3 0 0 e) = ((β (min 190 (255 - e.val)) : ℝ) : EReal)) (r : Fin 64) (c : Fin 384) :
    edgeCols (scaled v) (ix2 r c) = ((β 190 * (Real.log 2)⁻¹ : ℝ) : EReal) := by
  have h : edgeCols (scaled v) (ix2 r c) = scaled v (ix2 0 0) := by pointwise [edgeCols]
  rw [h, scaled_apply, hv, EReal.coe_mul]
  rfl

theorem nearCols_apply (β : ℕ → ℝ) (v : Vec Ideal S1x1x256 .f32)
    (hv : ∀ e : Fin 256, v (ix3 0 0 e) = ((β (min 190 (255 - e.val)) : ℝ) : EReal)) (r : Fin 64) (c : Fin 192) :
    nearCols (scaled v) (ix2 r c) = ((β (min 190 (191 + r.val - c.val)) * (Real.log 2)⁻¹ : ℝ) : EReal) := by
  have hc := c.isLt
  have hr := r.isLt
  have h : nearCols (scaled v) (ix2 r c) = sheared (scaled v) (ix2 r ⟨64 + c.val, by omega⟩) := by pointwise [nearCols]
  rw [h, sheared_apply, scaled_apply, hv, EReal.coe_mul]
  congr 3
  show min 190 (255 - (64 + c.val + 256 - r.val) % 256) = _
  omega

/-- A chunk row under a unit axis. -/
theorem chunkRow_apply (V : Vec Ideal S64x768 .f32) (r : Fin 64) (w : Fin 768) :
    shapeCast S1x64x768 V shapeCasts_S64x768_S1x64x768 (ix3 0 r w) = V (ix2 r w) := by pointwise

/-- One head's row of the bias vector. -/
theorem row_apply (β : ℕ → ℕ → ℝ) (x3 : Vec Ideal S4x1x256 .f32)
    (h3 : ∀ (hl : Fin 4) (e : Fin 256), x3 (ix3 hl 0 e) = ((β hl.val (min 190 (255 - e.val)) : ℝ) : EReal))
    (hl : ℕ) (hhl : hl < 4) (i) (e : Fin 256) :
    View.ld x3 (Rect.unit (s := S4x1x256) ![hl, 0, 0] S1x1x256.size i) (ix3 0 0 e) = ((β hl (min 190 (255 - e.val)) : ℝ) : EReal) := by
  refine Eq.trans ?_ (h3 ⟨hl, hhl⟩ e)
  exact View.ld_unit_apply_of _ _ _ _ _ _ (fun (a : Fin 3) => match a with
    | 0 => rfl
    | 1 => rfl
    | 2 => (Nat.zero_add _).symm)

theorem row_load (m : Memref sig .tc .vmem S4x1x256 .f32) (hm : m.IsWhole) (β : ℕ → ℕ → ℝ) (x3 : Vec Ideal S4x1x256 .f32)
    (h3 : ∀ (hl : Fin 4) (e : Fin 256), x3 (ix3 hl 0 e) = ((β hl.val (min 190 (255 - e.val)) : ℝ) : EReal))
    (hl : ℕ) (hhl : hl < 4) (i) (e : Fin 256) :
    View.readAt (Elt Ideal) m.view (Rect.unit (s := S4x1x256) ![hl, 0, 0] S1x1x256.size i).toLoadRect (hm.unread x3) (ix3 0 0 e)
      = ((β hl (min 190 (255 - e.val)) : ℝ) : EReal) := by
  rw [View.readAt_eq_ld, hm.read_unread]
  exact row_apply β x3 h3 hl hhl i e

end Cert.KernelIdeal.Attn

end
-- ==== Proof.OutA.lean ====
/- What the body leaves at the first point of a run of heads: the bias tiles, and the output block. -/
module

public import proofs.«01_k».proof.Proof.Gen.KernelIdeal.Frame
public import proofs.«01_k».proof.Proof.Strip
public import proofs.«01_k».proof.Proof.Pieces
public import Idealize.ShloMosaic.Lib.Pipeline.CanonAppend
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Attn

open Idealize.ShloMosaic Idealize.ShloMosaic.TcCoe Idealize.ShloMosaic.Tactic
open Idealize.SL.Sem
open Cert.KernelIdeal.Gen Cert.Attn

theorem near0 (v : Vec Ideal S1x1x256 .f32) :
    k0_pay5 (F := Ideal) (iota .tc S64x256 32 [0] iota_S64x256_d0_w32) (k0_pay2 v) 4#32 = nearCols (scaled v) := rfl

theorem near1 (v : Vec Ideal S1x1x256 .f32) :
    k0_pay18 (F := Ideal) (k0_pay14 (iota .tc S64x256 32 [0] iota_S64x256_d0_w32) (k0_pay12 v) k0_pay13) = nearCols (scaled v) := rfl

theorem near2 (v : Vec Ideal S1x1x256 .f32) :
    k0_pay29 (F := Ideal) (iota .tc S64x256 32 [0] iota_S64x256_d0_w32) (k0_pay25 v) k0_pay26 = nearCols (scaled v) := rfl

theorem near3 (v : Vec Ideal S1x1x256 .f32) :
    k0_pay43 (F := Ideal) (k0_pay39 (k0_pay37 v) (iota .tc S64x256 32 [0] iota_S64x256_d0_w32) k0_pay38 1#32)
      (shrsi (iota .tc S64x256 32 [0] iota_S64x256_d0_w32) (broadcast S64x256 5#32)) 1#32 = nearCols (scaled v) := rfl

set_option maxHeartbeats 4000000 in
/-- The bias tiles a run's first point stores. -/
theorem tiles_A (c : Dev nD) (i : grid0.Coords) (arg2 : Memref sig .tc .vmem S1x2048x512 .bf16) (harg2 : arg2.IsWhole) (arg3 : Memref sig .tc .vmem S1x2048x512 .bf16) (harg3 : arg3.IsWhole) (arg4 : Memref sig .tc .vmem S1x2048x512 .bf16) (harg4 : arg4.IsWhole) (arg5 : Memref sig .tc .vmem S4x1x256 .f32) (harg5 : arg5.IsWhole) (arg6 : Memref sig .tc .vmem S128x2048 .f32) (harg6 : arg6.IsWhole) (arg7 : Memref sig .tc .vmem S128x2048 .f32) (harg7 : arg7.IsWhole) (arg8 : Memref sig .tc .vmem S256x2048 .f32) (harg8 : arg8.IsWhole) (arg9 : Memref sig .tc .vmem S256x5632 .f32) (harg9 : arg9.IsWhole) (arg10 : Memref sig .tc .vmem S1x2048x512 .bf16) (harg10 : arg10.IsWhole) (arg11 : Memref sig .tc .vmem S128x2048 .bf16) (harg11 : arg11.IsWhole) (arg12 : Memref sig .tc .vmem S128x2048 .bf16) (harg12 : arg12.IsWhole) (arg13 : Memref sig .tc .vmem S256x2048 .bf16) (harg13 : arg13.IsWhole) (arg14 : Memref sig .tc .vmem S256x5632 .bf16) (harg14 : arg14.IsWhole) (arg15 : Memref sig .tc .vmem S64x960 .f32) (harg15 : arg15.IsWhole) (arg16 : Memref sig .tc .vmem S4x256x768 .f32) (harg16 : arg16.IsWhole) (arg17 : Memref sig .tc .vmem S4x2048x256 .bf16) (harg17 : arg17.IsWhole) (hc0 : cond0_0 i)
    (x0 : Vec Ideal S1x2048x512 .bf16) (x1 : Vec Ideal S1x2048x512 .bf16) (x2 : Vec Ideal S1x2048x512 .bf16) (x3 : Vec Ideal S4x1x256 .f32) (x4 : Vec Ideal S128x2048 .f32) (x5 : Vec Ideal S128x2048 .f32) (x6 : Vec Ideal S256x2048 .f32) (x7 : Vec Ideal S256x5632 .f32)
    (β : ℕ → ℕ → ℝ) (h3 : ∀ (hl : Fin 4) (e : Fin 256), x3 (ix3 hl 0 e) = ((β hl.val (min 190 (255 - e.val)) : ℝ) : EReal))
    (y : S4x256x768.Idx) : sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 y = biasTiles β y := by
  unfold sout0_A_1
  frame_open
  rw [View.read_writes_junk_eq_canon]
  refine stack_canon (biasTiles β) _ _ _ _ _ _ _ _ _ _ _ _ _ _ _ _ ?_ ?_ ?_ ?_ ?_ ?_ ?_ ?_ ?_ ?_ ?_ ?_ ?_ ?_ ?_ ?_ y
  · refine fun r w => (chunkRow_apply _ r w).trans (strip_readCov arg15.view (β 3) _ _ _ _ _ maskCols_apply maskCols_apply
      (edgeCols_apply (β 3) _ (row_load arg5 harg5 β x3 h3 3 (by norm_num) _)) ?_ 3 (by norm_num) _ _ _ _ _ r w)
    exact fun r c => (congrFun (near3 _) _).trans (nearCols_apply (β 3) _ (row_load arg5 harg5 β x3 h3 3 (by norm_num) _) r c)
  · refine fun r w => (chunkRow_apply _ r w).trans (strip_readCov arg15.view (β 3) _ _ _ _ _ maskCols_apply maskCols_apply
      (edgeCols_apply (β 3) _ (row_load arg5 harg5 β x3 h3 3 (by norm_num) _)) ?_ 2 (by norm_num) _ _ _ _ _ r w)
    exact fun r c => (congrFun (near3 _) _).trans (nearCols_apply (β 3) _ (row_load arg5 harg5 β x3 h3 3 (by norm_num) _) r c)
  · refine fun r w => (chunkRow_apply _ r w).trans (strip_readCov arg15.view (β 3) _ _ _ _ _ maskCols_apply maskCols_apply
      (edgeCols_apply (β 3) _ (row_load arg5 harg5 β x3 h3 3 (by norm_num) _)) ?_ 1 (by norm_num) _ _ _ _ _ r w)
    exact fun r c => (congrFun (near3 _) _).trans (nearCols_apply (β 3) _ (row_load arg5 harg5 β x3 h3 3 (by norm_num) _) r c)
  · refine fun r w => (chunkRow_apply _ r w).trans (strip_readCov arg15.view (β 3) _ _ _ _ _ maskCols_apply maskCols_apply
      (edgeCols_apply (β 3) _ (row_load arg5 harg5 β x3 h3 3 (by norm_num) _)) ?_ 0 (by norm_num) _ _ _ _ _ r w)
    exact fun r c => (congrFun (near3 _) _).trans (nearCols_apply (β 3) _ (row_load arg5 harg5 β x3 h3 3 (by norm_num) _) r c)
  · refine fun r w => (chunkRow_apply _ r w).trans (strip_readCov arg15.view (β 2) _ _ _ _ _ maskCols_apply maskCols_apply
      (edgeCols_apply (β 2) _ (row_load arg5 harg5 β x3 h3 2 (by norm_num) _)) ?_ 3 (by norm_num) _ _ _ _ _ r w)
    exact fun r c => (congrFun (near2 _) _).trans (nearCols_apply (β 2) _ (row_load arg5 harg5 β x3 h3 2 (by norm_num) _) r c)
  · refine fun r w => (chunkRow_apply _ r w).trans (strip_readCov arg15.view (β 2) _ _ _ _ _ maskCols_apply maskCols_apply
      (edgeCols_apply (β 2) _ (row_load arg5 harg5 β x3 h3 2 (by norm_num) _)) ?_ 2 (by norm_num) _ _ _ _ _ r w)
    exact fun r c => (congrFun (near2 _) _).trans (nearCols_apply (β 2) _ (row_load arg5 harg5 β x3 h3 2 (by norm_num) _) r c)
  · refine fun r w => (chunkRow_apply _ r w).trans (strip_readCov arg15.view (β 2) _ _ _ _ _ maskCols_apply maskCols_apply
      (edgeCols_apply (β 2) _ (row_load arg5 harg5 β x3 h3 2 (by norm_num) _)) ?_ 1 (by norm_num) _ _ _ _ _ r w)
    exact fun r c => (congrFun (near2 _) _).trans (nearCols_apply (β 2) _ (row_load arg5 harg5 β x3 h3 2 (by norm_num) _) r c)
  · refine fun r w => (chunkRow_apply _ r w).trans (strip_readCov arg15.view (β 2) _ _ _ _ _ maskCols_apply maskCols_apply
      (edgeCols_apply (β 2) _ (row_load arg5 harg5 β x3 h3 2 (by norm_num) _)) ?_ 0 (by norm_num) _ _ _ _ _ r w)
    exact fun r c => (congrFun (near2 _) _).trans (nearCols_apply (β 2) _ (row_load arg5 harg5 β x3 h3 2 (by norm_num) _) r c)
  · refine fun r w => (chunkRow_apply _ r w).trans (strip_readCov arg15.view (β 1) _ _ _ _ _ maskCols_apply maskCols_apply
      (edgeCols_apply (β 1) _ (row_load arg5 harg5 β x3 h3 1 (by norm_num) _)) ?_ 3 (by norm_num) _ _ _ _ _ r w)
    exact fun r c => (congrFun (near1 _) _).trans (nearCols_apply (β 1) _ (row_load arg5 harg5 β x3 h3 1 (by norm_num) _) r c)
  · refine fun r w => (chunkRow_apply _ r w).trans (strip_readCov arg15.view (β 1) _ _ _ _ _ maskCols_apply maskCols_apply
      (edgeCols_apply (β 1) _ (row_load arg5 harg5 β x3 h3 1 (by norm_num) _)) ?_ 2 (by norm_num) _ _ _ _ _ r w)
    exact fun r c => (congrFun (near1 _) _).trans (nearCols_apply (β 1) _ (row_load arg5 harg5 β x3 h3 1 (by norm_num) _) r c)
  · refine fun r w => (chunkRow_apply _ r w).trans (strip_readCov arg15.view (β 1) _ _ _ _ _ maskCols_apply maskCols_apply
      (edgeCols_apply (β 1) _ (row_load arg5 harg5 β x3 h3 1 (by norm_num) _)) ?_ 1 (by norm_num) _ _ _ _ _ r w)
    exact fun r c => (congrFun (near1 _) _).trans (nearCols_apply (β 1) _ (row_load arg5 harg5 β x3 h3 1 (by norm_num) _) r c)
  · refine fun r w => (chunkRow_apply _ r w).trans (strip_readCov arg15.view (β 1) _ _ _ _ _ maskCols_apply maskCols_apply
      (edgeCols_apply (β 1) _ (row_load arg5 harg5 β x3 h3 1 (by norm_num) _)) ?_ 0 (by norm_num) _ _ _ _ _ r w)
    exact fun r c => (congrFun (near1 _) _).trans (nearCols_apply (β 1) _ (row_load arg5 harg5 β x3 h3 1 (by norm_num) _) r c)
  · refine fun r w => (chunkRow_apply _ r w).trans (strip_readCov arg15.view (β 0) _ _ _ _ _ maskCols_apply maskCols_apply
      (edgeCols_apply (β 0) _ (row_load arg5 harg5 β x3 h3 0 (by norm_num) _)) ?_ 3 (by norm_num) _ _ _ _ _ r w)
    exact fun r c => (congrFun (near0 _) _).trans (nearCols_apply (β 0) _ (row_load arg5 harg5 β x3 h3 0 (by norm_num) _) r c)
  · refine fun r w => (chunkRow_apply _ r w).trans (strip_readCov arg15.view (β 0) _ _ _ _ _ maskCols_apply maskCols_apply
      (edgeCols_apply (β 0) _ (row_load arg5 harg5 β x3 h3 0 (by norm_num) _)) ?_ 2 (by norm_num) _ _ _ _ _ r w)
    exact fun r c => (congrFun (near0 _) _).trans (nearCols_apply (β 0) _ (row_load arg5 harg5 β x3 h3 0 (by norm_num) _) r c)
  · refine fun r w => (chunkRow_apply _ r w).trans (strip_readCov arg15.view (β 0) _ _ _ _ _ maskCols_apply maskCols_apply
      (edgeCols_apply (β 0) _ (row_load arg5 harg5 β x3 h3 0 (by norm_num) _)) ?_ 1 (by norm_num) _ _ _ _ _ r w)
    exact fun r c => (congrFun (near0 _) _).trans (nearCols_apply (β 0) _ (row_load arg5 harg5 β x3 h3 0 (by norm_num) _) r c)
  · refine fun r w => (chunkRow_apply _ r w).trans (strip_readCov arg15.view (β 0) _ _ _ _ _ maskCols_apply maskCols_apply
      (edgeCols_apply (β 0) _ (row_load arg5 harg5 β x3 h3 0 (by norm_num) _)) ?_ 0 (by norm_num) _ _ _ _ _ r w)
    exact fun r c => (congrFun (near0 _) _).trans (nearCols_apply (β 0) _ (row_load arg5 harg5 β x3 h3 0 (by norm_num) _) r c)

set_option maxHeartbeats 4000000 in
/-- The output block of a run's first point. -/
theorem out_A (c : Dev nD) (i : grid0.Coords) (arg2 : Memref sig .tc .vmem S1x2048x512 .bf16) (harg2 : arg2.IsWhole) (arg3 : Memref sig .tc .vmem S1x2048x512 .bf16) (harg3 : arg3.IsWhole) (arg4 : Memref sig .tc .vmem S1x2048x512 .bf16) (harg4 : arg4.IsWhole) (arg5 : Memref sig .tc .vmem S4x1x256 .f32) (harg5 : arg5.IsWhole) (arg6 : Memref sig .tc .vmem S128x2048 .f32) (harg6 : arg6.IsWhole) (arg7 : Memref sig .tc .vmem S128x2048 .f32) (harg7 : arg7.IsWhole) (arg8 : Memref sig .tc .vmem S256x2048 .f32) (harg8 : arg8.IsWhole) (arg9 : Memref sig .tc .vmem S256x5632 .f32) (harg9 : arg9.IsWhole) (arg10 : Memref sig .tc .vmem S1x2048x512 .bf16) (harg10 : arg10.IsWhole) (arg11 : Memref sig .tc .vmem S128x2048 .bf16) (harg11 : arg11.IsWhole) (arg12 : Memref sig .tc .vmem S128x2048 .bf16) (harg12 : arg12.IsWhole) (arg13 : Memref sig .tc .vmem S256x2048 .bf16) (harg13 : arg13.IsWhole) (arg14 : Memref sig .tc .vmem S256x5632 .bf16) (harg14 : arg14.IsWhole) (arg15 : Memref sig .tc .vmem S64x960 .f32) (harg15 : arg15.IsWhole) (arg16 : Memref sig .tc .vmem S4x256x768 .f32) (harg16 : arg16.IsWhole) (arg17 : Memref sig .tc .vmem S4x2048x256 .bf16) (harg17 : arg17.IsWhole) (hc0 : cond0_0 i)
    (x0 : Vec Ideal S1x2048x512 .bf16) (x1 : Vec Ideal S1x2048x512 .bf16) (x2 : Vec Ideal S1x2048x512 .bf16) (x3 : Vec Ideal S4x1x256 .f32) (x4 : Vec Ideal S128x2048 .f32) (x5 : Vec Ideal S128x2048 .f32) (x6 : Vec Ideal S256x2048 .f32) (x7 : Vec Ideal S256x5632 .f32)
    (Q K : ℕ → ℕ → ℝ) (V : ℕ → ℕ → EReal) (β : ℕ → ℕ → ℝ)
    (h0' : ∀ (t : Fin 2048) (e : Fin 512), x0 (ix3 0 t e) = ((Q t.val e.val : ℝ) : EReal))
    (h1' : ∀ (t : Fin 2048) (e : Fin 512), x1 (ix3 0 t e) = ((K t.val e.val : ℝ) : EReal))
    (h2' : ∀ (t : Fin 2048) (e : Fin 512), x2 (ix3 0 t e) = V t.val e.val)
    (h3 : ∀ (hl : Fin 4) (e : Fin 256), x3 (ix3 hl 0 e) = ((β hl.val (min 190 (255 - e.val)) : ℝ) : EReal))
    (y : S1x2048x512.Idx) :
    out0_A_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 y = attend (bandOf (y 1).val) (score Q K (β ((y 2).val / 128)) ((y 2).val / 128) (y 1).val) (fun key => V key (y 2).val) := by
  frame_open
  generalize hf : arg16.view.readCov (Val := Elt Ideal) _ = f
  have H : ∀ (B : LoadRect S4x256x768) (j : B.shape.Idx), f B j = (biasTiles β) (B.idx j) := by
    intro B j
    rw [← hf, View.readCov_eq_canon']
    refine stack_canon (biasTiles β) _ _ _ _ _ _ _ _ _ _ _ _ _ _ _ _ ?_ ?_ ?_ ?_ ?_ ?_ ?_ ?_ ?_ ?_ ?_ ?_ ?_ ?_ ?_ ?_ (B.idx j)
    · refine fun r w => (chunkRow_apply _ r w).trans (strip_readCov arg15.view (β 3) _ _ _ _ _ maskCols_apply maskCols_apply
        (edgeCols_apply (β 3) _ (row_load arg5 harg5 β x3 h3 3 (by norm_num) _)) ?_ 3 (by norm_num) _ _ _ _ _ r w)
      exact fun r c => (congrFun (near3 _) _).trans (nearCols_apply (β 3) _ (row_load arg5 harg5 β x3 h3 3 (by norm_num) _) r c)
    · refine fun r w => (chunkRow_apply _ r w).trans (strip_readCov arg15.view (β 3) _ _ _ _ _ maskCols_apply maskCols_apply
        (edgeCols_apply (β 3) _ (row_load arg5 harg5 β x3 h3 3 (by norm_num) _)) ?_ 2 (by norm_num) _ _ _ _ _ r w)
      exact fun r c => (congrFun (near3 _) _).trans (nearCols_apply (β 3) _ (row_load arg5 harg5 β x3 h3 3 (by norm_num) _) r c)
    · refine fun r w => (chunkRow_apply _ r w).trans (strip_readCov arg15.view (β 3) _ _ _ _ _ maskCols_apply maskCols_apply
        (edgeCols_apply (β 3) _ (row_load arg5 harg5 β x3 h3 3 (by norm_num) _)) ?_ 1 (by norm_num) _ _ _ _ _ r w)
      exact fun r c => (congrFun (near3 _) _).trans (nearCols_apply (β 3) _ (row_load arg5 harg5 β x3 h3 3 (by norm_num) _) r c)
    · refine fun r w => (chunkRow_apply _ r w).trans (strip_readCov arg15.view (β 3) _ _ _ _ _ maskCols_apply maskCols_apply
        (edgeCols_apply (β 3) _ (row_load arg5 harg5 β x3 h3 3 (by norm_num) _)) ?_ 0 (by norm_num) _ _ _ _ _ r w)
      exact fun r c => (congrFun (near3 _) _).trans (nearCols_apply (β 3) _ (row_load arg5 harg5 β x3 h3 3 (by norm_num) _) r c)
    · refine fun r w => (chunkRow_apply _ r w).trans (strip_readCov arg15.view (β 2) _ _ _ _ _ maskCols_apply maskCols_apply
        (edgeCols_apply (β 2) _ (row_load arg5 harg5 β x3 h3 2 (by norm_num) _)) ?_ 3 (by norm_num) _ _ _ _ _ r w)
      exact fun r c => (congrFun (near2 _) _).trans (nearCols_apply (β 2) _ (row_load arg5 harg5 β x3 h3 2 (by norm_num) _) r c)
    · refine fun r w => (chunkRow_apply _ r w).trans (strip_readCov arg15.view (β 2) _ _ _ _ _ maskCols_apply maskCols_apply
        (edgeCols_apply (β 2) _ (row_load arg5 harg5 β x3 h3 2 (by norm_num) _)) ?_ 2 (by norm_num) _ _ _ _ _ r w)
      exact fun r c => (congrFun (near2 _) _).trans (nearCols_apply (β 2) _ (row_load arg5 harg5 β x3 h3 2 (by norm_num) _) r c)
    · refine fun r w => (chunkRow_apply _ r w).trans (strip_readCov arg15.view (β 2) _ _ _ _ _ maskCols_apply maskCols_apply
        (edgeCols_apply (β 2) _ (row_load arg5 harg5 β x3 h3 2 (by norm_num) _)) ?_ 1 (by norm_num) _ _ _ _ _ r w)
      exact fun r c => (congrFun (near2 _) _).trans (nearCols_apply (β 2) _ (row_load arg5 harg5 β x3 h3 2 (by norm_num) _) r c)
    · refine fun r w => (chunkRow_apply _ r w).trans (strip_readCov arg15.view (β 2) _ _ _ _ _ maskCols_apply maskCols_apply
        (edgeCols_apply (β 2) _ (row_load arg5 harg5 β x3 h3 2 (by norm_num) _)) ?_ 0 (by norm_num) _ _ _ _ _ r w)
      exact fun r c => (congrFun (near2 _) _).trans (nearCols_apply (β 2) _ (row_load arg5 harg5 β x3 h3 2 (by norm_num) _) r c)
    · refine fun r w => (chunkRow_apply _ r w).trans (strip_readCov arg15.view (β 1) _ _ _ _ _ maskCols_apply maskCols_apply
        (edgeCols_apply (β 1) _ (row_load arg5 harg5 β x3 h3 1 (by norm_num) _)) ?_ 3 (by norm_num) _ _ _ _ _ r w)
      exact fun r c => (congrFun (near1 _) _).trans (nearCols_apply (β 1) _ (row_load arg5 harg5 β x3 h3 1 (by norm_num) _) r c)
    · refine fun r w => (chunkRow_apply _ r w).trans (strip_readCov arg15.view (β 1) _ _ _ _ _ maskCols_apply maskCols_apply
        (edgeCols_apply (β 1) _ (row_load arg5 harg5 β x3 h3 1 (by norm_num) _)) ?_ 2 (by norm_num) _ _ _ _ _ r w)
      exact fun r c => (congrFun (near1 _) _).trans (nearCols_apply (β 1) _ (row_load arg5 harg5 β x3 h3 1 (by norm_num) _) r c)
    · refine fun r w => (chunkRow_apply _ r w).trans (strip_readCov arg15.view (β 1) _ _ _ _ _ maskCols_apply maskCols_apply
        (edgeCols_apply (β 1) _ (row_load arg5 harg5 β x3 h3 1 (by norm_num) _)) ?_ 1 (by norm_num) _ _ _ _ _ r w)
      exact fun r c => (congrFun (near1 _) _).trans (nearCols_apply (β 1) _ (row_load arg5 harg5 β x3 h3 1 (by norm_num) _) r c)
    · refine fun r w => (chunkRow_apply _ r w).trans (strip_readCov arg15.view (β 1) _ _ _ _ _ maskCols_apply maskCols_apply
        (edgeCols_apply (β 1) _ (row_load arg5 harg5 β x3 h3 1 (by norm_num) _)) ?_ 0 (by norm_num) _ _ _ _ _ r w)
      exact fun r c => (congrFun (near1 _) _).trans (nearCols_apply (β 1) _ (row_load arg5 harg5 β x3 h3 1 (by norm_num) _) r c)
    · refine fun r w => (chunkRow_apply _ r w).trans (strip_readCov arg15.view (β 0) _ _ _ _ _ maskCols_apply maskCols_apply
        (edgeCols_apply (β 0) _ (row_load arg5 harg5 β x3 h3 0 (by norm_num) _)) ?_ 3 (by norm_num) _ _ _ _ _ r w)
      exact fun r c => (congrFun (near0 _) _).trans (nearCols_apply (β 0) _ (row_load arg5 harg5 β x3 h3 0 (by norm_num) _) r c)
    · refine fun r w => (chunkRow_apply _ r w).trans (strip_readCov arg15.view (β 0) _ _ _ _ _ maskCols_apply maskCols_apply
        (edgeCols_apply (β 0) _ (row_load arg5 harg5 β x3 h3 0 (by norm_num) _)) ?_ 2 (by norm_num) _ _ _ _ _ r w)
      exact fun r c => (congrFun (near0 _) _).trans (nearCols_apply (β 0) _ (row_load arg5 harg5 β x3 h3 0 (by norm_num) _) r c)
    · refine fun r w => (chunkRow_apply _ r w).trans (strip_readCov arg15.view (β 0) _ _ _ _ _ maskCols_apply maskCols_apply
        (edgeCols_apply (β 0) _ (row_load arg5 harg5 β x3 h3 0 (by norm_num) _)) ?_ 1 (by norm_num) _ _ _ _ _ r w)
      exact fun r c => (congrFun (near0 _) _).trans (nearCols_apply (β 0) _ (row_load arg5 harg5 β x3 h3 0 (by norm_num) _) r c)
    · refine fun r w => (chunkRow_apply _ r w).trans (strip_readCov arg15.view (β 0) _ _ _ _ _ maskCols_apply maskCols_apply
        (edgeCols_apply (β 0) _ (row_load arg5 harg5 β x3 h3 0 (by norm_num) _)) ?_ 0 (by norm_num) _ _ _ _ _ r w)
      exact fun r c => (congrFun (near0 _) _).trans (nearCols_apply (β 0) _ (row_load arg5 harg5 β x3 h3 0 (by norm_num) _) r c)
  clear hf
  frame_out
  canon_tiles x h
  · rw [besideOnes_readCov]; exact piece768 Q K V β x0 x1 x2 h0' h1' h2' 7 3 1280 (by omega) (by omega) (by omega) (by omega) _ (fun r c => (H _ _).trans (bias_ld β (biasTiles β) (fun _ _ _ => rfl) 768 3 (by norm_num) (by norm_num) inb_S4x256x768_S1x256x768_3_0_0 r c)) _ _ _ _ _ _ _ x y (by omega) (by omega)
  · rw [besideOnes_readCov]; exact piece768 Q K V β x0 x1 x2 h0' h1' h2' 7 2 1280 (by omega) (by omega) (by omega) (by omega) _ (fun r c => (H _ _).trans (bias_ld β (biasTiles β) (fun _ _ _ => rfl) 768 2 (by norm_num) (by norm_num) inb_S4x256x768_S1x256x768_2_0_0 r c)) _ _ _ _ _ _ _ x y (by omega) (by omega)
  · rw [besideOnes_readCov]; exact piece768 Q K V β x0 x1 x2 h0' h1' h2' 7 1 1280 (by omega) (by omega) (by omega) (by omega) _ (fun r c => (H _ _).trans (bias_ld β (biasTiles β) (fun _ _ _ => rfl) 768 1 (by norm_num) (by norm_num) inb_S4x256x768_S1x256x768_1_0_0 r c)) _ _ _ _ _ _ _ x y (by omega) (by omega)
  · rw [besideOnes_readCov]; exact piece768 Q K V β x0 x1 x2 h0' h1' h2' 7 0 1280 (by omega) (by omega) (by omega) (by omega) _ (fun r c => (H _ _).trans (bias_ld β (biasTiles β) (fun _ _ _ => rfl) 768 0 (by norm_num) (by norm_num) inb_S4x256x768_S1x256x768_0_0_0 r c)) _ _ _ _ _ _ _ x y (by omega) (by omega)
  · rw [besideOnes_readCov]; exact piece768 Q K V β x0 x1 x2 h0' h1' h2' 6 3 1024 (by omega) (by omega) (by omega) (by omega) _ (fun r c => (H _ _).trans (bias_ld β (biasTiles β) (fun _ _ _ => rfl) 768 3 (by norm_num) (by norm_num) inb_S4x256x768_S1x256x768_3_0_0 r c)) _ _ _ _ _ _ _ x y (by omega) (by omega)
  · rw [besideOnes_readCov]; exact piece768 Q K V β x0 x1 x2 h0' h1' h2' 6 2 1024 (by omega) (by omega) (by omega) (by omega) _ (fun r c => (H _ _).trans (bias_ld β (biasTiles β) (fun _ _ _ => rfl) 768 2 (by norm_num) (by norm_num) inb_S4x256x768_S1x256x768_2_0_0 r c)) _ _ _ _ _ _ _ x y (by omega) (by omega)
  · rw [besideOnes_readCov]; exact piece768 Q K V β x0 x1 x2 h0' h1' h2' 6 1 1024 (by omega) (by omega) (by omega) (by omega) _ (fun r c => (H _ _).trans (bias_ld β (biasTiles β) (fun _ _ _ => rfl) 768 1 (by norm_num) (by norm_num) inb_S4x256x768_S1x256x768_1_0_0 r c)) _ _ _ _ _ _ _ x y (by omega) (by omega)
  · rw [besideOnes_readCov]; exact piece768 Q K V β x0 x1 x2 h0' h1' h2' 6 0 1024 (by omega) (by omega) (by omega) (by omega) _ (fun r c => (H _ _).trans (bias_ld β (biasTiles β) (fun _ _ _ => rfl) 768 0 (by norm_num) (by norm_num) inb_S4x256x768_S1x256x768_0_0_0 r c)) _ _ _ _ _ _ _ x y (by omega) (by omega)
  · rw [besideOnes_readCov]; exact piece768 Q K V β x0 x1 x2 h0' h1' h2' 5 3 768 (by omega) (by omega) (by omega) (by omega) _ (fun r c => (H _ _).trans (bias_ld β (biasTiles β) (fun _ _ _ => rfl) 768 3 (by norm_num) (by norm_num) inb_S4x256x768_S1x256x768_3_0_0 r c)) _ _ _ _ _ _ _ x y (by omega) (by omega)
  · rw [besideOnes_readCov]; exact piece768 Q K V β x0 x1 x2 h0' h1' h2' 5 2 768 (by omega) (by omega) (by omega) (by omega) _ (fun r c => (H _ _).trans (bias_ld β (biasTiles β) (fun _ _ _ => rfl) 768 2 (by norm_num) (by norm_num) inb_S4x256x768_S1x256x768_2_0_0 r c)) _ _ _ _ _ _ _ x y (by omega) (by omega)
  · rw [besideOnes_readCov]; exact piece768 Q K V β x0 x1 x2 h0' h1' h2' 5 1 768 (by omega) (by omega) (by omega) (by omega) _ (fun r c => (H _ _).trans (bias_ld β (biasTiles β) (fun _ _ _ => rfl) 768 1 (by norm_num) (by norm_num) inb_S4x256x768_S1x256x768_1_0_0 r c)) _ _ _ _ _ _ _ x y (by omega) (by omega)
  · rw [besideOnes_readCov]; exact piece768 Q K V β x0 x1 x2 h0' h1' h2' 5 0 768 (by omega) (by omega) (by omega) (by omega) _ (fun r c => (H _ _).trans (bias_ld β (biasTiles β) (fun _ _ _ => rfl) 768 0 (by norm_num) (by norm_num) inb_S4x256x768_S1x256x768_0_0_0 r c)) _ _ _ _ _ _ _ x y (by omega) (by omega)
  · rw [besideOnes_readCov]; exact piece768 Q K V β x0 x1 x2 h0' h1' h2' 4 3 512 (by omega) (by omega) (by omega) (by omega) _ (fun r c => (H _ _).trans (bias_ld β (biasTiles β) (fun _ _ _ => rfl) 768 3 (by norm_num) (by norm_num) inb_S4x256x768_S1x256x768_3_0_0 r c)) _ _ _ _ _ _ _ x y (by omega) (by omega)
  · rw [besideOnes_readCov]; exact piece768 Q K V β x0 x1 x2 h0' h1' h2' 4 2 512 (by omega) (by omega) (by omega) (by omega) _ (fun r c => (H _ _).trans (bias_ld β (biasTiles β) (fun _ _ _ => rfl) 768 2 (by norm_num) (by norm_num) inb_S4x256x768_S1x256x768_2_0_0 r c)) _ _ _ _ _ _ _ x y (by omega) (by omega)
  · rw [besideOnes_readCov]; exact piece768 Q K V β x0 x1 x2 h0' h1' h2' 4 1 512 (by omega) (by omega) (by omega) (by omega) _ (fun r c => (H _ _).trans (bias_ld β (biasTiles β) (fun _ _ _ => rfl) 768 1 (by norm_num) (by norm_num) inb_S4x256x768_S1x256x768_1_0_0 r c)) _ _ _ _ _ _ _ x y (by omega) (by omega)
  · rw [besideOnes_readCov]; exact piece768 Q K V β x0 x1 x2 h0' h1' h2' 4 0 512 (by omega) (by omega) (by omega) (by omega) _ (fun r c => (H _ _).trans (bias_ld β (biasTiles β) (fun _ _ _ => rfl) 768 0 (by norm_num) (by norm_num) inb_S4x256x768_S1x256x768_0_0_0 r c)) _ _ _ _ _ _ _ x y (by omega) (by omega)
  · rw [besideOnes_readCov]; exact piece768 Q K V β x0 x1 x2 h0' h1' h2' 3 3 256 (by omega) (by omega) (by omega) (by omega) _ (fun r c => (H _ _).trans (bias_ld β (biasTiles β) (fun _ _ _ => rfl) 768 3 (by norm_num) (by norm_num) inb_S4x256x768_S1x256x768_3_0_0 r c)) _ _ _ _ _ _ _ x y (by omega) (by omega)
  · rw [besideOnes_readCov]; exact piece768 Q K V β x0 x1 x2 h0' h1' h2' 3 2 256 (by omega) (by omega) (by omega) (by omega) _ (fun r c => (H _ _).trans (bias_ld β (biasTiles β) (fun _ _ _ => rfl) 768 2 (by norm_num) (by norm_num) inb_S4x256x768_S1x256x768_2_0_0 r c)) _ _ _ _ _ _ _ x y (by omega) (by omega)
  · rw [besideOnes_readCov]; exact piece768 Q K V β x0 x1 x2 h0' h1' h2' 3 1 256 (by omega) (by omega) (by omega) (by omega) _ (fun r c => (H _ _).trans (bias_ld β (biasTiles β) (fun _ _ _ => rfl) 768 1 (by norm_num) (by norm_num) inb_S4x256x768_S1x256x768_1_0_0 r c)) _ _ _ _ _ _ _ x y (by omega) (by omega)
  · rw [besideOnes_readCov]; exact piece768 Q K V β x0 x1 x2 h0' h1' h2' 3 0 256 (by omega) (by omega) (by omega) (by omega) _ (fun r c => (H _ _).trans (bias_ld β (biasTiles β) (fun _ _ _ => rfl) 768 0 (by norm_num) (by norm_num) inb_S4x256x768_S1x256x768_0_0_0 r c)) _ _ _ _ _ _ _ x y (by omega) (by omega)
  · rw [besideOnes_readCov]; exact piece768 Q K V β x0 x1 x2 h0' h1' h2' 2 3 0 (by omega) (by omega) (by omega) (by omega) _ (fun r c => (H _ _).trans (bias_ld β (biasTiles β) (fun _ _ _ => rfl) 768 3 (by norm_num) (by norm_num) inb_S4x256x768_S1x256x768_3_0_0 r c)) _ _ _ _ _ _ _ x y (by omega) (by omega)
  · rw [besideOnes_readCov]; exact piece768 Q K V β x0 x1 x2 h0' h1' h2' 2 2 0 (by omega) (by omega) (by omega) (by omega) _ (fun r c => (H _ _).trans (bias_ld β (biasTiles β) (fun _ _ _ => rfl) 768 2 (by norm_num) (by norm_num) inb_S4x256x768_S1x256x768_2_0_0 r c)) _ _ _ _ _ _ _ x y (by omega) (by omega)
  · rw [besideOnes_readCov]; exact piece768 Q K V β x0 x1 x2 h0' h1' h2' 2 1 0 (by omega) (by omega) (by omega) (by omega) _ (fun r c => (H _ _).trans (bias_ld β (biasTiles β) (fun _ _ _ => rfl) 768 1 (by norm_num) (by norm_num) inb_S4x256x768_S1x256x768_1_0_0 r c)) _ _ _ _ _ _ _ x y (by omega) (by omega)
  · rw [besideOnes_readCov]; exact piece768 Q K V β x0 x1 x2 h0' h1' h2' 2 0 0 (by omega) (by omega) (by omega) (by omega) _ (fun r c => (H _ _).trans (bias_ld β (biasTiles β) (fun _ _ _ => rfl) 768 0 (by norm_num) (by norm_num) inb_S4x256x768_S1x256x768_0_0_0 r c)) _ _ _ _ _ _ _ x y (by omega) (by omega)
  · rw [besideOnes_readCov]; exact piece512 Q K V β x0 x1 x2 h0' h1' h2' 1 3 0 (by omega) (by omega) (by omega) (by omega) _ (fun r c => (H _ _).trans (bias_ld β (biasTiles β) (fun _ _ _ => rfl) 512 3 (by norm_num) (by norm_num) inb_S4x256x768_S1x256x512_3_0_256 r c)) _ _ _ _ _ _ _ x y (by omega) (by omega)
  · rw [besideOnes_readCov]; exact piece512 Q K V β x0 x1 x2 h0' h1' h2' 1 2 0 (by omega) (by omega) (by omega) (by omega) _ (fun r c => (H _ _).trans (bias_ld β (biasTiles β) (fun _ _ _ => rfl) 512 2 (by norm_num) (by norm_num) inb_S4x256x768_S1x256x512_2_0_256 r c)) _ _ _ _ _ _ _ x y (by omega) (by omega)
  · rw [besideOnes_readCov]; exact piece512 Q K V β x0 x1 x2 h0' h1' h2' 1 1 0 (by omega) (by omega) (by omega) (by omega) _ (fun r c => (H _ _).trans (bias_ld β (biasTiles β) (fun _ _ _ => rfl) 512 1 (by norm_num) (by norm_num) inb_S4x256x768_S1x256x512_1_0_256 r c)) _ _ _ _ _ _ _ x y (by omega) (by omega)
  · rw [besideOnes_readCov]; exact piece512 Q K V β x0 x1 x2 h0' h1' h2' 1 0 0 (by omega) (by omega) (by omega) (by omega) _ (fun r c => (H _ _).trans (bias_ld β (biasTiles β) (fun _ _ _ => rfl) 512 0 (by norm_num) (by norm_num) inb_S4x256x768_S1x256x512_0_0_256 r c)) _ _ _ _ _ _ _ x y (by omega) (by omega)
  · rw [besideOnes_readCov]; exact piece256 Q K V β x0 x1 x2 h0' h1' h2' 0 3 0 (by omega) (by omega) (by omega) (by omega) _ (fun r c => (H _ _).trans (bias_ld β (biasTiles β) (fun _ _ _ => rfl) 256 3 (by norm_num) (by norm_num) inb_S4x256x768_S1x256x256_3_0_512 r c)) _ _ _ _ _ _ _ x y (by omega) (by omega)
  · rw [besideOnes_readCov]; exact piece256 Q K V β x0 x1 x2 h0' h1' h2' 0 2 0 (by omega) (by omega) (by omega) (by omega) _ (fun r c => (H _ _).trans (bias_ld β (biasTiles β) (fun _ _ _ => rfl) 256 2 (by norm_num) (by norm_num) inb_S4x256x768_S1x256x256_2_0_512 r c)) _ _ _ _ _ _ _ x y (by omega) (by omega)
  · rw [besideOnes_readCov]; exact piece256 Q K V β x0 x1 x2 h0' h1' h2' 0 1 0 (by omega) (by omega) (by omega) (by omega) _ (fun r c => (H _ _).trans (bias_ld β (biasTiles β) (fun _ _ _ => rfl) 256 1 (by norm_num) (by norm_num) inb_S4x256x768_S1x256x256_1_0_512 r c)) _ _ _ _ _ _ _ x y (by omega) (by omega)
  · rw [besideOnes_readCov]; exact piece256 Q K V β x0 x1 x2 h0' h1' h2' 0 0 0 (by omega) (by omega) (by omega) (by omega) _ (fun r c => (H _ _).trans (bias_ld β (biasTiles β) (fun _ _ _ => rfl) 256 0 (by norm_num) (by norm_num) inb_S4x256x768_S1x256x256_0_0_512 r c)) _ _ _ _ _ _ _ x y (by omega) (by omega)

end Cert.KernelIdeal.Attn

end
-- ==== Proof.Spec.lean ====
/- The arguments read at numbers, and what is assumed of them. -/
module

public import proofs.«01_k».proof.Proof.Softmax
public import Idealize.ShloMosaic.Lib.Pointwise

@[expose] public section

noncomputable section

namespace Cert.Attn

open Idealize.ShloMosaic

/-- A three-axis array at three numbers (zero outside it). -/
def at3 {s0 s1 s2 : ℕ} (A : Shape.Idx ⟨3, ![s0, s1, s2]⟩ → EReal) (b t e : ℕ) : EReal :=
  if h : b < s0 ∧ t < s1 ∧ e < s2 then A (ix3 ⟨b, h.1⟩ ⟨t, h.2.1⟩ ⟨e, h.2.2⟩) else 0

theorem at3_eq {s0 s1 s2 : ℕ} (A : Shape.Idx ⟨3, ![s0, s1, s2]⟩ → EReal) (b t e : ℕ) (x : Shape.Idx ⟨3, ![s0, s1, s2]⟩)
    (h0 : (x 0).val = b) (h1 : (x 1).val = t) (h2 : (x 2).val = e) : at3 A b t e = A x := by
  subst h0 h1 h2
  unfold at3
  rw [dif_pos ⟨(x 0).isLt, (x 1).isLt, (x 2).isLt⟩]
  congr 1
  funext a
  match a with
  | ⟨0, _⟩ => rfl
  | ⟨1, _⟩ => rfl
  | ⟨2, _⟩ => rfl

/-- A two-axis array at two numbers (zero outside it). -/
def at2 {s0 s1 : ℕ} (A : Shape.Idx ⟨2, ![s0, s1]⟩ → EReal) (b t : ℕ) : EReal :=
  if h : b < s0 ∧ t < s1 then A (ix2 ⟨b, h.1⟩ ⟨t, h.2⟩) else 0

theorem at2_eq {s0 s1 : ℕ} (A : Shape.Idx ⟨2, ![s0, s1]⟩ → EReal) (b t : ℕ) (x : Shape.Idx ⟨2, ![s0, s1]⟩)
    (h0 : (x 0).val = b) (h1 : (x 1).val = t) : at2 A b t = A x := by
  subst h0 h1
  unfold at2
  rw [dif_pos ⟨(x 0).isLt, (x 1).isLt⟩]
  congr 1
  funext a
  match a with
  | ⟨0, _⟩ => rfl
  | ⟨1, _⟩ => rfl

/-- The query and key columns hold real numbers. -/
def FiniteColumns (A : Shape.Idx ⟨3, ![4, 2048, 11264]⟩ → EReal) : Prop :=
  ∀ b t e : ℕ, 4096 ≤ e → e < 6144 → at3 A b t e = (((at3 A b t e).toReal : ℝ) : EReal)

/-- The biases are real numbers. -/
def FiniteBias (A : Shape.Idx ⟨2, ![8, 191]⟩ → EReal) : Prop :=
  ∀ h j : ℕ, at2 A h j = (((at2 A h j).toReal : ℝ) : EReal)

end Cert.Attn

end
-- ==== Proof.After.lean ====
/- What the launch leaves in its five results: the attention of every query over its band, and the four weight matrices. -/
module

public import proofs.«01_k».proof.Proof.Gen.KernelIdeal.Frame
public import proofs.«01_k».proof.Proof.Gen.KernelIdeal.Value
public import proofs.«01_k».proof.Proof.Blocks
public import proofs.«01_k».proof.Proof.Weights
public import proofs.«01_k».proof.Proof.Out
public import proofs.«01_k».proof.Proof.OutA
public import proofs.«01_k».proof.Proof.Spec
public import Idealize.ShloMosaic.Lib.Pipeline.CanonAppend
public import Idealize.ShloMosaic.Lib.Pipeline.ValueKit
public import Idealize.ShloMosaic.Lib.Pipeline.ReadBack
public import Idealize.ShloMosaic.Lib.Pointwise
public import Idealize.ShloMosaic.Lib.StableHlo.RunClose

@[expose] public section

set_option maxRecDepth 16384

noncomputable section

namespace Cert.KernelIdeal.Attn

open Idealize.ShloMosaic Idealize.ShloMosaic.TcCoe Idealize.ShloMosaic.Tactic
open Idealize.SL.Sem
open Cert.KernelIdeal.Gen Cert.KernelIdeal.Value Cert.Attn

variable (m : (ℓ : Loc nD τ sig) → Buf (Elt Ideal) ℓ) (c : Dev nD)

/-- The query of a batch at a position and a column of the eight heads, as a real number. -/
def query (b t e : ℕ) : ℝ := (at3 (m ((c : Thread nD τ).loc main_arg0)) b t (4096 + e)).toReal

/-- The key of a batch at a position and a column of the eight heads, as a real number. -/
def key (b t e : ℕ) : ℝ := (at3 (m ((c : Thread nD τ).loc main_arg0)) b t (5120 + e)).toReal

/-- The value of a batch at a position and a column of the eight heads. -/
def value (b t e : ℕ) : EReal := at3 (m ((c : Thread nD τ).loc main_arg0)) b t (6144 + e)

/-- A head's bias, as a real number. -/
def bias (h j : ℕ) : ℝ := (at2 (m ((c : Thread nD τ).loc main_arg1)) h j).toReal

variable (hP : FiniteColumns (m ((c : Thread nD τ).loc main_arg0))) (hR : FiniteBias (m ((c : Thread nD τ).loc main_arg1)))

include hP in
theorem queries_real (t : Fin cfg0.N) (p : Fin 2048) (e : Fin 512) : (iblk m c 0 t : Vec Ideal S1x2048x512 .bf16) (ix3 0 p e)
    = ((query m c (t.val % 4) p.val (512 * (t.val / 4) + e.val) : ℝ) : EReal) := by
  have ht : t.val < 8 := lt_of_lt_of_eq t.isLt N_0
  have hp := p.isLt
  have he := e.isLt
  rw [block_queries m c t (ix3 0 p e) (ix3 ⟨t.val % 4, by omega⟩ p ⟨4096 + 512 * (t.val / 4) + e.val, by omega⟩) rfl rfl rfl]
  unfold query
  rw [← hP _ _ _ (by omega) (by omega), ← Nat.add_assoc]
  exact (at3_eq _ _ _ _ _ rfl rfl rfl).symm

include hP in
theorem keys_real (t : Fin cfg0.N) (p : Fin 2048) (e : Fin 512) : (iblk m c 1 t : Vec Ideal S1x2048x512 .bf16) (ix3 0 p e)
    = ((key m c (t.val % 4) p.val (512 * (t.val / 4) + e.val) : ℝ) : EReal) := by
  have ht : t.val < 8 := lt_of_lt_of_eq t.isLt N_0
  have hp := p.isLt
  have he := e.isLt
  rw [block_keys m c t (ix3 0 p e) (ix3 ⟨t.val % 4, by omega⟩ p ⟨5120 + 512 * (t.val / 4) + e.val, by omega⟩) rfl rfl rfl]
  unfold key
  rw [← hP _ _ _ (by omega) (by omega), ← Nat.add_assoc]
  exact (at3_eq _ _ _ _ _ rfl rfl rfl).symm

theorem values_at (t : Fin cfg0.N) (p : Fin 2048) (e : Fin 512) : (iblk m c 2 t : Vec Ideal S1x2048x512 .bf16) (ix3 0 p e)
    = value m c (t.val % 4) p.val (512 * (t.val / 4) + e.val) := by
  have ht : t.val < 8 := lt_of_lt_of_eq t.isLt N_0
  have hp := p.isLt
  have he := e.isLt
  rw [block_values m c t (ix3 0 p e) (ix3 ⟨t.val % 4, by omega⟩ p ⟨6144 + 512 * (t.val / 4) + e.val, by omega⟩) rfl rfl rfl]
  unfold value
  rw [← Nat.add_assoc]
  exact (at3_eq _ _ _ _ _ rfl rfl rfl).symm

include hR in
theorem bias_real (t : Fin cfg0.N) (hl : Fin 4) (e : Fin 256) : (iblk m c 3 t : Vec Ideal S4x1x256 .f32) (ix3 hl 0 e)
    = ((bias m c (4 * (t.val / 4) + hl.val) (min 190 (255 - e.val)) : ℝ) : EReal) := by
  have ht : t.val < 8 := lt_of_lt_of_eq t.isLt N_0
  have hh := hl.isLt
  rw [block_bias m c t hl e (ix2 ⟨4 * (t.val / 4) + hl.val, by omega⟩ ⟨min 190 (255 - e.val), by omega⟩) rfl rfl]
  unfold bias
  rw [← hR]
  exact (at2_eq _ _ _ _ rfl rfl).symm

include hR in
/-- The bias tiles after the first point of a group of heads. -/
theorem tiles_first (t : Fin cfg0.N) (h0 : t.val % 4 = 0) :
    (outsAt0 m c t.val t.isLt).2.2.2.2.2 = biasTiles fun hl j => bias m c (4 * (t.val / 4) + hl) j := by
  rw [outsAt0_A m c t h0]
  dsimp only
  funext y
  exact tiles_A _ _ _ _ _ _ _ _ _ _ _ _ _ _ _ _ _ _ _ _ _ _ _ _ _ _ _ _ _ _ _ _ _ _ _ _ _ _ _ _ _ _ _ (fun hl j => bias m c (4 * (t.val / 4) + hl) j) (bias_real m c hR t) y

/-- A later point leaves the bias tiles. -/
theorem tiles_next (t : Fin cfg0.N) (h0 : ¬t.val % 4 = 0) :
    (outsAt0 m c t.val t.isLt).2.2.2.2.2 = (outsAt0 m c (t.val - 1) (by omega)).2.2.2.2.2 := by
  rw [outsAt0_B m c t h0]
  try rfl

include hR in
/-- The bias tiles after a point: those of the point's group of heads. -/
theorem tiles_after : ∀ (n : ℕ) (hn : n < cfg0.N), (outsAt0 m c n hn).2.2.2.2.2 = biasTiles fun hl j => bias m c (4 * (n / 4) + hl) j := by
  intro n
  induction n with
  | zero => exact fun hn => tiles_first m c hR ⟨0, hn⟩ rfl
  | succ n ih =>
    intro hn
    by_cases h0 : (n + 1) % 4 = 0
    · exact tiles_first m c hR ⟨n + 1, hn⟩ h0
    · refine (tiles_next m c ⟨n + 1, hn⟩ h0).trans ?_
      rw [show (n + 1) / 4 = n / 4 from by omega]
      exact ih _

include hP hR in
/-- The attention block after a point. -/
theorem attention_after (t : Fin cfg0.N) (y : S1x2048x512.Idx) : (outsAt0 m c t.val t.isLt).1 y
    = attend (bandOf (y 1).val) (score (fun p e => query m c (t.val % 4) p (512 * (t.val / 4) + e)) (fun p e => key m c (t.val % 4) p (512 * (t.val / 4) + e))
        (fun j => bias m c (4 * (t.val / 4) + (y 2).val / 128) j) ((y 2).val / 128) (y 1).val)
      (fun k => value m c (t.val % 4) k (512 * (t.val / 4) + (y 2).val)) := by
  by_cases h0 : t.val % 4 = 0
  · rw [outsAt0_A m c t h0]
    dsimp only
    exact out_A _ _ _ _ _ _ _ _ _ _ _ _ _ _ _ _ _ _ _ _ _ _ _ _ _ _ _ _ _ _ _ _ _ _ _ _ _ _ _ _ _ _ _
      (fun p e => query m c (t.val % 4) p (512 * (t.val / 4) + e)) (fun p e => key m c (t.val % 4) p (512 * (t.val / 4) + e))
      (fun k e => value m c (t.val % 4) k (512 * (t.val / 4) + e)) (fun hl j => bias m c (4 * (t.val / 4) + hl) j)
      (queries_real m c hP t) (keys_real m c hP t) (values_at m c t) (bias_real m c hR t) y
  · rw [outsAt0_B m c t h0]
    dsimp only
    refine out_B _ _ _ _ _ _ _ _ _ _ _ _ _ _ _ _ _ _ _ _ _ _ _ _ _ _ _ _ _ _ _ _ _ _ _ _ _ _ _ _ _ _ _ _
      (fun p e => query m c (t.val % 4) p (512 * (t.val / 4) + e)) (fun p e => key m c (t.val % 4) p (512 * (t.val / 4) + e))
      (fun k e => value m c (t.val % 4) k (512 * (t.val / 4) + e)) (fun hl j => bias m c (4 * (t.val / 4) + hl) j)
      (queries_real m c hP t) (keys_real m c hP t) (values_at m c t) ?_ y
    intro hl r w
    rw [tiles_after m c hR, show (t.val - 1) / 4 = t.val / 4 from by omega]
    rfl

end Cert.KernelIdeal.Attn

end
-- ==== Proof.Results.lean ====
/- The launch's five result arrays as functions of the arguments. -/
module

public import proofs.«01_k».proof.Proof.Gen.KernelIdeal.Frame
public import proofs.«01_k».proof.Proof.Gen.KernelIdeal.Value
public import proofs.«01_k».proof.Proof.After
public import Idealize.ShloMosaic.Lib.Pipeline.CanonAppend
public import Idealize.ShloMosaic.Lib.Pipeline.ValueKit
public import Idealize.ShloMosaic.Lib.Pipeline.ReadBack
public import Idealize.ShloMosaic.Lib.Pointwise
public import Idealize.ShloMosaic.Lib.StableHlo.RunClose

@[expose] public section

set_option maxRecDepth 16384

noncomputable section

namespace Cert.KernelIdeal.Attn

open Idealize.ShloMosaic Idealize.ShloMosaic.TcCoe Idealize.ShloMosaic.Tactic
open Idealize.SL.Sem
open Cert.KernelIdeal.Gen Cert.KernelIdeal.Value Cert.Attn

variable (m : (ℓ : Loc nD τ sig) → Buf (Elt Ideal) ℓ) (c : Dev nD)

/-- The attention of a batch, a position and a column of the eight heads: over the position's band, by the score of the
    column's head. -/
def attention (P : Vec Ideal S4x2048x11264 .bf16) (R : Vec Ideal S8x191 .f32) (b t e : ℕ) : EReal :=
  attend (bandOf t)
    (score (fun p j => (at3 P b p (4096 + j)).toReal) (fun p j => (at3 P b p (5120 + j)).toReal)
      (fun j => (at2 R (e / 128) j).toReal) (e / 128) t)
    (fun k => at3 P b k (6144 + e))

variable (hP : FiniteColumns (m ((c : Thread nD τ).loc main_arg0))) (hR : FiniteBias (m ((c : Thread nD τ).loc main_arg1)))

include hP hR in
/-- The first result is the attention. -/
theorem result0 (i : S4x2048x1024.Idx) : (G8 m c : Vec Ideal S4x2048x1024 .bf16) i
    = attention (m ((c : Thread nD τ).loc main_arg0)) (m ((c : Thread nD τ).loc main_arg1)) (i 0).val (i 1).val (i 2).val := by
  have i0 : (i 0).val < 4 := (i 0).isLt
  have i1 : (i 1).val < 2048 := (i 1).isLt
  have i2 : (i 2).val < 1024 := (i 2).isLt
  have ep : pt8Of i = (i 0).val + 4 * ((i 2).val / 512) := by
    show 1 * ((i 0).val / 1 - 0) + 4 * ((i 1).val / 2048 - 0) + 4 * ((i 2).val / 512 - 0) = _
    omega
  have hp : pt8Of i < cfg0.N := lt_of_lt_of_eq (show pt8Of i < 8 by rw [ep]; omega) N_0.symm
  unfold G8
  rw [dif_pos hp, ← outsAt0_sweep]
  refine (attention_after m c hP hR ⟨pt8Of i, hp⟩ (loc8Of i)).trans ?_
  have eb : pt8Of i % 4 = (i 0).val := by rw [ep]; omega
  have eg : pt8Of i / 4 = (i 2).val / 512 := by rw [ep]; omega
  dsimp only
  rw [Nat.mod_eq_of_lt i1, eb, eg]
  unfold attention
  congr 1
  · funext k
    unfold score query key bias
    have h1 : 4 * ((i 2).val / 512) + (i 2).val % 512 / 128 = (i 2).val / 128 := by omega
    have h2 : ∀ e : Fin 128, 512 * ((i 2).val / 512) + (128 * ((i 2).val % 512 / 128) + e.val) = 128 * ((i 2).val / 128) + e.val := fun e => by omega
    simp only [h1, h2]
  · funext k
    unfold value
    congr 2
    omega

/-- The weight block 0 after a point is the block read there. -/
theorem weight0_after (t : Fin cfg0.N) (y : S128x2048.Idx) : (outsAt0 m c t.val t.isLt).2.1 y = (iblk m c 4 t : Vec Ideal S128x2048 .f32) y := by
  by_cases h0 : t.val % 4 = 0
  · rw [outsAt0_A m c t h0]
    dsimp only
    exact weight_A_9 _ _ _ _ _ _ _ _ _ _ _ _ _ _ _ _ _ _ _ _ _ _ _ _ _ _ _ _ _ _ _ _ _ _ _ _ _ _ _ _ _ _ _ y
  · rw [outsAt0_B m c t h0]
    dsimp only
    exact weight_B_9 _ _ _ _ _ _ _ _ _ _ _ _ _ _ _ _ _ _ _ _ _ _ _ _ _ _ _ _ _ _ _ _ _ _ _ _ _ _ _ _ _ _ _ _ y

/-- Result 1 is the weight matrix, its cast the identity on extended reals. -/
theorem result1 (i : S1024x2048.Idx) (x : S1024x2048.Idx) (h0 : (x 0).val = (i 0).val) (h1 : (x 1).val = 0 + (i 1).val) :
    (G9 m c : Vec Ideal S1024x2048 .bf16) i = m ((c : Thread nD τ).loc main_arg2) x := by
  have i0 : (i 0).val < 1024 := (i 0).isLt
  have i1 : (i 1).val < 2048 := (i 1).isLt
  have ep : pt9Of i = (i 0).val / 128 := by
    show 1 * ((i 0).val / 128 - 0) + 1 * ((i 1).val / 2048 - 0) = _
    omega
  have hp : pt9Of i < cfg0.N := lt_of_lt_of_eq (show pt9Of i < 8 by rw [ep]; omega) N_0.symm
  unfold G9
  rw [dif_pos hp, ← outsAt0_sweep]
  refine (weight0_after m c ⟨pt9Of i, hp⟩ (loc9Of i)).trans ?_
  refine block_weight0 m c ⟨pt9Of i, hp⟩ (loc9Of i) x ?_ ?_
  · show (x 0).val = 128 * pt9Of i + (i 0).val % 128
    omega
  · show (x 1).val = 0 + (i 1).val % 2048
    omega

/-- The weight block 1 after a point is the block read there. -/
theorem weight1_after (t : Fin cfg0.N) (y : S128x2048.Idx) : (outsAt0 m c t.val t.isLt).2.2.1 y = (iblk m c 5 t : Vec Ideal S128x2048 .f32) y := by
  by_cases h0 : t.val % 4 = 0
  · rw [outsAt0_A m c t h0]
    dsimp only
    exact weight_A_10 _ _ _ _ _ _ _ _ _ _ _ _ _ _ _ _ _ _ _ _ _ _ _ _ _ _ _ _ _ _ _ _ _ _ _ _ _ _ _ _ _ _ _ y
  · rw [outsAt0_B m c t h0]
    dsimp only
    exact weight_B_10 _ _ _ _ _ _ _ _ _ _ _ _ _ _ _ _ _ _ _ _ _ _ _ _ _ _ _ _ _ _ _ _ _ _ _ _ _ _ _ _ _ _ _ _ y

/-- Result 2 is the weight matrix, its cast the identity on extended reals. -/
theorem result2 (i : S1024x2048.Idx) (x : S1024x2048.Idx) (h0 : (x 0).val = (i 0).val) (h1 : (x 1).val = 0 + (i 1).val) :
    (G10 m c : Vec Ideal S1024x2048 .bf16) i = m ((c : Thread nD τ).loc main_arg3) x := by
  have i0 : (i 0).val < 1024 := (i 0).isLt
  have i1 : (i 1).val < 2048 := (i 1).isLt
  have ep : pt10Of i = (i 0).val / 128 := by
    show 1 * ((i 0).val / 128 - 0) + 1 * ((i 1).val / 2048 - 0) = _
    omega
  have hp : pt10Of i < cfg0.N := lt_of_lt_of_eq (show pt10Of i < 8 by rw [ep]; omega) N_0.symm
  unfold G10
  rw [dif_pos hp, ← outsAt0_sweep]
  refine (weight1_after m c ⟨pt10Of i, hp⟩ (loc10Of i)).trans ?_
  refine block_weight1 m c ⟨pt10Of i, hp⟩ (loc10Of i) x ?_ ?_
  · show (x 0).val = 128 * pt10Of i + (i 0).val % 128
    omega
  · show (x 1).val = 0 + (i 1).val % 2048
    omega

/-- The weight block 2 after a point is the block read there. -/
theorem weight2_after (t : Fin cfg0.N) (y : S256x2048.Idx) : (outsAt0 m c t.val t.isLt).2.2.2.1 y = (iblk m c 6 t : Vec Ideal S256x2048 .f32) y := by
  by_cases h0 : t.val % 4 = 0
  · rw [outsAt0_A m c t h0]
    dsimp only
    exact weight_A_11 _ _ _ _ _ _ _ _ _ _ _ _ _ _ _ _ _ _ _ _ _ _ _ _ _ _ _ _ _ _ _ _ _ _ _ _ _ _ _ _ _ _ _ y
  · rw [outsAt0_B m c t h0]
    dsimp only
    exact weight_B_11 _ _ _ _ _ _ _ _ _ _ _ _ _ _ _ _ _ _ _ _ _ _ _ _ _ _ _ _ _ _ _ _ _ _ _ _ _ _ _ _ _ _ _ _ y

/-- Result 3 is the weight matrix, its cast the identity on extended reals. -/
theorem result3 (i : S2048x2048.Idx) (x : S2048x2048.Idx) (h0 : (x 0).val = (i 0).val) (h1 : (x 1).val = 0 + (i 1).val) :
    (G11 m c : Vec Ideal S2048x2048 .bf16) i = m ((c : Thread nD τ).loc main_arg4) x := by
  have i0 : (i 0).val < 2048 := (i 0).isLt
  have i1 : (i 1).val < 2048 := (i 1).isLt
  have ep : pt11Of i = (i 0).val / 256 := by
    show 1 * ((i 0).val / 256 - 0) + 1 * ((i 1).val / 2048 - 0) = _
    omega
  have hp : pt11Of i < cfg0.N := lt_of_lt_of_eq (show pt11Of i < 8 by rw [ep]; omega) N_0.symm
  unfold G11
  rw [dif_pos hp, ← outsAt0_sweep]
  refine (weight2_after m c ⟨pt11Of i, hp⟩ (loc11Of i)).trans ?_
  refine block_weight2 m c ⟨pt11Of i, hp⟩ (loc11Of i) x ?_ ?_
  · show (x 0).val = 256 * pt11Of i + (i 0).val % 256
    omega
  · show (x 1).val = 0 + (i 1).val % 2048
    omega

/-- The weight block 3 after a point is the block read there. -/
theorem weight3_after (t : Fin cfg0.N) (y : S256x5632.Idx) : (outsAt0 m c t.val t.isLt).2.2.2.2.1 y = (iblk m c 7 t : Vec Ideal S256x5632 .f32) y := by
  by_cases h0 : t.val % 4 = 0
  · rw [outsAt0_A m c t h0]
    dsimp only
    exact weight_A_12 _ _ _ _ _ _ _ _ _ _ _ _ _ _ _ _ _ _ _ _ _ _ _ _ _ _ _ _ _ _ _ _ _ _ _ _ _ _ _ _ _ _ _ y
  · rw [outsAt0_B m c t h0]
    dsimp only
    exact weight_B_12 _ _ _ _ _ _ _ _ _ _ _ _ _ _ _ _ _ _ _ _ _ _ _ _ _ _ _ _ _ _ _ _ _ _ _ _ _ _ _ _ _ _ _ _ y

/-- Result 4 is the weight matrix, its cast the identity on extended reals. -/
theorem result4 (i : S2048x5632.Idx) (x : S2048x11264.Idx) (h0 : (x 0).val = (i 0).val) (h1 : (x 1).val = 5632 + (i 1).val) :
    (G12 m c : Vec Ideal S2048x5632 .bf16) i = m ((c : Thread nD τ).loc main_arg5) x := by
  have i0 : (i 0).val < 2048 := (i 0).isLt
  have i1 : (i 1).val < 5632 := (i 1).isLt
  have ep : pt12Of i = (i 0).val / 256 := by
    show 1 * ((i 0).val / 256 - 0) + 1 * ((i 1).val / 5632 - 0) = _
    omega
  have hp : pt12Of i < cfg0.N := lt_of_lt_of_eq (show pt12Of i < 8 by rw [ep]; omega) N_0.symm
  unfold G12
  rw [dif_pos hp, ← outsAt0_sweep]
  refine (weight3_after m c ⟨pt12Of i, hp⟩ (loc12Of i)).trans ?_
  refine block_weight3 m c ⟨pt12Of i, hp⟩ (loc12Of i) x ?_ ?_
  · show (x 0).val = 256 * pt12Of i + (i 0).val % 256
    omega
  · show (x 1).val = 5632 + (i 1).val % 5632
    omega

end Cert.KernelIdeal.Attn

end
-- ==== Proof.RefTerms.lean ====
/- The reference's result in named steps. -/
module

public import proofs.«01_k».proof.Proof.Gen.ReferenceIdeal.Run
public import proofs.«01_k».proof.Proof.Softmax
public import proofs.«01_k».proof.Proof.Spec
public import Idealize.ShloMosaic.Lib.KernelVsHost
public import Idealize.ShloMosaic.Lib.Pointwise

@[expose] public section

set_option maxRecDepth 16384

noncomputable section

namespace Cert.ReferenceIdeal.Attn

open Idealize.ShloMosaic Idealize.ShloMosaic.TcCoe Idealize.SL.Sem
open Cert.ReferenceIdeal Cert.ReferenceIdeal.Gen Cert.Attn

/-- A column range of the projections as heads: batch, head, chunk, place in the chunk, column of the head. -/
def headsOf (x : FVec Ideal S4x2048x1024 .bf16) : FVec Ideal S4x8x32x64x128 .f32 :=
  transpose S4x8x32x64x128 [0, 3, 1, 2, 4] (shapeCast _ (extf .f32 x bitsLt_bf16_f32) shapeCasts_S4x2048x1024_S4x32x64x8x128)
    transposes_S4x32x64x8x128_S4x8x32x64x128_0_3_1_2_4

/-- The band's chunks of each chunk, counted from 8 chunks before the first. -/
def bandIdx : IVec S32x9 32 :=
  addi (broadcastInDim S32x9 ![0, 1] bcast_S32x1_S32x9_0_1 (broadcastInDim S32x1 ![0] bcast_S32_S32x1_0 (iotaInDim S32 32 0)))
    (broadcastInDim S32x9 ![0, 1] bcast_S1x9_S32x9_0_1 (broadcastInDim S1x9 ![1] bcast_S9_S1x9_1 (iotaInDim S9 32 0)))

/-- The band's chunks as the gather takes them: a negative one counted from the end. -/
def bandAt : IVec S32x9x1 32 :=
  broadcastInDim S32x9x1 ![0, 1] bcast_S32x9_S32x9x1_0_1
    (select (cmpi .slt bandIdx (broadcastInDim S32x9 ![] bcast_S_S32x9 (constantI S_ 32 0#32)))
      (addi bandIdx (broadcastInDim S32x9 ![] bcast_S_S32x9 (constantI S_ 32 40#32))) bandIdx)

/-- Eight chunks of zeros before the heads' chunks. -/
def padded (x : FVec Ideal S4x8x32x64x128 .f32) : FVec Ideal S4x8x40x64x128 .f32 :=
  pad S4x8x40x64x128 ![0, 0, 8, 0, 0] ![0, 0, 0, 0, 0] ![0, 0, 0, 0, 0] x (sitofp .f32 (constantI S_ 32 0#32))
    pads_S4x8x32x64x128_S4x8x40x64x128_000_000_800_000_000 h_S_

/-- The band of each chunk: its nine chunks side by side. -/
def banded (x : FVec Ideal S4x8x32x64x128 .f32) : FVec Ideal S4x8x32x576x128 .f32 :=
  shapeCast _ (Host.gather gather_S4x8x40x64x128_S32x9x1_S4x8x32x9x64x128_0145_2_n_n_2_2_48164128 (padded x) bandAt)
    shapeCasts_S4x8x32x9x64x128_S4x8x32x576x128

/-- The positions of the band's keys. -/
def keyPos : IVec S32x576 32 :=
  shapeCast _ (addi (broadcastInDim S32x9x64 ![0, 1, 2] bcast_S32x9x1_S32x9x64_0_1_2
      (muli (broadcastInDim S32x9x1 ![0, 1] bcast_S32x9_S32x9x1_0_1
          (subi bandIdx (broadcastInDim S32x9 ![] bcast_S_S32x9 (constantI S_ 32 8#32))))
        (broadcastInDim S32x9x1 ![] bcast_S_S32x9x1 (constantI S_ 32 64#32))))
    (broadcastInDim S32x9x64 ![0, 1, 2] bcast_S1x1x64_S32x9x64_0_1_2 (broadcastInDim S1x1x64 ![2] bcast_S64_S1x1x64_2 (iotaInDim S64 32 0))))
    shapeCasts_S32x9x64_S32x576

/-- Which of the band's keys are there. -/
def present : IVec S32x576 1 := cmpi .sge keyPos (broadcastInDim S32x576 ![] bcast_S_S32x576 (constantI S_ 32 0#32))

/-- The positions of the queries. -/
def queryPos : IVec S32x64 32 :=
  addi (broadcastInDim S32x64 ![0, 1] bcast_S32x1_S32x64_0_1
      (muli (broadcastInDim S32x1 ![0] bcast_S32_S32x1_0 (iotaInDim S32 32 0)) (broadcastInDim S32x1 ![] bcast_S_S32x1 (constantI S_ 32 64#32))))
    (broadcastInDim S32x64 ![0, 1] bcast_S1x64_S32x64_0_1 (broadcastInDim S1x64 ![1] bcast_S64_S1x64_1 (iotaInDim S64 32 0)))

/-- The clipped distances from key to query, from 0. -/
def relIdx : IVec S32x64x576 32 :=
  addi (minsi (broadcastInDim S32x64x576 ![] bcast_S_S32x64x576 (id (constantI S_ 32 127#32)))
      (maxsi (broadcastInDim S32x64x576 ![] bcast_S_S32x64x576 (id (constantI S_ 32 4294967233#32)))
        (subi (broadcastInDim S32x64x576 ![0, 1, 2] bcast_S32x64x1_S32x64x576_0_1_2 (broadcastInDim S32x64x1 ![0, 1] bcast_S32x64_S32x64x1_0_1 queryPos))
          (broadcastInDim S32x64x576 ![0, 1, 2] bcast_S32x1x576_S32x64x576_0_1_2 (broadcastInDim S32x1x576 ![0, 2] bcast_S32x576_S32x1x576_0_2 keyPos)))))
    (broadcastInDim S32x64x576 ![] bcast_S_S32x64x576 (constantI S_ 32 63#32))

/-- The clipped distances as the gather takes them. -/
def relAt : IVec S32x64x576x1 32 :=
  broadcastInDim S32x64x576x1 ![0, 1, 2] bcast_S32x64x576_S32x64x576x1_0_1_2
    (select (cmpi .slt relIdx (broadcastInDim S32x64x576 ![] bcast_S_S32x64x576 (constantI S_ 32 0#32)))
      (addi relIdx (broadcastInDim S32x64x576 ![] bcast_S_S32x64x576 (constantI S_ 32 191#32))) relIdx)

/-- The bias of every head, query and key of the band. -/
def biasOf (R : FVec Ideal S8x191 .f32) : FVec Ideal S8x32x64x576 .f32 :=
  Host.gather gather_S8x191_S32x64x576x1_S8x32x64x576_0_1_n_n_1_3_81 R relAt

/-- The scores, absent keys at minus infinity. -/
def scores (q : FVec Ideal S4x8x32x64x128 .f32) (k : FVec Ideal S4x8x32x576x128 .f32) (b : FVec Ideal S8x32x64x576 .f32) : FVec Ideal S4x8x32x64x576 .f32 :=
  select (broadcastInDim S4x8x32x64x576 ![0, 1, 2, 3, 4] bcast_S1x1x32x1x576_S4x8x32x64x576_0_1_2_3_4
      (broadcastInDim S1x1x32x1x576 ![2, 4] bcast_S32x576_S1x1x32x1x576_2_4 present))
    (addf (mulf (Host.dotGeneral dot_S4x8x32x64x128_S4x8x32x576x128_S4x8x32x64x576_4_4_3_3_012_012 none q k)
        (broadcastInDim S4x8x32x64x576 ![] bcast_S_S4x8x32x64x576 (id (Host.log (constant (F := Ideal) S_ .f32 0x40000000#32)))))
      (broadcastInDim S4x8x32x64x576 ![0, 1, 2, 3, 4] bcast_S1x8x32x64x576_S4x8x32x64x576_0_1_2_3_4
        (broadcastInDim S1x8x32x64x576 ![1, 2, 3, 4] bcast_S8x32x64x576_S1x8x32x64x576_1_2_3_4 b)))
    (broadcastInDim S4x8x32x64x576 ![] bcast_S_S4x8x32x64x576 (id (constant (F := Ideal) S_ .f32 0xFF800000#32)))

/-- The largest of each row. -/
def largest (s : FVec Ideal S4x8x32x64x576 .f32) : FVec Ideal S4x8x32x64 .f32 :=
  Host.reduce FloatOps.maximumf s (constant (F := Ideal) S_ .f32 0xFF800000#32) reducesTo_S4x8x32x64x576_S4x8x32x64_d4 h_S_

/-- The exponentials of the scores, a number of each row taken away. -/
def weightsFrom (s : FVec Ideal S4x8x32x64x576 .f32) (M : FVec Ideal S4x8x32x64 .f32) : FVec Ideal S4x8x32x64x576 .f32 :=
  Host.exp (subf s (broadcastInDim S4x8x32x64x576 ![0, 1, 2, 3, 4] bcast_S4x8x32x64x1_S4x8x32x64x576_0_1_2_3_4
    (broadcastInDim S4x8x32x64x1 ![0, 1, 2, 3] bcast_S4x8x32x64_S4x8x32x64x1_0_1_2_3
      (maximumf (broadcastInDim S4x8x32x64 ![] bcast_S_S4x8x32x64 (constant (F := Ideal) S_ .f32 0xFF800000#32))
        M))))

/-- The exponentials of the scores, each row's largest taken away. -/
def weights (s : FVec Ideal S4x8x32x64x576 .f32) : FVec Ideal S4x8x32x64x576 .f32 := weightsFrom s (largest s)

/-- The weights over their row's sum. -/
def shares (w : FVec Ideal S4x8x32x64x576 .f32) : FVec Ideal S4x8x32x64x576 .f32 :=
  Host.divf w (broadcastInDim S4x8x32x64x576 ![0, 1, 2, 3, 4] bcast_S4x8x32x64x1_S4x8x32x64x576_0_1_2_3_4
    (broadcastInDim S4x8x32x64x1 ![0, 1, 2, 3] bcast_S4x8x32x64_S4x8x32x64x1_0_1_2_3
      (Host.reduceAdd w (constant (F := Ideal) S_ .f32 0x00000000#32) reducesTo_S4x8x32x64x576_S4x8x32x64_d4 h_S_)))

/-- The shares' products with the values, as rows of the layer. -/
def rows (p : FVec Ideal S4x8x32x64x576 .f32) (v : FVec Ideal S4x8x32x576x128 .f32) : FVec Ideal S4x2048x1024 .bf16 :=
  truncf .bf16 (shapeCast _ (transpose S4x32x64x8x128 [0, 2, 3, 1, 4]
    (Host.dotGeneral (φ₁ := .f32) (φ₂ := .f32) dot_S4x8x32x64x576_S4x8x32x576x128_S4x8x32x64x128_4_3_3_4_012_012 none p v)
    transposes_S4x8x32x64x128_S4x32x64x8x128_0_2_3_1_4) shapeCasts_S4x32x64x8x128_S4x2048x1024) bitsLt_bf16_f32

variable (m : (ℓ : Loc nD τ sig) → Buf (Elt Ideal) ℓ) (c : Dev nD)

/-- The reference's first result, in those steps. -/
theorem result_eq : Value.res_main_v98 m c =
    (rows (shares (weights (scores
      (headsOf (extractStridedSlice S4x2048x1024 ![0, 0, 4096] (m ((c.tc : Thread nD τ).loc main_arg0)) slices_S4x2048x11264_S4x2048x1024_0_0_4096))
      (banded (headsOf (extractStridedSlice S4x2048x1024 ![0, 0, 5120] (m ((c.tc : Thread nD τ).loc main_arg0)) slices_S4x2048x11264_S4x2048x1024_0_0_5120)))
      (biasOf (m ((c.tc : Thread nD τ).loc main_arg1))))))
      (banded (headsOf (extractStridedSlice S4x2048x1024 ![0, 0, 6144] (m ((c.tc : Thread nD τ).loc main_arg0)) slices_S4x2048x11264_S4x2048x1024_0_0_6144)))
      : FVec Ideal S4x2048x1024 .bf16) := by
  unfold Value.res_main_v98
  rfl

end Cert.ReferenceIdeal.Attn

end
-- ==== Proof.RefRead.lean ====
/- The reference's index arithmetic, read at an index. -/
module

public import proofs.«01_k».proof.Proof.RefTerms
public import proofs.«01_k».proof.Proof.Spec
public import Idealize.ShloMosaic.Lib.KernelVsHost
public import Idealize.ShloMosaic.Lib.Pointwise

@[expose] public section

set_option maxRecDepth 16384

noncomputable section

namespace Cert.ReferenceIdeal.Attn

open Idealize.ShloMosaic Idealize.ShloMosaic.TcCoe Idealize.SL.Sem
open Cert.ReferenceIdeal Cert.ReferenceIdeal.Gen Cert.Attn

/-- A head's entry is the column range's entry at the chunk's position and the head's column. -/
theorem headsOf_apply (x : FVec Ideal S4x2048x1024 .bf16) (b : Fin 4) (h : Fin 8) (n : Fin 32) (i : Fin 64) (d : Fin 128) :
    headsOf x (ix5 b h n i d) = x (ix3 b ⟨64 * n.val + i.val, by omega⟩ ⟨128 * h.val + d.val, by omega⟩) := by
  pointwise [headsOf]
  congr 3 <;> omega

/-- The band's chunk `r` of chunk `n` is chunk `n + r` of the padded sequence. -/
theorem bandAt_apply (n : Fin 32) (r : Fin 9) : bandAt (ix3 n r 0) = BitVec.ofNat 32 (n.val + r.val) := by
  pointwise [bandAt, bandIdx]
  revert n r
  decide +kernel

/-- The band's key `j` of chunk `n` lies at position `64 n + j - 512`. -/
theorem keyPos_apply (n : Fin 32) (j : Fin 576) : keyPos (ix2 n j) = BitVec.ofInt 32 (64 * n.val + j.val - 512) := by
  pointwise [keyPos, bandIdx]
  revert n j
  decide +kernel

/-- A key is there when its position is not negative. -/
theorem present_apply (n : Fin 32) (j : Fin 576) : present (ix2 n j) = if 512 ≤ 64 * n.val + j.val then 1#1 else 0#1 := by
  pointwise [present]
  rw [keyPos_apply]
  revert n j
  decide +kernel

/-- Query `i` of chunk `n` lies at position `64 n + i`. -/
theorem queryPos_apply (n : Fin 32) (i : Fin 64) : queryPos (ix2 n i) = BitVec.ofNat 32 (64 * n.val + i.val) := by
  pointwise [queryPos]
  revert n i
  decide +kernel

/-- The difference of a query's and a key's position does not depend on the chunk. -/
theorem distance (n : Fin 32) (i : Fin 64) (j : Fin 576) :
    IntOp.subi (queryPos (ix2 n i)) (keyPos (ix2 n j)) = BitVec.ofInt 32 ((i.val : ℤ) - j.val + 512) := by
  rw [queryPos_apply, keyPos_apply]
  show BitVec.ofNat 32 _ - BitVec.ofInt 32 _ = _
  rw [← BitVec.ofInt_natCast, (show ((64 * n.val + i.val : ℕ) : ℤ) = ((i.val : ℤ) - j.val + 512) + (64 * n.val + j.val - 512) by push_cast; ring),
    BitVec.ofInt_add, BitVec.add_sub_cancel]

/-- The clipped distance, from 0, is `575 + i - j` and at most 190. -/
theorem relIdx_apply (n : Fin 32) (i : Fin 64) (j : Fin 576) : relIdx (ix3 n i j) = BitVec.ofNat 32 (min 190 (575 + i.val - j.val)) := by
  pointwise [relIdx]
  rw [distance]
  revert i j
  simp only [id, constantI]
  decide +kernel

/-- The gather takes the clipped distance as it is. -/
theorem relAt_apply (n : Fin 32) (i : Fin 64) (j : Fin 576) : relAt (ix4 n i j 0) = BitVec.ofNat 32 (min 190 (575 + i.val - j.val)) := by
  pointwise [relAt]
  rw [relIdx_apply]
  revert i j
  decide +kernel

/-- The padded sequence's chunk `n` is chunk `n - 8`, zero before the first. -/
theorem padded_apply (x : FVec Ideal S4x8x32x64x128 .f32) (b : Fin 4) (h : Fin 8) (n : Fin 40) (i : Fin 64) (d : Fin 128) :
    padded x (ix5 b h n i d) = if hn : 8 ≤ n.val then x (ix5 b h ⟨n.val - 8, by omega⟩ i d) else 0 := by
  pointwise [padded]
  by_cases hn : 8 ≤ n.val
  · rw [dif_pos ⟨hn, by omega⟩, dif_pos hn]
  · rw [dif_neg (fun h => hn h.1), dif_neg hn]
    show (((0#32 : BitVec 32).toInt : ℝ) : EReal) = 0
    simp

end Cert.ReferenceIdeal.Attn

end
-- ==== Proof.RefGather.lean ====
/- The reference's gathers, read at an index. -/
module

public import proofs.«01_k».proof.Proof.RefTerms
public import proofs.«01_k».proof.Proof.Spec
public import Idealize.ShloMosaic.Lib.KernelVsHost
public import Idealize.ShloMosaic.Lib.Pointwise

@[expose] public section

set_option maxRecDepth 16384

noncomputable section

namespace Cert.ReferenceIdeal.Attn

open Idealize.ShloMosaic Idealize.ShloMosaic.TcCoe Idealize.SL.Sem
open Cert.ReferenceIdeal Cert.ReferenceIdeal.Gen Cert.Attn

/-- The start index of the chunk gather. -/
theorem bandGather_start (idx : IVec S32x9x1 32) (b : Fin 4) (h : Fin 8) (n : Fin 32) (r : Fin 9) (i : Fin 64) (d : Fin 128) :
    gather_S4x8x40x64x128_S32x9x1_S4x8x32x9x64x128_0145_2_n_n_2_2_48164128.start (ix6 b h n r i d) idx 2
      = min (idx (ix3 n r 0)).toInt.toNat 39 := by
  unfold GatherDims.start
  rw [dif_pos (show (2 : Fin 5) ∈ gather_S4x8x40x64x128_S32x9x1_S4x8x32x9x64x128_0145_2_n_n_2_2_48164128.startIndexMap from List.mem_singleton.mpr rfl)]
  congr 3
  congr 1
  funext a
  refine Fin.ext ?_
  match a with
  | ⟨0, _⟩ => rfl
  | ⟨1, _⟩ => rfl
  | ⟨2, _⟩ => rfl

/-- The chunk gather at an index: the operand's chunk the start index names. -/
theorem bandGather_apply {α : Type} (x : S4x8x40x64x128.Idx → α) (idx : IVec S32x9x1 32)
    (b : Fin 4) (h : Fin 8) (n : Fin 32) (r : Fin 9) (i : Fin 64) (d : Fin 128) :
    Host.gather gather_S4x8x40x64x128_S32x9x1_S4x8x32x9x64x128_0145_2_n_n_2_2_48164128 x idx (ix6 b h n r i d)
      = x (ix5 b h ⟨min (idx (ix3 n r 0)).toInt.toNat 39, by omega⟩ i d) := by
  unfold Host.gather
  congr 1
  funext a
  refine Fin.ext ?_
  show gather_S4x8x40x64x128_S32x9x1_S4x8x32x9x64x128_0145_2_n_n_2_2_48164128.start (ix6 b h n r i d) idx a
    + gather_S4x8x40x64x128_S32x9x1_S4x8x32x9x64x128_0145_2_n_n_2_2_48164128.batchCoord (ix6 b h n r i d) a
    + gather_S4x8x40x64x128_S32x9x1_S4x8x32x9x64x128_0145_2_n_n_2_2_48164128.offCoord (ix6 b h n r i d) a = _
  rw [GatherDims.batchCoord_eq_zero _ _ _ List.not_mem_nil, Nat.add_zero]
  match a with
  | ⟨2, _⟩ =>
    rw [GatherDims.offCoord_eq_zero _ _ _ (fun h => ((GatherDims.mem_sKept _ _).mp h).1 (List.mem_singleton.mpr rfl)), Nat.add_zero]
    exact bandGather_start idx b h n r i d
  | ⟨0, _⟩ =>
    unfold GatherDims.start
    rw [dif_neg (by decide +revert), Nat.zero_add]
    unfold GatherDims.offCoord
    rw [dif_pos (by decide +revert)]
    rfl
  | ⟨1, _⟩ =>
    unfold GatherDims.start
    rw [dif_neg (by decide +revert), Nat.zero_add]
    unfold GatherDims.offCoord
    rw [dif_pos (by decide +revert)]
    rfl
  | ⟨3, _⟩ =>
    unfold GatherDims.start
    rw [dif_neg (by decide +revert), Nat.zero_add]
    unfold GatherDims.offCoord
    rw [dif_pos (by decide +revert)]
    rfl
  | ⟨4, _⟩ =>
    unfold GatherDims.start
    rw [dif_neg (by decide +revert), Nat.zero_add]
    unfold GatherDims.offCoord
    rw [dif_pos (by decide +revert)]
    rfl

/-- The bias gather at an index: the head's row at the place the start index names. -/
theorem biasGather_apply {α : Type} (x : S8x191.Idx → α) (idx : IVec S32x64x576x1 32)
    (h : Fin 8) (n : Fin 32) (i : Fin 64) (j : Fin 576) :
    Host.gather gather_S8x191_S32x64x576x1_S8x32x64x576_0_1_n_n_1_3_81 x idx (ix4 h n i j)
      = x (ix2 h ⟨min (idx (ix4 n i j 0)).toInt.toNat 190, by omega⟩) := by
  unfold Host.gather
  congr 1
  funext a
  refine Fin.ext ?_
  show gather_S8x191_S32x64x576x1_S8x32x64x576_0_1_n_n_1_3_81.start (ix4 h n i j) idx a
    + gather_S8x191_S32x64x576x1_S8x32x64x576_0_1_n_n_1_3_81.batchCoord (ix4 h n i j) a
    + gather_S8x191_S32x64x576x1_S8x32x64x576_0_1_n_n_1_3_81.offCoord (ix4 h n i j) a = _
  rw [GatherDims.batchCoord_eq_zero _ _ _ List.not_mem_nil, Nat.add_zero]
  match a with
  | ⟨0, _⟩ =>
    unfold GatherDims.start
    rw [dif_neg (by decide +revert), Nat.zero_add]
    unfold GatherDims.offCoord
    rw [dif_pos (by decide +revert)]
    rfl
  | ⟨1, _⟩ =>
    rw [GatherDims.offCoord_eq_zero _ _ _ (fun h => ((GatherDims.mem_sKept _ _).mp h).1 (List.mem_singleton.mpr rfl)), Nat.add_zero]
    unfold GatherDims.start
    rw [dif_pos (show ⟨1, by decide⟩ ∈ gather_S8x191_S32x64x576x1_S8x32x64x576_0_1_n_n_1_3_81.startIndexMap from List.mem_singleton.mpr rfl)]
    show min (idx _).toInt.toNat 190 = min (idx _).toInt.toNat 190
    congr 4
    funext a
    refine Fin.ext ?_
    match a with
    | ⟨0, _⟩ => rfl
    | ⟨1, _⟩ => rfl
    | ⟨2, _⟩ => rfl
    | ⟨3, _⟩ => rfl

end Cert.ReferenceIdeal.Attn

end
-- ==== Proof.RefSteps.lean ====
/- The reference's steps with real numbers, read at an index. -/
module

public import proofs.«01_k».proof.Proof.RefTerms
public import proofs.«01_k».proof.Proof.Spec
public import Idealize.ShloMosaic.Lib.KernelVsHost
public import Idealize.ShloMosaic.Lib.Pointwise

@[expose] public section

set_option maxRecDepth 16384

noncomputable section

namespace Cert.ReferenceIdeal.Attn

open Idealize.ShloMosaic Idealize.ShloMosaic.TcCoe Idealize.SL.Sem
open Cert.ReferenceIdeal Cert.ReferenceIdeal.Gen Cert.Attn

/-- The word of minus infinity is `⊥`. -/
theorem negInf : Ideal.ofBits .f32 4286578688#32 = (⊥ : EReal) := by simp [Ideal.ofBits, Ideal.ieee]

/-- The logarithm of the word of two. -/
theorem log_two : Ideal.log (Ideal.ofBits .f32 1073741824#32) = ((Real.log 2 : ℝ) : EReal) := by
  have h : Ideal.ofBits .f32 1073741824#32 = ((2 : ℝ) : EReal) := by
    simp [Ideal.ofBits, Ideal.ieee, -EReal.coe_mul]; norm_num
  rw [h]
  show (if (2 : ℝ) ≤ 0 then (⊥ : EReal) else (Real.log 2 : EReal)) = _
  rw [if_neg (by norm_num)]

/-- A score: the rows' product in natural units and the bias, or minus infinity. -/
theorem scores_apply (q : FVec Ideal S4x8x32x64x128 .f32) (k : FVec Ideal S4x8x32x576x128 .f32) (bi : FVec Ideal S8x32x64x576 .f32)
    (b : Fin 4) (h : Fin 8) (n : Fin 32) (i : Fin 64) (j : Fin 576) :
    scores q k bi (ix5 b h n i j) = if present (ix2 n j) = 1#1 then
      (∑ d : Fin 128, q (ix5 b h n i d) * k (ix5 b h n j d)) * ((Real.log 2 : ℝ) : EReal) + bi (ix4 h n i j) else ⊥ := by
  pointwise [scores]
  have h1 : id (Host.log (constant (F := Ideal) S_ .f32 1073741824#32)) ix0 = ((Real.log 2 : ℝ) : EReal) := log_two
  have h2 : id (constant (F := Ideal) S_ .f32 4286578688#32) ix0 = (⊥ : EReal) := negInf
  rw [h1, h2]
  rfl

/-- The largest of a row, read. -/
theorem largest_apply (s : FVec Ideal S4x8x32x64x576 .f32) (b : Fin 4) (h : Fin 8) (n : Fin 32) (i : Fin 64) :
    largest s (ix4 b h n i) = Finset.fold max ⊥ (fun j => s (ix5 b h n i j)) Finset.univ := by
  pointwise [largest]
  rw [negInf]

/-- A weight from a row's number. -/
theorem weightsFrom_apply (s : FVec Ideal S4x8x32x64x576 .f32) (M : FVec Ideal S4x8x32x64 .f32)
    (b : Fin 4) (h : Fin 8) (n : Fin 32) (i : Fin 64) (j : Fin 576) :
    weightsFrom s M (ix5 b h n i j) = Ideal.exp (s (ix5 b h n i j) - M (ix4 b h n i)) := by
  pointwise [weightsFrom]
  rw [negInf, max_eq_right bot_le]

/-- A weight: the exponential of the score less the row's largest. -/
theorem weights_apply (s : FVec Ideal S4x8x32x64x576 .f32) (b : Fin 4) (h : Fin 8) (n : Fin 32) (i : Fin 64) (j : Fin 576) :
    weights s (ix5 b h n i j) = Ideal.exp (s (ix5 b h n i j) - Finset.fold max ⊥ (fun j => s (ix5 b h n i j)) Finset.univ) := by
  rw [weights, weightsFrom_apply, largest_apply]

/-- A share: the weight over the row's sum. -/
theorem shares_apply (s : FVec Ideal S4x8x32x64x576 .f32) (b : Fin 4) (h : Fin 8) (n : Fin 32) (i : Fin 64) (j : Fin 576) :
    shares s (ix5 b h n i j) = Ideal.div (s (ix5 b h n i j)) (∑ j, s (ix5 b h n i j)) := by
  pointwise [shares]

/-- A row of the layer: the shares' sum with the values. -/
theorem rows_apply (p : FVec Ideal S4x8x32x64x576 .f32) (v : FVec Ideal S4x8x32x576x128 .f32) (b : Fin 4) (t : Fin 2048) (e : Fin 1024) :
    rows p v (ix3 b t e) = ∑ j : Fin 576, p (ix5 b ⟨e.val / 128, by omega⟩ ⟨t.val / 64, by omega⟩ ⟨t.val % 64, by omega⟩ j)
      * v (ix5 b ⟨e.val / 128, by omega⟩ ⟨t.val / 64, by omega⟩ j ⟨e.val % 128, by omega⟩) := by
  pointwise [rows]

end Cert.ReferenceIdeal.Attn

end
-- ==== Proof.RefValue.lean ====
/- The reference's first result is the attention. -/
module

public import proofs.«01_k».proof.Proof.Gen.ReferenceIdeal.Run
public import proofs.«01_k».proof.Proof.RefRead
public import proofs.«01_k».proof.Proof.RefGather
public import proofs.«01_k».proof.Proof.RefSteps
public import proofs.«01_k».proof.Proof.Results
public import proofs.«01_k».proof.Proof.Spec
public import Idealize.ShloMosaic.Lib.KernelVsHost
public import Idealize.ShloMosaic.Lib.Pointwise

@[expose] public section

set_option maxRecDepth 16384

noncomputable section

namespace Cert.ReferenceIdeal.Attn

open Idealize.ShloMosaic Idealize.ShloMosaic.TcCoe Idealize.SL.Sem
open Cert.ReferenceIdeal Cert.ReferenceIdeal.Gen Cert.Attn

open Cert.KernelIdeal.Attn (bandOf mem_bandOf bandOf_nonempty score attention)

/-- A small word read signed. -/
theorem small_word (k : ℕ) (hk : k < 1024) : (BitVec.ofNat 32 k).toInt.toNat = k := by
  have e : (BitVec.ofNat 32 k).toNat = k := by
    rw [BitVec.toNat_ofNat]
    exact Nat.mod_eq_of_lt (by omega)
  rw [BitVec.toInt_eq_toNat_of_lt (by rw [e]; omega), e]
  rfl

/-- A band's key: the padded sequence's chunk and place, zero before the first position. -/
theorem banded_apply (X : FVec Ideal S4x2048x1024 .bf16) (b : Fin 4) (h : Fin 8) (n : Fin 32) (j : Fin 576) (d : Fin 128) :
    banded (headsOf X) (ix5 b h n j d) = if 512 ≤ 64 * n.val + j.val then at3 X b.val (64 * n.val + j.val - 512) (128 * h.val + d.val) else 0 := by
  have e : (bandAt (ix3 n ⟨j.val / 64, by omega⟩ 0)).toInt.toNat = n.val + j.val / 64 := by
    rw [bandAt_apply]
    exact small_word _ (by show n.val + j.val / 64 < 1024; omega)
  pointwise [banded]
  refine (bandGather_apply _ _ _ _ _ _ _ _).trans ?_
  rw [padded_apply]
  have e' : (⟨min (bandAt (ix3 n ⟨j.val / 64, by omega⟩ 0)).toInt.toNat 39, by omega⟩ : Fin 40) = ⟨n.val + j.val / 64, by omega⟩ := by
    refine Fin.ext ?_
    show min (bandAt (ix3 n ⟨j.val / 64, by omega⟩ 0)).toInt.toNat 39 = _
    rw [e]
    exact Nat.min_eq_left (by omega)
  by_cases hp : 512 ≤ 64 * n.val + j.val
  · rw [dif_pos (show 8 ≤ min (bandAt (ix3 n ⟨j.val / 64, by omega⟩ 0)).toInt.toNat 39 by rw [e]; omega), if_pos hp, headsOf_apply]
    refine (at3_eq X _ _ _ _ rfl ?_ rfl).symm
    show 64 * (min (bandAt (ix3 n ⟨j.val / 64, by omega⟩ 0)).toInt.toNat 39 - 8) + j.val % 64 = _
    rw [e]
    omega
  · rw [dif_neg (show ¬ 8 ≤ min (bandAt (ix3 n ⟨j.val / 64, by omega⟩ 0)).toInt.toNat 39 by rw [e]; omega), if_neg hp]

/-- A band's bias: the head's entry at the clipped distance. -/
theorem biasOf_apply (R : FVec Ideal S8x191 .f32) (h : Fin 8) (n : Fin 32) (i : Fin 64) (j : Fin 576) :
    biasOf R (ix4 h n i j) = at2 R h.val (min 190 (575 + i.val - j.val)) := by
  have e : (relAt (ix4 n i j 0)).toInt.toNat = min 190 (575 + i.val - j.val) := by
    rw [relAt_apply]
    exact small_word _ (by omega)
  refine (biasGather_apply R relAt h n i j).trans (at2_eq R _ _ _ rfl ?_).symm
  show min (relAt (ix4 n i j 0)).toInt.toNat 190 = _
  rw [e]
  omega

/-- A sum over a band's columns that are there is the sum over its keys. -/
theorem sum_columns (t : ℕ) (f : ℕ → EReal) :
    ∑ j : Fin 576, (if 512 ≤ 64 * (t / 64) + j.val then f (64 * (t / 64) + j.val - 512) else 0) = ∑ k ∈ bandOf t, f k := by
  rw [Fin.sum_univ_eq_sum_range (fun j => if 512 ≤ 64 * (t / 64) + j then f (64 * (t / 64) + j - 512) else 0) 576,
    ← Finset.sum_filter]
  refine Finset.sum_nbij' (fun j => 64 * (t / 64) + j - 512) (fun k => k + 512 - 64 * (t / 64)) ?_ ?_ ?_ ?_ ?_
  · intro j hj
    have h := Finset.mem_filter.mp hj
    have h0 := Finset.mem_range.mp h.1
    exact mem_bandOf.mpr ⟨by omega, by omega⟩
  · intro k hk
    have h := mem_bandOf.mp hk
    exact Finset.mem_filter.mpr ⟨Finset.mem_range.mpr (by omega), by omega⟩
  · intro j hj
    have h := Finset.mem_filter.mp hj
    omega
  · intro k hk
    have h := mem_bandOf.mp hk
    omega
  · intro j hj
    rfl

/-- Columns of the projections. -/
theorem at3_slice (P : FVec Ideal S4x2048x11264 .bf16) (o : ℕ) (ho : o + 1024 ≤ 11264)
    (hs : S4x2048x11264.Slices ![0, 0, o] S4x2048x1024) (b t e : ℕ) (he : e < 1024) :
    at3 (extractStridedSlice S4x2048x1024 ![0, 0, o] P hs) b t e = at3 P b t (o + e) := by
  by_cases h : b < 4 ∧ t < 2048
  · rw [at3_eq _ b t e (ix3 ⟨b, h.1⟩ ⟨t, h.2⟩ ⟨e, he⟩) rfl rfl rfl]
    refine (at3_eq P _ _ _ _ ?_ ?_ ?_).symm
    · show 0 + b = b; omega
    · show 0 + t = t; omega
    · rfl
  · unfold at3
    rw [dif_neg (by omega), dif_neg (by omega)]

variable (P : FVec Ideal S4x2048x11264 .bf16) (R : FVec Ideal S8x191 .f32) (hP : FiniteColumns P) (hR : FiniteBias R)

/-- The queries. -/
def qOf : FVec Ideal S4x2048x1024 .bf16 := extractStridedSlice S4x2048x1024 ![0, 0, 4096] P slices_S4x2048x11264_S4x2048x1024_0_0_4096
/-- The keys. -/
def kOf : FVec Ideal S4x2048x1024 .bf16 := extractStridedSlice S4x2048x1024 ![0, 0, 5120] P slices_S4x2048x11264_S4x2048x1024_0_0_5120
/-- The values. -/
def vOf : FVec Ideal S4x2048x1024 .bf16 := extractStridedSlice S4x2048x1024 ![0, 0, 6144] P slices_S4x2048x11264_S4x2048x1024_0_0_6144

/-- The score of head `h` for the query at `t` and the key at `k`. -/
def scoreOf (b h t k : ℕ) : ℝ :=
  score (fun p j => (at3 P b p (4096 + j)).toReal) (fun p j => (at3 P b p (5120 + j)).toReal) (fun j => (at2 R h j).toReal) h t k

include hP hR in
/-- The reference's score of a column of the band. -/
theorem scores_real (b : Fin 4) (h : Fin 8) (t : Fin 2048) (j : Fin 576) :
    scores (headsOf (qOf P)) (banded (headsOf (kOf P))) (biasOf R) (ix5 b h ⟨t.val / 64, by omega⟩ ⟨t.val % 64, by omega⟩ j)
      = if 512 ≤ 64 * (t.val / 64) + j.val then ((scoreOf P R b.val h.val t.val (64 * (t.val / 64) + j.val - 512) : ℝ) : EReal) else ⊥ := by
  rw [scores_apply, present_apply]
  by_cases hp : 512 ≤ 64 * (t.val / 64) + j.val
  · rw [if_pos hp, if_pos hp, if_pos rfl]
    have h1 : ∀ d : Fin 128, headsOf (qOf P) (ix5 b h ⟨t.val / 64, by omega⟩ ⟨t.val % 64, by omega⟩ d)
        = (((at3 P b.val t.val (4096 + (128 * h.val + d.val))).toReal : ℝ) : EReal) := fun d => by
      rw [headsOf_apply, ← hP _ _ _ (by omega) (by omega), ← at3_slice P 4096 (by omega) slices_S4x2048x11264_S4x2048x1024_0_0_4096 _ _ _ (by omega)]
      refine (at3_eq (qOf P) _ _ _ _ rfl ?_ rfl).symm
      show 64 * (t.val / 64) + t.val % 64 = _
      omega
    have h2 : ∀ d : Fin 128, banded (headsOf (kOf P)) (ix5 b h ⟨t.val / 64, by omega⟩ j d)
        = (((at3 P b.val (64 * (t.val / 64) + j.val - 512) (5120 + (128 * h.val + d.val))).toReal : ℝ) : EReal) := fun d => by
      rw [banded_apply, if_pos hp, ← hP _ _ _ (by omega) (by omega)]
      exact at3_slice P 5120 (by omega) slices_S4x2048x11264_S4x2048x1024_0_0_5120 _ _ _ (by omega)
    simp only [h1, h2]
    rw [biasOf_apply, hR, scoreOf, score]
    simp only [← EReal.coe_mul]
    rw [coe_sum, ← EReal.coe_mul, ← EReal.coe_add]
    congr 4
    show min 190 (575 + t.val % 64 - j.val) = min 190 (63 + t.val - (64 * (t.val / 64) + j.val - 512))
    congr 1
    omega
  · rw [if_neg hp, if_neg hp, if_neg (by decide)]

include hP hR in
/-- The reference's rows are the attention. -/
theorem rows_attention (b : Fin 4) (t : Fin 2048) (e : Fin 1024) :
    rows (shares (weights (scores (headsOf (qOf P)) (banded (headsOf (kOf P))) (biasOf R)))) (banded (headsOf (vOf P))) (ix3 b t e)
      = attention P R b.val t.val e.val := by
  rw [rows_apply]
  simp only [shares_apply, weights_apply, scores_real P R hP hR]
  obtain ⟨M, hM⟩ := fold_max_real (n := 576)
    (fun j => if 512 ≤ 64 * (t.val / 64) + j.val then ((scoreOf P R b.val (e.val / 128) t.val (64 * (t.val / 64) + j.val - 512) : ℝ) : EReal) else ⊥)
    (fun j => by
      split
      · exact EReal.coe_ne_top _
      · exact bot_ne_top)
    ⟨512, by omega⟩ (by
      rw [if_pos (show 512 ≤ 64 * (t.val / 64) + 512 by omega)]
      exact EReal.coe_ne_bot _)
  rw [hM]
  have hw : ∀ j : Fin 576, Ideal.exp ((if 512 ≤ 64 * (t.val / 64) + j.val then ((scoreOf P R b.val (e.val / 128) t.val (64 * (t.val / 64) + j.val - 512) : ℝ) : EReal) else ⊥) - (M : EReal))
      = if 512 ≤ 64 * (t.val / 64) + j.val then (fun k => ((Real.exp (scoreOf P R b.val (e.val / 128) t.val k) * Real.exp (-M) : ℝ) : EReal)) (64 * (t.val / 64) + j.val - 512) else 0 := fun j => by
    split
    · exact exp_sub _ _
    · exact exp_bot_sub _
  simp only [hw]
  have hs := sum_columns t.val (fun k => ((Real.exp (scoreOf P R b.val (e.val / 128) t.val k) * Real.exp (-M) : ℝ) : EReal))
  rw [hs]
  have hv : ∀ j : Fin 576, banded (headsOf (vOf P)) (ix5 b ⟨e.val / 128, by omega⟩ ⟨t.val / 64, by omega⟩ j ⟨e.val % 128, by omega⟩)
      = if 512 ≤ 64 * (t.val / 64) + j.val then at3 P b.val (64 * (t.val / 64) + j.val - 512) (6144 + e.val) else 0 := fun j => by
    rw [banded_apply]
    dsimp only
    congr 1
    refine (at3_slice P 6144 (by omega) slices_S4x2048x11264_S4x2048x1024_0_0_6144 _ _ _ (by omega)).trans ?_
    congr 2
    omega
  simp only [hv]
  have hc := sum_columns t.val (fun k => Ideal.div ((Real.exp (scoreOf P R b.val (e.val / 128) t.val k) * Real.exp (-M) : ℝ) : EReal)
    (∑ k ∈ bandOf t.val, ((Real.exp (scoreOf P R b.val (e.val / 128) t.val k) * Real.exp (-M) : ℝ) : EReal)) * at3 P b.val k (6144 + e.val))
  refine Eq.trans ?_ (hc.trans (sum_div_eq_attend (bandOf t.val) (bandOf_nonempty _) (scoreOf P R b.val (e.val / 128) t.val)
    (fun k => at3 P b.val k (6144 + e.val)) (Real.exp (-M)) (Real.exp_pos _)))
  refine Finset.sum_congr rfl fun j _ => ?_
  split
  · rfl
  · rw [mul_zero]

end Cert.ReferenceIdeal.Attn

end
-- ==== Proof.PreRead.lean ====
/- What the precondition says. -/
module

public import proofs.«01_k».proof.Proof.Gen.Pre_finite_scores
public import Idealize.ShloMosaic.Lib.ReduceAll
public import proofs.«01_k».proof.Proof.Spec
public import Idealize.ShloMosaic.Lib.KernelVsHost
public import Idealize.ShloMosaic.Lib.Pointwise

@[expose] public section

set_option maxRecDepth 16384

noncomputable section

namespace Cert.Pre_finite_scores.Attn

open Idealize.ShloMosaic Idealize.ShloMosaic.TcCoe Idealize.SL.Sem
open Cert.Pre_finite_scores Cert.Attn

/-- A number whose magnitude is below infinity is a real. -/
theorem real_of_lt (x : EReal) (h : Ideal.cmp .olt (max x (-x)) (Ideal.ofBits .f32 0x7F800000#32) = 1#1) :
    x = ((x.toReal : ℝ) : EReal) := by
  have hi : Ideal.ofBits .f32 0x7F800000#32 = (⊤ : EReal) := by simp [Ideal.ofBits, Ideal.ieee]
  rw [hi] at h
  induction x with
  | bot => simp [Ideal.cmp] at h
  | top => simp [Ideal.cmp] at h
  | coe r => rfl

/-- A rank-zero array has one index. -/
instance : Subsingleton S_.Idx := ⟨fun a b => funext fun x => x.elim0⟩

variable (P : FVec Ideal S4x2048x11264 .bf16) (R : FVec Ideal S8x191 .f32) (x2 x3 : FVec Ideal S1024x2048 .f32)
  (x4 : FVec Ideal S2048x2048 .f32) (x5 : FVec Ideal S2048x11264 .f32)

/-- Where the precondition holds the queries, the keys and the biases are reals. -/
theorem both (h : fn (F := Ideal) P R x2 x3 x4 x5 = (fun _ => 1#1)) : FiniteColumns P ∧ FiniteBias R := by
  have h0 := congrFun h ix0
  obtain ⟨h1, h2⟩ := IntOp.andi_eq_one.1 h0
  refine ⟨fun b t e he he' => ?_, fun hh j => ?_⟩
  · by_cases hb : b < 4 ∧ t < 2048
    · have := Host.reduce_andi_all _ _ _ _ _ h1 (ix3 ⟨b, hb.1⟩ ⟨t, hb.2⟩ ⟨e - 4096, by omega⟩)
      have e1 : at3 P b t e = extractStridedSlice S4x2048x2048 ![0, 0, 4096] P Gen.slices_S4x2048x11264_S4x2048x2048_0_0_4096
          (ix3 ⟨b, hb.1⟩ ⟨t, hb.2⟩ ⟨e - 4096, by omega⟩) := by
        refine at3_eq P _ _ _ _ ?_ ?_ ?_
        · show 0 + b = b; omega
        · show 0 + t = t; omega
        · show 4096 + (e - 4096) = e; omega
      rw [e1]
      exact real_of_lt _ this
    · unfold at3
      rw [dif_neg (by omega)]
      simp
  · by_cases hb : hh < 8 ∧ j < 191
    · have := Host.reduce_andi_all _ _ _ _ _ h2 (ix2 ⟨hh, hb.1⟩ ⟨j, hb.2⟩)
      rw [at2_eq R hh j (ix2 ⟨hh, hb.1⟩ ⟨j, hb.2⟩) rfl rfl]
      exact real_of_lt _ this
    · unfold at2
      rw [dif_neg hb]
      simp

end Cert.Pre_finite_scores.Attn

end
-- ==== Proof.FfnIdealRuns.lean ====
module

public import proofs.«01_k».proof.Proof.Gen.FfnIdeal.Frame
public import proofs.«01_k».proof.Proof.Gen.FfnIdeal.Skeleton
public import Idealize.ShloMosaic.Lib.Pipeline.FrameBody
public import Idealize.ShloMosaic.Lib.Pipeline.Value
public import Idealize.ShloMosaic.Lib.Ring
public import Idealize.ShloMosaic.Lib.VecWindow
public import Idealize.ShloMosaic.Lib.Tactic
public import Idealize.ShloMosaic.Lib.WordCmp

@[expose] public section

set_option maxRecDepth 16384

noncomputable section

namespace Cert.FfnIdeal.Hand

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The assertions' algebra: the pipeline's beside the counters of the residual's copy. -/
local notation "𝕄" => MT nD τ sig Unit (Elt F) ℕ (Pipeline.UD sig nD τ) ℕ

/-- Block `b`'s rows lie inside the residual. -/
theorem rows_inb (b : Fin 8) : ∀ a, (![1024 * b.val, 0] : Fin 2 → ℕ) a + S1024x2048.size a ≤ S8192x2048.size a := by
  decide +revert

/-- The residual's rows of block `b`: 1024 of them, from row `1024 b`. -/
def rowsOf {V : Type} (X : S8192x2048.Idx → V) (b : Fin 8) : S1024x2048.Idx → V :=
  fun y => X ((Rect.unit (s := S8192x2048) ![1024 * b.val, 0] S1024x2048.size (rows_inb b)).emb y)

/-- A slice of the residual at offsets equal to block `b`'s reads block `b`'s rows. -/
theorem read_rows (arg6 : Memref sig .tc .hbm S8192x2048 .f32) (f : arg6.view.ty.Contents (Elt F)) (b : Fin 8) (off : Fin 2 → ℕ)
    (e : off = ![1024 * b.val, 0]) (h : ∀ a, off a + S1024x2048.size a ≤ S8192x2048.size a) :
    (arg6.slice (Rect.unit (s := S8192x2048) off S1024x2048.size h) (fun _ => rfl)).view.read (Elt F) f = rowsOf (arg6.view.read (Elt F) f) b := by
  subst e; rfl

/-- The copy in flight: it will deliver the scratch at `g` and the part `S` of the residual it reads. -/
abbrev flying (c : Dev nD) (arg6 : Memref sig .tc .hbm S8192x2048 .f32) (arg8 : Memref sig .tc .vmem S1024x2048 .f32) (arg9 : DmaSems sig S_)
    (fx : Buf (Elt F) (arg6.view.loc (c : Thread nD τ))) (g : Buf (Elt F) (arg8.view.loc (c : Thread nD τ)))
    (S : Finset (Idx (arg6.view.loc (c : Thread nD τ)))) : sProp 𝕄 :=
  Transfers.Flight (countersEmb (U := Pipeline.UD sig nD τ)) (c : Thread nD τ) (SemLoc.dma arg9.sem) default 262144
    iprop((arg8.view.loc (c : Thread nD τ) ↦[arg8.view.set]{fullShare} g) ∗ (arg6.view.loc (c : Thread nD τ) ↦[S]{fullShare} fx))

/-- The first point of a row block: the copy of the residual's rows starts, the output's buffer takes the first tile. -/
theorem runA (c : Dev nD) (i : grid0.Coords) (arg2 : Memref sig .tc .vmem S1024x2048 .bf16) (harg2 : arg2.IsWhole)
    (arg3 : Memref sig .tc .vmem S2048x512 .bf16) (harg3 : arg3.IsWhole) (arg4 : Memref sig .tc .vmem S2048x512 .bf16) (harg4 : arg4.IsWhole)
    (arg5 : Memref sig .tc .vmem S512x2048 .f32) (harg5 : arg5.IsWhole) (arg6 : Memref sig .tc .hbm S8192x2048 .f32) (harg6 : arg6.IsWhole)
    (arg7 : Memref sig .tc .vmem S1024x2048 .f32) (harg7 : arg7.IsWhole)
    (arg8 : Memref sig .tc .vmem S1024x2048 .f32) (harg8 : arg8.IsWhole) (arg9 : DmaSems sig S_)
    (x0 : Vec F S1024x2048 .bf16) (x1 : Vec F S2048x512 .bf16) (x2 : Vec F S2048x512 .bf16) (x3 : Vec F S512x2048 .f32)
    (h1 : k0_cond1 i = 1#1) (h2 : ¬ k0_cond2 i = 1#1) (h3 : ¬ k0_cond3 i = 1#1)
    (fx : Buf (Elt F) (arg6.view.loc (c : Thread nD τ))) (fs : Buf (Elt F) (arg8.view.loc (c : Thread nD τ))) (Q : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg7 fullShare d)
        ∗ (arg6.view.loc (c : Thread nD τ) ↦[arg6.view.set]{fullShare} fx)
        ∗ (arg8.view.loc (c : Thread nD τ) ↦[arg8.view.set]{fullShare} fs) ∗ semVal ((c : Thread nD τ), SemLoc.dma arg9.sem) 0
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg7 fullShare (k0_pay1 x0 x1 x2 x3)
            ∗ ∃ g S, ⌜arg8.view.read (Elt F) g = rowsOf (arg6.view.read (Elt F) fx) (i 0) ∧ S ⊆ arg6.view.set⌝
              ∗ flying c arg6 arg8 arg9 fx g S ∗ (arg6.view.loc (c : Thread nD τ) ↦[arg6.view.set \ S]{fullShare} fx)) -∗ Q ⟨⟩))
      ⊢ wp frame (wpE (defs₀ (F := F)) Variants.none c none) Set.univ
        (cc0_ffn i arg2 harg2 arg3 harg3 arg4 harg4 arg5 harg5 arg6 harg6 arg7 harg7 arg8 harg8 arg9) Q := by
  simp only [cc0_ffn_eq_skeleton]; unfold cc0_ffn_skel
  unfold owns
  iintro ⟨⟨%f0, %hf0, H0⟩, ⟨%f1, %hf1, H1⟩, ⟨%f2, %hf2, H2⟩, ⟨%f3, %hf3, H3⟩, ⟨%d7, %f7, -, H7⟩, HX, HS, Hd, Hk⟩
  obtain rfl := harg2.eq_unread hf0; obtain rfl := harg3.eq_unread hf1; obtain rfl := harg4.eq_unread hf2; obtain rfl := harg5.eq_unread hf3
  sl_exec (disch := first | sl_exact h1 | sl_exact h2 | sl_exact h3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H7]
  · iexists _; isplitr; swap; · iexact H7
    ipureintro
    rw [View.read_writes_full, View.readAt_full, View.readAt_full, View.readAt_full, View.readAt_full, hf0, hf1, hf2, hf3]
  iexists _, _
  isplitr; swap
  · isplitl [Hd]; · iexact Hd
    iexact HX
  ipureintro
  refine ⟨?_, ?_⟩
  · rw [← read_rows arg6 fx (i 0) (k0_off1 i) (k0_off1_eq i) (k0_off1_inb i h1)]
    funext y
    have := View.read_writes_cons_emb arg8.view fs (Rect.whole S1024x2048)
      ((arg6.slice (Rect.unit (s := S8192x2048) (k0_off1 i) S1024x2048.size (k0_off1_inb i h1)) (fun _ => rfl)).view.read (Elt F) fx) [] y
    rw [Rect.emb_whole_apply] at this
    exact this
  · exact View.set_slice_subset _ _

/-- A middle point of a row block: the output's buffer takes the next tile. -/
theorem runB (c : Dev nD) (i : grid0.Coords) (arg2 : Memref sig .tc .vmem S1024x2048 .bf16) (harg2 : arg2.IsWhole)
    (arg3 : Memref sig .tc .vmem S2048x512 .bf16) (harg3 : arg3.IsWhole) (arg4 : Memref sig .tc .vmem S2048x512 .bf16) (harg4 : arg4.IsWhole)
    (arg5 : Memref sig .tc .vmem S512x2048 .f32) (harg5 : arg5.IsWhole) (arg6 : Memref sig .tc .hbm S8192x2048 .f32) (harg6 : arg6.IsWhole)
    (arg7 : Memref sig .tc .vmem S1024x2048 .f32) (harg7 : arg7.IsWhole)
    (arg8 : Memref sig .tc .vmem S1024x2048 .f32) (harg8 : arg8.IsWhole) (arg9 : DmaSems sig S_)
    (x0 : Vec F S1024x2048 .bf16) (x1 : Vec F S2048x512 .bf16) (x2 : Vec F S2048x512 .bf16) (x3 : Vec F S512x2048 .f32)
    (h1 : ¬ k0_cond1 i = 1#1) (h2 : k0_cond2 i = 1#1) (h3 : ¬ k0_cond3 i = 1#1)
    (a : Vec F S1024x2048 .f32) (Q : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg7 fullShare a
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg7 fullShare (k0_pay2 a x0 x1 x2 x3)) -∗ Q ⟨⟩))
      ⊢ wp frame (wpE (defs₀ (F := F)) Variants.none c none) Set.univ
        (cc0_ffn i arg2 harg2 arg3 harg3 arg4 harg4 arg5 harg5 arg6 harg6 arg7 harg7 arg8 harg8 arg9) Q := by
  simp only [cc0_ffn_eq_skeleton]; unfold cc0_ffn_skel
  unfold owns
  iintro ⟨⟨%f0, %hf0, H0⟩, ⟨%f1, %hf1, H1⟩, ⟨%f2, %hf2, H2⟩, ⟨%f3, %hf3, H3⟩, ⟨%f7, %hf7, H7⟩, Hk⟩
  obtain rfl := harg2.eq_unread hf0; obtain rfl := harg3.eq_unread hf1; obtain rfl := harg4.eq_unread hf2; obtain rfl := harg5.eq_unread hf3
  obtain rfl := harg7.eq_unread hf7
  sl_exec (disch := first | sl_exact h1 | sl_exact h2 | sl_exact h3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr; swap; · iexact H7
  ipureintro
  rw [View.read_writes_full, View.readAt_full, View.readAt_full, View.readAt_full, View.readAt_full, View.readAt_full, hf0, hf1, hf2, hf3, hf7]

/-- The last point of a row block: the copy is waited for, and the output's buffer takes the last tile and the residual's rows. -/
theorem runC (c : Dev nD) (i : grid0.Coords) (arg2 : Memref sig .tc .vmem S1024x2048 .bf16) (harg2 : arg2.IsWhole)
    (arg3 : Memref sig .tc .vmem S2048x512 .bf16) (harg3 : arg3.IsWhole) (arg4 : Memref sig .tc .vmem S2048x512 .bf16) (harg4 : arg4.IsWhole)
    (arg5 : Memref sig .tc .vmem S512x2048 .f32) (harg5 : arg5.IsWhole) (arg6 : Memref sig .tc .hbm S8192x2048 .f32) (harg6 : arg6.IsWhole)
    (arg7 : Memref sig .tc .vmem S1024x2048 .f32) (harg7 : arg7.IsWhole)
    (arg8 : Memref sig .tc .vmem S1024x2048 .f32) (harg8 : arg8.IsWhole) (arg9 : DmaSems sig S_)
    (x0 : Vec F S1024x2048 .bf16) (x1 : Vec F S2048x512 .bf16) (x2 : Vec F S2048x512 .bf16) (x3 : Vec F S512x2048 .f32)
    (h1 : ¬ k0_cond1 i = 1#1) (h2 : ¬ k0_cond2 i = 1#1) (h3 : k0_cond3 i = 1#1)
    (a : Vec F S1024x2048 .f32) (r : Vec F S1024x2048 .f32)
    (fx : Buf (Elt F) (arg6.view.loc (c : Thread nD τ))) (g : Buf (Elt F) (arg8.view.loc (c : Thread nD τ)))
    (S : Finset (Idx (arg6.view.loc (c : Thread nD τ)))) (hg : arg8.view.read (Elt F) g = r) (W : Waits sig Unit) (Q : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg7 fullShare a
        ∗ flying c arg6 arg8 arg9 fx g S ∗ owes (c : Thread nD τ) 0 W
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg7 fullShare (k0_pay3 a x0 x1 x2 x3 r)
            ∗ (arg8.view.loc (c : Thread nD τ) ↦[arg8.view.set]{fullShare} g) ∗ (arg6.view.loc (c : Thread nD τ) ↦[S]{fullShare} fx)
            ∗ semVal ((c : Thread nD τ), SemLoc.dma arg9.sem) 0 ∗ ∃ W, owes (c : Thread nD τ) 0 W) -∗ Q ⟨⟩))
      ⊢ wp frame (wpE (defs₀ (F := F)) Variants.none c none) Set.univ
        (cc0_ffn i arg2 harg2 arg3 harg3 arg4 harg4 arg5 harg5 arg6 harg6 arg7 harg7 arg8 harg8 arg9) Q := by
  simp only [cc0_ffn_eq_skeleton]; unfold cc0_ffn_skel
  unfold owns
  iintro ⟨⟨%f0, %hf0, H0⟩, ⟨%f1, %hf1, H1⟩, ⟨%f2, %hf2, H2⟩, ⟨%f3, %hf3, H3⟩, ⟨%f7, %hf7, H7⟩, Hd, HO, Hk⟩
  obtain rfl := harg2.eq_unread hf0; obtain rfl := harg3.eq_unread hf1; obtain rfl := harg4.eq_unread hf2; obtain rfl := harg5.eq_unread hf3
  obtain rfl := harg7.eq_unread hf7
  sl_exec (disch := first | sl_exact h1 | sl_exact h2 | sl_exact h3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H7]
  · iexists _; isplitr; swap; · iexact H7
    ipureintro
    rw [View.read_writes_full, View.readAt_full, View.readAt_full, View.readAt_full, View.readAt_full, View.readAt_full, View.readAt_full,
      hf0, hf1, hf2, hf3, hf7, hg]
  isplitl [Hd_dst]; · iexact Hd_dst
  isplitl [Hd_src]; · iexact Hd_src
  isplitl [Hd]; · iexact Hd
  iexists _; iexact HO

end Cert.FfnIdeal.Hand

end
-- ==== Proof.FfnIdealBody.lean ====
module

public import proofs.«01_k».proof.Proof.FfnIdealRuns
public import proofs.«01_k».proof.Proof.Gen.FfnIdeal.Launch
public import proofs.«01_k».proof.Proof.Gen.FfnIdeal.Points
public import Idealize.ShloMosaic.Lib.Claim

@[expose] public section

set_option maxRecDepth 16384

noncomputable section

namespace Cert.FfnIdeal.Hand

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The assertions' algebra: the pipeline's beside the counters of the residual's copy. -/
local notation "𝕄" => MT nD τ sig Unit (Elt F) ℕ (Pipeline.UD sig nD τ) ℕ

variable (m : (ℓ : Loc nD τ sig) → Buf (Elt F) ℓ) (ρ : Dev nD → PrngReg)

/-! ## The three kinds of points -/

/-- The three conditions of the body are the tile number being first, in the middle, last. -/
theorem cond1_iff (i : grid0.Coords) : k0_cond1 i = 1#1 ↔ (i 1).val = 0 := by
  have hi : (i 1).val < 11 := (i 1).isLt
  simp only [k0_cond1]
  word_cmp
theorem cond2_iff (i : grid0.Coords) : k0_cond2 i = 1#1 ↔ (0 < (i 1).val ∧ (i 1).val < 10) := by
  have hi : (i 1).val < 11 := (i 1).isLt
  simp only [k0_cond2]
  word_cmp
theorem cond3_iff (i : grid0.Coords) : k0_cond3 i = 1#1 ↔ (i 1).val = 10 := by
  have hi : (i 1).val < 11 := (i 1).isLt
  simp only [k0_cond3]
  word_cmp

/-- So the output is written at every point. -/
theorem never_idle (i : grid0.Coords) : cfg0.idle 4 i = false := by
  have hi : (i 1).val < 11 := (i 1).isLt
  show (!(k0_cond1 i == 1#1) && !(k0_cond2 i == 1#1) && !(k0_cond3 i == 1#1)) = false
  by_cases h1 : k0_cond1 i = 1#1
  · rw [beq_iff_eq.mpr h1]; rfl
  by_cases h3 : k0_cond3 i = 1#1
  · rw [beq_iff_eq.mpr h3]; simp
  have h2 : k0_cond2 i = 1#1 := (cond2_iff i).mpr (by rw [cond1_iff] at h1; rw [cond3_iff] at h3; omega)
  rw [beq_iff_eq.mpr h2]; simp

/-- The tile number of point `t` is `t % 11`. -/
theorem tile_val (t : Fin cfg0.N) : (grid0.coords t 1).val = t.val % 11 := by
  have e1 : (grid0.coords t 1).val = t.val / 1 % 11 := Pipeline.Grid.coords_val t 1 (by decide) rfl
  rw [e1, Nat.div_one]

theorem first_iff (t : Fin cfg0.N) : k0_cond1 (grid0.coords t) = 1#1 ↔ t.val % 11 = 0 := by
  rw [cond1_iff, tile_val]
theorem middle_iff (t : Fin cfg0.N) : k0_cond2 (grid0.coords t) = 1#1 ↔ (0 < t.val % 11 ∧ t.val % 11 < 10) := by
  rw [cond2_iff, tile_val]
theorem last_iff (t : Fin cfg0.N) : k0_cond3 (grid0.coords t) = 1#1 ↔ t.val % 11 = 10 := by
  rw [cond3_iff, tile_val]

/-- Point `t` is of row block `t / 11`. -/
theorem row_val (t : Fin cfg0.N) : (grid0.coords t 0).val = t.val / 11 := by
  have ht : t.val < 88 := Nat.lt_of_lt_of_eq t.isLt N_0
  have e0 : (grid0.coords t 0).val = t.val / 11 % 8 := Pipeline.Grid.coords_val t 0 (by decide) rfl
  omega

/-! ## What the output's buffer holds after each point -/

/-- The output's buffer after point `n`: the first tile, then each later tile added, the residual's rows with the last. -/
def acc (c : Dev nD) : (n : ℕ) → n < cfg0.N → Vec F S1024x2048 .f32
  | 0, h => k0_pay1 (iblk m c 0 ⟨0, h⟩) (iblk m c 1 ⟨0, h⟩) (iblk m c 2 ⟨0, h⟩) (iblk m c 3 ⟨0, h⟩)
  | n + 1, h =>
    if (n + 1) % 11 = 0 then
      k0_pay1 (iblk m c 0 ⟨n + 1, h⟩) (iblk m c 1 ⟨n + 1, h⟩) (iblk m c 2 ⟨n + 1, h⟩) (iblk m c 3 ⟨n + 1, h⟩)
    else if (n + 1) % 11 = 10 then
      k0_pay3 (acc c n (Nat.lt_of_succ_lt h)) (iblk m c 0 ⟨n + 1, h⟩) (iblk m c 1 ⟨n + 1, h⟩) (iblk m c 2 ⟨n + 1, h⟩) (iblk m c 3 ⟨n + 1, h⟩)
        (rowsOf (V m c main_arg1) (grid0.coords ⟨n + 1, h⟩ 0))
    else
      k0_pay2 (acc c n (Nat.lt_of_succ_lt h)) (iblk m c 0 ⟨n + 1, h⟩) (iblk m c 1 ⟨n + 1, h⟩) (iblk m c 2 ⟨n + 1, h⟩) (iblk m c 3 ⟨n + 1, h⟩)

/-- At a row block's first point it is that point's tile. -/
theorem acc_first (c : Dev nD) (t : Fin cfg0.N) (h0 : t.val % 11 = 0) :
    acc m c t.val t.isLt = k0_pay1 (iblk m c 0 t) (iblk m c 1 t) (iblk m c 2 t) (iblk m c 3 t) := by
  obtain ⟨n, h⟩ := t
  cases n with
  | zero => rfl
  | succ n => exact if_pos h0

/-- At a middle point it is what the point before left, and the tile. -/
theorem acc_middle (c : Dev nD) (t : Fin cfg0.N) (h0 : 0 < t.val % 11 ∧ t.val % 11 < 10) :
    acc m c t.val t.isLt = k0_pay2 (acc m c (t.val - 1) (Nat.lt_of_le_of_lt (Nat.sub_le _ _) t.isLt))
      (iblk m c 0 t) (iblk m c 1 t) (iblk m c 2 t) (iblk m c 3 t) := by
  obtain ⟨n, h⟩ := t
  cases n with
  | zero => exact absurd h0.1 (by simp)
  | succ n => exact (if_neg (by have := h0.1; simp only at this; omega)).trans (if_neg (by have := h0.2; simp only at this; omega))

/-- At the last point it is what the point before left, the tile, and the residual's rows. -/
theorem acc_last (c : Dev nD) (t : Fin cfg0.N) (h0 : t.val % 11 = 10) :
    acc m c t.val t.isLt = k0_pay3 (acc m c (t.val - 1) (Nat.lt_of_le_of_lt (Nat.sub_le _ _) t.isLt))
      (iblk m c 0 t) (iblk m c 1 t) (iblk m c 2 t) (iblk m c 3 t) (rowsOf (V m c main_arg1) (grid0.coords t 0)) := by
  obtain ⟨n, h⟩ := t
  cases n with
  | zero => exact absurd h0 (by simp)
  | succ n => exact (if_neg (by simp only at h0; omega)).trans (if_pos h0)

/-! ## The invariant between points -/

/-- The residual, left in HBM, and the scratch its rows are copied into. -/
abbrev resM : Memref sig .tc .hbm S8192x2048 .f32 := Memref.whole main_arg1
abbrev scrM : Memref sig .tc .vmem S1024x2048 .f32 := Memref.whole cc0_scratch0

/-- Between row blocks: the scratch at something, the copy's semaphore at zero, the residual whole. -/
def idle (c : Dev nD) : sProp 𝕄 :=
  iprop((∃ f, scrM.view.loc (c : Thread nD τ) ↦[scrM.view.set]{fullShare} f) ∗ semVal ((c : Thread nD τ), SemLoc.dma (cc0_scratch1).sem) 0
    ∗ (resM.view.loc (c : Thread nD τ) ↦[resM.view.set]{fullShare} V m c main_arg1))

/-- Within row block `b`: the copy of its rows in flight, the rest of the residual. -/
def busy (c : Dev nD) (b : ℕ) : sProp 𝕄 :=
  iprop(∃ g S, ⌜(∀ b' : Fin 8, b'.val = b → scrM.view.read (Elt F) g = rowsOf (V m c main_arg1) b') ∧ S ⊆ resM.view.set⌝
    ∗ flying c resM scrM cc0_scratch1 (V m c main_arg1) g S
    ∗ (resM.view.loc (c : Thread nD τ) ↦[resM.view.set \ S]{fullShare} V m c main_arg1))

/-- The invariant after `k` points. -/
def inv (c : Dev nD) (k : ℕ) : sProp 𝕄 :=
  iprop((∃ r, prngReg c r) ∗ if k % 11 = 0 then idle m c else busy m c (k / 11))

theorem inv_idle (c : Dev nD) (k : ℕ) (h : k % 11 = 0) : inv m c k = iprop((∃ r, prngReg c r) ∗ idle m c) := by
  unfold inv; rw [if_pos h]
theorem inv_busy (c : Dev nD) (k : ℕ) (h : k % 11 ≠ 0) : inv m c k = iprop((∃ r, prngReg c r) ∗ busy m c (k / 11)) := by
  unfold inv; rw [if_neg h]

/-! ## The proof data -/

/-- The proof data on core `c`: the arrays as the region finds them; after the body each input's buffer at its block and the
    output's at `acc`; the invariant; nothing owed; full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => acc m c t.val t.isLt
  Φ k := inv m c k.val
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = acc m c t.val t.isLt := by dsimp only [dats]

/-- The body finds each input's buffer at the point's block. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; rfl) t d).trans rfl
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; rfl) t d).trans rfl
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; rfl) t d).trans rfl
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; rfl) t d).trans rfl

/-- At a point that is not a row block's first, the output's buffer holds what the point before left. -/
theorem before_4 (c : Dev nD) (t : Fin cfg0.N) (h : t.val % 11 ≠ 0) (d) :
    (dats m 0 c).before 4 t d = acc m c (t.val - 1) (Nat.lt_of_le_of_lt (Nat.sub_le _ _) t.isLt) := by
  rw [(dats m 0 c).before_out_kept 4 rfl t (by intro h0; rw [h0] at h; exact h rfl)
    (by
      rw [Bool.eq_false_iff]; intro hf
      have := (flush0_4 _).mp hf
      simp only at this
      omega) (never_idle) (fun _ _ => rfl), after_4]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The lent rows of the residual and the rest of it are the residual. -/
theorem back (c : Dev nD) (S : Finset (Idx (resM.view.loc (c : Thread nD τ)))) (hS : S ⊆ resM.view.set) (fx : Buf (Elt F) (resM.view.loc (c : Thread nD τ))) :
    (iprop((resM.view.loc (c : Thread nD τ) ↦[S]{fullShare} fx) ∗ (resM.view.loc (c : Thread nD τ) ↦[resM.view.set \ S]{fullShare} fx)) : sProp 𝕄)
      ⊢ (resM.view.loc (c : Thread nD τ) ↦[resM.view.set]{fullShare} fx) :=
  (pointsTo_split_subset hS).2

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [after_0, after_1, after_2, after_3, after_4]
  rw [show (dats m 0 c).Φ t.castSucc = inv m c t.val from rfl, show (dats m 0 c).Φ t.succ = inv m c (t.val + 1) from rfl]
  unfold Dat.owesAt Pipeline.owesWithin
  rw [show (dats m 0 c).owed t.castSucc = 0 from rfl, show (dats m 0 c).owed t.succ = 0 from rfl]
  by_cases h0 : t.val % 11 = 0
  · have h1 := (first_iff t).mpr h0
    have h2 : ¬ k0_cond2 (grid0.coords t) = 1#1 := fun h => by have := (middle_iff t).mp h; omega
    have h3 : ¬ k0_cond3 (grid0.coords t) = 1#1 := fun h => by have := (last_iff t).mp h; omega
    rw [inv_idle m c _ h0, inv_busy m c _ (by omega), acc_first m c t h0]
    unfold idle busy
    iintro ⟨⟨Hg, ⟨%fs, HS⟩, Hd, HX⟩, ⟨%W, -, HW⟩, ⟨%d0, H0⟩, ⟨%d1, H1⟩, ⟨%d2, H2⟩, ⟨%d3, H3⟩, ⟨%d4, H4⟩⟩
    iapply (runA c (grid0.coords t) _ _ _ _ _ _ _ _ resM (Memref.isWhole_whole _) _ _ scrM (Memref.isWhole_whole _) cc0_scratch1
      (iblk m c 0 t) (iblk m c 1 t) (iblk m c 2 t) (iblk m c 3 t) h1 h2 h3 (V m c main_arg1) fs _)
    isplitl [H0]; · iexact H0
    isplitl [H1]; · iexact H1
    isplitl [H2]; · iexact H2
    isplitl [H3]; · iexact H3
    isplitl [H4]; · iexists _; iexact H4
    isplitl [HX]; · iexact HX
    isplitl [HS]; · iexact HS
    isplitl [Hd]; · iexact Hd
    iintro ⟨H0, H1, H2, H3, H4, ⟨%g, %S, %hS, Hd, HX⟩⟩
    isplitl [Hg Hd HX]
    · isplitl [Hg]; · iexact Hg
      iexists g, S
      isplitr
      · ipureintro
        refine ⟨fun b' hb => ?_, hS.2⟩
        have : b' = grid0.coords t 0 := Fin.ext (by rw [row_val t]; omega)
        rw [this]; exact hS.1
      isplitl [Hd]; · iexact Hd
      iexact HX
    isplitl [HW]
    · iexists W; isplitr; · ipureintro; exact fun _ _ => Or.inl trivial
      iexact HW
    isplitl [H0]; · iexact H0
    isplitl [H1]; · iexact H1
    isplitl [H2]; · iexact H2
    isplitl [H3]; · iexact H3
    iexact H4
  by_cases h10 : t.val % 11 = 10
  · have h1 : ¬ k0_cond1 (grid0.coords t) = 1#1 := fun h => h0 ((first_iff t).mp h)
    have h2 : ¬ k0_cond2 (grid0.coords t) = 1#1 := fun h => by have := (middle_iff t).mp h; omega
    have h3 := (last_iff t).mpr h10
    simp only [before_4 m c t h0]
    rw [inv_busy m c _ h0, inv_idle m c _ (by omega), acc_last m c t h10]
    unfold idle busy
    iintro ⟨⟨Hg, ⟨%g, %S, %hS, Hd, HX⟩⟩, ⟨%W, -, HW⟩, ⟨%d0, H0⟩, ⟨%d1, H1⟩, ⟨%d2, H2⟩, ⟨%d3, H3⟩, ⟨%d4, H4⟩⟩
    iapply (runC c (grid0.coords t) _ _ _ _ _ _ _ _ resM (Memref.isWhole_whole _) _ _ scrM (Memref.isWhole_whole _) cc0_scratch1
      (iblk m c 0 t) (iblk m c 1 t) (iblk m c 2 t) (iblk m c 3 t) h1 h2 h3 _ _ (V m c main_arg1) g S
      (hS.1 (grid0.coords t 0) (row_val t)) W _)
    isplitl [H0]; · iexact H0
    isplitl [H1]; · iexact H1
    isplitl [H2]; · iexact H2
    isplitl [H3]; · iexact H3
    isplitl [H4]; · iexact H4
    isplitl [Hd]; · iexact Hd
    isplitl [HW]; · iexact HW
    iintro ⟨H0, H1, H2, H3, H4, HS, HR, Hd, ⟨%W', HW'⟩⟩
    isplitl [Hg Hd HX HS HR]
    · isplitl [Hg]; · iexact Hg
      isplitl [HS]; · iexists _; iexact HS
      isplitl [Hd]; · iexact Hd
      iapply (back c S hS.2 (V m c main_arg1))
      isplitl [HR]; · iexact HR
      iexact HX
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    iexact H4
  · have h1 : ¬ k0_cond1 (grid0.coords t) = 1#1 := fun h => h0 ((first_iff t).mp h)
    have h2 := (middle_iff t).mpr (by omega)
    have h3 : ¬ k0_cond3 (grid0.coords t) = 1#1 := fun h => h10 ((last_iff t).mp h)
    simp only [before_4 m c t h0]
    rw [inv_busy m c _ h0, inv_busy m c _ (by omega), show (t.val + 1) / 11 = t.val / 11 by omega, acc_middle m c t (by omega)]
    iintro ⟨Hi, ⟨%W, -, HW⟩, ⟨%d0, H0⟩, ⟨%d1, H1⟩, ⟨%d2, H2⟩, ⟨%d3, H3⟩, ⟨%d4, H4⟩⟩
    iapply (runB c (grid0.coords t) _ _ _ _ _ _ _ _ resM (Memref.isWhole_whole _) _ _ scrM (Memref.isWhole_whole _) cc0_scratch1
      (iblk m c 0 t) (iblk m c 1 t) (iblk m c 2 t) (iblk m c 3 t) h1 h2 h3 _ _)
    isplitl [H0]; · iexact H0
    isplitl [H1]; · iexact H1
    isplitl [H2]; · iexact H2
    isplitl [H3]; · iexact H3
    isplitl [H4]; · iexact H4
    iintro ⟨H0, H1, H2, H3, H4⟩
    isplitl [Hi]; · iexact Hi
    isplitl [HW]
    · iexists W; isplitr; · ipureintro; exact fun _ _ => Or.inl trivial
      iexact HW
    isplitl [H0]; · iexact H0
    isplitl [H1]; · iexact H1
    isplitl [H2]; · iexact H2
    isplitl [H3]; · iexact H3
    iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  have e : cfg0.idle 4 (cfg0.grid.coords t) = false := never_idle _
  rw [e]
  exact triple_restated (sound_body m c t) rfl .rfl fun _ => .rfl

/-! ## The launch -/

/-- The kernel's own semaphore, and the operand it reads where it lies. -/
abbrev osem : Fin 1 → SemLoc sig := fun _ => SemLoc.dma (cc0_scratch1).sem
theorem ownSemFacts : Pipeline.OwnSemFacts spec0 osem := by decide
abbrev H0 : Finset (Ref sig .tc) := {main_arg1}
theorem H0_sub : H0 ⊆ Pipeline.restRefs sig spec0 := by decide

/-- What the launch hands the region, conjunct by conjunct. -/
theorem start_eq (c : Dev nD) :
    (Pipeline.ΦD osem spec0 H0 (V m) c : sProp 𝕄) = iprop((∃ f, scrM.view.loc (c : Thread nD τ) ↦[scrM.view.set]{fullShare} f)
      ∗ (∃ r, prngReg c r) ∗ semVal ((c : Thread nD τ), SemLoc.dma (cc0_scratch1).sem) 0
      ∗ (resM.view.loc (c : Thread nD τ) ↦[resM.view.set]{fullShare} V m c main_arg1)) := by
  rw [Pipeline.ΦD_eq, scopedRest0_eq, Pipeline.ownSems0_eq_of_list c osem [0] (by decide) (by decide),
    BI.bigSep_eq_bigSepL_of_eq [main_arg1] (by decide) (by decide)]
  simp only [Memref.view_whole, View.set_whole]
  rfl

theorem hin (c : Dev nD) : Pipeline.ΦD osem spec0 H0 (V m) c ⊢ (dats m 0 c).Φ 0 := by
  rw [start_eq, show (dats m 0 c).Φ 0 = inv m c 0 from rfl, inv_idle m c 0 rfl]
  unfold idle
  iintro ⟨HS, Hg, Hd, HX⟩
  isplitl [Hg]; · iexact Hg
  isplitl [HS]; · iexact HS
  isplitl [Hd]; · iexact Hd
  iexact HX

theorem hout (c : Dev nD) : (dats m 0 c).Φ (Fin.last cfg0.N) ⊢ Pipeline.ΦD osem spec0 H0 (V m) c := by
  rw [start_eq, show (dats m 0 c).Φ (Fin.last cfg0.N) = inv m c 88 from congrArg (inv m c) N_0, inv_idle m c 88 rfl]
  unfold idle
  iintro ⟨Hg, HS, Hd, HX⟩
  isplitl [HS]; · iexact HS
  isplitl [Hg]; · iexact Hg
  isplitl [Hd]; · iexact Hd
  iexact HX

theorem hmain : Pipeline.HMain (Ix := Unit) (Name := ℕ) (U := Pipeline.UD sig nD τ) (Lvl := ℕ) cfgs 0 defs₀ Variants.none m (main (F := F)) (V m) :=
  Pipeline.hmain_region cfgs 0 defs₀ Variants.none m main fun c => (main_chain c).trans rfl

/-- Every run ends, the arrays of the pipeline at what the proof data say, every other buffer unchanged, every counter at zero. -/
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem defs₀ Variants.none ownSemFacts H0 H0_sub m ρ main
    (hbody := fun c => (body_obligation m c).loose) (hshare := fun c => (dats m 0 c).share_full fun _ => rfl)
    (howed := fun _ _ => rfl) (V := V m) (hmain := hmain m) (hA := A_eq m) (hin := hin m) (hout := hout m)

/-- The frame: every run ends with the five arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).1 0).trans (((dats m 0 c).arrAt_in 0 rfl _).trans (A_eq m c 0)),
      (h.1 c).2 main_arg1 (Pipeline.mem_restRefs_of main_arg1 (by decide) (by decide)),
      ((h.1 c).1 1).trans (((dats m 0 c).arrAt_in 1 rfl _).trans (A_eq m c 1)),
      ((h.1 c).1 2).trans (((dats m 0 c).arrAt_in 2 rfl _).trans (A_eq m c 2)),
      ((h.1 c).1 3).trans (((dats m 0 c).arrAt_in 3 rfl _).trans (A_eq m c 3))⟩, h.2⟩) (run_main m ρ)

end Cert.FfnIdeal.Hand

end
-- ==== Proof.InProjIdealCopies.lean ====
module

public import proofs.«01_k».proof.Proof.Gen.InProjIdeal.Frame
public import proofs.«01_k».proof.Proof.Gen.InProjIdeal.Skeleton
public import Idealize.ShloMosaic.Lib.Pipeline.FrameBody
public import Idealize.ShloMosaic.Lib.Pipeline.Value
public import Idealize.ShloMosaic.Lib.Ring
public import Idealize.ShloMosaic.Lib.VecWindow
public import Idealize.ShloMosaic.Lib.Tactic
public import Idealize.ShloMosaic.Lib.WordCmp

@[expose] public section

set_option maxRecDepth 16384

noncomputable section

namespace Cert.InProjIdeal.Hand

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The assertions' algebra: the pipeline's beside the counters of the body's own copies. -/
local notation "𝕄" => MT nD τ sig Unit (Elt F) ℕ (Pipeline.UD sig nD τ) ℕ

/-- A slot of the weights' ring: the 2048×1024 block of the ring's buffer at offsets `o`. -/
abbrev slotM (arg13 : Memref sig .tc .vmem S3x2048x1024 .f32) (o : Fin 3 → ℕ) (h : ∀ a, o a + S1x2048x1024.size a ≤ S3x2048x1024.size a) :
    Memref sig .tc .vmem S2048x1024 .f32 :=
  (arg13.slice (Rect.unit (s := S3x2048x1024) o S1x2048x1024.size h) (fun _ => rfl)).squeeze S2048x1024 squeezes_S1x2048x1024_S2048x1024
/-- The semaphore of a slot. -/
abbrev semM (arg15 : DmaSems sig S3) (o : Fin 1 → ℕ) (h : ∀ a, o a + S1.size a ≤ S3.size a) : DmaSems sig S_ :=
  (arg15.slice (Rect.unit (s := S3) o S1.size h)).squeeze S_ squeezes_S1_S_
/-- 1024 columns of the weights at offsets `o`. -/
abbrev colM (arg4 : Memref sig .tc .hbm S2048x11264 .f32) (o : Fin 2 → ℕ) (h : ∀ a, o a + S2048x1024.size a ≤ S2048x11264.size a) :
    Memref sig .tc .hbm S2048x1024 .f32 :=
  arg4.slice (Rect.unit (s := S2048x11264) o S2048x1024.size h) (fun _ => rfl)

/-- The offsets of slot `s`, of its semaphore, of the weights' column tile `b`, of the row tile `r`. -/
abbrev slotO (s : Fin 3) : Fin 3 → ℕ := ![s.val, 0, 0]
theorem slotO_inb (s : Fin 3) : ∀ a, slotO s a + S1x2048x1024.size a ≤ S3x2048x1024.size a := by decide +revert
abbrev semO (s : Fin 3) : Fin 1 → ℕ := ![s.val]
theorem semO_inb (s : Fin 3) : ∀ a, semO s a + S1.size a ≤ S3.size a := by decide +revert
abbrev colO (b : Fin 11) : Fin 2 → ℕ := ![0, 1024 * b.val]
theorem colO_inb (b : Fin 11) : ∀ a, colO b a + S2048x1024.size a ≤ S2048x11264.size a := by decide +revert
abbrev rowO (r : Fin 8) : Fin 2 → ℕ := ![1024 * r.val, 0]
theorem rowO_inb (r : Fin 8) : ∀ a, rowO r a + S1024x2048.size a ≤ S8192x2048.size a := by decide +revert

/-- The weights' column tile `b`, and the row tile `r` of `x`. -/
def colsOf {V : Type} (X : S2048x11264.Idx → V) (b : Fin 11) : S2048x1024.Idx → V :=
  fun y => X ((Rect.unit (s := S2048x11264) (colO b) S2048x1024.size (colO_inb b)).emb y)
def rowsOf {V : Type} (X : S8192x2048.Idx → V) (r : Fin 8) : S1024x2048.Idx → V :=
  fun y => X ((Rect.unit (s := S8192x2048) (rowO r) S1024x2048.size (rowO_inb r)).emb y)

theorem read_cols (arg4 : Memref sig .tc .hbm S2048x11264 .f32) (f : arg4.view.ty.Contents (Elt F)) (b : Fin 11) (o : Fin 2 → ℕ)
    (e : o = colO b) (h : ∀ a, o a + S2048x1024.size a ≤ S2048x11264.size a) :
    (colM arg4 o h).view.read (Elt F) f = colsOf (arg4.view.read (Elt F) f) b := by
  subst e; rfl
theorem read_rows (arg2 : Memref sig .tc .hbm S8192x2048 .f32) (f : arg2.view.ty.Contents (Elt F)) (r : Fin 8) (o : Fin 2 → ℕ)
    (e : o = rowO r) (h : ∀ a, o a + S1024x2048.size a ≤ S8192x2048.size a) :
    (arg2.slice (Rect.unit (s := S8192x2048) o S1024x2048.size h) (fun _ => rfl)).view.read (Elt F) f = rowsOf (arg2.view.read (Elt F) f) r := by
  subst e; rfl

/-- The slot at offsets `o` holding `x`. -/
def holdAt (c : Dev nD) (arg13 : Memref sig .tc .vmem S3x2048x1024 .f32) (o : Fin 3 → ℕ) (h : ∀ a, o a + S1x2048x1024.size a ≤ S3x2048x1024.size a)
    (x : Vec F S2048x1024 .f32) : sProp 𝕄 :=
  iprop(∃ g, ⌜(slotM arg13 o h).view.read (Elt F) g = x⌝
    ∗ ((slotM arg13 o h).view.loc (c : Thread nD τ) ↦[(slotM arg13 o h).view.set]{fullShare} g))
/-- A slot's semaphore at zero. -/
def cellAt (c : Dev nD) (arg15 : DmaSems sig S3) (p : Fin 1 → ℕ) (hp : ∀ a, p a + S1.size a ≤ S3.size a) : sProp 𝕄 :=
  semVal ((c : Thread nD τ), SemLoc.dma (semM arg15 p hp).sem) 0
/-- A copy in flight into the slot at `o`, counted on the semaphore at `p`, that will leave `x` there; it lends a part of the
    weights at share `q`, the rest of which is held beside it. -/
def flyAt (c : Dev nD) (arg4 : Memref sig .tc .hbm S2048x11264 .f32) (arg13 : Memref sig .tc .vmem S3x2048x1024 .f32) (arg15 : DmaSems sig S3)
    (o : Fin 3 → ℕ) (h : ∀ a, o a + S1x2048x1024.size a ≤ S3x2048x1024.size a) (p : Fin 1 → ℕ) (hp : ∀ a, p a + S1.size a ≤ S3.size a)
    (q : PosShare TreeShare) (fw : Buf (Elt F) (arg4.view.loc (c : Thread nD τ))) (x : Vec F S2048x1024 .f32) : sProp 𝕄 :=
  iprop(∃ g, ∃ oc : {o : Fin 2 → ℕ // ∀ a, o a + S2048x1024.size a ≤ S2048x11264.size a}, ⌜(slotM arg13 o h).view.read (Elt F) g = x⌝
    ∗ Transfers.Flight (countersEmb (U := Pipeline.UD sig nD τ)) (c : Thread nD τ) (SemLoc.dma (semM arg15 p hp).sem) default 262144
        iprop(((slotM arg13 o h).view.loc (c : Thread nD τ) ↦[(slotM arg13 o h).view.set]{fullShare} g) ∗ (arg4.view.loc (c : Thread nD τ) ↦[(arg4.slice (Rect.unit (s := S2048x11264) oc.1 S2048x1024.size oc.2) (fun _ => rfl)).view.set]{q} fw))
    ∗ (arg4.view.loc (c : Thread nD τ) ↦[arg4.view.set \ (arg4.slice (Rect.unit (s := S2048x11264) oc.1 S2048x1024.size oc.2) (fun _ => rfl)).view.set]{q} fw))

theorem holdAt_congr {c : Dev nD} {arg13 : Memref sig .tc .vmem S3x2048x1024 .f32} {o o' : Fin 3 → ℕ} (e : o = o') {h} (h') {x : Vec F S2048x1024 .f32} :
    holdAt c arg13 o h x = holdAt c arg13 o' h' x := by subst e; rfl
theorem cellAt_congr {c : Dev nD} {arg15 : DmaSems sig S3} {p p' : Fin 1 → ℕ} (e : p = p') {h} (h') :
    (cellAt c arg15 p h : sProp 𝕄) = cellAt c arg15 p' h' := by subst e; rfl
theorem flyAt_congr {c : Dev nD} {arg4 : Memref sig .tc .hbm S2048x11264 .f32} {arg13 : Memref sig .tc .vmem S3x2048x1024 .f32} {arg15 : DmaSems sig S3}
    {o o' : Fin 3 → ℕ} (e : o = o') {h} (h') {p p' : Fin 1 → ℕ} (e' : p = p') {hp} (hp') {q : PosShare TreeShare}
    {fw : Buf (Elt F) (arg4.view.loc (c : Thread nD τ))} {x : Vec F S2048x1024 .f32} :
    flyAt c arg4 arg13 arg15 o h p hp q fw x = flyAt c arg4 arg13 arg15 o' h' p' hp' q fw x := by subst e; subst e'; rfl

/-- Slot `s` landed with `x`, nothing in flight into it, its share of the weights whole. -/
def landed (c : Dev nD) (arg4 : Memref sig .tc .hbm S2048x11264 .f32) (arg13 : Memref sig .tc .vmem S3x2048x1024 .f32) (arg15 : DmaSems sig S3)
    (s : Fin 3) (q : PosShare TreeShare) (fw : Buf (Elt F) (arg4.view.loc (c : Thread nD τ))) (x : Vec F S2048x1024 .f32) : sProp 𝕄 :=
  iprop(holdAt c arg13 (slotO s) (slotO_inb s) x ∗ cellAt c arg15 (semO s) (semO_inb s) ∗ (arg4.view.loc (c : Thread nD τ) ↦[arg4.view.set]{q} fw))
/-- Slot `s` with a copy in flight that will leave `x`. -/
def busy (c : Dev nD) (arg4 : Memref sig .tc .hbm S2048x11264 .f32) (arg13 : Memref sig .tc .vmem S3x2048x1024 .f32) (arg15 : DmaSems sig S3)
    (s : Fin 3) (q : PosShare TreeShare) (fw : Buf (Elt F) (arg4.view.loc (c : Thread nD τ))) (x : Vec F S2048x1024 .f32) : sProp 𝕄 :=
  flyAt c arg4 arg13 arg15 (slotO s) (slotO_inb s) (semO s) (semO_inb s) q fw x
/-- The buffer of `x`'s row tile at something, its copy's semaphore at zero, `x` whole. -/
def xfree (c : Dev nD) (arg2 : Memref sig .tc .hbm S8192x2048 .f32) (arg12 : Memref sig .tc .vmem S1024x2048 .f32) (arg14 : DmaSems sig S_)
    (fx : Buf (Elt F) (arg2.view.loc (c : Thread nD τ))) : sProp 𝕄 :=
  iprop((∃ f, arg12.view.loc (c : Thread nD τ) ↦[arg12.view.set]{fullShare} f) ∗ semVal ((c : Thread nD τ), SemLoc.dma arg14.sem) 0
    ∗ (arg2.view.loc (c : Thread nD τ) ↦[arg2.view.set]{fullShare} fx))
/-- The copy of a row tile in flight, that will leave `x`. -/
def xbusy (c : Dev nD) (arg2 : Memref sig .tc .hbm S8192x2048 .f32) (arg12 : Memref sig .tc .vmem S1024x2048 .f32) (arg14 : DmaSems sig S_)
    (fx : Buf (Elt F) (arg2.view.loc (c : Thread nD τ))) (x : Vec F S1024x2048 .f32) : sProp 𝕄 :=
  iprop(∃ g, ∃ oc : {o : Fin 2 → ℕ // ∀ a, o a + S1024x2048.size a ≤ S8192x2048.size a}, ⌜arg12.view.read (Elt F) g = x⌝
    ∗ Transfers.Flight (countersEmb (U := Pipeline.UD sig nD τ)) (c : Thread nD τ) (SemLoc.dma arg14.sem) default 262144
        iprop((arg12.view.loc (c : Thread nD τ) ↦[arg12.view.set]{fullShare} g) ∗ (arg2.view.loc (c : Thread nD τ) ↦[(arg2.slice (Rect.unit (s := S8192x2048) oc.1 S1024x2048.size oc.2) (fun _ => rfl)).view.set]{fullShare} fx))
    ∗ (arg2.view.loc (c : Thread nD τ) ↦[arg2.view.set \ (arg2.slice (Rect.unit (s := S8192x2048) oc.1 S1024x2048.size oc.2) (fun _ => rfl)).view.set]{fullShare} fx))

/-- A copy in flight and the rest of the weights, the slot and the semaphore named at other offsets. -/
theorem fly_move {c : Dev nD} {arg4 : Memref sig .tc .hbm S2048x11264 .f32} {arg13 : Memref sig .tc .vmem S3x2048x1024 .f32} {arg15 : DmaSems sig S3}
    {o o' : Fin 3 → ℕ} (e : o = o') {h} (h') {p p' : Fin 1 → ℕ} (e' : p = p') {hp} (hp') {q : PosShare TreeShare}
    {fw : Buf (Elt F) (arg4.view.loc (c : Thread nD τ))} {x : Vec F S2048x1024 .f32}
    {g : Buf (Elt F) ((slotM arg13 o h).view.loc (c : Thread nD τ))} (oc : {o : Fin 2 → ℕ // ∀ a, o a + S2048x1024.size a ≤ S2048x11264.size a})

    (hg : (slotM arg13 o h).view.read (Elt F) g = x) :
    (iprop(Transfers.Flight (countersEmb (U := Pipeline.UD sig nD τ)) (c : Thread nD τ) (SemLoc.dma (semM arg15 p hp).sem) default 262144
        iprop(((slotM arg13 o h).view.loc (c : Thread nD τ) ↦[(slotM arg13 o h).view.set]{fullShare} g) ∗ (arg4.view.loc (c : Thread nD τ) ↦[(arg4.slice (Rect.unit (s := S2048x11264) oc.1 S2048x1024.size oc.2) (fun _ => rfl)).view.set]{q} fw))
      ∗ (arg4.view.loc (c : Thread nD τ) ↦[arg4.view.set \ (arg4.slice (Rect.unit (s := S2048x11264) oc.1 S2048x1024.size oc.2) (fun _ => rfl)).view.set]{q} fw)) : sProp 𝕄)
      ⊢ flyAt c arg4 arg13 arg15 o' h' p' hp' q fw x := by
  rw [flyAt_congr e.symm h e'.symm hp]; unfold flyAt
  iintro ⟨Hd, HR⟩
  iexists _, oc
  isplitr; swap
  · isplitl [Hd]; · iexact Hd
    iexact HR
  ipureintro; exact hg

/-- A landed slot's parts, the slot and the semaphore named at other offsets; and back. -/
theorem landed_open {c : Dev nD} {arg4 : Memref sig .tc .hbm S2048x11264 .f32} {arg13 : Memref sig .tc .vmem S3x2048x1024 .f32} {arg15 : DmaSems sig S3}
    {s : Fin 3} {o : Fin 3 → ℕ} (e : slotO s = o) (h) {p : Fin 1 → ℕ} (e' : semO s = p) (hp) {q : PosShare TreeShare}
    {fw : Buf (Elt F) (arg4.view.loc (c : Thread nD τ))} {x : Vec F S2048x1024 .f32} :
    (landed c arg4 arg13 arg15 s q fw x : sProp 𝕄)
      ⊢ iprop(∃ g, ((slotM arg13 o h).view.loc (c : Thread nD τ) ↦[(slotM arg13 o h).view.set]{fullShare} g)
        ∗ semVal ((c : Thread nD τ), SemLoc.dma (semM arg15 p hp).sem) 0 ∗ (arg4.view.loc (c : Thread nD τ) ↦[arg4.view.set]{q} fw)) := by
  subst e; subst e'; unfold landed holdAt cellAt
  iintro ⟨⟨%g, -, H⟩, Hc, HX⟩
  iexists g
  isplitl [H]; · iexact H
  isplitl [Hc]; · iexact Hc
  iexact HX
theorem landed_close {c : Dev nD} {arg4 : Memref sig .tc .hbm S2048x11264 .f32} {arg13 : Memref sig .tc .vmem S3x2048x1024 .f32} {arg15 : DmaSems sig S3}
    {s : Fin 3} {o : Fin 3 → ℕ} (e : slotO s = o) {h} {p : Fin 1 → ℕ} (e' : semO s = p) {hp} {q : PosShare TreeShare}
    {fw : Buf (Elt F) (arg4.view.loc (c : Thread nD τ))} {x : Vec F S2048x1024 .f32}
    {g : Buf (Elt F) ((slotM arg13 o h).view.loc (c : Thread nD τ))} (hg : (slotM arg13 o h).view.read (Elt F) g = x) :
    (iprop(((slotM arg13 o h).view.loc (c : Thread nD τ) ↦[(slotM arg13 o h).view.set]{fullShare} g)
        ∗ semVal ((c : Thread nD τ), SemLoc.dma (semM arg15 p hp).sem) 0 ∗ (arg4.view.loc (c : Thread nD τ) ↦[arg4.view.set]{q} fw)) : sProp 𝕄)
      ⊢ landed c arg4 arg13 arg15 s q fw x := by
  subst e; subst e'; unfold landed holdAt cellAt
  iintro ⟨H, Hc, HX⟩
  isplitl [H]
  · iexists g; isplitr; · ipureintro; exact hg
    iexact H
  isplitl [Hc]; · iexact Hc
  iexact HX

/-- The word that says that the point is the first. -/
abbrev firstWord (i : grid0.Coords) : BitVec 1 :=
  Scalar.cmpi .ne (Scalar.extui (Scalar.andi (Scalar.cmpi .eq (BitVec.ofNat 32 (i 1).val) 0#32) (Scalar.cmpi .eq (BitVec.ofNat 32 (i 0).val) 0#32))) 0#32

/-- A slot that a copy filled whole reads what was copied. -/
theorem read_filled {sp : Space} {s : Shape} {e : EltTy} (M : Memref sig .tc sp s e) (f : M.view.ty.Contents (Elt F)) (p : s.Idx → Elt F e) :
    M.view.read (Elt F) (M.view.writes (Elt F) f [⟨Rect.whole s, p⟩]) = p := by
  funext y
  have := View.read_writes_cons_emb M.view f (Rect.whole s) p [] y
  rw [Rect.emb_whole_apply] at this
  exact this

variable (c : Dev nD) (i : grid0.Coords) (arg2 : Memref sig .tc .hbm S8192x2048 .f32) (harg2 : arg2.IsWhole)
    (arg3 : Memref sig .tc .vmem S1x2048 .f32) (harg3 : arg3.IsWhole)
    (arg4 : Memref sig .tc .hbm S2048x11264 .f32) (harg4 : arg4.IsWhole)
    (arg5 : Memref sig .tc .vmem S1x1024 .f32) (harg5 : arg5.IsWhole)
    (arg6 : Memref sig .tc .vmem S2x1024 .f32) (harg6 : arg6.IsWhole)
    (arg7 : Memref sig .tc .vmem S1x128 .f32) (harg7 : arg7.IsWhole)
    (arg8 : Memref sig .tc .vmem S1x128 .f32) (harg8 : arg8.IsWhole)
    (arg9 : Memref sig .tc .vmem S1024x1024 .bf16) (harg9 : arg9.IsWhole)
    (arg10 : Memref sig .tc .vmem S1024x3072 .bf16) (harg10 : arg10.IsWhole)
    (arg11 : Memref sig .tc .vmem S1024x2048 .bf16) (harg11 : arg11.IsWhole)
    (arg12 : Memref sig .tc .vmem S1024x2048 .f32) (harg12 : arg12.IsWhole)
    (arg13 : Memref sig .tc .vmem S3x2048x1024 .f32) (harg13 : arg13.IsWhole)
    (arg14 : DmaSems sig S_) (arg15 : DmaSems sig S3)

/-- The copies at a steady point: the point's weights have arrived, the weights of two points later start. -/
theorem copiesB
    (h1 : ¬ k0_cond1 i = 1#1) (h2 : k0_cond2 i = 1#1) (h3 : ¬ firstWord i = 1#1) (h4 : ¬ k0_cond4 i = 1#1)
    (s : Fin 3) (hs : s.val = (11 * (i 0).val + (i 1).val) % 3) (s' : Fin 3) (hs' : s'.val = (11 * (i 0).val + (i 1).val + 2) % 3)
    (b : Fin 11) (hb : b.val = (11 * (i 0).val + (i 1).val + 2) % 11) (q q' : PosShare TreeShare) (x y : Vec F S2048x1024 .f32)
    (fw : Buf (Elt F) (arg4.view.loc (c : Thread nD τ))) (fx : Buf (Elt F) (arg2.view.loc (c : Thread nD τ)))
    (W : Waits sig Unit) (Q : (Σ' (arg0 : BitVec 32) (arg1 : BitVec 32), BitVec 32) → sProp 𝕄) :
    iprop(busy c arg4 arg13 arg15 s q fw x ∗ landed c arg4 arg13 arg15 s' q' fw y
        ∗ owes (c : Thread nD τ) 0 W
        ∗ (iprop(landed c arg4 arg13 arg15 s q fw x ∗ busy c arg4 arg13 arg15 s' q' fw (colsOf (arg4.view.read (Elt F) fw) b)
            ∗ (∃ W, owes (c : Thread nD τ) 0 W)) -∗ Q ⟨BitVec.ofNat 32 (i 0).val, BitVec.ofNat 32 (i 1).val, 0#32⟩))
      ⊢ wp frame (wpE (defs₀ (F := F)) Variants.none c none) Set.univ (k0_part20 i arg2 harg2 arg3 harg3 arg4 harg4 arg5 harg5 arg6 harg6 arg7 harg7 arg8 harg8 arg9 harg9 arg10 harg10 arg11 harg11 arg12 harg12 arg13 harg13 arg14 arg15) Q := by
  rw [k0_part20_eq_skeleton]; unfold k0_part20_skel
  have e5 : slotO s = k0_off5 i := by rw [k0_off5_eq, ← hs]
  have e4 : semO s = k0_off4 i := by rw [k0_off4_eq, ← hs]
  have e8 : slotO s' = k0_off8 i := by rw [k0_off8_eq, ← hs']
  have e7 : semO s' = k0_off7 i := by rw [k0_off7_eq, ← hs']
  unfold busy landed
  rw [flyAt_congr e5 (k0_off5_inb i) e4 (k0_off4_inb i), holdAt_congr e5 (k0_off5_inb i), cellAt_congr e4 (k0_off4_inb i),
    flyAt_congr e8 (k0_off8_inb i h2) e7 (k0_off7_inb i h2), holdAt_congr e8 (k0_off8_inb i h2), cellAt_congr e7 (k0_off7_inb i h2)]
  unfold flyAt holdAt cellAt
  iintro ⟨⟨%g, %oc, %hg, Hd, HR⟩, ⟨⟨%fs, -, HS⟩, Hs, HX⟩, HO, Hk⟩
  sl_exec (disch := first | sl_exact h1 | sl_exact h2 | sl_exact h3 | sl_exact h4)
  sl_step
  iapply Hk
  isplitl [Hd Hd_dst HR]
  · isplitl [Hd_dst]
    · iexists _; isplitr; · ipureintro; exact hg
      iexact Hd_dst
    isplitl [Hd]; · iexact Hd
    iexact HR
  isplitl [Hs HX]
  ·
    iexists _, ⟨k0_off9 i, k0_off9_inb i h2⟩
    isplitr; swap
    · isplitl [Hs]; · iexact Hs
      iexact HX
    ipureintro
    rw [read_filled]
    exact read_cols arg4 fw b (k0_off9 i) (by rw [k0_off9_eq, ← hb]) (k0_off9_inb i h2)
  iexists _; iexact HO

/-- The copies at a row tile's second point, where the next row tile of `x` starts as well. -/
theorem copiesC
    (h1 : ¬ k0_cond1 i = 1#1) (h2 : k0_cond2 i = 1#1) (h3 : ¬ firstWord i = 1#1) (h4 : k0_cond4 i = 1#1)
    (s : Fin 3) (hs : s.val = (11 * (i 0).val + (i 1).val) % 3) (s' : Fin 3) (hs' : s'.val = (11 * (i 0).val + (i 1).val + 2) % 3)
    (b : Fin 11) (hb : b.val = (11 * (i 0).val + (i 1).val + 2) % 11) (r : Fin 8) (hr : r.val = (i 0).val + 1) (q q' : PosShare TreeShare) (x y : Vec F S2048x1024 .f32)
    (fw : Buf (Elt F) (arg4.view.loc (c : Thread nD τ))) (fx : Buf (Elt F) (arg2.view.loc (c : Thread nD τ)))
    (W : Waits sig Unit) (Q : (Σ' (arg0 : BitVec 32) (arg1 : BitVec 32), BitVec 32) → sProp 𝕄) :
    iprop(busy c arg4 arg13 arg15 s q fw x ∗ landed c arg4 arg13 arg15 s' q' fw y ∗ xfree c arg2 arg12 arg14 fx
        ∗ owes (c : Thread nD τ) 0 W
        ∗ (iprop(landed c arg4 arg13 arg15 s q fw x ∗ busy c arg4 arg13 arg15 s' q' fw (colsOf (arg4.view.read (Elt F) fw) b) ∗ xbusy c arg2 arg12 arg14 fx (rowsOf (arg2.view.read (Elt F) fx) r)
            ∗ (∃ W, owes (c : Thread nD τ) 0 W)) -∗ Q ⟨BitVec.ofNat 32 (i 0).val, BitVec.ofNat 32 (i 1).val, 0#32⟩))
      ⊢ wp frame (wpE (defs₀ (F := F)) Variants.none c none) Set.univ (k0_part20 i arg2 harg2 arg3 harg3 arg4 harg4 arg5 harg5 arg6 harg6 arg7 harg7 arg8 harg8 arg9 harg9 arg10 harg10 arg11 harg11 arg12 harg12 arg13 harg13 arg14 arg15) Q := by
  rw [k0_part20_eq_skeleton]; unfold k0_part20_skel
  have e5 : slotO s = k0_off5 i := by rw [k0_off5_eq, ← hs]
  have e4 : semO s = k0_off4 i := by rw [k0_off4_eq, ← hs]
  have e8 : slotO s' = k0_off8 i := by rw [k0_off8_eq, ← hs']
  have e7 : semO s' = k0_off7 i := by rw [k0_off7_eq, ← hs']
  unfold busy landed xfree xbusy
  rw [flyAt_congr e5 (k0_off5_inb i) e4 (k0_off4_inb i), holdAt_congr e5 (k0_off5_inb i), cellAt_congr e4 (k0_off4_inb i),
    flyAt_congr e8 (k0_off8_inb i h2) e7 (k0_off7_inb i h2), holdAt_congr e8 (k0_off8_inb i h2), cellAt_congr e7 (k0_off7_inb i h2)]
  unfold flyAt holdAt cellAt
  iintro ⟨⟨%g, %oc, %hg, Hd, HR⟩, ⟨⟨%fs, -, HS⟩, Hs, HX⟩, ⟨⟨%f12, HT⟩, Ht, HZ⟩, HO, Hk⟩
  sl_exec (disch := first | sl_exact h1 | sl_exact h2 | sl_exact h3 | sl_exact h4)
  sl_step
  iapply Hk
  isplitl [Hd Hd_dst HR]
  · isplitl [Hd_dst]
    · iexists _; isplitr; · ipureintro; exact hg
      iexact Hd_dst
    isplitl [Hd]; · iexact Hd
    iexact HR
  isplitl [Hs HX]
  ·
    iexists _, ⟨k0_off9 i, k0_off9_inb i h2⟩
    isplitr; swap
    · isplitl [Hs]; · iexact Hs
      iexact HX
    ipureintro
    rw [read_filled]
    exact read_cols arg4 fw b (k0_off9 i) (by rw [k0_off9_eq, ← hb]) (k0_off9_inb i h2)
  isplitl [Ht HZ]
  · iexists _, ⟨k0_off10 i, k0_off10_inb i h4⟩
    isplitr; swap
    · isplitl [Ht]; · iexact Ht
      iexact HZ
    ipureintro
    rw [read_filled]
    exact read_rows arg2 fx r (k0_off10 i) (by rw [k0_off10_eq]; unfold rowO; rw [hr, Nat.mul_add]) (k0_off10_inb i h4)
  iexists _; iexact HO

/-- The copies at the last two points: the point's weights have arrived, nothing starts. -/
theorem copiesT
    (h1 : ¬ k0_cond1 i = 1#1) (h2 : ¬ k0_cond2 i = 1#1) (h3 : ¬ firstWord i = 1#1) (h4 : ¬ k0_cond4 i = 1#1)
    (s : Fin 3) (hs : s.val = (11 * (i 0).val + (i 1).val) % 3) (q : PosShare TreeShare) (x : Vec F S2048x1024 .f32)
    (fw : Buf (Elt F) (arg4.view.loc (c : Thread nD τ))) (fx : Buf (Elt F) (arg2.view.loc (c : Thread nD τ)))
    (W : Waits sig Unit) (Q : (Σ' (arg0 : BitVec 32) (arg1 : BitVec 32), BitVec 32) → sProp 𝕄) :
    iprop(busy c arg4 arg13 arg15 s q fw x
        ∗ owes (c : Thread nD τ) 0 W
        ∗ (iprop(landed c arg4 arg13 arg15 s q fw x
            ∗ (∃ W, owes (c : Thread nD τ) 0 W)) -∗ Q ⟨BitVec.ofNat 32 (i 0).val, BitVec.ofNat 32 (i 1).val, 0#32⟩))
      ⊢ wp frame (wpE (defs₀ (F := F)) Variants.none c none) Set.univ (k0_part20 i arg2 harg2 arg3 harg3 arg4 harg4 arg5 harg5 arg6 harg6 arg7 harg7 arg8 harg8 arg9 harg9 arg10 harg10 arg11 harg11 arg12 harg12 arg13 harg13 arg14 arg15) Q := by
  rw [k0_part20_eq_skeleton]; unfold k0_part20_skel
  have e5 : slotO s = k0_off5 i := by rw [k0_off5_eq, ← hs]
  have e4 : semO s = k0_off4 i := by rw [k0_off4_eq, ← hs]
  unfold busy landed
  rw [flyAt_congr e5 (k0_off5_inb i) e4 (k0_off4_inb i), holdAt_congr e5 (k0_off5_inb i), cellAt_congr e4 (k0_off4_inb i)]
  unfold flyAt holdAt cellAt
  iintro ⟨⟨%g, %oc, %hg, Hd, HR⟩, HO, Hk⟩
  sl_exec (disch := first | sl_exact h1 | sl_exact h2 | sl_exact h3 | sl_exact h4)
  sl_step
  iapply Hk
  isplitl [Hd Hd_dst HR]
  · isplitl [Hd_dst]
    · iexists _; isplitr; · ipureintro; exact hg
      iexact Hd_dst
    isplitl [Hd]; · iexact Hd
    iexact HR
  iexists _; iexact HO

/-- The copies at the first point: the first three tiles of weights and the first row tile of `x` start, and the first tile has arrived. -/
theorem copiesA
    (h1 : k0_cond1 i = 1#1) (h2 : k0_cond2 i = 1#1) (h3 : firstWord i = 1#1) (h4 : ¬ k0_cond4 i = 1#1)
    (hi : 11 * (i 0).val + (i 1).val = 0) (q q' q'' : PosShare TreeShare) (x y z : Vec F S2048x1024 .f32)
    (fw : Buf (Elt F) (arg4.view.loc (c : Thread nD τ))) (fx : Buf (Elt F) (arg2.view.loc (c : Thread nD τ)))
    (W : Waits sig Unit) (Q : (Σ' (arg0 : BitVec 32) (arg1 : BitVec 32), BitVec 32) → sProp 𝕄) :
    iprop(landed c arg4 arg13 arg15 0 q fw x ∗ landed c arg4 arg13 arg15 1 q' fw y ∗ landed c arg4 arg13 arg15 2 q'' fw z ∗ xfree c arg2 arg12 arg14 fx
        ∗ owes (c : Thread nD τ) 0 W
        ∗ (iprop(landed c arg4 arg13 arg15 0 q fw (colsOf (arg4.view.read (Elt F) fw) 0) ∗ busy c arg4 arg13 arg15 1 q' fw (colsOf (arg4.view.read (Elt F) fw) 1) ∗ busy c arg4 arg13 arg15 2 q'' fw (colsOf (arg4.view.read (Elt F) fw) 2)
            ∗ xbusy c arg2 arg12 arg14 fx (rowsOf (arg2.view.read (Elt F) fx) 0)
            ∗ (∃ W, owes (c : Thread nD τ) 0 W)) -∗ Q ⟨BitVec.ofNat 32 (i 0).val, BitVec.ofNat 32 (i 1).val, 0#32⟩))
      ⊢ wp frame (wpE (defs₀ (F := F)) Variants.none c none) Set.univ (k0_part20 i arg2 harg2 arg3 harg3 arg4 harg4 arg5 harg5 arg6 harg6 arg7 harg7 arg8 harg8 arg9 harg9 arg10 harg10 arg11 harg11 arg12 harg12 arg13 harg13 arg14 arg15) Q := by
  rw [k0_part20_eq_skeleton]; unfold k0_part20_skel
  have e20 : slotO 0 = k0_off2 0#32 := by decide
  have e21 : slotO 1 = k0_off2 1#32 := by decide
  have e10 : semO 0 = k0_off1 0#32 := by decide
  have e11 : semO 1 = k0_off1 1#32 := by decide
  have e8 : slotO 2 = k0_off8 i := by rw [k0_off8_eq, hi]; rfl
  have e7 : semO 2 = k0_off7 i := by rw [k0_off7_eq, hi]; rfl
  have e05 : k0_off2 0#32 = k0_off5 i := by rw [k0_off5_eq, hi]; decide
  have e04 : k0_off1 0#32 = k0_off4 i := by rw [k0_off4_eq, hi]; decide
  iintro ⟨H0, H1, H2, HXF, HO, Hk⟩
  ihave H0 := (landed_open e20 (k0_off2_inb i h1 0) e10 (k0_off1_inb i h1 0)) $$ H0
  ihave H1 := (landed_open e21 (k0_off2_inb i h1 1) e11 (k0_off1_inb i h1 1)) $$ H1
  ihave H2 := (landed_open e8 (k0_off8_inb i h2) e7 (k0_off7_inb i h2)) $$ H2
  ihave HXF := (Entails.of_eq (show xfree c arg2 arg12 arg14 fx = _ from by unfold xfree; rfl)) $$ HXF
  icases H0 with ⟨%f0, HS0, Hs0, HX0⟩
  icases H1 with ⟨%f1, HS1, Hs1, HX1⟩
  icases H2 with ⟨%f2, HS2, Hs2, HX2⟩
  icases HXF with ⟨⟨%f12, HT⟩, Ht, HZ⟩
  sl_exec (disch := first | sl_exact h1 | sl_exact h2 | sl_exact h3 | sl_exact h4)
  ihave HF := (fly_move (c := c) (arg4 := arg4) (arg13 := arg13) (arg15 := arg15) (q := q) (fw := fw) (oc := ⟨k0_off3 0#32, k0_off3_inb i h1 0⟩) e05 (k0_off5_inb i) e04 (k0_off4_inb i) (x := colsOf (arg4.view.read (Elt F) fw) 0)
    ((read_filled _ _ _).trans (read_cols arg4 fw 0 (k0_off3 0#32) (by decide) (k0_off3_inb i h1 0)))) $$ [Hs0 HX0]
  · isplitl [Hs0]; · iexact Hs0
    iexact HX0
  ihave HF := (Entails.of_eq (show flyAt c arg4 arg13 arg15 (k0_off5 i) (k0_off5_inb i) (k0_off4 i) (k0_off4_inb i) q fw (colsOf (arg4.view.read (Elt F) fw) 0) = _ from by unfold flyAt; rfl)) $$ HF
  icases HF with ⟨%g, %oc, %hg, Hd, HR⟩
  sl_exec (disch := first | sl_exact h1 | sl_exact h2 | sl_exact h3 | sl_exact h4)
  sl_step
  iapply Hk
  isplitl [Hd Hd_dst HR]
  · iapply (landed_close (e20.trans e05) (e10.trans e04) hg)
    isplitl [Hd_dst]; · iexact Hd_dst
    isplitl [Hd]; · iexact Hd
    iexact HR
  isplitl [Hs1 HX1]
  · unfold busy
    iapply (fly_move (c := c) (arg4 := arg4) (arg13 := arg13) (arg15 := arg15) (q := q') (fw := fw) (oc := ⟨k0_off3 1#32, k0_off3_inb i h1 1⟩) e21.symm (slotO_inb 1) e11.symm (semO_inb 1)
      (x := colsOf (arg4.view.read (Elt F) fw) 1)
      ((read_filled _ _ _).trans (read_cols arg4 fw 1 (k0_off3 1#32) (by decide) (k0_off3_inb i h1 1))))
    isplitl [Hs1]; · iexact Hs1
    iexact HX1
  isplitl [Hs2 HX2]
  · unfold busy
    iapply (fly_move (c := c) (arg4 := arg4) (arg13 := arg13) (arg15 := arg15) (q := q'') (fw := fw) (oc := ⟨k0_off9 i, k0_off9_inb i h2⟩) e8.symm (slotO_inb 2) e7.symm (semO_inb 2)
      (x := colsOf (arg4.view.read (Elt F) fw) 2)
      ((read_filled _ _ _).trans (read_cols arg4 fw 2 (k0_off9 i) (by rw [k0_off9_eq, hi]; rfl) (k0_off9_inb i h2))))
    isplitl [Hs2]; · iexact Hs2
    iexact HX2
  isplitl [Ht HZ]
  · unfold xbusy
    iexists _, ⟨![0, 0], inb_S8192x2048_S1024x2048_0_0⟩
    isplitr; swap
    · isplitl [Ht]; · iexact Ht
      iexact HZ
    ipureintro
    rw [read_filled]
    exact read_rows arg2 fx 0 ![0, 0] (by decide) inb_S8192x2048_S1024x2048_0_0
  iexists _; iexact HO

end Cert.InProjIdeal.Hand

end
-- ==== Proof.InProjIdealRuns.lean ====
module

public import proofs.«01_k».proof.Proof.InProjIdealCopies
public import proofs.«01_k».proof.Proof.Gen.InProjIdeal.Skeleton
public import Idealize.ShloMosaic.Lib.Pipeline.FrameBody
public import Idealize.ShloMosaic.Lib.Pipeline.Value
public import Idealize.ShloMosaic.Lib.Ring
public import Idealize.ShloMosaic.Lib.VecWindow
public import Idealize.ShloMosaic.Lib.Tactic
public import Idealize.ShloMosaic.Lib.WordCmp

@[expose] public section

set_option maxRecDepth 16384

noncomputable section

namespace Cert.InProjIdeal.Hand

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The assertions' algebra: the pipeline's beside the counters of the body's own copies. -/
local notation "𝕄" => MT nD τ sig Unit (Elt F) ℕ (Pipeline.UD sig nD τ) ℕ

/-- What a point that leaves the rectified tile leaves in the result's buffer. -/
def outSilu (h : Vec F S1024x2048 .bf16) (w : Vec F S2048x1024 .f32) : Vec F S1024x1024 .bf16 :=
  View.canon [
    ⟨Rect.unit (s := S1024x1024) ![0, 768] S1024x256.size inb_S1024x1024_S1024x256_0_768, (k0_pay4 h (View.ld w (Rect.unit (s := S2048x1024) ![0, 768] S2048x256.size inb_S2048x1024_S2048x256_0_768)))⟩,
    ⟨Rect.unit (s := S1024x1024) ![0, 512] S1024x256.size inb_S1024x1024_S1024x256_0_512, (k0_pay3 h (View.ld w (Rect.unit (s := S2048x1024) ![0, 512] S2048x256.size inb_S2048x1024_S2048x256_0_512)))⟩,
    ⟨Rect.unit (s := S1024x1024) ![0, 256] S1024x256.size inb_S1024x1024_S1024x256_0_256, (k0_pay22 h (View.ld w (Rect.unit (s := S2048x1024) ![0, 256] S2048x256.size inb_S2048x1024_S2048x256_0_256)))⟩,
    ⟨Rect.unit (s := S1024x1024) ![0, 0] S1024x256.size inb_S1024x1024_S1024x256_0_0, (k0_pay21 h (View.ld w (Rect.unit (s := S2048x1024) ![0, 0] S2048x256.size inb_S2048x1024_S2048x256_0_0)))⟩]
variable (c : Dev nD) (i : grid0.Coords) (arg2 : Memref sig .tc .hbm S8192x2048 .f32) (harg2 : arg2.IsWhole)
    (arg3 : Memref sig .tc .vmem S1x2048 .f32) (harg3 : arg3.IsWhole)
    (arg4 : Memref sig .tc .hbm S2048x11264 .f32) (harg4 : arg4.IsWhole)
    (arg5 : Memref sig .tc .vmem S1x1024 .f32) (harg5 : arg5.IsWhole)
    (arg6 : Memref sig .tc .vmem S2x1024 .f32) (harg6 : arg6.IsWhole)
    (arg7 : Memref sig .tc .vmem S1x128 .f32) (harg7 : arg7.IsWhole)
    (arg8 : Memref sig .tc .vmem S1x128 .f32) (harg8 : arg8.IsWhole)
    (arg9 : Memref sig .tc .vmem S1024x1024 .bf16) (harg9 : arg9.IsWhole)
    (arg10 : Memref sig .tc .vmem S1024x3072 .bf16) (harg10 : arg10.IsWhole)
    (arg11 : Memref sig .tc .vmem S1024x2048 .bf16) (harg11 : arg11.IsWhole)
    (arg12 : Memref sig .tc .vmem S1024x2048 .f32) (harg12 : arg12.IsWhole)
    (arg13 : Memref sig .tc .vmem S3x2048x1024 .f32) (harg13 : arg13.IsWhole)
    (arg14 : DmaSems sig S_) (arg15 : DmaSems sig S3)

/-- A point that leaves the rectified tile, after its copies. -/
theorem secSilu
    (h5 : ¬ k0_cond5 i = 1#1) (h6 : k0_cond6 i = 1#1) (h7 : ¬ k0_cond7 i = 1#1) (h8 : ¬ k0_cond8 i = 1#1) (h9 : ¬ k0_cond9 i = 1#1) (h10 : ¬ k0_cond10 i = 1#1) (h11 : ¬ k0_cond11 i = 1#1)
    (h : Vec F S1024x2048 .bf16) (w : Vec F S2048x1024 .f32) (R R' : sProp 𝕄)
    (hpro : ∀ Q : (Σ' (arg0 : BitVec 32) (arg1 : BitVec 32), BitVec 32) → sProp 𝕄,
      iprop(R ∗ (iprop(holdAt c arg13 (k0_off13 i) (k0_off13_inb i h6) w ∗ R') -∗ Q ⟨BitVec.ofNat 32 (i 0).val, BitVec.ofNat 32 (i 1).val, 0#32⟩))
      ⊢ wp frame (wpE (defs₀ (F := F)) Variants.none c none) Set.univ (k0_part20 i arg2 harg2 arg3 harg3 arg4 harg4 arg5 harg5 arg6 harg6 arg7 harg7 arg8 harg8 arg9 harg9 arg10 harg10 arg11 harg11 arg12 harg12 arg13 harg13 arg14 arg15) Q)
    (Q : PUnit → sProp 𝕄) :
    iprop(R ∗ owns (c : Thread nD τ) arg11 fullShare h ∗ (∃ d, owns (c : Thread nD τ) arg9 fullShare d)
        ∗ (iprop(holdAt c arg13 (k0_off13 i) (k0_off13_inb i h6) w ∗ R' ∗ owns (c : Thread nD τ) arg11 fullShare h ∗ owns (c : Thread nD τ) arg9 fullShare (outSilu h w)) -∗ Q ⟨⟩))
      ⊢ wp frame (wpE (defs₀ (F := F)) Variants.none c none) Set.univ (cc0_in_proj i arg2 harg2 arg3 harg3 arg4 harg4 arg5 harg5 arg6 harg6 arg7 harg7 arg8 harg8 arg9 harg9 arg10 harg10 arg11 harg11 arg12 harg12 arg13 harg13 arg14 arg15) Q := by
  rw [cc0_in_proj_eq_skeleton]; unfold cc0_in_proj_skel
  rw [wp_bind]
  refine BIBase.Entails.trans ?_ (hpro _)
  unfold owns holdAt
  iintro ⟨HR, ⟨%fh, %hfh, HH⟩, ⟨%d9, %f9, -, H9⟩, Hk⟩
  obtain rfl := harg11.eq_unread hfh

  isplitl [HR]; · iexact HR
  iintro ⟨⟨%g, %hg, HS⟩, HR⟩
  sl_exec (disch := first | sl_exact h5 | sl_exact h6 | sl_exact h7 | sl_exact h8 | sl_exact h9 | sl_exact h10 | sl_exact h11)
  sl_step
  iapply Hk
  isplitl [HS]
  · iexists _; isplitr; · ipureintro; exact hg
    iexact HS
  isplitl [HR]; · iexact HR
  isplitl [HH]
  · iexists _; isplitr; · ipureintro; exact harg11.read_unread _
    iexact HH
  iexists _; isplitr; swap; · iexact H9
  ipureintro
  rw [View.read_writes_eq_canon _ _ _ (fun y => View.cover_of_tiled _ ![1024, 256] (by rfl) y)]
  subst hg
  have eh : View.readAt (Elt F) arg11.view (Rect.unit (s := S1024x2048) ![0, 0] S1024x2048.size inb_S1024x2048_S1024x2048_0_0).toLoadRect (harg11.unread h) = h := by
    rw [View.readAt_full, hfh]
  conv_rhs => rw [← eh]; unfold outSilu
  rfl

/-- What a point that leaves the forget gate's tile and its logarithms leaves in the result's buffer. -/
def outForget (u : Vec F S2x1024 .f32) (h : Vec F S1024x2048 .bf16) (w : Vec F S2048x1024 .f32) : Vec F S1024x1024 .bf16 :=
  View.canon [
    ⟨Rect.unit (s := S1024x1024) ![0, 768] S1024x256.size inb_S1024x1024_S1024x256_0_768, (k0_pay10 (k0_pay49 (k0_pay23 u)) (k0_pay50 h (View.ld w (Rect.unit (s := S2048x1024) ![0, 768] S2048x256.size inb_S2048x1024_S2048x256_0_768))))⟩,
    ⟨Rect.unit (s := S1024x1024) ![0, 512] S1024x256.size inb_S1024x1024_S1024x256_0_512, (k0_pay48 (k0_pay40 (k0_pay23 u)) (k0_pay41 h (View.ld w (Rect.unit (s := S2048x1024) ![0, 512] S2048x256.size inb_S2048x1024_S2048x256_0_512))))⟩,
    ⟨Rect.unit (s := S1024x1024) ![0, 256] S1024x256.size inb_S1024x1024_S1024x256_0_256, (k0_pay39 (k0_pay32 (k0_pay23 u)) (k0_pay33 h (View.ld w (Rect.unit (s := S2048x1024) ![0, 256] S2048x256.size inb_S2048x1024_S2048x256_0_256))))⟩,
    ⟨Rect.unit (s := S1024x1024) ![0, 0] S1024x256.size inb_S1024x1024_S1024x256_0_0, (k0_pay31 (k0_pay24 u) (k0_pay25 h (View.ld w (Rect.unit (s := S2048x1024) ![0, 0] S2048x256.size inb_S2048x1024_S2048x256_0_0))))⟩]
/-- What it leaves in the logarithms' buffer. -/
def logOutForget (u : Vec F S2x1024 .f32) (h : Vec F S1024x2048 .bf16) (w : Vec F S2048x1024 .f32) : Vec F S1024x3072 .bf16 :=
  View.canon [
    ⟨Rect.unit (s := S1024x3072) ![0, 2816] S1024x256.size inb_S1024x3072_S1024x256_0_2816, (k0_pay9 (k0_pay49 (k0_pay23 u)) (k0_pay50 h (View.ld w (Rect.unit (s := S2048x1024) ![0, 768] S2048x256.size inb_S2048x1024_S2048x256_0_768))) ((Scalar.ofBits .f32 0x3F800000#32)))⟩,
    ⟨Rect.unit (s := S1024x3072) ![0, 1792] S1024x256.size inb_S1024x3072_S1024x256_0_1792, (k0_pay8 (k0_pay49 (k0_pay23 u)) (k0_pay50 h (View.ld w (Rect.unit (s := S2048x1024) ![0, 768] S2048x256.size inb_S2048x1024_S2048x256_0_768))) ((Scalar.ofBits .f32 0x3F800000#32)))⟩,
    ⟨Rect.unit (s := S1024x3072) ![0, 768] S1024x256.size inb_S1024x3072_S1024x256_0_768, (k0_pay6 (k0_pay49 (k0_pay23 u)) (k0_pay50 h (View.ld w (Rect.unit (s := S2048x1024) ![0, 768] S2048x256.size inb_S2048x1024_S2048x256_0_768))) ((Scalar.ofBits .f32 0x3F800000#32)))⟩,
    ⟨Rect.unit (s := S1024x3072) ![0, 2560] S1024x256.size inb_S1024x3072_S1024x256_0_2560, (k0_pay47 (k0_pay42 (k0_pay23 u) h (View.ld w (Rect.unit (s := S2048x1024) ![0, 512] S2048x256.size inb_S2048x1024_S2048x256_0_512))))⟩,
    ⟨Rect.unit (s := S1024x3072) ![0, 1536] S1024x256.size inb_S1024x3072_S1024x256_0_1536, (k0_pay46 (k0_pay42 (k0_pay23 u) h (View.ld w (Rect.unit (s := S2048x1024) ![0, 512] S2048x256.size inb_S2048x1024_S2048x256_0_512))))⟩,
    ⟨Rect.unit (s := S1024x3072) ![0, 512] S1024x256.size inb_S1024x3072_S1024x256_0_512, (k0_pay44 (k0_pay42 (k0_pay23 u) h (View.ld w (Rect.unit (s := S2048x1024) ![0, 512] S2048x256.size inb_S2048x1024_S2048x256_0_512))))⟩,
    ⟨Rect.unit (s := S1024x3072) ![0, 2304] S1024x256.size inb_S1024x3072_S1024x256_0_2304, (k0_pay38 (k0_pay36 (k0_pay23 u) h (View.ld w (Rect.unit (s := S2048x1024) ![0, 256] S2048x256.size inb_S2048x1024_S2048x256_0_256))) (k0_pay37 (k0_pay23 u) h (View.ld w (Rect.unit (s := S2048x1024) ![0, 256] S2048x256.size inb_S2048x1024_S2048x256_0_256))))⟩,
    ⟨Rect.unit (s := S1024x3072) ![0, 1280] S1024x256.size inb_S1024x3072_S1024x256_0_1280, k0_pay37 (k0_pay23 u) h (View.ld w (Rect.unit (s := S2048x1024) ![0, 256] S2048x256.size inb_S2048x1024_S2048x256_0_256))⟩,
    ⟨Rect.unit (s := S1024x3072) ![0, 256] S1024x256.size inb_S1024x3072_S1024x256_0_256, k0_pay35 (k0_pay23 u) h (View.ld w (Rect.unit (s := S2048x1024) ![0, 256] S2048x256.size inb_S2048x1024_S2048x256_0_256))⟩,
    ⟨Rect.unit (s := S1024x3072) ![0, 2048] S1024x256.size inb_S1024x3072_S1024x256_0_2048, (k0_pay30 (k0_pay28 u h (View.ld w (Rect.unit (s := S2048x1024) ![0, 0] S2048x256.size inb_S2048x1024_S2048x256_0_0))) (k0_pay29 u h (View.ld w (Rect.unit (s := S2048x1024) ![0, 0] S2048x256.size inb_S2048x1024_S2048x256_0_0))))⟩,
    ⟨Rect.unit (s := S1024x3072) ![0, 1024] S1024x256.size inb_S1024x3072_S1024x256_0_1024, k0_pay29 u h (View.ld w (Rect.unit (s := S2048x1024) ![0, 0] S2048x256.size inb_S2048x1024_S2048x256_0_0))⟩,
    ⟨Rect.unit (s := S1024x3072) ![0, 0] S1024x256.size inb_S1024x3072_S1024x256_0_0, (k0_pay27 u h (View.ld w (Rect.unit (s := S2048x1024) ![0, 0] S2048x256.size inb_S2048x1024_S2048x256_0_0)))⟩]
/-- A point that leaves the forget gate's tile and its logarithms, after its copies. -/
theorem secForget
    (h5 : ¬ k0_cond5 i = 1#1) (h6 : ¬ k0_cond6 i = 1#1) (h7 : k0_cond7 i = 1#1) (h8 : ¬ k0_cond8 i = 1#1) (h9 : ¬ k0_cond9 i = 1#1) (h10 : ¬ k0_cond10 i = 1#1) (h11 : ¬ k0_cond11 i = 1#1)
    (h : Vec F S1024x2048 .bf16) (w : Vec F S2048x1024 .f32) (u : Vec F S2x1024 .f32) (R R' : sProp 𝕄)
    (hpro : ∀ Q : (Σ' (arg0 : BitVec 32) (arg1 : BitVec 32), BitVec 32) → sProp 𝕄,
      iprop(R ∗ (iprop(holdAt c arg13 (k0_off14 i) (k0_off14_inb i h7) w ∗ R') -∗ Q ⟨BitVec.ofNat 32 (i 0).val, BitVec.ofNat 32 (i 1).val, 0#32⟩))
      ⊢ wp frame (wpE (defs₀ (F := F)) Variants.none c none) Set.univ (k0_part20 i arg2 harg2 arg3 harg3 arg4 harg4 arg5 harg5 arg6 harg6 arg7 harg7 arg8 harg8 arg9 harg9 arg10 harg10 arg11 harg11 arg12 harg12 arg13 harg13 arg14 arg15) Q)
    (Q : PUnit → sProp 𝕄) :
    iprop(R ∗ owns (c : Thread nD τ) arg6 fullShare u ∗ owns (c : Thread nD τ) arg11 fullShare h ∗ (∃ d, owns (c : Thread nD τ) arg9 fullShare d) ∗ (∃ d, owns (c : Thread nD τ) arg10 fullShare d)
        ∗ (iprop(holdAt c arg13 (k0_off14 i) (k0_off14_inb i h7) w ∗ R' ∗ owns (c : Thread nD τ) arg6 fullShare u ∗ owns (c : Thread nD τ) arg11 fullShare h ∗ owns (c : Thread nD τ) arg9 fullShare (outForget u h w) ∗ owns (c : Thread nD τ) arg10 fullShare (logOutForget u h w)) -∗ Q ⟨⟩))
      ⊢ wp frame (wpE (defs₀ (F := F)) Variants.none c none) Set.univ (cc0_in_proj i arg2 harg2 arg3 harg3 arg4 harg4 arg5 harg5 arg6 harg6 arg7 harg7 arg8 harg8 arg9 harg9 arg10 harg10 arg11 harg11 arg12 harg12 arg13 harg13 arg14 arg15) Q := by
  rw [cc0_in_proj_eq_skeleton]; unfold cc0_in_proj_skel
  rw [wp_bind]
  refine BIBase.Entails.trans ?_ (hpro _)
  unfold owns holdAt
  iintro ⟨HR, ⟨%fu, %hfu, HU⟩, ⟨%fh, %hfh, HH⟩, ⟨%d9, %f9, -, H9⟩, ⟨%d10, %f10, -, H10⟩, Hk⟩
  obtain rfl := harg11.eq_unread hfh
  obtain rfl := harg6.eq_unread hfu
  isplitl [HR]; · iexact HR
  iintro ⟨⟨%g, %hg, HS⟩, HR⟩
  sl_exec (disch := first | sl_exact h5 | sl_exact h6 | sl_exact h7 | sl_exact h8 | sl_exact h9 | sl_exact h10 | sl_exact h11)
  sl_step
  iapply Hk
  isplitl [HS]
  · iexists _; isplitr; · ipureintro; exact hg
    iexact HS
  isplitl [HR]; · iexact HR
  isplitl [HU]
  · iexists _; isplitr; · ipureintro; exact harg6.read_unread _
    iexact HU
  isplitl [HH]
  · iexists _; isplitr; · ipureintro; exact harg11.read_unread _
    iexact HH
  isplitl [H9]
  · iexists _; isplitr; swap; · iexact H9
    ipureintro
    rw [View.read_writes_eq_canon _ _ _ (fun y => View.cover_of_tiled _ ![1024, 256] (by rfl) y)]
    subst hg
    have eh : View.readAt (Elt F) arg11.view (Rect.unit (s := S1024x2048) ![0, 0] S1024x2048.size inb_S1024x2048_S1024x2048_0_0).toLoadRect (harg11.unread h) = h := by
      rw [View.readAt_full, hfh]
    have eu : View.readAt (Elt F) arg6.view (Rect.unit (s := S2x1024) ![0, 0] S2x1024.size inb_S2x1024_S2x1024_0_0).toLoadRect (harg6.unread u) = u := by
      rw [View.readAt_full, hfu]
    conv_rhs => rw [← eu, ← eh]; unfold outForget
    rfl
  iexists _; isplitr; swap; · iexact H10
  ipureintro
  rw [View.read_writes_eq_canon _ _ _ (fun y => View.cover_of_tiled _ ![1024, 256] (by rfl) y)]
  subst hg
  have eh : View.readAt (Elt F) arg11.view (Rect.unit (s := S1024x2048) ![0, 0] S1024x2048.size inb_S1024x2048_S1024x2048_0_0).toLoadRect (harg11.unread h) = h := by
    rw [View.readAt_full, hfh]
  have eu : View.readAt (Elt F) arg6.view (Rect.unit (s := S2x1024) ![0, 0] S2x1024.size inb_S2x1024_S2x1024_0_0).toLoadRect (harg6.unread u) = u := by
    rw [View.readAt_full, hfu]
  conv_rhs => rw [← eu, ← eh]; unfold logOutForget
  rfl

/-- What a point that leaves the plain tile leaves in the result's buffer. -/
def outPlain (h : Vec F S1024x2048 .bf16) (w : Vec F S2048x1024 .f32) : Vec F S1024x1024 .bf16 :=
  View.canon [
    ⟨Rect.unit (s := S1024x1024) ![0, 768] S1024x256.size inb_S1024x1024_S1024x256_0_768, (k0_pay11 h (View.ld w (Rect.unit (s := S2048x1024) ![0, 768] S2048x256.size inb_S2048x1024_S2048x256_0_768)))⟩,
    ⟨Rect.unit (s := S1024x1024) ![0, 512] S1024x256.size inb_S1024x1024_S1024x256_0_512, (k0_pay53 h (View.ld w (Rect.unit (s := S2048x1024) ![0, 512] S2048x256.size inb_S2048x1024_S2048x256_0_512)))⟩,
    ⟨Rect.unit (s := S1024x1024) ![0, 256] S1024x256.size inb_S1024x1024_S1024x256_0_256, (k0_pay52 h (View.ld w (Rect.unit (s := S2048x1024) ![0, 256] S2048x256.size inb_S2048x1024_S2048x256_0_256)))⟩,
    ⟨Rect.unit (s := S1024x1024) ![0, 0] S1024x256.size inb_S1024x1024_S1024x256_0_0, (k0_pay51 h (View.ld w (Rect.unit (s := S2048x1024) ![0, 0] S2048x256.size inb_S2048x1024_S2048x256_0_0)))⟩]
/-- A point that leaves the plain tile, after its copies. -/
theorem secPlain
    (h5 : ¬ k0_cond5 i = 1#1) (h6 : ¬ k0_cond6 i = 1#1) (h7 : ¬ k0_cond7 i = 1#1) (h8 : k0_cond8 i = 1#1) (h9 : ¬ k0_cond9 i = 1#1) (h10 : ¬ k0_cond10 i = 1#1) (h11 : ¬ k0_cond11 i = 1#1)
    (h : Vec F S1024x2048 .bf16) (w : Vec F S2048x1024 .f32) (R R' : sProp 𝕄)
    (hpro : ∀ Q : (Σ' (arg0 : BitVec 32) (arg1 : BitVec 32), BitVec 32) → sProp 𝕄,
      iprop(R ∗ (iprop(holdAt c arg13 (k0_off15 i) (k0_off15_inb i h8) w ∗ R') -∗ Q ⟨BitVec.ofNat 32 (i 0).val, BitVec.ofNat 32 (i 1).val, 0#32⟩))
      ⊢ wp frame (wpE (defs₀ (F := F)) Variants.none c none) Set.univ (k0_part20 i arg2 harg2 arg3 harg3 arg4 harg4 arg5 harg5 arg6 harg6 arg7 harg7 arg8 harg8 arg9 harg9 arg10 harg10 arg11 harg11 arg12 harg12 arg13 harg13 arg14 arg15) Q)
    (Q : PUnit → sProp 𝕄) :
    iprop(R ∗ owns (c : Thread nD τ) arg11 fullShare h ∗ (∃ d, owns (c : Thread nD τ) arg9 fullShare d)
        ∗ (iprop(holdAt c arg13 (k0_off15 i) (k0_off15_inb i h8) w ∗ R' ∗ owns (c : Thread nD τ) arg11 fullShare h ∗ owns (c : Thread nD τ) arg9 fullShare (outPlain h w)) -∗ Q ⟨⟩))
      ⊢ wp frame (wpE (defs₀ (F := F)) Variants.none c none) Set.univ (cc0_in_proj i arg2 harg2 arg3 harg3 arg4 harg4 arg5 harg5 arg6 harg6 arg7 harg7 arg8 harg8 arg9 harg9 arg10 harg10 arg11 harg11 arg12 harg12 arg13 harg13 arg14 arg15) Q := by
  rw [cc0_in_proj_eq_skeleton]; unfold cc0_in_proj_skel
  rw [wp_bind]
  refine BIBase.Entails.trans ?_ (hpro _)
  unfold owns holdAt
  iintro ⟨HR, ⟨%fh, %hfh, HH⟩, ⟨%d9, %f9, -, H9⟩, Hk⟩
  obtain rfl := harg11.eq_unread hfh

  isplitl [HR]; · iexact HR
  iintro ⟨⟨%g, %hg, HS⟩, HR⟩
  sl_exec (disch := first | sl_exact h5 | sl_exact h6 | sl_exact h7 | sl_exact h8 | sl_exact h9 | sl_exact h10 | sl_exact h11)
  sl_step
  iapply Hk
  isplitl [HS]
  · iexists _; isplitr; · ipureintro; exact hg
    iexact HS
  isplitl [HR]; · iexact HR
  isplitl [HH]
  · iexists _; isplitr; · ipureintro; exact harg11.read_unread _
    iexact HH
  iexists _; isplitr; swap; · iexact H9
  ipureintro
  rw [View.read_writes_eq_canon _ _ _ (fun y => View.cover_of_tiled _ ![1024, 256] (by rfl) y)]
  subst hg
  have eh : View.readAt (Elt F) arg11.view (Rect.unit (s := S1024x2048) ![0, 0] S1024x2048.size inb_S1024x2048_S1024x2048_0_0).toLoadRect (harg11.unread h) = h := by
    rw [View.readAt_full, hfh]
  conv_rhs => rw [← eh]; unfold outPlain
  rfl

/-- What a point that leaves the queries' tile leaves in the result's buffer. -/
def outQ (u : Vec F S1x128 .f32) (h : Vec F S1024x2048 .bf16) (w : Vec F S2048x1024 .f32) : Vec F S1024x1024 .bf16 :=
  View.canon [
    ⟨Rect.unit (s := S1024x1024) ![0, 896] S1024x128.size inb_S1024x1024_S1024x128_0_896, (k0_pay12 (k0_pay69 h (View.ld w (Rect.unit (s := S2048x1024) ![0, 768] S2048x256.size inb_S2048x1024_S2048x256_0_768))) u)⟩,
    ⟨Rect.unit (s := S1024x1024) ![0, 768] S1024x128.size inb_S1024x1024_S1024x128_0_768, k0_pay70 h (View.ld w (Rect.unit (s := S2048x1024) ![0, 768] S2048x256.size inb_S2048x1024_S2048x256_0_768)) u⟩,
    ⟨Rect.unit (s := S1024x1024) ![0, 640] S1024x128.size inb_S1024x1024_S1024x128_0_640, (k0_pay68 (k0_pay66 h (View.ld w (Rect.unit (s := S2048x1024) ![0, 512] S2048x256.size inb_S2048x1024_S2048x256_0_512))) (k0_pay67 h (View.ld w (Rect.unit (s := S2048x1024) ![0, 512] S2048x256.size inb_S2048x1024_S2048x256_0_512))) ((Scalar.ofBits .f32 0x43000000#32)) u)⟩,
    ⟨Rect.unit (s := S1024x1024) ![0, 512] S1024x128.size inb_S1024x1024_S1024x128_0_512, (k0_pay65 h (View.ld w (Rect.unit (s := S2048x1024) ![0, 512] S2048x256.size inb_S2048x1024_S2048x256_0_512)) u)⟩,
    ⟨Rect.unit (s := S1024x1024) ![0, 384] S1024x128.size inb_S1024x1024_S1024x128_0_384, (k0_pay63 (k0_pay61 h (View.ld w (Rect.unit (s := S2048x1024) ![0, 256] S2048x256.size inb_S2048x1024_S2048x256_0_256))) (k0_pay62 h (View.ld w (Rect.unit (s := S2048x1024) ![0, 256] S2048x256.size inb_S2048x1024_S2048x256_0_256))) u)⟩,
    ⟨Rect.unit (s := S1024x1024) ![0, 256] S1024x128.size inb_S1024x1024_S1024x128_0_256, (k0_pay60 h (View.ld w (Rect.unit (s := S2048x1024) ![0, 256] S2048x256.size inb_S2048x1024_S2048x256_0_256)) u)⟩,
    ⟨Rect.unit (s := S1024x1024) ![0, 128] S1024x128.size inb_S1024x1024_S1024x128_0_128, (k0_pay58 (k0_pay56 h (View.ld w (Rect.unit (s := S2048x1024) ![0, 0] S2048x256.size inb_S2048x1024_S2048x256_0_0))) (k0_pay57 u))⟩,
    ⟨Rect.unit (s := S1024x1024) ![0, 0] S1024x128.size inb_S1024x1024_S1024x128_0_0, (k0_pay55 h (View.ld w (Rect.unit (s := S2048x1024) ![0, 0] S2048x256.size inb_S2048x1024_S2048x256_0_0)) u)⟩]
/-- A point that leaves the queries' tile, after its copies. -/
theorem secQ
    (h5 : ¬ k0_cond5 i = 1#1) (h6 : ¬ k0_cond6 i = 1#1) (h7 : ¬ k0_cond7 i = 1#1) (h8 : ¬ k0_cond8 i = 1#1) (h9 : k0_cond9 i = 1#1) (h10 : ¬ k0_cond10 i = 1#1) (h11 : ¬ k0_cond11 i = 1#1)
    (h : Vec F S1024x2048 .bf16) (w : Vec F S2048x1024 .f32) (u : Vec F S1x128 .f32) (R R' : sProp 𝕄)
    (hpro : ∀ Q : (Σ' (arg0 : BitVec 32) (arg1 : BitVec 32), BitVec 32) → sProp 𝕄,
      iprop(R ∗ (iprop(holdAt c arg13 (k0_off16 i) (k0_off16_inb i h9) w ∗ R') -∗ Q ⟨BitVec.ofNat 32 (i 0).val, BitVec.ofNat 32 (i 1).val, 0#32⟩))
      ⊢ wp frame (wpE (defs₀ (F := F)) Variants.none c none) Set.univ (k0_part20 i arg2 harg2 arg3 harg3 arg4 harg4 arg5 harg5 arg6 harg6 arg7 harg7 arg8 harg8 arg9 harg9 arg10 harg10 arg11 harg11 arg12 harg12 arg13 harg13 arg14 arg15) Q)
    (Q : PUnit → sProp 𝕄) :
    iprop(R ∗ owns (c : Thread nD τ) arg7 fullShare u ∗ owns (c : Thread nD τ) arg11 fullShare h ∗ (∃ d, owns (c : Thread nD τ) arg9 fullShare d)
        ∗ (iprop(holdAt c arg13 (k0_off16 i) (k0_off16_inb i h9) w ∗ R' ∗ owns (c : Thread nD τ) arg7 fullShare u ∗ owns (c : Thread nD τ) arg11 fullShare h ∗ owns (c : Thread nD τ) arg9 fullShare (outQ u h w)) -∗ Q ⟨⟩))
      ⊢ wp frame (wpE (defs₀ (F := F)) Variants.none c none) Set.univ (cc0_in_proj i arg2 harg2 arg3 harg3 arg4 harg4 arg5 harg5 arg6 harg6 arg7 harg7 arg8 harg8 arg9 harg9 arg10 harg10 arg11 harg11 arg12 harg12 arg13 harg13 arg14 arg15) Q := by
  rw [cc0_in_proj_eq_skeleton]; unfold cc0_in_proj_skel
  rw [wp_bind]
  refine BIBase.Entails.trans ?_ (hpro _)
  unfold owns holdAt
  iintro ⟨HR, ⟨%fu, %hfu, HU⟩, ⟨%fh, %hfh, HH⟩, ⟨%d9, %f9, -, H9⟩, Hk⟩
  obtain rfl := harg11.eq_unread hfh
  obtain rfl := harg7.eq_unread hfu
  isplitl [HR]; · iexact HR
  iintro ⟨⟨%g, %hg, HS⟩, HR⟩
  sl_exec (disch := first | sl_exact h5 | sl_exact h6 | sl_exact h7 | sl_exact h8 | sl_exact h9 | sl_exact h10 | sl_exact h11)
  sl_step
  iapply Hk
  isplitl [HS]
  · iexists _; isplitr; · ipureintro; exact hg
    iexact HS
  isplitl [HR]; · iexact HR
  isplitl [HU]
  · iexists _; isplitr; · ipureintro; exact harg7.read_unread _
    iexact HU
  isplitl [HH]
  · iexists _; isplitr; · ipureintro; exact harg11.read_unread _
    iexact HH
  iexists _; isplitr; swap; · iexact H9
  ipureintro
  rw [View.read_writes_eq_canon _ _ _ (fun y => View.cover_of_tiled _ ![1024, 128] (by rfl) y)]
  subst hg
  have eh : View.readAt (Elt F) arg11.view (Rect.unit (s := S1024x2048) ![0, 0] S1024x2048.size inb_S1024x2048_S1024x2048_0_0).toLoadRect (harg11.unread h) = h := by
    rw [View.readAt_full, hfh]
  have eu : View.readAt (Elt F) arg7.view (Rect.unit (s := S1x128) ![0, 0] S1x128.size inb_S1x128_S1x128_0_0).toLoadRect (harg7.unread u) = u := by
    rw [View.readAt_full, hfu]
  conv_rhs => rw [← eu, ← eh]; unfold outQ
  rfl

/-- What a point that leaves the keys' tile leaves in the result's buffer. -/
def outK (u : Vec F S1x128 .f32) (h : Vec F S1024x2048 .bf16) (w : Vec F S2048x1024 .f32) : Vec F S1024x1024 .bf16 :=
  View.canon [
    ⟨Rect.unit (s := S1024x1024) ![0, 896] S1024x128.size inb_S1024x1024_S1024x128_0_896, (k0_pay13 (k0_pay86 h (View.ld w (Rect.unit (s := S2048x1024) ![0, 768] S2048x256.size inb_S2048x1024_S2048x256_0_768))) u)⟩,
    ⟨Rect.unit (s := S1024x1024) ![0, 768] S1024x128.size inb_S1024x1024_S1024x128_0_768, k0_pay87 h (View.ld w (Rect.unit (s := S2048x1024) ![0, 768] S2048x256.size inb_S2048x1024_S2048x256_0_768)) u⟩,
    ⟨Rect.unit (s := S1024x1024) ![0, 640] S1024x128.size inb_S1024x1024_S1024x128_0_640, (k0_pay85 (k0_pay83 h (View.ld w (Rect.unit (s := S2048x1024) ![0, 512] S2048x256.size inb_S2048x1024_S2048x256_0_512))) (k0_pay84 h (View.ld w (Rect.unit (s := S2048x1024) ![0, 512] S2048x256.size inb_S2048x1024_S2048x256_0_512))) ((Scalar.ofBits .f32 0x43000000#32)) u)⟩,
    ⟨Rect.unit (s := S1024x1024) ![0, 512] S1024x128.size inb_S1024x1024_S1024x128_0_512, (k0_pay82 h (View.ld w (Rect.unit (s := S2048x1024) ![0, 512] S2048x256.size inb_S2048x1024_S2048x256_0_512)) u)⟩,
    ⟨Rect.unit (s := S1024x1024) ![0, 384] S1024x128.size inb_S1024x1024_S1024x128_0_384, (k0_pay80 (k0_pay78 h (View.ld w (Rect.unit (s := S2048x1024) ![0, 256] S2048x256.size inb_S2048x1024_S2048x256_0_256))) (k0_pay79 h (View.ld w (Rect.unit (s := S2048x1024) ![0, 256] S2048x256.size inb_S2048x1024_S2048x256_0_256))) u)⟩,
    ⟨Rect.unit (s := S1024x1024) ![0, 256] S1024x128.size inb_S1024x1024_S1024x128_0_256, (k0_pay77 h (View.ld w (Rect.unit (s := S2048x1024) ![0, 256] S2048x256.size inb_S2048x1024_S2048x256_0_256)) u)⟩,
    ⟨Rect.unit (s := S1024x1024) ![0, 128] S1024x128.size inb_S1024x1024_S1024x128_0_128, (k0_pay75 (k0_pay73 h (View.ld w (Rect.unit (s := S2048x1024) ![0, 0] S2048x256.size inb_S2048x1024_S2048x256_0_0))) (k0_pay74 u))⟩,
    ⟨Rect.unit (s := S1024x1024) ![0, 0] S1024x128.size inb_S1024x1024_S1024x128_0_0, (k0_pay72 h (View.ld w (Rect.unit (s := S2048x1024) ![0, 0] S2048x256.size inb_S2048x1024_S2048x256_0_0)) u)⟩]
/-- A point that leaves the keys' tile, after its copies. -/
theorem secK
    (h5 : ¬ k0_cond5 i = 1#1) (h6 : ¬ k0_cond6 i = 1#1) (h7 : ¬ k0_cond7 i = 1#1) (h8 : ¬ k0_cond8 i = 1#1) (h9 : ¬ k0_cond9 i = 1#1) (h10 : k0_cond10 i = 1#1) (h11 : ¬ k0_cond11 i = 1#1)
    (h : Vec F S1024x2048 .bf16) (w : Vec F S2048x1024 .f32) (u : Vec F S1x128 .f32) (R R' : sProp 𝕄)
    (hpro : ∀ Q : (Σ' (arg0 : BitVec 32) (arg1 : BitVec 32), BitVec 32) → sProp 𝕄,
      iprop(R ∗ (iprop(holdAt c arg13 (k0_off17 i) (k0_off17_inb i h10) w ∗ R') -∗ Q ⟨BitVec.ofNat 32 (i 0).val, BitVec.ofNat 32 (i 1).val, 0#32⟩))
      ⊢ wp frame (wpE (defs₀ (F := F)) Variants.none c none) Set.univ (k0_part20 i arg2 harg2 arg3 harg3 arg4 harg4 arg5 harg5 arg6 harg6 arg7 harg7 arg8 harg8 arg9 harg9 arg10 harg10 arg11 harg11 arg12 harg12 arg13 harg13 arg14 arg15) Q)
    (Q : PUnit → sProp 𝕄) :
    iprop(R ∗ owns (c : Thread nD τ) arg8 fullShare u ∗ owns (c : Thread nD τ) arg11 fullShare h ∗ (∃ d, owns (c : Thread nD τ) arg9 fullShare d)
        ∗ (iprop(holdAt c arg13 (k0_off17 i) (k0_off17_inb i h10) w ∗ R' ∗ owns (c : Thread nD τ) arg8 fullShare u ∗ owns (c : Thread nD τ) arg11 fullShare h ∗ owns (c : Thread nD τ) arg9 fullShare (outK u h w)) -∗ Q ⟨⟩))
      ⊢ wp frame (wpE (defs₀ (F := F)) Variants.none c none) Set.univ (cc0_in_proj i arg2 harg2 arg3 harg3 arg4 harg4 arg5 harg5 arg6 harg6 arg7 harg7 arg8 harg8 arg9 harg9 arg10 harg10 arg11 harg11 arg12 harg12 arg13 harg13 arg14 arg15) Q := by
  rw [cc0_in_proj_eq_skeleton]; unfold cc0_in_proj_skel
  rw [wp_bind]
  refine BIBase.Entails.trans ?_ (hpro _)
  unfold owns holdAt
  iintro ⟨HR, ⟨%fu, %hfu, HU⟩, ⟨%fh, %hfh, HH⟩, ⟨%d9, %f9, -, H9⟩, Hk⟩
  obtain rfl := harg11.eq_unread hfh
  obtain rfl := harg8.eq_unread hfu
  isplitl [HR]; · iexact HR
  iintro ⟨⟨%g, %hg, HS⟩, HR⟩
  sl_exec (disch := first | sl_exact h5 | sl_exact h6 | sl_exact h7 | sl_exact h8 | sl_exact h9 | sl_exact h10 | sl_exact h11)
  sl_step
  iapply Hk
  isplitl [HS]
  · iexists _; isplitr; · ipureintro; exact hg
    iexact HS
  isplitl [HR]; · iexact HR
  isplitl [HU]
  · iexists _; isplitr; · ipureintro; exact harg8.read_unread _
    iexact HU
  isplitl [HH]
  · iexists _; isplitr; · ipureintro; exact harg11.read_unread _
    iexact HH
  iexists _; isplitr; swap; · iexact H9
  ipureintro
  rw [View.read_writes_eq_canon _ _ _ (fun y => View.cover_of_tiled _ ![1024, 128] (by rfl) y)]
  subst hg
  have eh : View.readAt (Elt F) arg11.view (Rect.unit (s := S1024x2048) ![0, 0] S1024x2048.size inb_S1024x2048_S1024x2048_0_0).toLoadRect (harg11.unread h) = h := by
    rw [View.readAt_full, hfh]
  have eu : View.readAt (Elt F) arg8.view (Rect.unit (s := S1x128) ![0, 0] S1x128.size inb_S1x128_S1x128_0_0).toLoadRect (harg8.unread u) = u := by
    rw [View.readAt_full, hfu]
  conv_rhs => rw [← eu, ← eh]; unfold outK
  rfl

/-- What a point that leaves the gates' tile leaves in the result's buffer. -/
def outGate (u : Vec F S1x1024 .f32) (h : Vec F S1024x2048 .bf16) (w : Vec F S2048x1024 .f32) : Vec F S1024x1024 .bf16 :=
  View.canon [
    ⟨Rect.unit (s := S1024x1024) ![0, 768] S1024x256.size inb_S1024x1024_S1024x256_0_768, (k0_pay14 ((k0_pay93 h (View.ld w (Rect.unit (s := S2048x1024) ![0, 768] S2048x256.size inb_S2048x1024_S2048x256_0_768)) (View.ld u (Rect.unit (s := S1x1024) ![0, 768] S1x256.size inb_S1x1024_S1x256_0_768)))))⟩,
    ⟨Rect.unit (s := S1024x1024) ![0, 512] S1024x256.size inb_S1024x1024_S1024x256_0_512, (k0_pay92 h (View.ld w (Rect.unit (s := S2048x1024) ![0, 512] S2048x256.size inb_S2048x1024_S2048x256_0_512)) (View.ld u (Rect.unit (s := S1x1024) ![0, 512] S1x256.size inb_S1x1024_S1x256_0_512)))⟩,
    ⟨Rect.unit (s := S1024x1024) ![0, 256] S1024x256.size inb_S1024x1024_S1024x256_0_256, (k0_pay91 (k0_pay89 h (View.ld w (Rect.unit (s := S2048x1024) ![0, 256] S2048x256.size inb_S2048x1024_S2048x256_0_256)) (View.ld u (Rect.unit (s := S1x1024) ![0, 256] S1x256.size inb_S1x1024_S1x256_0_256))) (k0_pay90 (F := F)))⟩,
    ⟨Rect.unit (s := S1024x1024) ![0, 0] S1024x256.size inb_S1024x1024_S1024x256_0_0, (k0_pay88 h (View.ld w (Rect.unit (s := S2048x1024) ![0, 0] S2048x256.size inb_S2048x1024_S2048x256_0_0)) (View.ld u (Rect.unit (s := S1x1024) ![0, 0] S1x256.size inb_S1x1024_S1x256_0_0)))⟩]
/-- A point that leaves the gates' tile, after its copies. -/
theorem secGate
    (h5 : ¬ k0_cond5 i = 1#1) (h6 : ¬ k0_cond6 i = 1#1) (h7 : ¬ k0_cond7 i = 1#1) (h8 : ¬ k0_cond8 i = 1#1) (h9 : ¬ k0_cond9 i = 1#1) (h10 : ¬ k0_cond10 i = 1#1) (h11 : k0_cond11 i = 1#1)
    (h : Vec F S1024x2048 .bf16) (w : Vec F S2048x1024 .f32) (u : Vec F S1x1024 .f32) (R R' : sProp 𝕄)
    (hpro : ∀ Q : (Σ' (arg0 : BitVec 32) (arg1 : BitVec 32), BitVec 32) → sProp 𝕄,
      iprop(R ∗ (iprop(holdAt c arg13 (k0_off18 i) (k0_off18_inb i h11) w ∗ R') -∗ Q ⟨BitVec.ofNat 32 (i 0).val, BitVec.ofNat 32 (i 1).val, 0#32⟩))
      ⊢ wp frame (wpE (defs₀ (F := F)) Variants.none c none) Set.univ (k0_part20 i arg2 harg2 arg3 harg3 arg4 harg4 arg5 harg5 arg6 harg6 arg7 harg7 arg8 harg8 arg9 harg9 arg10 harg10 arg11 harg11 arg12 harg12 arg13 harg13 arg14 arg15) Q)
    (Q : PUnit → sProp 𝕄) :
    iprop(R ∗ owns (c : Thread nD τ) arg5 fullShare u ∗ owns (c : Thread nD τ) arg11 fullShare h ∗ (∃ d, owns (c : Thread nD τ) arg9 fullShare d)
        ∗ (iprop(holdAt c arg13 (k0_off18 i) (k0_off18_inb i h11) w ∗ R' ∗ owns (c : Thread nD τ) arg5 fullShare u ∗ owns (c : Thread nD τ) arg11 fullShare h ∗ owns (c : Thread nD τ) arg9 fullShare (outGate u h w)) -∗ Q ⟨⟩))
      ⊢ wp frame (wpE (defs₀ (F := F)) Variants.none c none) Set.univ (cc0_in_proj i arg2 harg2 arg3 harg3 arg4 harg4 arg5 harg5 arg6 harg6 arg7 harg7 arg8 harg8 arg9 harg9 arg10 harg10 arg11 harg11 arg12 harg12 arg13 harg13 arg14 arg15) Q := by
  rw [cc0_in_proj_eq_skeleton]; unfold cc0_in_proj_skel
  rw [wp_bind]
  refine BIBase.Entails.trans ?_ (hpro _)
  unfold owns holdAt
  iintro ⟨HR, ⟨%fu, %hfu, HU⟩, ⟨%fh, %hfh, HH⟩, ⟨%d9, %f9, -, H9⟩, Hk⟩
  obtain rfl := harg11.eq_unread hfh
  obtain rfl := harg5.eq_unread hfu
  isplitl [HR]; · iexact HR
  iintro ⟨⟨%g, %hg, HS⟩, HR⟩
  sl_exec (disch := first | sl_exact h5 | sl_exact h6 | sl_exact h7 | sl_exact h8 | sl_exact h9 | sl_exact h10 | sl_exact h11)
  sl_step
  iapply Hk
  isplitl [HS]
  · iexists _; isplitr; · ipureintro; exact hg
    iexact HS
  isplitl [HR]; · iexact HR
  isplitl [HU]
  · iexists _; isplitr; · ipureintro; exact harg5.read_unread _
    iexact HU
  isplitl [HH]
  · iexists _; isplitr; · ipureintro; exact harg11.read_unread _
    iexact HH
  iexists _; isplitr; swap; · iexact H9
  ipureintro
  rw [View.read_writes_eq_canon _ _ _ (fun y => View.cover_of_tiled _ ![1024, 256] (by rfl) y)]
  subst hg
  have eh : View.readAt (Elt F) arg11.view (Rect.unit (s := S1024x2048) ![0, 0] S1024x2048.size inb_S1024x2048_S1024x2048_0_0).toLoadRect (harg11.unread h) = h := by
    rw [View.readAt_full, hfh]
  have eu : View.read (Elt F) arg5.view (harg5.unread u) = u := hfu
  conv_rhs => rw [← eu, ← eh]; unfold outGate
  rfl

/-- A load of a whole matrix is the matrix. -/
theorem ld_all {X : Type} {s : Shape} {off : Fin s.rank → ℕ} (inb : ∀ a, off a + s.size a ≤ s.size a) (f : s.Idx → X) :
    (fun x => f ((Rect.unit (s := s) off s.size inb).idx x)) = f := by
  funext y
  exact congrArg f (funext fun a => Fin.ext (by
    show off a + 1 * (y a).val = (y a).val
    have := inb a; omega))

/-- The normed rows that a row tile's first point leaves in the scratch. -/
def hidden (u : Vec F S1x2048 .f32) (x : Vec F S1024x2048 .f32) : Vec F S1024x2048 .bf16 :=
  View.canon [
    ⟨Rect.unit (s := S1024x2048) ![768, 0] S256x2048.size inb_S1024x2048_S256x2048_768_0, (k0_pay18 (View.ld x (Rect.unit (s := S1024x2048) ![768, 0] S256x2048.size inb_S1024x2048_S256x2048_768_0)) u)⟩,
    ⟨Rect.unit (s := S1024x2048) ![512, 0] S256x2048.size inb_S1024x2048_S256x2048_512_0, (k0_pay17 (View.ld x (Rect.unit (s := S1024x2048) ![512, 0] S256x2048.size inb_S1024x2048_S256x2048_512_0)) u)⟩,
    ⟨Rect.unit (s := S1024x2048) ![256, 0] S256x2048.size inb_S1024x2048_S256x2048_256_0, (k0_pay16 (View.ld x (Rect.unit (s := S1024x2048) ![256, 0] S256x2048.size inb_S1024x2048_S256x2048_256_0)) u)⟩,
    ⟨Rect.unit (s := S1024x2048) ![0, 0] S256x2048.size inb_S1024x2048_S256x2048_0_0, (k0_pay15 (View.ld x (Rect.unit (s := S1024x2048) ![0, 0] S256x2048.size inb_S1024x2048_S256x2048_0_0)) u)⟩]
/-- What that point leaves in the result's buffer. -/
def outNorm (h : Vec F S1024x2048 .bf16) (w : Vec F S2048x1024 .f32) : Vec F S1024x1024 .bf16 :=
  View.canon [
    ⟨Rect.unit (s := S1024x1024) ![0, 768] S1024x256.size inb_S1024x1024_S1024x256_0_768, (k0_pay2 h (View.ld w (Rect.unit (s := S2048x1024) ![0, 768] S2048x256.size inb_S2048x1024_S2048x256_0_768)))⟩,
    ⟨Rect.unit (s := S1024x1024) ![0, 512] S1024x256.size inb_S1024x1024_S1024x256_0_512, (k0_pay1 h (View.ld w (Rect.unit (s := S2048x1024) ![0, 512] S2048x256.size inb_S2048x1024_S2048x256_0_512)))⟩,
    ⟨Rect.unit (s := S1024x1024) ![0, 256] S1024x256.size inb_S1024x1024_S1024x256_0_256, (k0_pay20 h (View.ld w (Rect.unit (s := S2048x1024) ![0, 256] S2048x256.size inb_S2048x1024_S2048x256_0_256)))⟩,
    ⟨Rect.unit (s := S1024x1024) ![0, 0] S1024x256.size inb_S1024x1024_S1024x256_0_0, (k0_pay19 h (View.ld w (Rect.unit (s := S2048x1024) ![0, 0] S2048x256.size inb_S2048x1024_S2048x256_0_0)))⟩]
/-- A row tile's first point, after its copies: the rows of `x` arrive, are normed, and the first tile is left. -/
theorem secNorm
    (h5 : k0_cond5 i = 1#1) (h6 : ¬ k0_cond6 i = 1#1) (h7 : ¬ k0_cond7 i = 1#1) (h8 : ¬ k0_cond8 i = 1#1) (h9 : ¬ k0_cond9 i = 1#1) (h10 : ¬ k0_cond10 i = 1#1) (h11 : ¬ k0_cond11 i = 1#1)
    (u : Vec F S1x2048 .f32) (x : Vec F S1024x2048 .f32) (w : Vec F S2048x1024 .f32) (fx : Buf (Elt F) (arg2.view.loc (c : Thread nD τ))) (R R' : sProp 𝕄)
    (hpro : ∀ Q : (Σ' (arg0 : BitVec 32) (arg1 : BitVec 32), BitVec 32) → sProp 𝕄,
      iprop(R ∗ (iprop(holdAt c arg13 (k0_off12 i) (k0_off12_inb i h5) w ∗ xbusy c arg2 arg12 arg14 fx x ∗ (∃ W, owes (c : Thread nD τ) 0 W) ∗ R') -∗ Q ⟨BitVec.ofNat 32 (i 0).val, BitVec.ofNat 32 (i 1).val, 0#32⟩))
      ⊢ wp frame (wpE (defs₀ (F := F)) Variants.none c none) Set.univ (k0_part20 i arg2 harg2 arg3 harg3 arg4 harg4 arg5 harg5 arg6 harg6 arg7 harg7 arg8 harg8 arg9 harg9 arg10 harg10 arg11 harg11 arg12 harg12 arg13 harg13 arg14 arg15) Q)
    (Q : PUnit → sProp 𝕄) :
    iprop(R ∗ owns (c : Thread nD τ) arg3 fullShare u ∗ (∃ d, owns (c : Thread nD τ) arg11 fullShare d) ∗ (∃ d, owns (c : Thread nD τ) arg9 fullShare d)
        ∗ (iprop(holdAt c arg13 (k0_off12 i) (k0_off12_inb i h5) w ∗ xfree c arg2 arg12 arg14 fx ∗ (∃ W, owes (c : Thread nD τ) 0 W) ∗ R' ∗ owns (c : Thread nD τ) arg3 fullShare u
            ∗ owns (c : Thread nD τ) arg11 fullShare (hidden u x) ∗ owns (c : Thread nD τ) arg9 fullShare (outNorm (hidden u x) w)) -∗ Q ⟨⟩))
      ⊢ wp frame (wpE (defs₀ (F := F)) Variants.none c none) Set.univ (cc0_in_proj i arg2 harg2 arg3 harg3 arg4 harg4 arg5 harg5 arg6 harg6 arg7 harg7 arg8 harg8 arg9 harg9 arg10 harg10 arg11 harg11 arg12 harg12 arg13 harg13 arg14 arg15) Q := by
  rw [cc0_in_proj_eq_skeleton]; unfold cc0_in_proj_skel
  rw [wp_bind]
  refine BIBase.Entails.trans ?_ (hpro _)
  unfold owns holdAt xbusy xfree
  iintro ⟨HR, ⟨%fu, %hfu, HU⟩, ⟨%d11, %f11, -, HH⟩, ⟨%d9, %f9, -, H9⟩, Hk⟩
  obtain rfl := harg3.eq_unread hfu
  isplitl [HR]; · iexact HR
  iintro ⟨⟨%g, %hg, HS⟩, ⟨%gx, %oc, %hgx, Hd, HX⟩, ⟨%W, HO⟩, HR⟩
  sl_exec (disch := first | sl_exact h5 | sl_exact h6 | sl_exact h7 | sl_exact h8 | sl_exact h9 | sl_exact h10 | sl_exact h11)
  sl_step
  iapply Hk
  isplitl [HS]
  · iexists _; isplitr; · ipureintro; exact hg
    iexact HS
  isplitl [Hd_dst Hd HX]
  · isplitl [Hd_dst]; · iexists _; iexact Hd_dst
    isplitl [Hd]; · iexact Hd
    iexact HX
  isplitl [HO]; · iexists _; iexact HO
  isplitl [HR]; · iexact HR
  isplitl [HU]
  · iexists _; isplitr; · ipureintro; exact harg3.read_unread _
    iexact HU
  have eu : View.readAt (Elt F) arg3.view (Rect.unit (s := S1x2048) ![0, 0] S1x2048.size inb_S1x2048_S1x2048_0_0).toLoadRect (harg3.unread u) = u := by
    rw [View.readAt_full, hfu]
  subst hg hgx
  isplitl [HH]
  · iexists _; isplitr; swap; · iexact HH
    ipureintro
    rw [View.read_writes_eq_canon _ _ _ (fun y => View.cover_of_tiled _ ![256, 2048] (by rfl) y)]
    conv_rhs => rw [← eu]; unfold hidden
    rfl
  iexists _; isplitr; swap; · iexact H9
  ipureintro
  rw [View.read_writes_eq_canon _ _ _ (fun y => View.cover_of_tiled _ ![1024, 256] (by rfl) y)]
  have ev : secNorm.sl.v c arg3 harg3 arg11 arg12 u gx = hidden u (View.read (Elt F) arg12.view gx) := by
    unfold secNorm.sl.v
    conv_rhs => rw [← eu]
    refine (View.readCov_eq_canon_ld _ _ (Rect.unit (s := S1024x2048) ![0, 0] S1024x2048.size inb_S1024x2048_S1024x2048_0_0)
      (fun y => View.cover_of_tiled _ ![256, 2048] (by rfl) y)).trans ?_
    refine (ld_all _ _).trans ?_
    rfl
  have e176 : secNorm.sl.v176 c arg3 harg3 arg11 arg12 u gx = hidden u (View.read (Elt F) arg12.view gx) := ev
  have e142 : secNorm.sl.v142 c i arg3 harg3 arg11 arg12 arg13 h5 u g gx = k0_pay19 (secNorm.sl.v c arg3 harg3 arg11 arg12 u gx)
      (View.readAt (Elt F) (slotM arg13 (k0_off12 i) (k0_off12_inb i h5)).view (Rect.unit (s := S2048x1024) ![0, 0] S2048x256.size inb_S2048x1024_S2048x256_0_0).toLoadRect g) := rfl
  have e158 : secNorm.sl.v158 c i arg3 harg3 arg11 arg12 arg13 h5 u g gx = k0_pay20 (secNorm.sl.v c arg3 harg3 arg11 arg12 u gx)
      (View.readAt (Elt F) (slotM arg13 (k0_off12 i) (k0_off12_inb i h5)).view (Rect.unit (s := S2048x1024) ![0, 256] S2048x256.size inb_S2048x1024_S2048x256_0_256).toLoadRect g) := rfl
  rw [e142, e158, ev, e176]
  rfl

end Cert.InProjIdeal.Hand

end
-- ==== Proof.InProjIdealBody.lean ====
module

public import proofs.«01_k».proof.Proof.InProjIdealRuns
public import proofs.«01_k».proof.Proof.Gen.InProjIdeal.Launch
public import proofs.«01_k».proof.Proof.Gen.InProjIdeal.Points
public import Idealize.ShloMosaic.Lib.Claim
public import Idealize.ShloMosaic.Lib.Pipeline.TableIdle

@[expose] public section

set_option maxRecDepth 16384

noncomputable section

namespace Cert.InProjIdeal.Hand

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The assertions' algebra: the pipeline's beside the counters of the weights' copies. -/
local notation "𝕄" => MT nD τ sig Unit (Elt F) ℕ (Pipeline.UD sig nD τ) ℕ

variable (m : (ℓ : Loc nD τ sig) → Buf (Elt F) ℓ) (ρ : Dev nD → PrngReg)

/-! ## The points -/

/-- The column tile of point `t` is `t % 11`, its row tile `t / 11`. -/
theorem tile_val (t : Fin cfg0.N) : (grid0.coords t 1).val = t.val % 11 := by
  have e1 : (grid0.coords t 1).val = t.val / 1 % 11 := Pipeline.Grid.coords_val t 1 (by decide) rfl
  rw [e1, Nat.div_one]
theorem row_val (t : Fin cfg0.N) : (grid0.coords t 0).val = t.val / 11 := by
  have ht : t.val < 88 := Nat.lt_of_lt_of_eq t.isLt N_0
  have e0 : (grid0.coords t 0).val = t.val / 11 % 8 := Pipeline.Grid.coords_val t 0 (by decide) rfl
  omega
theorem point_val (t : Fin cfg0.N) : 11 * (grid0.coords t 0).val + (grid0.coords t 1).val = t.val := by
  rw [tile_val, row_val]; omega
theorem lt88 (t : Fin cfg0.N) : t.val < 88 := Nat.lt_of_lt_of_eq t.isLt N_0

/-- What each condition of the body says of the point. -/
theorem cond1_iff (i : grid0.Coords) : k0_cond1 i = 1#1 ↔ ((i 0).val = 0 ∧ (i 1).val = 0) := by
  have hi : (i 1).val < 11 := (i 1).isLt
  have hi0 : (i 0).val < 8 := (i 0).isLt
  simp only [k0_cond1]
  generalize (i 0).val = a at *; generalize (i 1).val = b at *; clear i; revert hi; revert b; revert hi0; revert a; decide +kernel
theorem cond1_at (t : Fin cfg0.N) : k0_cond1 (grid0.coords t) = 1#1 ↔ (t.val = 0) := by
  have := lt88 t
  rw [cond1_iff, tile_val, row_val]; omega
theorem cond2_iff (i : grid0.Coords) : k0_cond2 i = 1#1 ↔ (11 * (i 0).val + (i 1).val + 2 < 88) := by
  have hi : (i 1).val < 11 := (i 1).isLt
  have hi0 : (i 0).val < 8 := (i 0).isLt
  simp only [k0_cond2]
  generalize (i 0).val = a at *; generalize (i 1).val = b at *; clear i; revert hi; revert b; revert hi0; revert a; decide +kernel
theorem cond2_at (t : Fin cfg0.N) : k0_cond2 (grid0.coords t) = 1#1 ↔ (t.val + 2 < 88) := by
  have := lt88 t
  rw [cond2_iff, tile_val, row_val]; omega
theorem cond4_iff (i : grid0.Coords) : k0_cond4 i = 1#1 ↔ ((i 1).val = 1 ∧ (i 0).val + 1 < 8) := by
  have hi : (i 1).val < 11 := (i 1).isLt
  have hi0 : (i 0).val < 8 := (i 0).isLt
  simp only [k0_cond4]
  generalize (i 0).val = a at *; generalize (i 1).val = b at *; clear i; revert hi; revert b; revert hi0; revert a; decide +kernel
theorem cond4_at (t : Fin cfg0.N) : k0_cond4 (grid0.coords t) = 1#1 ↔ (t.val % 11 = 1 ∧ t.val / 11 + 1 < 8) := by
  have := lt88 t
  rw [cond4_iff, tile_val, row_val]
theorem cond5_iff (i : grid0.Coords) : k0_cond5 i = 1#1 ↔ ((i 1).val = 0) := by
  have hi : (i 1).val < 11 := (i 1).isLt
  have hi0 : (i 0).val < 8 := (i 0).isLt
  simp only [k0_cond5]
  word_cmp
theorem cond5_at (t : Fin cfg0.N) : k0_cond5 (grid0.coords t) = 1#1 ↔ (t.val % 11 = 0) := by
  have := lt88 t
  rw [cond5_iff, tile_val]
theorem cond6_iff (i : grid0.Coords) : k0_cond6 i = 1#1 ↔ ((i 1).val = 3) := by
  have hi : (i 1).val < 11 := (i 1).isLt
  have hi0 : (i 0).val < 8 := (i 0).isLt
  simp only [k0_cond6]
  word_cmp
theorem cond6_at (t : Fin cfg0.N) : k0_cond6 (grid0.coords t) = 1#1 ↔ (t.val % 11 = 3) := by
  have := lt88 t
  rw [cond6_iff, tile_val]
theorem cond7_iff (i : grid0.Coords) : k0_cond7 i = 1#1 ↔ ((i 1).val = 1) := by
  have hi : (i 1).val < 11 := (i 1).isLt
  have hi0 : (i 0).val < 8 := (i 0).isLt
  simp only [k0_cond7]
  word_cmp
theorem cond7_at (t : Fin cfg0.N) : k0_cond7 (grid0.coords t) = 1#1 ↔ (t.val % 11 = 1) := by
  have := lt88 t
  rw [cond7_iff, tile_val]
theorem cond8_iff (i : grid0.Coords) : k0_cond8 i = 1#1 ↔ ((i 1).val = 2 ∨ (i 1).val = 6) := by
  have hi : (i 1).val < 11 := (i 1).isLt
  have hi0 : (i 0).val < 8 := (i 0).isLt
  simp only [k0_cond8]
  word_cmp
theorem cond8_at (t : Fin cfg0.N) : k0_cond8 (grid0.coords t) = 1#1 ↔ (t.val % 11 = 2 ∨ t.val % 11 = 6) := by
  have := lt88 t
  rw [cond8_iff, tile_val]
theorem cond9_iff (i : grid0.Coords) : k0_cond9 i = 1#1 ↔ ((i 1).val = 4) := by
  have hi : (i 1).val < 11 := (i 1).isLt
  have hi0 : (i 0).val < 8 := (i 0).isLt
  simp only [k0_cond9]
  word_cmp
theorem cond9_at (t : Fin cfg0.N) : k0_cond9 (grid0.coords t) = 1#1 ↔ (t.val % 11 = 4) := by
  have := lt88 t
  rw [cond9_iff, tile_val]
theorem cond10_iff (i : grid0.Coords) : k0_cond10 i = 1#1 ↔ ((i 1).val = 5) := by
  have hi : (i 1).val < 11 := (i 1).isLt
  have hi0 : (i 0).val < 8 := (i 0).isLt
  simp only [k0_cond10]
  word_cmp
theorem cond10_at (t : Fin cfg0.N) : k0_cond10 (grid0.coords t) = 1#1 ↔ (t.val % 11 = 5) := by
  have := lt88 t
  rw [cond10_iff, tile_val]
theorem cond11_iff (i : grid0.Coords) : k0_cond11 i = 1#1 ↔ (7 ≤ (i 1).val) := by
  have hi : (i 1).val < 11 := (i 1).isLt
  have hi0 : (i 0).val < 8 := (i 0).isLt
  simp only [k0_cond11]
  word_cmp
theorem cond11_at (t : Fin cfg0.N) : k0_cond11 (grid0.coords t) = 1#1 ↔ (7 ≤ t.val % 11) := by
  have := lt88 t
  rw [cond11_iff, tile_val]
theorem condw_iff (i : grid0.Coords) : firstWord i = 1#1 ↔ ((i 0).val = 0 ∧ (i 1).val = 0) := by
  have hi : (i 1).val < 11 := (i 1).isLt
  have hi0 : (i 0).val < 8 := (i 0).isLt
  simp only [firstWord]
  word_cmp
theorem condw_at (t : Fin cfg0.N) : firstWord (grid0.coords t) = 1#1 ↔ (t.val = 0) := by
  have := lt88 t
  rw [condw_iff, tile_val, row_val]; omega

/-- So the first result is written at every point, and the second at the points of tile 1. -/
theorem idle_5 (t : Fin cfg0.N) : cfg0.idle 5 (grid0.coords t) = false := by
  have ht := lt88 t
  show (!(k0_cond5 (grid0.coords t) == 1#1) && !(k0_cond6 (grid0.coords t) == 1#1) && !(k0_cond7 (grid0.coords t) == 1#1) && !(k0_cond8 (grid0.coords t) == 1#1)
    && !(k0_cond9 (grid0.coords t) == 1#1) && !(k0_cond10 (grid0.coords t) == 1#1) && !(k0_cond11 (grid0.coords t) == 1#1)) = false
  by_cases h5 : t.val % 11 = 0
  · rw [beq_iff_eq.mpr ((cond5_at t).mpr h5)]; simp
  by_cases h6 : t.val % 11 = 3
  · rw [beq_iff_eq.mpr ((cond6_at t).mpr h6)]; simp
  by_cases h7 : t.val % 11 = 1
  · rw [beq_iff_eq.mpr ((cond7_at t).mpr h7)]; simp
  by_cases h8 : t.val % 11 = 2 ∨ t.val % 11 = 6
  · rw [beq_iff_eq.mpr ((cond8_at t).mpr h8)]; simp
  by_cases h9 : t.val % 11 = 4
  · rw [beq_iff_eq.mpr ((cond9_at t).mpr h9)]; simp
  by_cases h10 : t.val % 11 = 5
  · rw [beq_iff_eq.mpr ((cond10_at t).mpr h10)]; simp
  rw [beq_iff_eq.mpr ((cond11_at t).mpr (by omega))]; simp
theorem idle_6 (t : Fin cfg0.N) : cfg0.idle 6 (grid0.coords t) = !decide (t.val % 11 = 1) := by
  show (!(k0_cond7 (grid0.coords t) == 1#1)) = _
  by_cases h : t.val % 11 = 1
  · rw [beq_iff_eq.mpr ((cond7_at t).mpr h), decide_eq_true h]
  · rw [beq_eq_false_iff_ne.mpr (fun e => h ((cond7_at t).mp e)), decide_eq_false h]
theorem flush_6 (t : Fin cfg0.N) : (cfg0.win 6).flush t = decide (t.val % 11 = 10) := by
  by_cases h : t.val % 11 = 10
  · rw [decide_eq_true h]; exact (flush0_6 t).mpr h
  · rw [decide_eq_false h, Bool.eq_false_iff]; exact fun e => h ((flush0_6 t).mp e)
/-- The second result's buffer holds nothing of its row tile before tile 1 has run. -/
theorem fresh_6 (t : Fin cfg0.N) : cfg0.fresh 6 t.val = decide (t.val % 11 < 2) :=
  cfg0.fresh_tab 6 (fun n => decide (n % 11 < 2)) rfl (fun t => by
    rw [flush_6]
    show _ = (_ || (cfg0.idle 6 (grid0.coords t) && _))
    rw [idle_6]
    have : t.val % 11 < 11 := Nat.mod_lt _ (by decide)
    have e : (t.val + 1) % 11 = if t.val % 11 = 10 then 0 else t.val % 11 + 1 := by split <;> omega
    simp only [e]
    generalize t.val % 11 = n at *
    clear e
    revert n; decide) t.val (Nat.le_of_lt t.isLt)

/-! ## The arrays left in HBM, the scratch buffers -/

abbrev xM : Memref sig .tc .hbm S8192x2048 .f32 := Memref.whole main_arg0
abbrev wM : Memref sig .tc .hbm S2048x11264 .f32 := Memref.whole main_arg2
abbrev hidM : Memref sig .tc .vmem S1024x2048 .bf16 := Memref.whole cc0_scratch0
abbrev tileM : Memref sig .tc .vmem S1024x2048 .f32 := Memref.whole cc0_scratch1
abbrev ringM : Memref sig .tc .vmem S3x2048x1024 .f32 := Memref.whole cc0_scratch2

/-- Of a number, its slot, its column tile, its row tile. -/
def fin3 (n : ℕ) : Fin 3 := ⟨n % 3, Nat.mod_lt _ (by decide)⟩
def fin11 (n : ℕ) : Fin 11 := ⟨n % 11, Nat.mod_lt _ (by decide)⟩
def fin8 (n : ℕ) : Fin 8 := ⟨n % 8, Nat.mod_lt _ (by decide)⟩
theorem fin3_add (n : ℕ) : fin3 (n + 3) = fin3 n := Fin.ext (by simp [fin3])

/-- The share of the weights each slot has. -/
def qs : Fin 3 → PosShare TreeShare := ![fullShare.left, fullShare.right.left, fullShare.right.right]

/-- The weights' column tile of point `k`, and the row tile `r` of `x`. -/
def wcols (c : Dev nD) (k : ℕ) : Vec F S2048x1024 .f32 := colsOf (wM.view.read (Elt F) (V m c main_arg2)) (fin11 k)
def xrows (c : Dev nD) (r : ℕ) : Vec F S1024x2048 .f32 := rowsOf (xM.view.read (Elt F) (V m c main_arg0)) (fin8 r)
/-- A slot landed, a slot with a copy in flight. -/
def slotFree (c : Dev nD) (s : Fin 3) : sProp 𝕄 := iprop(∃ x, landed c wM ringM cc0_scratch4 s (qs s) (V m c main_arg2) x)
def slotBusy (c : Dev nD) (s : Fin 3) (k : ℕ) : sProp 𝕄 := busy c wM ringM cc0_scratch4 s (qs s) (V m c main_arg2) (wcols m c k)
/-- Before point `k`: the slot of its weights, and the slot of the next point's. -/
def cur (c : Dev nD) (k : ℕ) : sProp 𝕄 := if k = 0 ∨ 88 ≤ k then slotFree m c (fin3 k) else slotBusy m c (fin3 k) k
def nxt (c : Dev nD) (k : ℕ) : sProp 𝕄 := if k = 0 ∨ 88 ≤ k + 1 then slotFree m c (fin3 (k + 1)) else slotBusy m c (fin3 (k + 1)) (k + 1)
/-- The three slots before point `k`. -/
def slots (c : Dev nD) (k : ℕ) : sProp 𝕄 := iprop(cur m c k ∗ nxt m c k ∗ slotFree m c (fin3 (k + 2)))
theorem cur_free (c : Dev nD) {k : ℕ} (h : k = 0 ∨ 88 ≤ k) : cur m c k = slotFree m c (fin3 k) := if_pos h
theorem cur_busy (c : Dev nD) {k : ℕ} (h : ¬ (k = 0 ∨ 88 ≤ k)) : cur m c k = slotBusy m c (fin3 k) k := if_neg h
theorem nxt_free (c : Dev nD) {k : ℕ} (h : k = 0 ∨ 88 ≤ k + 1) : nxt m c k = slotFree m c (fin3 (k + 1)) := if_pos h
theorem nxt_busy (c : Dev nD) {k : ℕ} (h : ¬ (k = 0 ∨ 88 ≤ k + 1)) : nxt m c k = slotBusy m c (fin3 (k + 1)) (k + 1) := if_neg h

/-- The row tile's buffer with nothing in flight, and with row tile `r` in flight. -/
def xIdle (c : Dev nD) : sProp 𝕄 := xfree c xM tileM cc0_scratch3 (V m c main_arg0)
def xFly (c : Dev nD) (r : ℕ) : sProp 𝕄 := xbusy c xM tileM cc0_scratch3 (V m c main_arg0) (xrows m c r)
/-- Before point `k` the next row tile is in flight from tile 2 on, and at tile 0 this row tile. -/
def xst (c : Dev nD) (k : ℕ) : sProp 𝕄 :=
  if (k ≠ 0 ∧ k % 11 = 0 ∨ 2 ≤ k % 11) ∧ (k + 10) / 11 < 8 then xFly m c ((k + 10) / 11) else xIdle m c
theorem xst_fly (c : Dev nD) {k : ℕ} (h : (k ≠ 0 ∧ k % 11 = 0 ∨ 2 ≤ k % 11) ∧ (k + 10) / 11 < 8) : xst m c k = xFly m c ((k + 10) / 11) := if_pos h
theorem xst_idle (c : Dev nD) {k : ℕ} (h : ¬ ((k ≠ 0 ∧ k % 11 = 0 ∨ 2 ≤ k % 11) ∧ (k + 10) / 11 < 8)) : xst m c k = xIdle m c := if_neg h
/-- After the copies of point `k`. -/
def xmid (c : Dev nD) (k : ℕ) : sProp 𝕄 := if k % 11 = 0 then xFly m c (k / 11) else xst m c (k + 1)
theorem xmid_first (c : Dev nD) {k : ℕ} (h : k % 11 = 0) : xmid m c k = xFly m c (k / 11) := if_pos h
theorem xmid_later (c : Dev nD) {k : ℕ} (h : k % 11 ≠ 0) : xmid m c k = xst m c (k + 1) := if_neg h

/-! ## The copies of a point -/

/-- What a point's copies leave beside its weights' slot. -/
def beside (c : Dev nD) (k : ℕ) : sProp 𝕄 :=
  iprop(cellAt c cc0_scratch4 (semO (fin3 k)) (semO_inb _) ∗ (wM.view.loc (c : Thread nD τ) ↦[wM.view.set]{qs (fin3 k)} V m c main_arg2)
    ∗ cur m c (k + 1) ∗ nxt m c (k + 1))
/-- With the slot they are the slots before the next point. -/
theorem slots_next (c : Dev nD) (k : ℕ) (o : Fin 3 → ℕ) (ho) (e : o = slotO (fin3 k)) (w : Vec F S2048x1024 .f32) :
    iprop(holdAt c ringM o ho w ∗ beside m c k) ⊢ slots m c (k + 1) := by
  subst e
  unfold beside slots slotFree landed
  rw [show k + 1 + 2 = k + 3 from rfl, fin3_add]
  iintro ⟨H, Hc, HX, H1, H2⟩
  isplitl [H1]; · iexact H1
  isplitl [H2]; · iexact H2
  iexists w
  isplitl [H]; · iexact H
  isplitl [Hc]; · iexact Hc
  iexact HX

/-- Every point's copies: its weights have arrived, the later points' are started. -/
theorem copies_at (c : Dev nD) (t : Fin cfg0.N) (arg3 : Memref sig .tc .vmem S1x2048 .f32) (harg3 : arg3.IsWhole)
    (arg5 : Memref sig .tc .vmem S1x1024 .f32) (harg5 : arg5.IsWhole)
    (arg6 : Memref sig .tc .vmem S2x1024 .f32) (harg6 : arg6.IsWhole)
    (arg7 : Memref sig .tc .vmem S1x128 .f32) (harg7 : arg7.IsWhole)
    (arg8 : Memref sig .tc .vmem S1x128 .f32) (harg8 : arg8.IsWhole)
    (arg9 : Memref sig .tc .vmem S1024x1024 .bf16) (harg9 : arg9.IsWhole)
    (arg10 : Memref sig .tc .vmem S1024x3072 .bf16) (harg10 : arg10.IsWhole)
    (arg11 : Memref sig .tc .vmem S1024x2048 .bf16) (harg11 : arg11.IsWhole)
    (o : Fin 3 → ℕ) (ho : ∀ a, o a + S1x2048x1024.size a ≤ S3x2048x1024.size a) (e : o = slotO (fin3 t.val))
    (Q : (Σ' (arg0 : BitVec 32) (arg1 : BitVec 32), BitVec 32) → sProp 𝕄) :
    iprop((slots m c t.val ∗ xst m c t.val ∗ (∃ W, owes (c : Thread nD τ) 0 W))
        ∗ (iprop(holdAt c ringM o ho (wcols m c t.val) ∗ beside m c t.val ∗ xmid m c t.val ∗ (∃ W, owes (c : Thread nD τ) 0 W)) -∗ Q ⟨BitVec.ofNat 32 (grid0.coords t 0).val, BitVec.ofNat 32 (grid0.coords t 1).val, 0#32⟩))
      ⊢ wp frame (wpE (defs₀ (F := F)) Variants.none c none) Set.univ (k0_part20 (grid0.coords t) xM (Memref.isWhole_whole _) arg3 harg3 wM (Memref.isWhole_whole _) arg5 harg5 arg6 harg6 arg7 harg7 arg8 harg8 arg9 harg9 arg10 harg10 arg11 harg11 tileM (Memref.isWhole_whole _) ringM (Memref.isWhole_whole _) cc0_scratch3 cc0_scratch4) Q := by
  have ht := lt88 t
  have hp := point_val t
  subst e
  have es : (fin3 t.val).val = (11 * (grid0.coords t 0).val + (grid0.coords t 1).val) % 3 := by rw [hp]; rfl
  have es' : (fin3 (t.val + 2)).val = (11 * (grid0.coords t 0).val + (grid0.coords t 1).val + 2) % 3 := by rw [hp]; rfl
  have eb : (fin11 (t.val + 2)).val = (11 * (grid0.coords t 0).val + (grid0.coords t 1).val + 2) % 11 := by rw [hp]; rfl
  by_cases h0 : t.val = 0
  · have h1 := (cond1_at t).mpr h0
    have h2 := (cond2_at t).mpr (by omega)
    have h3 := (condw_at t).mpr h0
    have h4 : ¬ k0_cond4 (grid0.coords t) = 1#1 := fun h => by have := (cond4_at t).mp h; omega
    obtain ⟨n, hn⟩ := t
    obtain rfl : n = 0 := h0
    unfold slots beside
    simp only
    rw [cur_free m c (k := 0) (by decide), nxt_free m c (k := 0) (by decide), xst_idle m c (k := 0) (by decide), cur_busy m c (k := 0 + 1) (by decide), nxt_busy m c (k := 0 + 1) (by decide),
      xmid_first m c (k := 0) (by decide)]
    unfold slotFree slotBusy xIdle xFly
    iintro ⟨⟨⟨⟨%x, H0⟩, ⟨%y, H1⟩, ⟨%z, H2⟩⟩, HX, ⟨%W, HW⟩⟩, Hk⟩
    iapply (copiesA c (grid0.coords ⟨0, hn⟩) xM (Memref.isWhole_whole _) arg3 harg3 wM (Memref.isWhole_whole _) arg5 harg5 arg6 harg6 arg7 harg7 arg8 harg8 arg9 harg9 arg10 harg10 arg11 harg11 tileM (Memref.isWhole_whole _) ringM (Memref.isWhole_whole _) cc0_scratch3 cc0_scratch4 h1 h2 h3 h4 hp (qs 0) (qs 1) (qs 2) x y z (V m c main_arg2) (V m c main_arg0) W Q)
    isplitl [H0]; · iexact H0
    isplitl [H1]; · iexact H1
    isplitl [H2]; · iexact H2
    isplitl [HX]; · iexact HX
    isplitl [HW]; · iexact HW
    unfold landed
    iintro ⟨⟨HS, Hc, HF⟩, H1, H2, HX, HW⟩
    iapply Hk
    isplitl [HS]; · iexact HS
    isplitl [Hc HF H1 H2]
    · isplitl [Hc]; · iexact Hc
      isplitl [HF]; · iexact HF
      isplitl [H1]; · iexact H1
      iexact H2
    isplitl [HX]; · iexact HX
    iexact HW
  have h1 : ¬ k0_cond1 (grid0.coords t) = 1#1 := fun h => h0 ((cond1_at t).mp h)
  have h3 : ¬ firstWord (grid0.coords t) = 1#1 := fun h => h0 ((condw_at t).mp h)
  by_cases h86 : 86 ≤ t.val
  · have h2 : ¬ k0_cond2 (grid0.coords t) = 1#1 := fun h => by have := (cond2_at t).mp h; omega
    have h4 : ¬ k0_cond4 (grid0.coords t) = 1#1 := fun h => by have := (cond4_at t).mp h; omega
    have en : nxt m c t.val = cur m c (t.val + 1) := by
      by_cases h : t.val + 1 < 88
      · rw [nxt_busy m c (by omega), cur_busy m c (by omega)]
      · rw [nxt_free m c (by omega), cur_free m c (by omega)]
    unfold slots beside
    rw [cur_busy m c (k := t.val) (by omega), en, nxt_free m c (k := t.val + 1) (by omega), xst_idle m c (by omega), xmid_later m c (by omega), xst_idle m c (by omega)]
    unfold slotBusy
    iintro ⟨⟨⟨H0, H1, H2⟩, HX, ⟨%W, HW⟩⟩, Hk⟩
    iapply (copiesT c (grid0.coords t) xM (Memref.isWhole_whole _) arg3 harg3 wM (Memref.isWhole_whole _) arg5 harg5 arg6 harg6 arg7 harg7 arg8 harg8 arg9 harg9 arg10 harg10 arg11 harg11 tileM (Memref.isWhole_whole _) ringM (Memref.isWhole_whole _) cc0_scratch3 cc0_scratch4 h1 h2 h3 h4 (fin3 t.val) es (qs (fin3 t.val)) (wcols m c t.val) (V m c main_arg2) (V m c main_arg0) W Q)
    isplitl [H0]; · iexact H0
    isplitl [HW]; · iexact HW
    unfold landed
    iintro ⟨⟨HS, Hc, HF⟩, HW⟩
    iapply Hk
    isplitl [HS]; · iexact HS
    isplitl [Hc HF H1 H2]
    · isplitl [Hc]; · iexact Hc
      isplitl [HF]; · iexact HF
      isplitl [H1]; · iexact H1
      iexact H2
    isplitl [HX]; · iexact HX
    iexact HW
  have h2 := (cond2_at t).mpr (by omega)
  unfold slots beside
  rw [cur_busy m c (k := t.val) (by omega), nxt_busy m c (k := t.val) (by omega), cur_busy m c (k := t.val + 1) (by omega), nxt_busy m c (k := t.val + 1) (by omega)]
  by_cases h4 : t.val % 11 = 1 ∧ t.val / 11 + 1 < 8
  · rw [xst_idle m c (by omega), xmid_later m c (by omega), xst_fly m c (by omega), show (t.val + 1 + 10) / 11 = t.val / 11 + 1 by omega]
    unfold slotFree slotBusy xIdle xFly
    iintro ⟨⟨⟨H0, H1, ⟨%y, H2⟩⟩, HX, ⟨%W, HW⟩⟩, Hk⟩
    iapply (copiesC c (grid0.coords t) xM (Memref.isWhole_whole _) arg3 harg3 wM (Memref.isWhole_whole _) arg5 harg5 arg6 harg6 arg7 harg7 arg8 harg8 arg9 harg9 arg10 harg10 arg11 harg11 tileM (Memref.isWhole_whole _) ringM (Memref.isWhole_whole _) cc0_scratch3 cc0_scratch4 h1 h2 h3 ((cond4_at t).mpr h4) (fin3 t.val) es (fin3 (t.val + 2)) es' (fin11 (t.val + 2)) eb
      (fin8 (t.val / 11 + 1)) (by rw [row_val]; exact Nat.mod_eq_of_lt h4.2) (qs (fin3 t.val)) (qs (fin3 (t.val + 2))) (wcols m c t.val) y (V m c main_arg2) (V m c main_arg0) W Q)
    isplitl [H0]; · iexact H0
    isplitl [H2]; · iexact H2
    isplitl [HX]; · iexact HX
    isplitl [HW]; · iexact HW
    unfold landed
    iintro ⟨⟨HS, Hc, HF⟩, H2, HX, HW⟩
    iapply Hk
    isplitl [HS]; · iexact HS
    isplitl [Hc HF H1 H2]
    · isplitl [Hc]; · iexact Hc
      isplitl [HF]; · iexact HF
      isplitl [H1]; · iexact H1
      iexact H2
    isplitl [HX]; · iexact HX
    iexact HW
  · have ex : xst m c t.val = xmid m c t.val := by
      by_cases h11 : t.val % 11 = 0
      · rw [xmid_first m c h11, xst_fly m c (by omega), show (t.val + 10) / 11 = t.val / 11 by omega]
      · rw [xmid_later m c h11]
        by_cases h8 : 2 ≤ t.val % 11 ∧ (t.val + 10) / 11 < 8
        · rw [xst_fly m c (by omega), xst_fly m c (by omega), show (t.val + 1 + 10) / 11 = (t.val + 10) / 11 by omega]
        · rw [xst_idle m c (by omega), xst_idle m c (by omega)]
    rw [ex]
    unfold slotFree slotBusy
    iintro ⟨⟨⟨H0, H1, ⟨%y, H2⟩⟩, HX, ⟨%W, HW⟩⟩, Hk⟩
    iapply (copiesB c (grid0.coords t) xM (Memref.isWhole_whole _) arg3 harg3 wM (Memref.isWhole_whole _) arg5 harg5 arg6 harg6 arg7 harg7 arg8 harg8 arg9 harg9 arg10 harg10 arg11 harg11 tileM (Memref.isWhole_whole _) ringM (Memref.isWhole_whole _) cc0_scratch3 cc0_scratch4 h1 h2 h3 (fun h => h4 ((cond4_at t).mp h)) (fin3 t.val) es (fin3 (t.val + 2)) es' (fin11 (t.val + 2)) eb
      (qs (fin3 t.val)) (qs (fin3 (t.val + 2))) (wcols m c t.val) y (V m c main_arg2) (V m c main_arg0) W Q)
    isplitl [H0]; · iexact H0
    isplitl [H2]; · iexact H2
    isplitl [HW]; · iexact HW
    unfold landed
    iintro ⟨⟨HS, Hc, HF⟩, H2, HW⟩
    iapply Hk
    isplitl [HS]; · iexact HS
    isplitl [Hc HF H1 H2]
    · isplitl [Hc]; · iexact Hc
      isplitl [HF]; · iexact HF
      isplitl [H1]; · iexact H1
      iexact H2
    isplitl [HX]; · iexact HX
    iexact HW

/-- The same at a row tile's first point, the row tile's copy named. -/
theorem copies_first (c : Dev nD) (t : Fin cfg0.N) (h0 : t.val % 11 = 0) (arg3 : Memref sig .tc .vmem S1x2048 .f32) (harg3 : arg3.IsWhole)
    (arg5 : Memref sig .tc .vmem S1x1024 .f32) (harg5 : arg5.IsWhole)
    (arg6 : Memref sig .tc .vmem S2x1024 .f32) (harg6 : arg6.IsWhole)
    (arg7 : Memref sig .tc .vmem S1x128 .f32) (harg7 : arg7.IsWhole)
    (arg8 : Memref sig .tc .vmem S1x128 .f32) (harg8 : arg8.IsWhole)
    (arg9 : Memref sig .tc .vmem S1024x1024 .bf16) (harg9 : arg9.IsWhole)
    (arg10 : Memref sig .tc .vmem S1024x3072 .bf16) (harg10 : arg10.IsWhole)
    (arg11 : Memref sig .tc .vmem S1024x2048 .bf16) (harg11 : arg11.IsWhole)
    (o : Fin 3 → ℕ) (ho : ∀ a, o a + S1x2048x1024.size a ≤ S3x2048x1024.size a) (e : o = slotO (fin3 t.val))
    (Q : (Σ' (arg0 : BitVec 32) (arg1 : BitVec 32), BitVec 32) → sProp 𝕄) :
    iprop((slots m c t.val ∗ xst m c t.val ∗ (∃ W, owes (c : Thread nD τ) 0 W))
        ∗ (iprop(holdAt c ringM o ho (wcols m c t.val) ∗ xbusy c xM tileM cc0_scratch3 (V m c main_arg0) (xrows m c (t.val / 11)) ∗ (∃ W, owes (c : Thread nD τ) 0 W) ∗ beside m c t.val) -∗ Q ⟨BitVec.ofNat 32 (grid0.coords t 0).val, BitVec.ofNat 32 (grid0.coords t 1).val, 0#32⟩))
      ⊢ wp frame (wpE (defs₀ (F := F)) Variants.none c none) Set.univ (k0_part20 (grid0.coords t) xM (Memref.isWhole_whole _) arg3 harg3 wM (Memref.isWhole_whole _) arg5 harg5 arg6 harg6 arg7 harg7 arg8 harg8 arg9 harg9 arg10 harg10 arg11 harg11 tileM (Memref.isWhole_whole _) ringM (Memref.isWhole_whole _) cc0_scratch3 cc0_scratch4) Q := by
  iintro ⟨HR, Hk⟩
  iapply (copies_at m c t arg3 harg3 arg5 harg5 arg6 harg6 arg7 harg7 arg8 harg8 arg9 harg9 arg10 harg10 arg11 harg11 o ho e Q)
  isplitl [HR]; · iexact HR
  rw [xmid_first m c h0]
  unfold xFly
  iintro ⟨HS, HB, HX, HW⟩
  iapply Hk
  isplitl [HS]; · iexact HS
  isplitl [HX]; · iexact HX
  isplitl [HW]; · iexact HW
  iexact HB

/-! ## The proof data -/

theorem pos88 : 0 < cfg0.N := by rw [show cfg0.N = 88 from N_0]; decide
/-- The normed rows of row tile `r`, as every point of it has them. -/
def hid (c : Dev nD) (r : ℕ) : Vec F S1024x2048 .bf16 := hidden (iblk m c 0 ⟨0, pos88⟩) (xrows m c r)
theorem gain_eq (c : Dev nD) (t : Fin cfg0.N) : iblk m c 0 t = iblk m c 0 ⟨0, pos88⟩ := rfl
theorem bounds_eq (c : Dev nD) (t : Fin cfg0.N) : iblk m c 2 t = iblk m c 2 ⟨0, pos88⟩ := rfl
/-- The normed rows' buffer before point `k`. -/
def hst (c : Dev nD) (k : ℕ) : sProp 𝕄 :=
  if k % 11 = 0 then iprop(∃ d, owns (c : Thread nD τ) hidM fullShare d) else owns (c : Thread nD τ) hidM fullShare (hid m c (k / 11))
theorem hst_first (c : Dev nD) {k : ℕ} (h : k % 11 = 0) : hst m c k = iprop(∃ d, owns (c : Thread nD τ) hidM fullShare d) := if_pos h
theorem hst_later (c : Dev nD) {k : ℕ} (h : k % 11 ≠ 0) : hst m c k = owns (c : Thread nD τ) hidM fullShare (hid m c (k / 11)) := if_neg h
theorem hst_next (c : Dev nD) (k : ℕ) : owns (c : Thread nD τ) hidM fullShare (hid m c (k / 11)) ⊢ hst m c (k + 1) := by
  by_cases h : (k + 1) % 11 = 0
  · rw [hst_first m c h]
    iintro H; iexists _; iexact H
  · rw [hst_later m c h, show (k + 1) / 11 = k / 11 by omega]

/-- The invariant after `k` points. -/
def inv (c : Dev nD) (k : ℕ) : sProp 𝕄 := iprop((∃ r, prngReg c r) ∗ slots m c k ∗ xst m c k ∗ hst m c k)

/-- What point `t` leaves in the first result's buffer. -/
def outAt (c : Dev nD) (t : Fin cfg0.N) : Vec F S1024x1024 .bf16 :=
  if t.val % 11 = 0 then outNorm (hid m c (t.val / 11)) (wcols m c t.val)
  else if t.val % 11 = 1 then outForget (iblk m c 2 t) (hid m c (t.val / 11)) (wcols m c t.val)
  else if t.val % 11 = 3 then outSilu (hid m c (t.val / 11)) (wcols m c t.val)
  else if t.val % 11 = 4 then outQ (iblk m c 3 t) (hid m c (t.val / 11)) (wcols m c t.val)
  else if t.val % 11 = 5 then outK (iblk m c 4 t) (hid m c (t.val / 11)) (wcols m c t.val)
  else if 7 ≤ t.val % 11 then outGate (iblk m c 1 t) (hid m c (t.val / 11)) (wcols m c t.val)
  else outPlain (hid m c (t.val / 11)) (wcols m c t.val)
/-- What the points of row tile `r` leave in the second result's buffer. -/
def logAt (c : Dev nD) (r : ℕ) : Vec F S1024x3072 .bf16 := logOutForget (iblk m c 2 ⟨0, pos88⟩) (hid m c r) (wcols m c 1)
theorem wcols_mod (c : Dev nD) (k : ℕ) (j : ℕ) (h : k % 11 = j) : wcols m c k = wcols m c j := by
  unfold wcols
  rw [show fin11 k = fin11 j from Fin.ext (by show k % 11 = j % 11; omega)]

/-- The proof data on core `c`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
    | ⟨6, _⟩ => logAt m c (t.val / 11)
  Φ k := inv m c k.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = outAt m c t := by dsimp only [dats]
theorem after_6 (c : Dev nD) (t : Fin cfg0.N) : (dats m 0 c).after 6 t = logAt m c (t.val / 11) := by dsimp only [dats]

/-- The body finds each input's buffer at the point's block. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; rfl) t d).trans rfl
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; rfl) t d).trans rfl
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; rfl) t d).trans rfl
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; rfl) t d).trans rfl
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; rfl) t d).trans rfl

/-- From tile 2 on it finds the second result's buffer as tile 1 left it. -/
theorem before_6 (c : Dev nD) (t : Fin cfg0.N) (h : 2 ≤ t.val % 11) (d) : (dats m 0 c).before 6 t d = logAt m c (t.val / 11) := by
  rw [(dats m 0 c).before_out_traj 6 rfl (fun _ _ => rfl) (fun t h0 hi hf => by
    rw [fresh_6, decide_eq_false_iff_not] at hf
    rw [after_6, after_6]
    congr 1
    simp only
    omega) t.val t rfl d, fresh_6, decide_eq_false (by omega), if_neg (by decide), after_6]
  congr 1
  simp only
  omega

/-! ## The body obligation -/

/-- What a point hands back of the second result's buffer: at tile 1 and where it is written back its rows, elsewhere what it found. -/
def post6 (c : Dev nD) (t : Fin cfg0.N) : sProp 𝕄 :=
  if t.val % 11 = 1 ∨ t.val % 11 = 10 then owns (c : Thread nD τ) (st0_6 t) fullShare ((dats m 0 c).after 6 t)
  else iprop(∃ d, owns (c : Thread nD τ) (st0_6 t) fullShare ((dats m 0 c).before 6 t d))
theorem post6_keep (c : Dev nD) (t : Fin cfg0.N) (h : t.val % 11 ≠ 1) :
    iprop(∃ d, owns (c : Thread nD τ) (st0_6 t) fullShare ((dats m 0 c).before 6 t d)) ⊢ post6 m c t := by
  unfold post6
  by_cases h10 : t.val % 11 = 10
  · rw [if_pos (Or.inr h10), after_6]
    simp only [before_6 m c t (by omega)]
    iintro ⟨%d, H⟩; iexact H
  · rw [if_neg (by omega)]
theorem post6_set (c : Dev nD) (t : Fin cfg0.N) (h : t.val % 11 = 1) :
    post6 m c t = owns (c : Thread nD τ) (st0_6 t) fullShare (logAt m c (t.val / 11)) := by
  unfold post6; rw [if_pos (Or.inl h), after_6]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ post6 m c t)

theorem hs0 (t : Fin cfg0.N) : (st0_0 t).IsWhole := hstage0_0 ((cfg0.slots t 0).cast nbuf0_0)
theorem hs1 (t : Fin cfg0.N) : (st0_1 t).IsWhole := hstage0_1 ((cfg0.slots t 1).cast nbuf0_1)
theorem hs2 (t : Fin cfg0.N) : (st0_2 t).IsWhole := hstage0_2 ((cfg0.slots t 2).cast nbuf0_2)
theorem hs3 (t : Fin cfg0.N) : (st0_3 t).IsWhole := hstage0_3 ((cfg0.slots t 3).cast nbuf0_3)
theorem hs4 (t : Fin cfg0.N) : (st0_4 t).IsWhole := hstage0_4 ((cfg0.slots t 4).cast nbuf0_4)
theorem hs5 (t : Fin cfg0.N) : (st0_5 t).IsWhole := hstage0_5 ((cfg0.slots t 5).cast nbuf0_5)
theorem hs6 (t : Fin cfg0.N) : (st0_6 t).IsWhole := hstage0_6 ((cfg0.slots t 6).cast nbuf0_6)

/-- What a point is given, its parts named. -/
theorem pre_open (c : Dev nD) (t : Fin cfg0.N) : bodyPre m c t ⊢ iprop((∃ r, prngReg c r) ∗ (slots m c t.val ∗ xst m c t.val ∗ (∃ W, owes (c : Thread nD τ) 0 W)) ∗ hst m c t.val
    ∗ owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (iblk m c 4 t) ∗ (∃ d, owns (c : Thread nD τ) (st0_5 t) fullShare d) ∗ (∃ d, owns (c : Thread nD τ) (st0_6 t) fullShare ((dats m 0 c).before 6 t d))) := by
  unfold bodyPre
  simp only [before_0, before_1, before_2, before_3, before_4]
  rw [show (dats m 0 c).Φ t.castSucc = inv m c t.val from rfl]
  unfold Dat.owesAt Pipeline.owesWithin inv
  rw [show (dats m 0 c).owed t.castSucc = 0 from rfl]
  iintro ⟨⟨Hg, HS, HX, HH⟩, ⟨%W, -, HW⟩, ⟨%d0, H0⟩, ⟨%d1, H1⟩, ⟨%d2, H2⟩, ⟨%d3, H3⟩, ⟨%d4, H4⟩, ⟨%d5, H5⟩, H6⟩
  isplitl [Hg]; · iexact Hg
  isplitl [HS HX HW]
  · isplitl [HS]; · iexact HS
    isplitl [HX]; · iexact HX
    iexists W; iexact HW
  isplitl [HH]; · iexact HH
  isplitl [H0]; · iexact H0
  isplitl [H1]; · iexact H1
  isplitl [H2]; · iexact H2
  isplitl [H3]; · iexact H3
  isplitl [H4]; · iexact H4
  isplitl [H5]; · iexists _; iexact H5
  iexact H6
/-- What a point hands back, put together. -/
theorem post_make (c : Dev nD) (t : Fin cfg0.N) (o : Fin 3 → ℕ) (ho) (e : o = slotO (fin3 t.val)) (out : Vec F S1024x1024 .bf16) (eo : outAt m c t = out) :
    iprop((∃ r, prngReg c r) ∗ holdAt c ringM o ho (wcols m c t.val) ∗ beside m c t.val ∗ xst m c (t.val + 1) ∗ (∃ W, owes (c : Thread nD τ) 0 W)
      ∗ owns (c : Thread nD τ) hidM fullShare (hid m c (t.val / 11))
      ∗ owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (iblk m c 4 t) ∗ owns (c : Thread nD τ) (st0_5 t) fullShare out ∗ post6 m c t) ⊢ bodyPost m c t := by
  subst eo
  unfold bodyPost
  rw [after_0, after_1, after_2, after_3, after_4, after_5, show (dats m 0 c).Φ t.succ = inv m c (t.val + 1) from rfl]
  unfold Dat.owesAt Pipeline.owesWithin inv
  rw [show (dats m 0 c).owed t.succ = 0 from rfl]
  iintro ⟨Hg, HS, HB, HX, ⟨%W, HW⟩, HH, HR⟩
  isplitl [Hg HS HB HX HH]
  · isplitl [Hg]; · iexact Hg
    isplitl [HS HB]
    · iapply (slots_next m c t.val o ho e (wcols m c t.val))
      isplitl [HS]; · iexact HS
      iexact HB
    isplitl [HX]; · iexact HX
    iapply (hst_next m c t.val)
    iexact HH
  isplitl [HW]
  · iexists W; isplitr; · ipureintro; exact fun _ _ => Or.inl trivial
    iexact HW
  iexact HR

/-- The points of tile 0. -/
theorem soundNorm (c : Dev nD) (t : Fin cfg0.N) (hj : t.val % 11 = 0) :
    bodyPre m c t ⊢ wp frame (wpE (defs₀ (F := F)) Variants.none c none) Set.univ (bodyAt0 t) (fun _ => bodyPost m c t) := by
  have ht := lt88 t
  have h5 := (cond5_at t).mpr hj
  have h6 : ¬ k0_cond6 (grid0.coords t) = 1#1 := fun h => by have := (cond6_at t).mp h; omega
  have h7 : ¬ k0_cond7 (grid0.coords t) = 1#1 := fun h => by have := (cond7_at t).mp h; omega
  have h8 : ¬ k0_cond8 (grid0.coords t) = 1#1 := fun h => by have := (cond8_at t).mp h; omega
  have h9 : ¬ k0_cond9 (grid0.coords t) = 1#1 := fun h => by have := (cond9_at t).mp h; omega
  have h10 : ¬ k0_cond10 (grid0.coords t) = 1#1 := fun h => by have := (cond10_at t).mp h; omega
  have h11 : ¬ k0_cond11 (grid0.coords t) = 1#1 := fun h => by have := (cond11_at t).mp h; omega
  refine (pre_open m c t).trans ?_
  unfold bodyAt0
  rw [hst_first m c hj]
  iintro ⟨Hg, HR, HH, H0, H1, H2, H3, H4, H5, H6⟩
  iapply (secNorm c (grid0.coords t) xM (Memref.isWhole_whole _) (st0_0 t) (hs0 t) wM (Memref.isWhole_whole _) (st0_1 t) (hs1 t) (st0_2 t) (hs2 t) (st0_3 t) (hs3 t) (st0_4 t) (hs4 t) (st0_5 t) (hs5 t) (st0_6 t) (hs6 t) hidM (Memref.isWhole_whole _) tileM (Memref.isWhole_whole _) ringM (Memref.isWhole_whole _) cc0_scratch3 cc0_scratch4 h5 h6 h7 h8 h9 h10 h11 (iblk m c 0 t) (xrows m c (t.val / 11)) (wcols m c t.val) (V m c main_arg0)
    iprop(slots m c t.val ∗ xst m c t.val ∗ (∃ W, owes (c : Thread nD τ) 0 W)) (beside m c t.val)
    (fun Q => copies_first m c t hj (st0_0 t) (hs0 t) (st0_1 t) (hs1 t) (st0_2 t) (hs2 t) (st0_3 t) (hs3 t) (st0_4 t) (hs4 t) (st0_5 t) (hs5 t) (st0_6 t) (hs6 t) hidM (Memref.isWhole_whole _) (k0_off12 (grid0.coords t)) (k0_off12_inb _ h5) (by rw [k0_off12_eq, point_val]; rfl) Q) _)
  isplitl [HR]; · iexact HR
  isplitl [H0]; · iexact H0
  isplitl [HH]; · iexact HH
  isplitl [H5]; · iexact H5
  rw [show hidden (iblk m c 0 t) (xrows m c (t.val / 11)) = hid m c (t.val / 11) from rfl]
  iintro ⟨HS, HX, HW, HB, H0, HH, H5⟩
  iapply (post_make m c t (k0_off12 (grid0.coords t)) (k0_off12_inb _ h5) (by rw [k0_off12_eq, point_val]; rfl) (outNorm (hid m c (t.val / 11)) (wcols m c t.val)) (by unfold outAt; rw [if_pos hj]))
  isplitl [Hg]; · iexact Hg
  isplitl [HS]; · iexact HS
  isplitl [HB]; · iexact HB
  isplitl [HX]; · rw [xst_idle m c (k := t.val + 1) (by omega)]; unfold xIdle; iexact HX
  isplitl [HW]; · iexact HW
  isplitl [HH]; · iexact HH
  isplitl [H0]; · iexact H0
  isplitl [H1]; · iexact H1
  isplitl [H2]; · iexact H2
  isplitl [H3]; · iexact H3
  isplitl [H4]; · iexact H4
  isplitl [H5]; · iexact H5
  iapply (post6_keep m c t (by omega))
  iexact H6

/-- The points of tile 1. -/
theorem soundForget (c : Dev nD) (t : Fin cfg0.N) (hj : t.val % 11 = 1) :
    bodyPre m c t ⊢ wp frame (wpE (defs₀ (F := F)) Variants.none c none) Set.univ (bodyAt0 t) (fun _ => bodyPost m c t) := by
  have ht := lt88 t
  have h5 : ¬ k0_cond5 (grid0.coords t) = 1#1 := fun h => by have := (cond5_at t).mp h; omega
  have h6 : ¬ k0_cond6 (grid0.coords t) = 1#1 := fun h => by have := (cond6_at t).mp h; omega
  have h7 := (cond7_at t).mpr hj
  have h8 : ¬ k0_cond8 (grid0.coords t) = 1#1 := fun h => by have := (cond8_at t).mp h; omega
  have h9 : ¬ k0_cond9 (grid0.coords t) = 1#1 := fun h => by have := (cond9_at t).mp h; omega
  have h10 : ¬ k0_cond10 (grid0.coords t) = 1#1 := fun h => by have := (cond10_at t).mp h; omega
  have h11 : ¬ k0_cond11 (grid0.coords t) = 1#1 := fun h => by have := (cond11_at t).mp h; omega
  refine (pre_open m c t).trans ?_
  unfold bodyAt0
  rw [hst_later m c (by omega)]
  iintro ⟨Hg, HR, HH, H0, H1, H2, H3, H4, H5, H6⟩
  iapply (secForget c (grid0.coords t) xM (Memref.isWhole_whole _) (st0_0 t) (hs0 t) wM (Memref.isWhole_whole _) (st0_1 t) (hs1 t) (st0_2 t) (hs2 t) (st0_3 t) (hs3 t) (st0_4 t) (hs4 t) (st0_5 t) (hs5 t) (st0_6 t) (hs6 t) hidM (Memref.isWhole_whole _) tileM (Memref.isWhole_whole _) ringM (Memref.isWhole_whole _) cc0_scratch3 cc0_scratch4 h5 h6 h7 h8 h9 h10 h11 (hid m c (t.val / 11)) (wcols m c t.val) (iblk m c 2 t)
    iprop(slots m c t.val ∗ xst m c t.val ∗ (∃ W, owes (c : Thread nD τ) 0 W)) iprop(beside m c t.val ∗ xmid m c t.val ∗ (∃ W, owes (c : Thread nD τ) 0 W))
    (fun Q => copies_at m c t (st0_0 t) (hs0 t) (st0_1 t) (hs1 t) (st0_2 t) (hs2 t) (st0_3 t) (hs3 t) (st0_4 t) (hs4 t) (st0_5 t) (hs5 t) (st0_6 t) (hs6 t) hidM (Memref.isWhole_whole _) (k0_off14 (grid0.coords t)) (k0_off14_inb _ h7) (by rw [k0_off14_eq, point_val]; rfl) Q) _)
  isplitl [HR]; · iexact HR
  isplitl [H2]; · iexact H2
  isplitl [HH]; · iexact HH
  isplitl [H5]; · iexact H5
  isplitl [H6]; · icases H6 with ⟨%d6, H6⟩; iexists _; iexact H6
  rw [xmid_later m c (by omega)]
  iintro ⟨HS, ⟨HB, HX, HW⟩, H2, HH, H5, H6⟩
  iapply (post_make m c t (k0_off14 (grid0.coords t)) (k0_off14_inb _ h7) (by rw [k0_off14_eq, point_val]; rfl) (outForget (iblk m c 2 t) (hid m c (t.val / 11)) (wcols m c t.val)) (by unfold outAt; rw [if_neg (by omega), if_pos hj]))
  isplitl [Hg]; · iexact Hg
  isplitl [HS]; · iexact HS
  isplitl [HB]; · iexact HB
  isplitl [HX]; · iexact HX
  isplitl [HW]; · iexact HW
  isplitl [HH]; · iexact HH
  isplitl [H0]; · iexact H0
  isplitl [H1]; · iexact H1
  isplitl [H2]; · iexact H2
  isplitl [H3]; · iexact H3
  isplitl [H4]; · iexact H4
  isplitl [H5]; · iexact H5
  rw [post6_set m c t hj]
  unfold logAt
  rw [← bounds_eq m c t, ← wcols_mod m c t.val 1 hj]
  iexact H6

/-- The points of tile 3. -/
theorem soundSilu (c : Dev nD) (t : Fin cfg0.N) (hj : t.val % 11 = 3) :
    bodyPre m c t ⊢ wp frame (wpE (defs₀ (F := F)) Variants.none c none) Set.univ (bodyAt0 t) (fun _ => bodyPost m c t) := by
  have ht := lt88 t
  have h5 : ¬ k0_cond5 (grid0.coords t) = 1#1 := fun h => by have := (cond5_at t).mp h; omega
  have h6 := (cond6_at t).mpr hj
  have h7 : ¬ k0_cond7 (grid0.coords t) = 1#1 := fun h => by have := (cond7_at t).mp h; omega
  have h8 : ¬ k0_cond8 (grid0.coords t) = 1#1 := fun h => by have := (cond8_at t).mp h; omega
  have h9 : ¬ k0_cond9 (grid0.coords t) = 1#1 := fun h => by have := (cond9_at t).mp h; omega
  have h10 : ¬ k0_cond10 (grid0.coords t) = 1#1 := fun h => by have := (cond10_at t).mp h; omega
  have h11 : ¬ k0_cond11 (grid0.coords t) = 1#1 := fun h => by have := (cond11_at t).mp h; omega
  refine (pre_open m c t).trans ?_
  unfold bodyAt0
  rw [hst_later m c (by omega)]
  iintro ⟨Hg, HR, HH, H0, H1, H2, H3, H4, H5, H6⟩
  iapply (secSilu c (grid0.coords t) xM (Memref.isWhole_whole _) (st0_0 t) (hs0 t) wM (Memref.isWhole_whole _) (st0_1 t) (hs1 t) (st0_2 t) (hs2 t) (st0_3 t) (hs3 t) (st0_4 t) (hs4 t) (st0_5 t) (hs5 t) (st0_6 t) (hs6 t) hidM (Memref.isWhole_whole _) tileM (Memref.isWhole_whole _) ringM (Memref.isWhole_whole _) cc0_scratch3 cc0_scratch4 h5 h6 h7 h8 h9 h10 h11 (hid m c (t.val / 11)) (wcols m c t.val)
    iprop(slots m c t.val ∗ xst m c t.val ∗ (∃ W, owes (c : Thread nD τ) 0 W)) iprop(beside m c t.val ∗ xmid m c t.val ∗ (∃ W, owes (c : Thread nD τ) 0 W))
    (fun Q => copies_at m c t (st0_0 t) (hs0 t) (st0_1 t) (hs1 t) (st0_2 t) (hs2 t) (st0_3 t) (hs3 t) (st0_4 t) (hs4 t) (st0_5 t) (hs5 t) (st0_6 t) (hs6 t) hidM (Memref.isWhole_whole _) (k0_off13 (grid0.coords t)) (k0_off13_inb _ h6) (by rw [k0_off13_eq, point_val]; rfl) Q) _)
  isplitl [HR]; · iexact HR
  isplitl [HH]; · iexact HH
  isplitl [H5]; · iexact H5
  rw [xmid_later m c (by omega)]
  iintro ⟨HS, ⟨HB, HX, HW⟩, HH, H5⟩
  iapply (post_make m c t (k0_off13 (grid0.coords t)) (k0_off13_inb _ h6) (by rw [k0_off13_eq, point_val]; rfl) (outSilu (hid m c (t.val / 11)) (wcols m c t.val)) (by unfold outAt; rw [if_neg (by omega), if_neg (by omega), if_pos hj]))
  isplitl [Hg]; · iexact Hg
  isplitl [HS]; · iexact HS
  isplitl [HB]; · iexact HB
  isplitl [HX]; · iexact HX
  isplitl [HW]; · iexact HW
  isplitl [HH]; · iexact HH
  isplitl [H0]; · iexact H0
  isplitl [H1]; · iexact H1
  isplitl [H2]; · iexact H2
  isplitl [H3]; · iexact H3
  isplitl [H4]; · iexact H4
  isplitl [H5]; · iexact H5
  iapply (post6_keep m c t (by omega))
  iexact H6

/-- The points of tile 4. -/
theorem soundQ (c : Dev nD) (t : Fin cfg0.N) (hj : t.val % 11 = 4) :
    bodyPre m c t ⊢ wp frame (wpE (defs₀ (F := F)) Variants.none c none) Set.univ (bodyAt0 t) (fun _ => bodyPost m c t) := by
  have ht := lt88 t
  have h5 : ¬ k0_cond5 (grid0.coords t) = 1#1 := fun h => by have := (cond5_at t).mp h; omega
  have h6 : ¬ k0_cond6 (grid0.coords t) = 1#1 := fun h => by have := (cond6_at t).mp h; omega
  have h7 : ¬ k0_cond7 (grid0.coords t) = 1#1 := fun h => by have := (cond7_at t).mp h; omega
  have h8 : ¬ k0_cond8 (grid0.coords t) = 1#1 := fun h => by have := (cond8_at t).mp h; omega
  have h9 := (cond9_at t).mpr hj
  have h10 : ¬ k0_cond10 (grid0.coords t) = 1#1 := fun h => by have := (cond10_at t).mp h; omega
  have h11 : ¬ k0_cond11 (grid0.coords t) = 1#1 := fun h => by have := (cond11_at t).mp h; omega
  refine (pre_open m c t).trans ?_
  unfold bodyAt0
  rw [hst_later m c (by omega)]
  iintro ⟨Hg, HR, HH, H0, H1, H2, H3, H4, H5, H6⟩
  iapply (secQ c (grid0.coords t) xM (Memref.isWhole_whole _) (st0_0 t) (hs0 t) wM (Memref.isWhole_whole _) (st0_1 t) (hs1 t) (st0_2 t) (hs2 t) (st0_3 t) (hs3 t) (st0_4 t) (hs4 t) (st0_5 t) (hs5 t) (st0_6 t) (hs6 t) hidM (Memref.isWhole_whole _) tileM (Memref.isWhole_whole _) ringM (Memref.isWhole_whole _) cc0_scratch3 cc0_scratch4 h5 h6 h7 h8 h9 h10 h11 (hid m c (t.val / 11)) (wcols m c t.val) (iblk m c 3 t)
    iprop(slots m c t.val ∗ xst m c t.val ∗ (∃ W, owes (c : Thread nD τ) 0 W)) iprop(beside m c t.val ∗ xmid m c t.val ∗ (∃ W, owes (c : Thread nD τ) 0 W))
    (fun Q => copies_at m c t (st0_0 t) (hs0 t) (st0_1 t) (hs1 t) (st0_2 t) (hs2 t) (st0_3 t) (hs3 t) (st0_4 t) (hs4 t) (st0_5 t) (hs5 t) (st0_6 t) (hs6 t) hidM (Memref.isWhole_whole _) (k0_off16 (grid0.coords t)) (k0_off16_inb _ h9) (by rw [k0_off16_eq, point_val]; rfl) Q) _)
  isplitl [HR]; · iexact HR
  isplitl [H3]; · iexact H3
  isplitl [HH]; · iexact HH
  isplitl [H5]; · iexact H5
  rw [xmid_later m c (by omega)]
  iintro ⟨HS, ⟨HB, HX, HW⟩, H3, HH, H5⟩
  iapply (post_make m c t (k0_off16 (grid0.coords t)) (k0_off16_inb _ h9) (by rw [k0_off16_eq, point_val]; rfl) (outQ (iblk m c 3 t) (hid m c (t.val / 11)) (wcols m c t.val)) (by unfold outAt; rw [if_neg (by omega), if_neg (by omega), if_neg (by omega), if_pos hj]))
  isplitl [Hg]; · iexact Hg
  isplitl [HS]; · iexact HS
  isplitl [HB]; · iexact HB
  isplitl [HX]; · iexact HX
  isplitl [HW]; · iexact HW
  isplitl [HH]; · iexact HH
  isplitl [H0]; · iexact H0
  isplitl [H1]; · iexact H1
  isplitl [H2]; · iexact H2
  isplitl [H3]; · iexact H3
  isplitl [H4]; · iexact H4
  isplitl [H5]; · iexact H5
  iapply (post6_keep m c t (by omega))
  iexact H6

/-- The points of tile 5. -/
theorem soundK (c : Dev nD) (t : Fin cfg0.N) (hj : t.val % 11 = 5) :
    bodyPre m c t ⊢ wp frame (wpE (defs₀ (F := F)) Variants.none c none) Set.univ (bodyAt0 t) (fun _ => bodyPost m c t) := by
  have ht := lt88 t
  have h5 : ¬ k0_cond5 (grid0.coords t) = 1#1 := fun h => by have := (cond5_at t).mp h; omega
  have h6 : ¬ k0_cond6 (grid0.coords t) = 1#1 := fun h => by have := (cond6_at t).mp h; omega
  have h7 : ¬ k0_cond7 (grid0.coords t) = 1#1 := fun h => by have := (cond7_at t).mp h; omega
  have h8 : ¬ k0_cond8 (grid0.coords t) = 1#1 := fun h => by have := (cond8_at t).mp h; omega
  have h9 : ¬ k0_cond9 (grid0.coords t) = 1#1 := fun h => by have := (cond9_at t).mp h; omega
  have h10 := (cond10_at t).mpr hj
  have h11 : ¬ k0_cond11 (grid0.coords t) = 1#1 := fun h => by have := (cond11_at t).mp h; omega
  refine (pre_open m c t).trans ?_
  unfold bodyAt0
  rw [hst_later m c (by omega)]
  iintro ⟨Hg, HR, HH, H0, H1, H2, H3, H4, H5, H6⟩
  iapply (secK c (grid0.coords t) xM (Memref.isWhole_whole _) (st0_0 t) (hs0 t) wM (Memref.isWhole_whole _) (st0_1 t) (hs1 t) (st0_2 t) (hs2 t) (st0_3 t) (hs3 t) (st0_4 t) (hs4 t) (st0_5 t) (hs5 t) (st0_6 t) (hs6 t) hidM (Memref.isWhole_whole _) tileM (Memref.isWhole_whole _) ringM (Memref.isWhole_whole _) cc0_scratch3 cc0_scratch4 h5 h6 h7 h8 h9 h10 h11 (hid m c (t.val / 11)) (wcols m c t.val) (iblk m c 4 t)
    iprop(slots m c t.val ∗ xst m c t.val ∗ (∃ W, owes (c : Thread nD τ) 0 W)) iprop(beside m c t.val ∗ xmid m c t.val ∗ (∃ W, owes (c : Thread nD τ) 0 W))
    (fun Q => copies_at m c t (st0_0 t) (hs0 t) (st0_1 t) (hs1 t) (st0_2 t) (hs2 t) (st0_3 t) (hs3 t) (st0_4 t) (hs4 t) (st0_5 t) (hs5 t) (st0_6 t) (hs6 t) hidM (Memref.isWhole_whole _) (k0_off17 (grid0.coords t)) (k0_off17_inb _ h10) (by rw [k0_off17_eq, point_val]; rfl) Q) _)
  isplitl [HR]; · iexact HR
  isplitl [H4]; · iexact H4
  isplitl [HH]; · iexact HH
  isplitl [H5]; · iexact H5
  rw [xmid_later m c (by omega)]
  iintro ⟨HS, ⟨HB, HX, HW⟩, H4, HH, H5⟩
  iapply (post_make m c t (k0_off17 (grid0.coords t)) (k0_off17_inb _ h10) (by rw [k0_off17_eq, point_val]; rfl) (outK (iblk m c 4 t) (hid m c (t.val / 11)) (wcols m c t.val)) (by unfold outAt; rw [if_neg (by omega), if_neg (by omega), if_neg (by omega), if_neg (by omega), if_pos hj]))
  isplitl [Hg]; · iexact Hg
  isplitl [HS]; · iexact HS
  isplitl [HB]; · iexact HB
  isplitl [HX]; · iexact HX
  isplitl [HW]; · iexact HW
  isplitl [HH]; · iexact HH
  isplitl [H0]; · iexact H0
  isplitl [H1]; · iexact H1
  isplitl [H2]; · iexact H2
  isplitl [H3]; · iexact H3
  isplitl [H4]; · iexact H4
  isplitl [H5]; · iexact H5
  iapply (post6_keep m c t (by omega))
  iexact H6

/-- The points of tiles 7 and above. -/
theorem soundGate (c : Dev nD) (t : Fin cfg0.N) (hj : 7 ≤ t.val % 11) :
    bodyPre m c t ⊢ wp frame (wpE (defs₀ (F := F)) Variants.none c none) Set.univ (bodyAt0 t) (fun _ => bodyPost m c t) := by
  have ht := lt88 t
  have h5 : ¬ k0_cond5 (grid0.coords t) = 1#1 := fun h => by have := (cond5_at t).mp h; omega
  have h6 : ¬ k0_cond6 (grid0.coords t) = 1#1 := fun h => by have := (cond6_at t).mp h; omega
  have h7 : ¬ k0_cond7 (grid0.coords t) = 1#1 := fun h => by have := (cond7_at t).mp h; omega
  have h8 : ¬ k0_cond8 (grid0.coords t) = 1#1 := fun h => by have := (cond8_at t).mp h; omega
  have h9 : ¬ k0_cond9 (grid0.coords t) = 1#1 := fun h => by have := (cond9_at t).mp h; omega
  have h10 : ¬ k0_cond10 (grid0.coords t) = 1#1 := fun h => by have := (cond10_at t).mp h; omega
  have h11 := (cond11_at t).mpr hj
  refine (pre_open m c t).trans ?_
  unfold bodyAt0
  rw [hst_later m c (by omega)]
  iintro ⟨Hg, HR, HH, H0, H1, H2, H3, H4, H5, H6⟩
  iapply (secGate c (grid0.coords t) xM (Memref.isWhole_whole _) (st0_0 t) (hs0 t) wM (Memref.isWhole_whole _) (st0_1 t) (hs1 t) (st0_2 t) (hs2 t) (st0_3 t) (hs3 t) (st0_4 t) (hs4 t) (st0_5 t) (hs5 t) (st0_6 t) (hs6 t) hidM (Memref.isWhole_whole _) tileM (Memref.isWhole_whole _) ringM (Memref.isWhole_whole _) cc0_scratch3 cc0_scratch4 h5 h6 h7 h8 h9 h10 h11 (hid m c (t.val / 11)) (wcols m c t.val) (iblk m c 1 t)
    iprop(slots m c t.val ∗ xst m c t.val ∗ (∃ W, owes (c : Thread nD τ) 0 W)) iprop(beside m c t.val ∗ xmid m c t.val ∗ (∃ W, owes (c : Thread nD τ) 0 W))
    (fun Q => copies_at m c t (st0_0 t) (hs0 t) (st0_1 t) (hs1 t) (st0_2 t) (hs2 t) (st0_3 t) (hs3 t) (st0_4 t) (hs4 t) (st0_5 t) (hs5 t) (st0_6 t) (hs6 t) hidM (Memref.isWhole_whole _) (k0_off18 (grid0.coords t)) (k0_off18_inb _ h11) (by rw [k0_off18_eq, point_val]; rfl) Q) _)
  isplitl [HR]; · iexact HR
  isplitl [H1]; · iexact H1
  isplitl [HH]; · iexact HH
  isplitl [H5]; · iexact H5
  rw [xmid_later m c (by omega)]
  iintro ⟨HS, ⟨HB, HX, HW⟩, H1, HH, H5⟩
  iapply (post_make m c t (k0_off18 (grid0.coords t)) (k0_off18_inb _ h11) (by rw [k0_off18_eq, point_val]; rfl) (outGate (iblk m c 1 t) (hid m c (t.val / 11)) (wcols m c t.val)) (by unfold outAt; rw [if_neg (by omega), if_neg (by omega), if_neg (by omega), if_neg (by omega), if_neg (by omega), if_pos hj]))
  isplitl [Hg]; · iexact Hg
  isplitl [HS]; · iexact HS
  isplitl [HB]; · iexact HB
  isplitl [HX]; · iexact HX
  isplitl [HW]; · iexact HW
  isplitl [HH]; · iexact HH
  isplitl [H0]; · iexact H0
  isplitl [H1]; · iexact H1
  isplitl [H2]; · iexact H2
  isplitl [H3]; · iexact H3
  isplitl [H4]; · iexact H4
  isplitl [H5]; · iexact H5
  iapply (post6_keep m c t (by omega))
  iexact H6

/-- The points of tiles 2 and 6. -/
theorem soundPlain (c : Dev nD) (t : Fin cfg0.N) (hj : t.val % 11 = 2 ∨ t.val % 11 = 6) :
    bodyPre m c t ⊢ wp frame (wpE (defs₀ (F := F)) Variants.none c none) Set.univ (bodyAt0 t) (fun _ => bodyPost m c t) := by
  have ht := lt88 t
  have h5 : ¬ k0_cond5 (grid0.coords t) = 1#1 := fun h => by have := (cond5_at t).mp h; omega
  have h6 : ¬ k0_cond6 (grid0.coords t) = 1#1 := fun h => by have := (cond6_at t).mp h; omega
  have h7 : ¬ k0_cond7 (grid0.coords t) = 1#1 := fun h => by have := (cond7_at t).mp h; omega
  have h8 := (cond8_at t).mpr hj
  have h9 : ¬ k0_cond9 (grid0.coords t) = 1#1 := fun h => by have := (cond9_at t).mp h; omega
  have h10 : ¬ k0_cond10 (grid0.coords t) = 1#1 := fun h => by have := (cond10_at t).mp h; omega
  have h11 : ¬ k0_cond11 (grid0.coords t) = 1#1 := fun h => by have := (cond11_at t).mp h; omega
  refine (pre_open m c t).trans ?_
  unfold bodyAt0
  rw [hst_later m c (by omega)]
  iintro ⟨Hg, HR, HH, H0, H1, H2, H3, H4, H5, H6⟩
  iapply (secPlain c (grid0.coords t) xM (Memref.isWhole_whole _) (st0_0 t) (hs0 t) wM (Memref.isWhole_whole _) (st0_1 t) (hs1 t) (st0_2 t) (hs2 t) (st0_3 t) (hs3 t) (st0_4 t) (hs4 t) (st0_5 t) (hs5 t) (st0_6 t) (hs6 t) hidM (Memref.isWhole_whole _) tileM (Memref.isWhole_whole _) ringM (Memref.isWhole_whole _) cc0_scratch3 cc0_scratch4 h5 h6 h7 h8 h9 h10 h11 (hid m c (t.val / 11)) (wcols m c t.val)
    iprop(slots m c t.val ∗ xst m c t.val ∗ (∃ W, owes (c : Thread nD τ) 0 W)) iprop(beside m c t.val ∗ xmid m c t.val ∗ (∃ W, owes (c : Thread nD τ) 0 W))
    (fun Q => copies_at m c t (st0_0 t) (hs0 t) (st0_1 t) (hs1 t) (st0_2 t) (hs2 t) (st0_3 t) (hs3 t) (st0_4 t) (hs4 t) (st0_5 t) (hs5 t) (st0_6 t) (hs6 t) hidM (Memref.isWhole_whole _) (k0_off15 (grid0.coords t)) (k0_off15_inb _ h8) (by rw [k0_off15_eq, point_val]; rfl) Q) _)
  isplitl [HR]; · iexact HR
  isplitl [HH]; · iexact HH
  isplitl [H5]; · iexact H5
  rw [xmid_later m c (by omega)]
  iintro ⟨HS, ⟨HB, HX, HW⟩, HH, H5⟩
  iapply (post_make m c t (k0_off15 (grid0.coords t)) (k0_off15_inb _ h8) (by rw [k0_off15_eq, point_val]; rfl) (outPlain (hid m c (t.val / 11)) (wcols m c t.val)) (by unfold outAt; rw [if_neg (by omega), if_neg (by omega), if_neg (by omega), if_neg (by omega), if_neg (by omega), if_neg (by omega)]))
  isplitl [Hg]; · iexact Hg
  isplitl [HS]; · iexact HS
  isplitl [HB]; · iexact HB
  isplitl [HX]; · iexact HX
  isplitl [HW]; · iexact HW
  isplitl [HH]; · iexact HH
  isplitl [H0]; · iexact H0
  isplitl [H1]; · iexact H1
  isplitl [H2]; · iexact H2
  isplitl [H3]; · iexact H3
  isplitl [H4]; · iexact H4
  isplitl [H5]; · iexact H5
  iapply (post6_keep m c t (by omega))
  iexact H6

theorem sound_body (c : Dev nD) (t : Fin cfg0.N) :
    bodyPre m c t ⊢ wp frame (wpE (defs₀ (F := F)) Variants.none c none) Set.univ (bodyAt0 t) (fun _ => bodyPost m c t) := by
  by_cases h : t.val % 11 = 0
  · exact soundNorm m c t h
  by_cases h : t.val % 11 = 1
  · exact soundForget m c t h
  by_cases h : t.val % 11 = 3
  · exact soundSilu m c t h
  by_cases h : t.val % 11 = 4
  · exact soundQ m c t h
  by_cases h : t.val % 11 = 5
  · exact soundK m c t h
  by_cases h : 7 ≤ t.val % 11
  · exact soundGate m c t h
  exact soundPlain m c t (by omega)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  have e5 : cfg0.idle 5 (cfg0.grid.coords t) = false := idle_5 t
  have e6 : cfg0.idle 6 (cfg0.grid.coords t) = !decide (t.val % 11 = 1) := idle_6 t
  rw [e5, e6, flush_6]
  have H := sound_body m c t
  unfold bodyPost post6 at H
  by_cases h1 : t.val % 11 = 1
  · rw [if_pos (Or.inl h1)] at H
    rw [decide_eq_true h1]
    exact triple_restated H rfl .rfl fun _ => .rfl
  by_cases h10 : t.val % 11 = 10
  · rw [if_pos (Or.inr h10)] at H
    rw [decide_eq_false h1, decide_eq_true h10]
    exact triple_restated H rfl .rfl fun _ => .rfl
  · rw [if_neg (by omega)] at H
    rw [decide_eq_false h1, decide_eq_false h10]
    exact triple_restated H rfl .rfl fun _ => .rfl

/-! ## The launch -/

/-- The kernel's own semaphores, and the operands it reads where they lie. -/
abbrev osem : Fin 4 → SemLoc sig := fun
  | 0 => SemLoc.dma (cc0_scratch3).sem
  | 1 => SemLoc.dma (semM cc0_scratch4 (semO 0) (semO_inb 0)).sem
  | 2 => SemLoc.dma (semM cc0_scratch4 (semO 1) (semO_inb 1)).sem
  | 3 => SemLoc.dma (semM cc0_scratch4 (semO 2) (semO_inb 2)).sem
theorem ownSemFacts : Pipeline.OwnSemFacts spec0 osem := by decide
abbrev H0 : Finset (Ref sig .tc) := {main_arg0, main_arg2}
theorem H0_sub : H0 ⊆ Pipeline.restRefs sig spec0 := by decide

/-- The elements of a slot, apart from each other's and together the ring's. -/
theorem slot_set (s : Fin 3) : (slotM ringM (slotO s) (slotO_inb s)).view.set = (Rect.unit (s := S3x2048x1024) (slotO s) S1x2048x1024.size (slotO_inb s)).set :=
  (View.set_reshape (v := (ringM.slice (Rect.unit (s := S3x2048x1024) (slotO s) S1x2048x1024.size (slotO_inb s)) (fun _ => rfl)).view) squeezes_S1x2048x1024_S2048x1024.numel_eq).trans (View.set_slice_whole _ _)
theorem slot_disjoint (s s' : Fin 3) (h : s ≠ s') :
    Disjoint (Rect.unit (s := S3x2048x1024) (slotO s) S1x2048x1024.size (slotO_inb s)).set (Rect.unit (s := S3x2048x1024) (slotO s') S1x2048x1024.size (slotO_inb s')).set :=
  Ring.lead_disjoint (s := S3x2048x1024) (0 : Fin 3) 1 slotO S1x2048x1024.size slotO_inb (by decide) rfl s s' h
theorem slot_cover : Finset.univ.biUnion (fun s => (Rect.unit (s := S3x2048x1024) (slotO s) S1x2048x1024.size (slotO_inb s)).set) = Finset.univ :=
  Ring.lead_cover (s := S3x2048x1024) (0 : Fin 3) 1 slotO S1x2048x1024.size slotO_inb (by decide) (by decide) rfl (by decide) rfl

/-- A slot's elements at something. -/
def slotAny (c : Dev nD) (s : Fin 3) : sProp 𝕄 :=
  iprop(∃ f, (slotM ringM (slotO s) (slotO_inb s)).view.loc (c : Thread nD τ) ↦[(slotM ringM (slotO s) (slotO_inb s)).view.set]{fullShare} f)
theorem ring_split (c : Dev nD) :
    (iprop(∃ f : Buf (Elt F) ((c : Thread nD τ).loc cc0_scratch2), ((c : Thread nD τ).loc cc0_scratch2) ↦{fullShare} f) : sProp 𝕄)
      ⊢ iprop(slotAny c 0 ∗ slotAny c 1 ∗ slotAny c 2) := by
  unfold slotAny
  exact Ring.slots3_split (ℓ := (c : Thread nD τ).loc cc0_scratch2) (fun s => (Rect.unit (s := S3x2048x1024) (slotO s) S1x2048x1024.size (slotO_inb s)).set) slot_disjoint slot_cover
    _ _ _ (fun f => by rw [slot_set]) (fun f => by rw [slot_set]) (fun f => by rw [slot_set])
theorem ring_join (c : Dev nD) :
    iprop(slotAny c 0 ∗ slotAny c 1 ∗ slotAny c 2)
      ⊢ (iprop(∃ f : Buf (Elt F) ((c : Thread nD τ).loc cc0_scratch2), ((c : Thread nD τ).loc cc0_scratch2) ↦{fullShare} f) : sProp 𝕄) := by
  unfold slotAny
  exact Ring.slots3_join (ℓ := (c : Thread nD τ).loc cc0_scratch2) (fun s => (Rect.unit (s := S3x2048x1024) (slotO s) S1x2048x1024.size (slotO_inb s)).set) slot_disjoint slot_cover
    _ _ _ (fun f => by rw [slot_set]) (fun f => by rw [slot_set]) (fun f => by rw [slot_set])

/-- The weights are the three slots' shares of them. -/
theorem shares (c : Dev nD) (f : Buf (Elt F) (wM.view.loc (c : Thread nD τ))) :
    (wM.view.loc (c : Thread nD τ) ↦[wM.view.set]{fullShare} f : sProp 𝕄)
      ⊣⊢ iprop((wM.view.loc (c : Thread nD τ) ↦[wM.view.set]{qs 0} f) ∗ (wM.view.loc (c : Thread nD τ) ↦[wM.view.set]{qs 1} f) ∗ (wM.view.loc (c : Thread nD τ) ↦[wM.view.set]{qs 2} f)) := by
  constructor
  · iintro H
    ihave H' := (pointsTo_share (PosShare.mem_left_op_right fullShare)).1 $$ H
    icases H' with ⟨H0, H⟩
    ihave H' := (pointsTo_share (PosShare.mem_left_op_right fullShare.right)).1 $$ H
    icases H' with ⟨H1, H2⟩
    isplitl [H0]; · iexact H0
    isplitl [H1]; · iexact H1
    iexact H2
  · iintro ⟨H0, H1, H2⟩
    iapply (pointsTo_share (PosShare.mem_left_op_right fullShare)).2
    isplitl [H0]; · iexact H0
    iapply (pointsTo_share (PosShare.mem_left_op_right fullShare.right)).2
    isplitl [H1]; · iexact H1
    iexact H2

/-- A free slot is its elements at something, its semaphore at zero and its share of the weights. -/
theorem slotFree_make (c : Dev nD) (s : Fin 3) :
    iprop(slotAny c s ∗ semVal ((c : Thread nD τ), SemLoc.dma (semM cc0_scratch4 (semO s) (semO_inb s)).sem) 0
      ∗ (wM.view.loc (c : Thread nD τ) ↦[wM.view.set]{qs s} V m c main_arg2)) ⊢ slotFree m c s := by
  unfold slotFree landed slotAny holdAt cellAt
  iintro ⟨⟨%f, H⟩, Hs, HX⟩
  iexists _
  isplitl [H]
  · iexists f; isplitr; · ipureintro; rfl
    iexact H
  isplitl [Hs]; · iexact Hs
  iexact HX
theorem slotFree_open (c : Dev nD) (s : Fin 3) :
    slotFree m c s ⊢ iprop(slotAny c s ∗ semVal ((c : Thread nD τ), SemLoc.dma (semM cc0_scratch4 (semO s) (semO_inb s)).sem) 0
      ∗ (wM.view.loc (c : Thread nD τ) ↦[wM.view.set]{qs s} V m c main_arg2)) := by
  unfold slotFree landed slotAny holdAt cellAt
  iintro ⟨%x, ⟨⟨%f, -, H⟩, Hs, HX⟩⟩
  isplitl [H]; · iexists f; iexact H
  isplitl [Hs]; · iexact Hs
  iexact HX

/-- What the launch hands the region, conjunct by conjunct. -/
theorem start_eq (c : Dev nD) :
    (Pipeline.ΦD osem spec0 H0 (V m) c : sProp 𝕄) = iprop(((∃ f, hidM.view.loc (c : Thread nD τ) ↦[hidM.view.set]{fullShare} f)
        ∗ (∃ f, tileM.view.loc (c : Thread nD τ) ↦[tileM.view.set]{fullShare} f)
        ∗ (∃ f : Buf (Elt F) ((c : Thread nD τ).loc cc0_scratch2), ((c : Thread nD τ).loc cc0_scratch2) ↦{fullShare} f))
      ∗ (∃ r, prngReg c r)
      ∗ (semVal ((c : Thread nD τ), SemLoc.dma (cc0_scratch3).sem) 0
        ∗ semVal ((c : Thread nD τ), SemLoc.dma (semM cc0_scratch4 (semO 0) (semO_inb 0)).sem) 0
        ∗ semVal ((c : Thread nD τ), SemLoc.dma (semM cc0_scratch4 (semO 1) (semO_inb 1)).sem) 0
        ∗ semVal ((c : Thread nD τ), SemLoc.dma (semM cc0_scratch4 (semO 2) (semO_inb 2)).sem) 0)
      ∗ (xM.view.loc (c : Thread nD τ) ↦[xM.view.set]{fullShare} V m c main_arg0)
      ∗ (wM.view.loc (c : Thread nD τ) ↦[wM.view.set]{fullShare} V m c main_arg2)) := by
  rw [Pipeline.ΦD_eq, scopedRest0_eq, Pipeline.ownSems0_eq_of_list c osem [0, 1, 2, 3] (by decide) (by decide),
    BI.bigSep_eq_bigSepL_of_eq [main_arg0, main_arg2] (by decide) (by decide)]
  simp only [Memref.view_whole, View.set_whole]
  rfl

theorem hin (c : Dev nD) : Pipeline.ΦD osem spec0 H0 (V m) c ⊢ (dats m 0 c).Φ 0 := by
  rw [start_eq, show (dats m 0 c).Φ 0 = inv m c 0 from rfl]
  unfold inv slots
  rw [cur_free m c (k := 0) (by decide), nxt_free m c (k := 0) (by decide), xst_idle m c (k := 0) (by decide), hst_first m c (k := 0) (by decide)]
  unfold xIdle xfree owns
  iintro ⟨⟨⟨%fh, HH⟩, HT, HR⟩, Hg, ⟨Hd, H0, H1, H2⟩, HX, HW⟩
  ihave HR' := (ring_split c) $$ HR
  icases HR' with ⟨R0, R1, R2⟩
  ihave HW' := (shares c (V m c main_arg2)).1 $$ HW
  icases HW' with ⟨W0, W1, W2⟩
  isplitl [Hg]; · iexact Hg
  isplitl [R0 R1 R2 W0 W1 W2 H0 H1 H2]
  · isplitl [R0 W0 H0]
    · iapply (slotFree_make m c 0)
      isplitl [R0]; · iexact R0
      isplitl [H0]; · iexact H0
      iexact W0
    isplitl [R1 W1 H1]
    · iapply (slotFree_make m c 1)
      isplitl [R1]; · iexact R1
      isplitl [H1]; · iexact H1
      iexact W1
    iapply (slotFree_make m c 2)
    isplitl [R2]; · iexact R2
    isplitl [H2]; · iexact H2
    iexact W2
  isplitl [HX HT Hd]
  · isplitl [HT]; · iexact HT
    isplitl [Hd]; · iexact Hd
    iexact HX
  iexists _, fh
  isplitr; · ipureintro; rfl
  iexact HH

theorem hout (c : Dev nD) : (dats m 0 c).Φ (Fin.last cfg0.N) ⊢ Pipeline.ΦD osem spec0 H0 (V m) c := by
  rw [start_eq, show (dats m 0 c).Φ (Fin.last cfg0.N) = inv m c 88 from congrArg (inv m c) N_0]
  unfold inv slots
  rw [cur_free m c (k := 88) (by decide), nxt_free m c (k := 88) (by decide), xst_idle m c (k := 88) (by decide), hst_first m c (k := 88) (by decide),
    show fin3 88 = 1 from rfl, show fin3 (88 + 1) = 2 from rfl, show fin3 (88 + 2) = 0 from rfl]
  unfold xIdle xfree owns
  iintro ⟨Hg, ⟨S1, S2, S0⟩, ⟨HT, Hd, HX⟩, ⟨%d, %fh, -, HH⟩⟩
  ihave S0' := (slotFree_open m c 0) $$ S0
  icases S0' with ⟨R0, H0, W0⟩
  ihave S1' := (slotFree_open m c 1) $$ S1
  icases S1' with ⟨R1, H1, W1⟩
  ihave S2' := (slotFree_open m c 2) $$ S2
  icases S2' with ⟨R2, H2, W2⟩
  isplitl [HH HT R0 R1 R2]
  · isplitl [HH]; · iexists fh; iexact HH
    isplitl [HT]; · iexact HT
    iapply (ring_join c)
    isplitl [R0]; · iexact R0
    isplitl [R1]; · iexact R1
    iexact R2
  isplitl [Hg]; · iexact Hg
  isplitl [Hd H0 H1 H2]
  · isplitl [Hd]; · iexact Hd
    isplitl [H0]; · iexact H0
    isplitl [H1]; · iexact H1
    iexact H2
  isplitl [HX]; · iexact HX
  iapply (shares c (V m c main_arg2)).2
  isplitl [W0]; · iexact W0
  isplitl [W1]; · iexact W1
  iexact W2

theorem hmain : Pipeline.HMain (Ix := Unit) (Name := ℕ) (U := Pipeline.UD sig nD τ) (Lvl := ℕ) cfgs 0 defs₀ Variants.none m (main (F := F)) (V m) :=
  Pipeline.hmain_region cfgs 0 defs₀ Variants.none m main fun c => (main_chain c).trans rfl

/-- Every run ends, the arrays of the pipeline at what the proof data say, every other buffer unchanged, every counter at zero. -/
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem defs₀ Variants.none ownSemFacts H0 H0_sub m ρ main
    (hbody := fun c => (body_obligation m c).loose) (hshare := fun c => (dats m 0 c).share_full fun _ => rfl)
    (howed := fun _ _ => rfl) (V := V m) (hmain := hmain m) (hA := A_eq m) (hin := hin m) (hout := hout m)

/-- The frame: every run ends with the seven arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨(h.1 c).2 main_arg0 (Pipeline.mem_restRefs_of main_arg0 (by decide) (by decide)),
      ((h.1 c).1 0).trans (((dats m 0 c).arrAt_in 0 rfl _).trans (A_eq m c 0)),
      (h.1 c).2 main_arg2 (Pipeline.mem_restRefs_of main_arg2 (by decide) (by decide)),
      ((h.1 c).1 1).trans (((dats m 0 c).arrAt_in 1 rfl _).trans (A_eq m c 1)),
      ((h.1 c).1 2).trans (((dats m 0 c).arrAt_in 2 rfl _).trans (A_eq m c 2)),
      ((h.1 c).1 3).trans (((dats m 0 c).arrAt_in 3 rfl _).trans (A_eq m c 3)),
      ((h.1 c).1 4).trans (((dats m 0 c).arrAt_in 4 rfl _).trans (A_eq m c 4))⟩, h.2⟩) (run_main m ρ)

end Cert.InProjIdeal.Hand

end
-- ==== Proof.AtBits.lean ====
/- The frames at bits of the feed-forward part and of the input projection.
   The idealized programs' frames hold over every float. Over bits, with each named constant its word, these programs are
   the kernels. -/
module

public import proofs.«01_k».proof.Defs
public import proofs.«01_k».proof.Proof.FfnIdealBody
public import proofs.«01_k».proof.Proof.InProjIdealBody
public import proofs.«01_k».proof.Proof.Gen.Ffn
public import proofs.«01_k».proof.Proof.Gen.InProj

@[expose] public section

set_option maxRecDepth 65536

namespace Cert.AtBits

open Idealize.ShloMosaic Idealize.SL.Sem

/-- The feed-forward kernel's bodies are the idealized program's. -/
theorem ffn_bodies : Ffn.defs₀ (F := Bits) = FfnIdeal.defs₀ (F := Bits) := by
  refine congrArg Defs.onTc (funext fun l => funext fun a => ?_)
  match l, a with
  | ⟨0, _⟩, (t, s) => rfl

/-- The feed-forward kernel runs, leaves its arguments unchanged and every semaphore at zero. -/
theorem ffn : quiescent_Ffn := fun m g _ => by
  rw [show Ffn.defs (F := Bits) = FfnIdeal.defs (F := Bits) from congrArg (Pipeline.defs FfnIdeal.pcfgs) ffn_bodies]
  exact FfnIdeal.Hand.frame (F := Bits) m g

/-- At bits a named constant is its word. -/
local instance named : Named Bits := ⟨fun _ _ _ b => FloatOps.ofBits _ b⟩

/-- The input projection's bodies are the idealized program's. -/
theorem in_proj_bodies : InProj.defs₀ (F := Bits) = InProjIdeal.defs₀ (F := Bits) := by
  refine congrArg Defs.onTc (funext fun l => funext fun a => ?_)
  match l, a with
  | ⟨0, _⟩, (t, s) => rfl

/-- The input projection runs, leaves its arguments unchanged and every semaphore at zero. -/
theorem in_proj : quiescent_InProj := fun m g _ => by
  rw [show InProj.defs (F := Bits) = InProjIdeal.defs (F := Bits) from congrArg (Pipeline.defs InProjIdeal.pcfgs) in_proj_bodies]
  exact InProjIdeal.Hand.frame (F := Bits) m g

end Cert.AtBits

end
-- ==== Proof.FfnSpec.lean ====
/- The feed-forward layer as a function of its arguments' entries: a sum over the hidden columns, whole or by tiles. -/
module

public import Idealize.ShloMosaic.PureOps.Ideal
public import Idealize.ShloMosaic.Lib.Pointwise
public import Idealize.ShloMosaic.Lib.ValueIdxCore

@[expose] public section

noncomputable section

namespace Cert.FfnMath

open Idealize.ShloMosaic

/-- The library's two spellings of a pair of coordinates are one. -/
theorem pair_same {n0 n1 : ℕ} (a : Fin n0) (b : Fin n1) : ValueIdx.ix2 a b = ix2 a b := by
  funext x
  match x with
  | ⟨0, _⟩ => rfl
  | ⟨1, _⟩ => rfl

/-- The literal one half. -/
theorem half : Ideal.ofBits .f32 0x3F000000#32 = ((1 / 2 : ℝ) : EReal) := by
  simp [Ideal.ofBits, Ideal.ieee, -EReal.coe_mul]; norm_num

/-- The literal one. -/
theorem one : Ideal.ofBits .f32 0x3F800000#32 = (1 : EReal) := by
  rw [← EReal.coe_one]
  simp [Ideal.ofBits, Ideal.ieee, -EReal.coe_mul]; norm_num

/-- The logistic function by the hyperbolic tangent of half its argument, at every extended real. -/
theorem logistic_by_tanh (x : EReal) :
    ((1 / 2 : ℝ) : EReal) * Ideal.tanh (((1 / 2 : ℝ) : EReal) * x) + ((1 / 2 : ℝ) : EReal) = Ideal.logistic x := by
  induction x with
  | bot =>
    rw [EReal.coe_mul_bot_of_pos (by norm_num), Ideal.tanh_bot, Ideal.logistic_bot,
      show (-1 : EReal) = ((-1 : ℝ) : EReal) by norm_num, ← EReal.coe_mul, ← EReal.coe_add]
    norm_num
  | top =>
    rw [EReal.coe_mul_top_of_pos (by norm_num), Ideal.tanh_top, Ideal.logistic_top,
      show (1 : EReal) = ((1 : ℝ) : EReal) by norm_num, ← EReal.coe_mul, ← EReal.coe_add]
    norm_num
  | coe r =>
    rw [← EReal.coe_mul, Ideal.tanh_coe, Ideal.logistic_coe, ← EReal.coe_mul, ← EReal.coe_add]
    congr 1
    have hp : 0 < Real.exp (1 / 2 * r) := Real.exp_pos _
    have hn : Real.exp (-(1 / 2 * r)) = (Real.exp (1 / 2 * r))⁻¹ := Real.exp_neg _
    have hr : Real.exp (-r) = (Real.exp (1 / 2 * r))⁻¹ * (Real.exp (1 / 2 * r))⁻¹ := by
      rw [← hn, ← Real.exp_add]; congr 1; ring
    rw [Real.tanh_eq_sinh_div_cosh, Real.sinh_eq, Real.cosh_eq, hn, hr]
    have hq : (Real.exp (1 / 2 * r)) + (Real.exp (1 / 2 * r))⁻¹ ≠ 0 := by positivity
    have hs : 1 + (Real.exp (1 / 2 * r))⁻¹ * (Real.exp (1 / 2 * r))⁻¹ ≠ 0 := by positivity
    field_simp
    ring

/-- A hidden entry from its gate and its up-projection. -/
def act (g u : EReal) : EReal := g * Ideal.logistic g * u

variable (H : Fin 8192 → Fin 2048 → EReal) (Wg Wu : Fin 2048 → Fin 5632 → EReal) (Wd : Fin 5632 → Fin 2048 → EReal)
  (X : Fin 8192 → Fin 2048 → EReal)

/-- A hidden entry's contribution to an output entry. -/
def part (r : Fin 8192) (e : Fin 2048) (j : Fin 5632) : EReal :=
  act (∑ k : Fin 2048, H r k * Wg k j) (∑ k : Fin 2048, H r k * Wu k j) * Wd j e

/-- The layer: the residual and the sum over the hidden columns. -/
def layer (r : Fin 8192) (e : Fin 2048) : EReal := X r e + ∑ j : Fin 5632, part H Wg Wu Wd r e j

/-- Hidden column `j` of tile `f`. -/
def col (f : Fin 11) (j : Fin 512) : Fin 5632 := ⟨512 * f.val + j.val, by have := f.isLt; have := j.isLt; omega⟩

/-- The contribution of tile `f` to an output entry. -/
def tileSum (r : Fin 8192) (e : Fin 2048) (f : Fin 11) : EReal := ∑ j : Fin 512, part H Wg Wu Wd r e (col f j)

/-- The tiles together are all the hidden columns. -/
theorem sum_tiles (p : Fin 5632 → EReal) : ∑ j : Fin 5632, p j = ∑ f : Fin 11, ∑ j : Fin 512, p (col f j) := by
  rw [← Fintype.sum_prod_type' (fun f j => p (col f j))]
  symm
  refine Fintype.sum_bijective (fun x : Fin 11 × Fin 512 => col x.1 x.2) ⟨?_, ?_⟩ _ _ fun x => rfl
  · rintro ⟨f, j⟩ ⟨f', j'⟩ h
    have h := congrArg Fin.val h
    simp only [col] at h
    have := j.isLt; have := j'.isLt
    refine Prod.ext (Fin.ext ?_) (Fin.ext ?_) <;> simp only <;> omega
  · intro y
    have := y.isLt
    refine ⟨(⟨y.val / 512, by omega⟩, ⟨y.val % 512, Nat.mod_lt _ (by norm_num)⟩), Fin.ext ?_⟩
    simp only [col]
    omega

/-- The tiles below `n`, for the sum as the grid builds it. -/
def upTo (T : Fin 11 → EReal) (n : ℕ) : EReal := ∑ f ∈ Finset.univ.filter (fun f : Fin 11 => f.val < n), T f

theorem upTo_one (T : Fin 11 → EReal) : upTo T 1 = T 0 := by
  unfold upTo
  rw [show Finset.univ.filter (fun f : Fin 11 => f.val < 1) = {0} by decide, Finset.sum_singleton]

theorem upTo_succ (T : Fin 11 → EReal) (f : Fin 11) : upTo T (f.val + 1) = upTo T f.val + T f := by
  unfold upTo
  rw [show Finset.univ.filter (fun f' : Fin 11 => f'.val < f.val + 1) = insert f (Finset.univ.filter fun f' : Fin 11 => f'.val < f.val) by
    ext x; simp [Fin.ext_iff]; omega, Finset.sum_insert (by simp), add_comm]

theorem upTo_all (T : Fin 11 → EReal) : upTo T 11 = ∑ f, T f := by
  unfold upTo
  rw [show Finset.univ.filter (fun f : Fin 11 => f.val < 11) = Finset.univ by decide]

/-- The sum over the tiles, the residual added with the last, is the layer. -/
theorem layer_of_tiles (r : Fin 8192) (e : Fin 2048) :
    upTo (tileSum H Wg Wu Wd r e) 10 + (tileSum H Wg Wu Wd r e 10 + X r e) = layer H Wg Wu Wd X r e := by
  unfold layer
  have h : upTo (tileSum H Wg Wu Wd r e) 11 = upTo (tileSum H Wg Wu Wd r e) 10 + tileSum H Wg Wu Wd r e 10 := upTo_succ _ 10
  rw [sum_tiles, ← add_assoc, ← h, add_comm]
  exact congrArg (X r e + ·) (upTo_all _)

end Cert.FfnMath

end
-- ==== Proof.FfnTile.lean ====
/- The body's three stored values, read at an entry. -/
module

public import proofs.«01_k».proof.Proof.FfnSpec
public import proofs.«01_k».proof.Proof.Gen.FfnIdeal.Skeleton
public import Idealize.ShloMosaic.Lib.MatmulPlain
public import Idealize.ShloMosaic.Lib.StackMember

@[expose] public section

set_option maxRecDepth 16384

noncomputable section

namespace Cert.FfnIdeal.Hand

open Cert.FfnIdeal Cert.FfnIdeal.Gen Cert.FfnMath
open Idealize.ShloMosaic Idealize.ShloMosaic.TcCoe

/-- A gate or an up-projection of a block of rows. -/
def proj (h : FVec Ideal S1024x2048 .bf16) (w : FVec Ideal S2048x512 .bf16) : FVec Ideal S1024x512 .f32 :=
  matmul dot_S1024x2048_S2048x512_S1024x512_1_0_0_1_n_n none h w (constant S1024x512 .f32 0x00000000#32)

/-- The hidden block from its gate and its up-projection. -/
def hidden (g u : FVec Ideal S1024x512 .f32) : FVec Ideal S1024x512 .f32 :=
  mulf (mulf g (addf (mulf (broadcast S1024x512 (Scalar.ofBits .f32 0x3F000000#32)) (tanh (mulf (broadcast S1024x512 (Scalar.ofBits .f32 0x3F000000#32)) g)))
    (broadcast S1024x512 (Scalar.ofBits .f32 0x3F000000#32)))) u

/-- The hidden block's product with a block of the last weights. -/
def down (a : FVec Ideal S1024x512 .f32) (w : FVec Ideal S512x2048 .f32) : FVec Ideal S1024x2048 .f32 :=
  matmul dot_S1024x512_S512x2048_S1024x2048_1_0_0_1_n_n none (truncf .bf16 a bitsLt_bf16_f32) (truncf .bf16 w bitsLt_bf16_f32) (constant S1024x2048 .f32 0x00000000#32)

theorem proj_apply (h : FVec Ideal S1024x2048 .bf16) (w : FVec Ideal S2048x512 .bf16) (r : Fin 1024) (j : Fin 512) :
    proj h w (ix2 r j) = ∑ k : Fin 2048, h (ix2 r k) * w (ix2 k j) := by
  refine (Ideal.matmul_plain_apply none h w (constant S1024x512 .f32 0x00000000#32) r j).trans ?_
  simp only [pair_same]
  rw [show (constant (F := Ideal) S1024x512 .f32 0x00000000#32) (ix2 r j) = 0 from by pointwise, zero_add]

theorem down_apply (a : FVec Ideal S1024x512 .f32) (w : FVec Ideal S512x2048 .f32) (r : Fin 1024) (e : Fin 2048) :
    down a w (ix2 r e) = ∑ j : Fin 512, a (ix2 r j) * w (ix2 j e) := by
  refine (Ideal.matmul_plain_apply none (truncf .bf16 a bitsLt_bf16_f32) (truncf .bf16 w bitsLt_bf16_f32) (constant S1024x2048 .f32 0x00000000#32) r e).trans ?_
  simp only [pair_same]
  rw [show (constant (F := Ideal) S1024x2048 .f32 0x00000000#32) (ix2 r e) = 0 from by pointwise, zero_add]
  rfl

theorem hidden_apply (g u : FVec Ideal S1024x512 .f32) (y : S1024x512.Idx) : hidden g u y = act (g y) (u y) := by
  unfold act
  rw [← logistic_by_tanh, ← half]
  rfl

/-- A tile's contribution, read: the sum over its hidden columns. -/
def tileAt (h : FVec Ideal S1024x2048 .bf16) (wg wu : FVec Ideal S2048x512 .bf16) (wd : FVec Ideal S512x2048 .f32)
    (r : Fin 1024) (e : Fin 2048) : EReal :=
  ∑ j : Fin 512, act (∑ k : Fin 2048, h (ix2 r k) * wg (ix2 k j)) (∑ k : Fin 2048, h (ix2 r k) * wu (ix2 k j)) * wd (ix2 j e)

variable (h : FVec Ideal S1024x2048 .bf16) (wg wu : FVec Ideal S2048x512 .bf16) (wd : FVec Ideal S512x2048 .f32)

theorem tile_apply (r : Fin 1024) (e : Fin 2048) : down (hidden (proj h wg) (proj h wu)) wd (ix2 r e) = tileAt h wg wu wd r e := by
  rw [down_apply]
  unfold tileAt
  refine Finset.sum_congr rfl fun j _ => ?_
  rw [hidden_apply, proj_apply, proj_apply]

/-- The first point stores its tile. -/
theorem pay1_apply (r : Fin 1024) (e : Fin 2048) : k0_pay1 (F := Ideal) h wg wu wd (ix2 r e) = tileAt h wg wu wd r e :=
  (show k0_pay1 (F := Ideal) h wg wu wd (ix2 r e) = down (hidden (proj h wg) (proj h wu)) wd (ix2 r e) from rfl).trans (tile_apply h wg wu wd r e)

/-- A middle point adds its tile. -/
theorem pay2_apply (a : FVec Ideal S1024x2048 .f32) (r : Fin 1024) (e : Fin 2048) :
    k0_pay2 (F := Ideal) a h wg wu wd (ix2 r e) = a (ix2 r e) + tileAt h wg wu wd r e := by
  rw [← tile_apply]
  refine (show k0_pay2 (F := Ideal) a h wg wu wd (ix2 r e) = shapeCast S1024x2048 a shapeCasts_S1024x2048_S1024x2048 (ix2 r e) + down (hidden (proj h wg) (proj h wu)) wd (ix2 r e) from rfl).trans ?_
  rw [show shapeCast S1024x2048 a shapeCasts_S1024x2048_S1024x2048 = a from by pointwise]

/-- The last point adds its tile and the residual. -/
theorem pay3_apply (a res : FVec Ideal S1024x2048 .f32) (r : Fin 1024) (e : Fin 2048) :
    k0_pay3 (F := Ideal) a h wg wu wd res (ix2 r e) = a (ix2 r e) + (tileAt h wg wu wd r e + res (ix2 r e)) := by
  rw [← tile_apply]
  refine (show k0_pay3 (F := Ideal) a h wg wu wd res (ix2 r e) = shapeCast S1024x2048 a shapeCasts_S1024x2048_S1024x2048 (ix2 r e) + (down (hidden (proj h wg) (proj h wu)) wd (ix2 r e) + res (ix2 r e)) from rfl).trans ?_
  rw [show shapeCast S1024x2048 a shapeCasts_S1024x2048_S1024x2048 = a from by pointwise]

end Cert.FfnIdeal.Hand

end
-- ==== Proof.FfnValue.lean ====
/- What the feed-forward launch leaves in its result: the layer of its arguments. -/
module

public import proofs.«01_k».proof.Proof.FfnTile
public import proofs.«01_k».proof.Proof.FfnIdealBody
public import Idealize.ShloMosaic.Lib.Pipeline.Value
public import Idealize.ShloMosaic.Lib.Pipeline.ValueKit

@[expose] public section

set_option maxRecDepth 16384

noncomputable section

namespace Cert.FfnIdeal.Hand

open Cert.FfnIdeal Cert.FfnIdeal.Gen Cert.FfnMath
open Idealize.ShloMosaic Idealize.ShloMosaic.TcCoe Idealize.ShloMosaic.Tactic
open Idealize.SL.Sem
open Idealize.ShloMosaic.Pipeline (Dat Cfg Window)

variable (m : (ℓ : Loc nD τ sig) → Buf (Elt Ideal) ℓ) (c : Dev nD)

/-- The arguments' entries. -/
abbrev rowsIn : Fin 8192 → Fin 2048 → EReal := fun r k => (m ((c : Thread nD τ).loc main_arg0) : FVec Ideal S8192x2048 .bf16) (ix2 r k)
abbrev resIn : Fin 8192 → Fin 2048 → EReal := fun r e => (m ((c : Thread nD τ).loc main_arg1) : FVec Ideal S8192x2048 .f32) (ix2 r e)
abbrev gateIn : Fin 2048 → Fin 5632 → EReal := fun k j => (m ((c : Thread nD τ).loc main_arg2) : FVec Ideal S2048x5632 .bf16) (ix2 k j)
abbrev upIn : Fin 2048 → Fin 5632 → EReal := fun k j => (m ((c : Thread nD τ).loc main_arg3) : FVec Ideal S2048x5632 .bf16) (ix2 k j)
abbrev downIn : Fin 5632 → Fin 2048 → EReal := fun j e => (m ((c : Thread nD τ).loc main_arg4) : FVec Ideal S5632x2048 .f32) (ix2 j e)

/-- Where each window's block lies, over the points: eleven tiles of hidden columns to a block of rows. -/
theorem starts : ∀ t : Fin cfg0.N,
    (win0_0.index t (0 : Fin 2) = t.val / 11 ∧ win0_0.index t (1 : Fin 2) = 0)
    ∧ (win0_1.index t (0 : Fin 2) = 0 ∧ win0_1.index t (1 : Fin 2) = t.val % 11)
    ∧ (win0_2.index t (0 : Fin 2) = 0 ∧ win0_2.index t (1 : Fin 2) = t.val % 11)
    ∧ (win0_3.index t (0 : Fin 2) = t.val % 11 ∧ win0_3.index t (1 : Fin 2) = 0)
    ∧ (win0_4.index t (0 : Fin 2) = t.val / 11 ∧ win0_4.index t (1 : Fin 2) = 0) :=
  (by decide +kernel : ∀ t : Fin grid0.N, _)

/-- Row `r` of row block `t / 11`, and the tile of point `t`. -/
def rowAt (t : Fin cfg0.N) (r : Fin 1024) : Fin 8192 :=
  ⟨1024 * (t.val / 11) + r.val, by have ht : t.val < 88 := lt_of_lt_of_eq t.isLt N_0; have := r.isLt; omega⟩
def tileOf (t : Fin cfg0.N) : Fin 11 := ⟨t.val % 11, Nat.mod_lt _ (by norm_num)⟩

theorem block_rows (t : Fin cfg0.N) (r : Fin 1024) (k : Fin 2048) :
    (iblk m c 0 t : FVec Ideal S1024x2048 .bf16) (ix2 r k) = rowsIn m c (rowAt t r) k := by
  obtain ⟨e0, e1⟩ := (starts t).1
  unfold iblk
  rw [View.read_apply]
  show m ((c : Thread nD τ).loc main_arg0) _ = m ((c : Thread nD τ).loc main_arg0) _
  congr 1
  funext a
  apply Fin.ext
  match a with
  | ⟨0, _⟩ => show win0_0.index t (0 : Fin 2) * 1024 + 1 * r.val = 1024 * (t.val / 11) + r.val; omega
  | ⟨1, _⟩ => show win0_0.index t (1 : Fin 2) * 2048 + 1 * k.val = k.val; omega

theorem block_gate (t : Fin cfg0.N) (k : Fin 2048) (j : Fin 512) :
    (iblk m c 1 t : FVec Ideal S2048x512 .bf16) (ix2 k j) = gateIn m c k (col (tileOf t) j) := by
  obtain ⟨e0, e1⟩ := (starts t).2.1
  unfold iblk
  rw [View.read_apply]
  show m ((c : Thread nD τ).loc main_arg2) _ = m ((c : Thread nD τ).loc main_arg2) _
  congr 1
  funext a
  apply Fin.ext
  match a with
  | ⟨0, _⟩ => show win0_1.index t (0 : Fin 2) * 2048 + 1 * k.val = k.val; omega
  | ⟨1, _⟩ => show win0_1.index t (1 : Fin 2) * 512 + 1 * j.val = 512 * (t.val % 11) + j.val; omega

theorem block_up (t : Fin cfg0.N) (k : Fin 2048) (j : Fin 512) :
    (iblk m c 2 t : FVec Ideal S2048x512 .bf16) (ix2 k j) = upIn m c k (col (tileOf t) j) := by
  obtain ⟨e0, e1⟩ := (starts t).2.2.1
  unfold iblk
  rw [View.read_apply]
  show m ((c : Thread nD τ).loc main_arg3) _ = m ((c : Thread nD τ).loc main_arg3) _
  congr 1
  funext a
  apply Fin.ext
  match a with
  | ⟨0, _⟩ => show win0_2.index t (0 : Fin 2) * 2048 + 1 * k.val = k.val; omega
  | ⟨1, _⟩ => show win0_2.index t (1 : Fin 2) * 512 + 1 * j.val = 512 * (t.val % 11) + j.val; omega

theorem block_down (t : Fin cfg0.N) (j : Fin 512) (e : Fin 2048) :
    (iblk m c 3 t : FVec Ideal S512x2048 .f32) (ix2 j e) = downIn m c (col (tileOf t) j) e := by
  obtain ⟨e0, e1⟩ := (starts t).2.2.2.1
  unfold iblk
  rw [View.read_apply]
  show m ((c : Thread nD τ).loc main_arg4) _ = m ((c : Thread nD τ).loc main_arg4) _
  congr 1
  funext a
  apply Fin.ext
  match a with
  | ⟨0, _⟩ => show win0_3.index t (0 : Fin 2) * 512 + 1 * j.val = 512 * (t.val % 11) + j.val; omega
  | ⟨1, _⟩ => show win0_3.index t (1 : Fin 2) * 2048 + 1 * e.val = e.val; omega

/-- The tiles of an output entry of point `t`'s row block. -/
abbrev T (t : Fin cfg0.N) (r : Fin 1024) (e : Fin 2048) : Fin 11 → EReal :=
  tileSum (rowsIn m c) (gateIn m c) (upIn m c) (downIn m c) (rowAt t r) e

/-- The body's tile at point `t` is tile `t % 11`. -/
theorem tile_at (t : Fin cfg0.N) (r : Fin 1024) (e : Fin 2048) :
    tileAt (iblk m c 0 t) (iblk m c 1 t) (iblk m c 2 t) (iblk m c 3 t) r e = T m c t r e (tileOf t) := by
  unfold tileAt T tileSum part
  refine Finset.sum_congr rfl fun j _ => ?_
  rw [block_down m c t j e]
  congr 2
  · exact Finset.sum_congr rfl fun k _ => congrArg₂ (· * ·) (block_rows m c t r k) (block_gate m c t k j)
  · exact Finset.sum_congr rfl fun k _ => congrArg₂ (· * ·) (block_rows m c t r k) (block_up m c t k j)

theorem res_at (t : Fin cfg0.N) (r : Fin 1024) (e : Fin 2048) :
    (rowsOf (V m c main_arg1) (grid0.coords t 0) : FVec Ideal S1024x2048 .f32) (ix2 r e) = resIn m c (rowAt t r) e := by
  unfold rowsOf
  show m ((c : Thread nD τ).loc main_arg1) _ = m ((c : Thread nD τ).loc main_arg1) _
  congr 1
  have h0 := row_val t
  funext a
  apply Fin.ext
  match a with
  | ⟨0, _⟩ => show 1024 * (grid0.coords t 0).val + 1 * r.val = 1024 * (t.val / 11) + r.val; omega
  | ⟨1, _⟩ => show 0 + 1 * e.val = e.val; omega

/-- Before a row block's last point, the output's buffer holds the tiles so far. -/
theorem acc_tiles : ∀ (n : ℕ) (hn : n < cfg0.N), n % 11 ≠ 10 → ∀ (r : Fin 1024) (e : Fin 2048),
    acc m c n hn (ix2 r e) = upTo (T m c ⟨n, hn⟩ r e) (n % 11 + 1) := by
  intro n
  induction n with
  | zero =>
    intro hn _ r e
    rw [acc_first m c ⟨0, hn⟩ rfl, pay1_apply, tile_at]
    exact (upTo_one _).symm
  | succ n ih =>
    intro hn h10 r e
    by_cases h0 : (n + 1) % 11 = 0
    · rw [acc_first m c ⟨n + 1, hn⟩ h0, pay1_apply, tile_at, h0]
      refine Eq.trans ?_ (upTo_one _).symm
      congr 1
      exact Fin.ext h0
    · rw [acc_middle m c ⟨n + 1, hn⟩ (by simp only; omega), pay2_apply, tile_at]
      have hr : T m c ⟨n, Nat.lt_of_succ_lt hn⟩ r e = T m c ⟨n + 1, hn⟩ r e := by
        have : rowAt ⟨n, Nat.lt_of_succ_lt hn⟩ r = rowAt ⟨n + 1, hn⟩ r := Fin.ext (by simp only [rowAt]; omega)
        unfold T; rw [this]
      have hi := ih (Nat.lt_of_succ_lt hn) (by omega) r e
      rw [hr, show n % 11 + 1 = (n + 1) % 11 by omega] at hi
      refine Eq.trans (congrArg (· + _) hi) ?_
      exact (upTo_succ (T m c ⟨n + 1, hn⟩ r e) (tileOf ⟨n + 1, hn⟩)).symm

/-- The result: the layer of the arguments, entry by entry. -/
def result : FVec Ideal S8192x2048 .f32 := fun i =>
  layer (rowsIn m c) (gateIn m c) (upIn m c) (downIn m c) (resIn m c) (i 0) (i 1)

/-- After a row block's last point the output's buffer holds the layer's rows. -/
theorem acc_done (t : Fin cfg0.N) (h : t.val % 11 = 10) (r : Fin 1024) (e : Fin 2048) :
    acc m c t.val t.isLt (ix2 r e)
      = layer (rowsIn m c) (gateIn m c) (upIn m c) (downIn m c) (resIn m c) (rowAt t r) e := by
  have hl : t.val - 1 < cfg0.N := Nat.lt_of_le_of_lt (Nat.sub_le _ _) t.isLt
  rw [acc_last m c t h, pay3_apply, tile_at, res_at, acc_tiles m c (t.val - 1) hl (by omega) r e, ← layer_of_tiles]
  have hr : T m c ⟨t.val - 1, hl⟩ r e = T m c t r e := by
    have : rowAt ⟨t.val - 1, hl⟩ r = rowAt t r := Fin.ext (by simp only [rowAt]; omega)
    unfold T; rw [this]
  rw [hr, show (t.val - 1) % 11 + 1 = 10 by omega, show tileOf t = 10 from Fin.ext h]

/-- The result array after the run. -/
theorem array_eq : (dats m 0 c).arrAt 4 cfg0.N = result m c := by
  refine (dats m 0 c).arrAt_eq_of_cover 4 (result m c) ?_ ?_
  · intro t hf
    have h := (flush0_4 t).mp hf
    obtain ⟨e0, e1⟩ := (starts t).2.2.2.2
    show (dats m 0 c).after 4 t = _
    rw [after_4]
    funext y
    rw [View.read_apply]
    have hy : y = ix2 (y 0) (y 1) := by
      funext a
      match a with
      | ⟨0, _⟩ => rfl
      | ⟨1, _⟩ => rfl
    refine (congrArg (acc m c t.val t.isLt) hy).trans ((acc_done m c t h (y 0) (y 1)).trans ?_)
    unfold result
    refine congrArg₂ (layer (rowsIn m c) (gateIn m c) (upIn m c) (downIn m c) (resIn m c)) (Fin.ext ?_) (Fin.ext ?_)
    · show 1024 * (t.val / 11) + (y 0).val = win0_4.index t (0 : Fin 2) * 1024 + 1 * (y 0).val; omega
    · show (y 1).val = win0_4.index t (1 : Fin 2) * 2048 + 1 * (y 1).val; omega
  · intro i
    have hi0 : (i 0).val < 8192 := (i 0).isLt
    have hi1 : (i 1).val < 2048 := (i 1).isLt
    have hN : 11 * ((i 0).val / 1024) + 10 < cfg0.N := lt_of_lt_of_eq (show 11 * ((i 0).val / 1024) + 10 < 88 by omega) N_0.symm
    refine ⟨⟨11 * ((i 0).val / 1024) + 10, hN⟩, (flush0_4 _).mpr (by simp only; omega), ?_⟩
    obtain ⟨e0, e1⟩ := (starts ⟨11 * ((i 0).val / 1024) + 10, hN⟩).2.2.2.2
    simp only at e0
    have hx : ((cfg0.win 4).blk ⟨11 * ((i 0).val / 1024) + 10, hN⟩).view.emb (ix2 ⟨(i 0).val % 1024, Nat.mod_lt _ (by norm_num)⟩ ⟨(i 1).val, hi1⟩) = i := by
      funext a
      apply Fin.ext
      match a with
      | ⟨0, _⟩ => show win0_4.index _ (0 : Fin 2) * 1024 + 1 * ((i 0).val % 1024) = (i 0).val; omega
      | ⟨1, _⟩ => show win0_4.index _ (1 : Fin 2) * 2048 + 1 * (i 1).val = (i 1).val; omega
    have hm := ((cfg0.win 4).blk ⟨11 * ((i 0).val / 1024) + 10, hN⟩).view.emb_mem_set (ix2 ⟨(i 0).val % 1024, Nat.mod_lt _ (by norm_num)⟩ ⟨(i 1).val, hi1⟩)
    rw [hx] at hm
    exact hm

/-- Every run ends with the result at the layer of the arguments, the arguments unchanged. -/
theorem run_value (ρ : Dev nD → PrngReg) : θ_run defs (onTc (τ := τ) (main (F := Ideal))) ⟨m, fun _ => 0, ρ⟩ (fun r => (∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).1 4).trans (array_eq m c),
      ((h.1 c).1 0).trans (((dats m 0 c).arrAt_in 0 rfl _).trans (A_eq m c 0)),
      (h.1 c).2 main_arg1 (Pipeline.mem_restRefs_of main_arg1 (by decide) (by decide)),
      ((h.1 c).1 1).trans (((dats m 0 c).arrAt_in 1 rfl _).trans (A_eq m c 1)),
      ((h.1 c).1 2).trans (((dats m 0 c).arrAt_in 2 rfl _).trans (A_eq m c 2)),
      ((h.1 c).1 3).trans (((dats m 0 c).arrAt_in 3 rfl _).trans (A_eq m c 3))⟩, h.2⟩) (run_main m ρ)

end Cert.FfnIdeal.Hand

end
-- ==== Proof.FfnRef.lean ====
/- The feed-forward layer's reference: the layer of its arguments. -/
module

public import proofs.«01_k».proof.Proof.FfnSpec
public import proofs.«01_k».proof.Proof.Gen.FfnReferenceIdeal.Run
public import Idealize.ShloMosaic.Lib.StackMember
public import Idealize.ShloMosaic.Lib.Pointwise

@[expose] public section

set_option maxRecDepth 16384

noncomputable section

namespace Cert.FfnReferenceIdeal.Hand

open Cert.FfnReferenceIdeal Cert.FfnReferenceIdeal.Gen Cert.FfnMath
open Idealize.ShloMosaic Idealize.ShloMosaic.TcCoe Idealize.ShloMosaic.StableHlo
open Idealize.SL.Sem

/-- A gate or an up-projection. -/
def proj (h : FVec Ideal S8192x2048 .f32) (w : FVec Ideal S2048x5632 .f32) : FVec Ideal S8192x5632 .f32 :=
  Host.dotGeneral dot_S8192x2048_S2048x5632_S8192x5632_1_0_0_1_n_n none h w

/-- The hidden array from its gate and its up-projection. -/
def hidden (g u : FVec Ideal S8192x5632 .f32) : FVec Ideal S8192x5632 .f32 :=
  mulf (mulf g (Host.divf (broadcastInDim S8192x5632 ![] bcast_S_S8192x5632 (constant S_ .f32 0x3F800000#32))
    (addf (broadcastInDim S8192x5632 ![] bcast_S_S8192x5632 (constant S_ .f32 0x3F800000#32)) (Host.exp (Host.negf g))))) u

/-- The hidden array's product with the last weights. -/
def down (a : FVec Ideal S8192x5632 .f32) (w : FVec Ideal S5632x2048 .f32) : FVec Ideal S8192x2048 .f32 :=
  Host.dotGeneral dot_S8192x5632_S5632x2048_S8192x2048_1_0_0_1_n_n none a w

theorem proj_apply (h : FVec Ideal S8192x2048 .f32) (w : FVec Ideal S2048x5632 .f32) (r : Fin 8192) (j : Fin 5632) :
    proj h w (ix2 r j) = ∑ k : Fin 2048, h (ix2 r k) * w (ix2 k j) := by
  refine (StackMember.dotGeneral_plain_apply none h w r j).trans ?_
  simp only [pair_same]

theorem down_apply (a : FVec Ideal S8192x5632 .f32) (w : FVec Ideal S5632x2048 .f32) (r : Fin 8192) (e : Fin 2048) :
    down a w (ix2 r e) = ∑ j : Fin 5632, a (ix2 r j) * w (ix2 j e) := by
  refine (StackMember.dotGeneral_plain_apply none a w r e).trans ?_
  simp only [pair_same]

theorem hidden_apply (g u : FVec Ideal S8192x5632 .f32) (y : S8192x5632.Idx) : hidden g u y = act (g y) (u y) := by
  unfold act Ideal.logistic
  rw [← one]
  rfl

/-- The reference's result, read at an entry. -/
theorem value_apply (x0 : FVec Ideal S8192x2048 .bf16) (x1 : FVec Ideal S8192x2048 .f32) (x2 x3 : FVec Ideal S2048x5632 .bf16)
    (x4 : FVec Ideal S5632x2048 .f32) (r : Fin 8192) (e : Fin 2048) :
    addf x1 (down (hidden (proj (extf .f32 x0 bitsLt_bf16_f32) (extf .f32 x2 bitsLt_bf16_f32)) (proj (extf .f32 x0 bitsLt_bf16_f32) (extf .f32 x3 bitsLt_bf16_f32))) x4) (ix2 r e)
      = layer (fun r k => x0 (ix2 r k)) (fun k j => x2 (ix2 k j)) (fun k j => x3 (ix2 k j)) (fun j e => x4 (ix2 j e)) (fun r e => x1 (ix2 r e)) r e := by
  unfold layer part
  refine congrArg (x1 (ix2 r e) + ·) ((down_apply _ _ r e).trans (Finset.sum_congr rfl fun j _ => ?_))
  rw [hidden_apply, proj_apply, proj_apply]
  rfl

end Cert.FfnReferenceIdeal.Hand

end
-- ==== Proof.FfnEqual.lean ====
/- The feed-forward layer: the reference's frame, and that the kernel's result is the reference's. -/
module

public import proofs.«01_k».proof.Defs
public import proofs.«01_k».proof.Proof.FfnValue
public import proofs.«01_k».proof.Proof.FfnRef
public import Idealize.ShloMosaic.Lib.Quiescent

@[expose] public section

noncomputable section

namespace Cert.FfnProof

open Idealize.ShloMosaic Idealize.SL.Sem

/-- The feed-forward reference runs, leaves its arguments unchanged, and has no semaphore to leave above zero. -/
theorem reference_frame (m : (ℓ : Loc FfnReferenceIdeal.nD FfnReferenceIdeal.τ FfnReferenceIdeal.sig) → Buf (Elt Ideal) ℓ) (g : Dev FfnReferenceIdeal.nD → PrngReg) :
    θ_run (FfnReferenceIdeal.defs (F := Ideal)) (onTc (τ := FfnReferenceIdeal.τ) (FfnReferenceIdeal.main (F := Ideal))) ⟨m, fun _ => 0, g⟩ (fun r => (∀ c : Dev FfnReferenceIdeal.nD,
      r.2.mem ((c.tc : Thread FfnReferenceIdeal.nD FfnReferenceIdeal.τ).loc FfnReferenceIdeal.main_arg0) = m ((c.tc : Thread FfnReferenceIdeal.nD FfnReferenceIdeal.τ).loc FfnReferenceIdeal.main_arg0)
      ∧ r.2.mem ((c.tc : Thread FfnReferenceIdeal.nD FfnReferenceIdeal.τ).loc FfnReferenceIdeal.main_arg1) = m ((c.tc : Thread FfnReferenceIdeal.nD FfnReferenceIdeal.τ).loc FfnReferenceIdeal.main_arg1)
      ∧ r.2.mem ((c.tc : Thread FfnReferenceIdeal.nD FfnReferenceIdeal.τ).loc FfnReferenceIdeal.main_arg2) = m ((c.tc : Thread FfnReferenceIdeal.nD FfnReferenceIdeal.τ).loc FfnReferenceIdeal.main_arg2)
      ∧ r.2.mem ((c.tc : Thread FfnReferenceIdeal.nD FfnReferenceIdeal.τ).loc FfnReferenceIdeal.main_arg3) = m ((c.tc : Thread FfnReferenceIdeal.nD FfnReferenceIdeal.τ).loc FfnReferenceIdeal.main_arg3)
      ∧ r.2.mem ((c.tc : Thread FfnReferenceIdeal.nD FfnReferenceIdeal.τ).loc FfnReferenceIdeal.main_arg4) = m ((c.tc : Thread FfnReferenceIdeal.nD FfnReferenceIdeal.τ).loc FfnReferenceIdeal.main_arg4))
      ∧ r.2.sem = fun _ => 0) :=
  (θ_run (FfnReferenceIdeal.defs (F := Ideal)) _ _).mono
    (fun r h => ⟨fun c => (h c).2, sem_eq_zero_of_no_sems (by decide) r.2⟩)
    (FfnReferenceIdeal.Value.run (F := Ideal) m g)

/-- The reference's result is the kernel's, on equal arguments. -/
theorem equal (m : (ℓ : Loc FfnIdeal.nD FfnIdeal.τ FfnIdeal.sig) → Buf (Elt Ideal) ℓ) (c : Dev FfnIdeal.nD)
    (x0 : FVec Ideal FfnReferenceIdeal.S8192x2048 .bf16) (x1 : FVec Ideal FfnReferenceIdeal.S8192x2048 .f32)
    (x2 x3 : FVec Ideal FfnReferenceIdeal.S2048x5632 .bf16) (x4 : FVec Ideal FfnReferenceIdeal.S5632x2048 .f32)
    (h0 : x0 = m ((c.tc : Thread FfnIdeal.nD FfnIdeal.τ).loc FfnIdeal.main_arg0))
    (h1 : x1 = m ((c.tc : Thread FfnIdeal.nD FfnIdeal.τ).loc FfnIdeal.main_arg1))
    (h2 : x2 = m ((c.tc : Thread FfnIdeal.nD FfnIdeal.τ).loc FfnIdeal.main_arg2))
    (h3 : x3 = m ((c.tc : Thread FfnIdeal.nD FfnIdeal.τ).loc FfnIdeal.main_arg3))
    (h4 : x4 = m ((c.tc : Thread FfnIdeal.nD FfnIdeal.τ).loc FfnIdeal.main_arg4)) :
    addf x1 (FfnReferenceIdeal.Hand.down (FfnReferenceIdeal.Hand.hidden
        (FfnReferenceIdeal.Hand.proj (extf .f32 x0 FfnReferenceIdeal.Gen.bitsLt_bf16_f32) (extf .f32 x2 FfnReferenceIdeal.Gen.bitsLt_bf16_f32))
        (FfnReferenceIdeal.Hand.proj (extf .f32 x0 FfnReferenceIdeal.Gen.bitsLt_bf16_f32) (extf .f32 x3 FfnReferenceIdeal.Gen.bitsLt_bf16_f32))) x4)
      = FfnIdeal.Hand.result m c := by
  funext i
  have hi : i = ix2 (i 0) (i 1) := by
    funext a
    match a with
    | ⟨0, _⟩ => rfl
    | ⟨1, _⟩ => rfl
  refine (congrArg _ hi).trans ((FfnReferenceIdeal.Hand.value_apply x0 x1 x2 x3 x4 (i 0) (i 1)).trans ?_)
  subst h0 h1 h2 h3 h4
  rfl

/-- The kernel's result is the reference's, for all arguments. -/
theorem algebraic : algebraic_FfnIdeal_FfnReferenceIdeal := by
  intro m g m' g' _ hargs
  refine ⟨fun c => FfnIdeal.Hand.result m c, (θ_run _ _ _).mono (fun r h => h.1) (FfnIdeal.Hand.run_value m g), ?_⟩
  refine (θ_run _ _ _).mono (fun r h c => ?_) (FfnReferenceIdeal.Value.run (F := Ideal) m' g')
  obtain ⟨a0, a1, a2, a3, a4⟩ := hargs c
  exact ⟨(h c).1.trans (equal m c _ _ _ _ _ a0 a1 a2 a3 a4), (h c).2⟩

end Cert.FfnProof

end
-- ==== Proof.MergeSpec.lean ====
/- The merge of the two mixers and the norm after it, as functions of one row's entries. -/
module

public import Idealize.ShloMosaic.PureOps.Ideal
public import Idealize.ShloMosaic.Lib.Pointwise

@[expose] public section

noncomputable section

namespace Cert.MergeMath

open Idealize.ShloMosaic

/-- A merged column: each mixer's projection times its gate. -/
def mixed (ya yb : Fin 1024 → EReal) (wa wb : Fin 1024 → Fin 2048 → EReal) (ga gb : Fin 2048 → EReal) (j : Fin 2048) : EReal :=
  ga j * (∑ k : Fin 1024, ya k * wa k j) + gb j * ∑ k : Fin 1024, yb k * wb k j

/-- A column of the row after the merge: the residual plus the projected merged columns. -/
def merged (ya yb : Fin 1024 → EReal) (wa wb : Fin 1024 → Fin 2048 → EReal) (ga gb : Fin 2048 → EReal)
    (x : Fin 2048 → EReal) (wo : Fin 2048 → Fin 2048 → EReal) (e : Fin 2048) : EReal :=
  x e + ∑ j : Fin 2048, mixed ya yb wa wb ga gb j * wo j e

/-- A column of a row divided by the root of its mean square, times the gain. -/
def normed (row gain : Fin 2048 → EReal) (e : Fin 2048) : EReal :=
  row e * Ideal.rsqrt (Ideal.div (∑ k : Fin 2048, row k * row k) (Ideal.ofBits .f32 0x45000000#32) + Ideal.ofBits .f32 0x358637BD#32) * gain e

/-- The literal zero. -/
theorem zero_word : Ideal.ofBits .f32 0x00000000#32 = 0 := by
  simp [Ideal.ofBits, Ideal.ieee]

end Cert.MergeMath

end
-- ==== Proof.MergeTile.lean ====
/- The merge body's two stored blocks, read at an entry. -/
module

public import proofs.«01_k».proof.Proof.FfnSpec
public import proofs.«01_k».proof.Proof.MergeSpec
public import proofs.«01_k».proof.Proof.Gen.MergeIdeal.Skeleton
public import Idealize.ShloMosaic.Lib.MatmulPlain
public import Idealize.ShloMosaic.Lib.StackMember

@[expose] public section

set_option maxRecDepth 16384

noncomputable section

namespace Cert.MergeIdeal.Hand

open Cert.MergeIdeal Cert.MergeIdeal.Gen Cert.MergeMath
open Cert.FfnMath (pair_same)
open Idealize.ShloMosaic Idealize.ShloMosaic.TcCoe

/-- A mixer's projection of a block of rows. -/
def proj (y : FVec Ideal S512x1024 .bf16) (w : FVec Ideal S1024x2048 .bf16) : FVec Ideal S512x2048 .f32 :=
  matmul dot_S512x1024_S1024x2048_S512x2048_1_0_0_1_n_n none y w (constant S512x2048 .f32 0x00000000#32)

/-- The merged block's projection. -/
def projOut (y : FVec Ideal S512x2048 .f32) (w : FVec Ideal S2048x2048 .bf16) : FVec Ideal S512x2048 .f32 :=
  matmul dot_S512x2048_S2048x2048_S512x2048_1_0_0_1_n_n none (truncf .bf16 y bitsLt_bf16_f32) w (constant S512x2048 .f32 0x00000000#32)

/-- Two half blocks of gates side by side. -/
def gates (g0 g1 : FVec Ideal S512x1024 .bf16) : FVec Ideal S512x2048 .f32 :=
  extf .f32 (concatenate S512x2048 1 [⟨S512x1024, g0⟩, ⟨S512x1024, g1⟩] concatenates_S512x1024_S512x1024_S512x2048_d1) bitsLt_bf16_f32

/-- Column `j` of the gates, in the first or the second half. -/
def gateAt (g0 g1 : FVec Ideal S512x1024 .bf16) (r : Fin 512) (j : Fin 2048) : EReal :=
  if h : j.val < 1024 then g0 (ix2 r ⟨j.val, h⟩) else g1 (ix2 r ⟨j.val - 1024, by omega⟩)

theorem proj_apply (y : FVec Ideal S512x1024 .bf16) (w : FVec Ideal S1024x2048 .bf16) (r : Fin 512) (j : Fin 2048) :
    proj y w (ix2 r j) = ∑ k : Fin 1024, y (ix2 r k) * w (ix2 k j) := by
  refine (Ideal.matmul_plain_apply none y w (constant S512x2048 .f32 0x00000000#32) r j).trans ?_
  simp only [pair_same]
  rw [show (constant (F := Ideal) S512x2048 .f32 0x00000000#32) (ix2 r j) = 0 from by pointwise, zero_add]

theorem projOut_apply (y : FVec Ideal S512x2048 .f32) (w : FVec Ideal S2048x2048 .bf16) (r : Fin 512) (e : Fin 2048) :
    projOut y w (ix2 r e) = ∑ j : Fin 2048, y (ix2 r j) * w (ix2 j e) := by
  refine (Ideal.matmul_plain_apply none (truncf .bf16 y bitsLt_bf16_f32) w (constant S512x2048 .f32 0x00000000#32) r e).trans ?_
  simp only [pair_same]
  rw [show (constant (F := Ideal) S512x2048 .f32 0x00000000#32) (ix2 r e) = 0 from by pointwise, zero_add]
  rfl

theorem gates_apply (g0 g1 : FVec Ideal S512x1024 .bf16) (r : Fin 512) (j : Fin 2048) : gates g0 g1 (ix2 r j) = gateAt g0 g1 r j := by
  show concatenate S512x2048 1 [⟨S512x1024, g0⟩, ⟨S512x1024, g1⟩] concatenates_S512x1024_S512x1024_S512x2048_d1 (ix2 r j) = _
  rw [concatenate_pair_apply]
  unfold gateAt
  by_cases h : j.val < 1024
  · rw [dif_pos h]
    refine (dif_pos h).trans ?_
    congr 1
    funext a
    apply Fin.ext
    match a with
    | ⟨0, _⟩ => rfl
    | ⟨1, _⟩ => rfl
  · rw [dif_neg h]
    refine (dif_neg h).trans ?_
    congr 1
    funext a
    apply Fin.ext
    match a with
    | ⟨0, _⟩ => rfl
    | ⟨1, _⟩ => rfl

variable (ya yb : FVec Ideal S512x1024 .bf16) (wa wb : FVec Ideal S1024x2048 .bf16) (a0 a1 b0 b1 : FVec Ideal S512x1024 .bf16)
  (x : FVec Ideal S512x2048 .f32) (wo : FVec Ideal S2048x2048 .bf16) (gain : FVec Ideal S1x2048 .f32)

/-- A row of the merged block, from the body's loads. -/
abbrev rowAt (r : Fin 512) : Fin 2048 → EReal :=
  merged (fun k => ya (ix2 r k)) (fun k => yb (ix2 r k)) (fun k j => wa (ix2 k j)) (fun k j => wb (ix2 k j))
    (gateAt a0 a1 r) (gateAt b0 b1 r) (fun e => x (ix2 r e)) (fun j e => wo (ix2 j e))

/-- The first stored block is the merge. -/
theorem pay2_apply (r : Fin 512) (e : Fin 2048) :
    k0_pay2 (F := Ideal) ya wa yb wb a0 a1 b0 b1 x wo (ix2 r e) = rowAt ya yb wa wb a0 a1 b0 b1 x wo r e := by
  refine (show k0_pay2 (F := Ideal) ya wa yb wb a0 a1 b0 b1 x wo (ix2 r e)
    = x (ix2 r e) + projOut (addf (mulf (gates a0 a1) (proj ya wa)) (mulf (gates b0 b1) (proj yb wb))) wo (ix2 r e) from rfl).trans ?_
  rw [projOut_apply]
  unfold rowAt merged mixed
  refine congrArg (x (ix2 r e) + ·) (Finset.sum_congr rfl fun j _ => congrArg (· * wo (ix2 j e)) ?_)
  rw [← gates_apply, ← gates_apply, ← proj_apply, ← proj_apply]
  rfl

/-- The sum of a block's squares along a row. -/
theorem squares_apply (v : FVec Ideal S512x2048 .f32) (r : S512.Idx) :
    multiReduction .add [1] S512 (mulf v v) 0x00000000#32 reduces_S512x2048_S512 (.inl rfl) rfl r
      = ∑ k : Fin 2048, v (ix2 (r 0) k) * v (ix2 (r 0) k) := by
  refine Eq.trans (b := Ideal.reduceAdd reduces_S512x2048_S512 (mulf v v) r) rfl ?_
  rw [Ideal.reduceAdd_r2_a1]
  rfl

end Cert.MergeIdeal.Hand

end
-- ==== Proof.MergeValue.lean ====
/- What the merge's launch leaves in its two results: the merge of its arguments and the norm of that. -/
module

public import proofs.«01_k».proof.Proof.MergeTile
public import proofs.«01_k».proof.Proof.Gen.MergeIdeal.Value
public import Idealize.ShloMosaic.Lib.Pipeline.ValueKit

@[expose] public section

set_option maxRecDepth 16384

noncomputable section

namespace Cert.MergeIdeal.Hand

open Cert.MergeIdeal Cert.MergeIdeal.Gen Cert.MergeIdeal.Value Cert.MergeMath
open Idealize.ShloMosaic Idealize.ShloMosaic.TcCoe Idealize.ShloMosaic.Tactic
open Idealize.SL.Sem
open Idealize.ShloMosaic.Pipeline (Dat Cfg Window)

variable (m : (ℓ : Loc nD τ sig) → Buf (Elt Ideal) ℓ) (c : Dev nD)

/-- The arguments' entries. -/
abbrev inA : Fin 8192 → Fin 1024 → EReal := fun r k => (m ((c : Thread nD τ).loc main_arg0) : FVec Ideal S8192x1024 .bf16) (ix2 r k)
abbrev inB : Fin 8192 → Fin 1024 → EReal := fun r k => (m ((c : Thread nD τ).loc main_arg1) : FVec Ideal S8192x1024 .bf16) (ix2 r k)
abbrev inG : Fin 8192 → Fin 11264 → EReal := fun r k => (m ((c : Thread nD τ).loc main_arg2) : FVec Ideal S8192x11264 .bf16) (ix2 r k)
abbrev inX : Fin 8192 → Fin 2048 → EReal := fun r k => (m ((c : Thread nD τ).loc main_arg3) : FVec Ideal S8192x2048 .f32) (ix2 r k)
abbrev inWa : Fin 1024 → Fin 2048 → EReal := fun k j => (m ((c : Thread nD τ).loc main_arg4) : FVec Ideal S1024x2048 .bf16) (ix2 k j)
abbrev inWb : Fin 1024 → Fin 2048 → EReal := fun k j => (m ((c : Thread nD τ).loc main_arg5) : FVec Ideal S1024x2048 .bf16) (ix2 k j)
abbrev inWo : Fin 2048 → Fin 2048 → EReal := fun k j => (m ((c : Thread nD τ).loc main_arg6) : FVec Ideal S2048x2048 .bf16) (ix2 k j)
abbrev inGain : Fin 2048 → EReal := fun k => (m ((c : Thread nD τ).loc main_arg7) : FVec Ideal S1x2048 .f32) (ix2 0 k)

/-- A row of the first result. -/
def row (r : Fin 8192) : Fin 2048 → EReal :=
  merged (inA m c r) (inB m c r) (inWa m c) (inWb m c) (fun j => inG m c r ⟨7168 + j.val, by omega⟩) (fun j => inG m c r ⟨9216 + j.val, by omega⟩)
    (inX m c r) (inWo m c)

/-- The first result: the merge. -/
def result1 : FVec Ideal S8192x2048 .f32 := fun i => row m c (i 0) (i 1)

/-- The second result: the rows' norms. -/
def result2 : FVec Ideal S8192x2048 .bf16 := fun i => normed (row m c (i 0)) (inGain m c) (i 1)

/-- Where each window's block lies, over the points. -/
theorem starts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 7)
    ∧ (win0_3.index t (0 : Fin 2) = t.val ∧ win0_3.index t (1 : Fin 2) = 8)
    ∧ (win0_4.index t (0 : Fin 2) = t.val ∧ win0_4.index t (1 : Fin 2) = 9)
    ∧ (win0_5.index t (0 : Fin 2) = t.val ∧ win0_5.index t (1 : Fin 2) = 10)
    ∧ (win0_6.index t (0 : Fin 2) = t.val ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = t.val ∧ win0_11.index t (1 : Fin 2) = 0)
    ∧ (win0_12.index t (0 : Fin 2) = t.val ∧ win0_12.index t (1 : Fin 2) = 0) :=
  (by decide +kernel : ∀ t : Fin grid0.N, _)

/-- Row `r` of row block `t`. -/
def rowOf (t : Fin cfg0.N) (r : Fin 512) : Fin 8192 :=
  ⟨512 * t.val + r.val, by have ht : t.val < 16 := lt_of_lt_of_eq t.isLt N_0; have := r.isLt; omega⟩

/-- The first mixer's block is the point's rows. -/
theorem block_0 (t : Fin cfg0.N) (r : Fin 512) (k : Fin 1024) :
    (iblk m c 0 t : FVec Ideal S512x1024 .bf16) (ix2 r k) = inA m c (rowOf t r) k := by
  obtain ⟨e0, e1⟩ := (starts t).1
  unfold iblk
  rw [View.read_apply]
  show m ((c : Thread nD τ).loc main_arg0) _ = m ((c : Thread nD τ).loc main_arg0) _
  congr 1
  funext a
  apply Fin.ext
  match a with
  | ⟨0, _⟩ => show win0_0.index t (0 : Fin 2) * 512 + 1 * r.val = 512 * t.val + r.val; omega
  | ⟨1, _⟩ => show win0_0.index t (1 : Fin 2) * 1024 + 1 * k.val = k.val; omega

/-- The second mixer's block is the point's rows. -/
theorem block_1 (t : Fin cfg0.N) (r : Fin 512) (k : Fin 1024) :
    (iblk m c 1 t : FVec Ideal S512x1024 .bf16) (ix2 r k) = inB m c (rowOf t r) k := by
  obtain ⟨e0, e1⟩ := (starts t).2.1
  unfold iblk
  rw [View.read_apply]
  show m ((c : Thread nD τ).loc main_arg1) _ = m ((c : Thread nD τ).loc main_arg1) _
  congr 1
  funext a
  apply Fin.ext
  match a with
  | ⟨0, _⟩ => show win0_1.index t (0 : Fin 2) * 512 + 1 * r.val = 512 * t.val + r.val; omega
  | ⟨1, _⟩ => show win0_1.index t (1 : Fin 2) * 1024 + 1 * k.val = k.val; omega

/-- A block of gates: the point's rows, 1024 columns from column 7168. -/
theorem block_2 (t : Fin cfg0.N) (r : Fin 512) (k : Fin 1024) :
    (iblk m c 2 t : FVec Ideal S512x1024 .bf16) (ix2 r k) = inG m c (rowOf t r) ⟨7168 + k.val, by omega⟩ := by
  obtain ⟨e0, e1⟩ := (starts t).2.2.1
  unfold iblk
  rw [View.read_apply]
  show m ((c : Thread nD τ).loc main_arg2) _ = m ((c : Thread nD τ).loc main_arg2) _
  congr 1
  funext a
  apply Fin.ext
  match a with
  | ⟨0, _⟩ => show win0_2.index t (0 : Fin 2) * 512 + 1 * r.val = 512 * t.val + r.val; omega
  | ⟨1, _⟩ => show win0_2.index t (1 : Fin 2) * 1024 + 1 * k.val = 7168 + k.val; omega

/-- A block of gates: the point's rows, 1024 columns from column 8192. -/
theorem block_3 (t : Fin cfg0.N) (r : Fin 512) (k : Fin 1024) :
    (iblk m c 3 t : FVec Ideal S512x1024 .bf16) (ix2 r k) = inG m c (rowOf t r) ⟨8192 + k.val, by omega⟩ := by
  obtain ⟨e0, e1⟩ := (starts t).2.2.2.1
  unfold iblk
  rw [View.read_apply]
  show m ((c : Thread nD τ).loc main_arg2) _ = m ((c : Thread nD τ).loc main_arg2) _
  congr 1
  funext a
  apply Fin.ext
  match a with
  | ⟨0, _⟩ => show win0_3.index t (0 : Fin 2) * 512 + 1 * r.val = 512 * t.val + r.val; omega
  | ⟨1, _⟩ => show win0_3.index t (1 : Fin 2) * 1024 + 1 * k.val = 8192 + k.val; omega

/-- A block of gates: the point's rows, 1024 columns from column 9216. -/
theorem block_4 (t : Fin cfg0.N) (r : Fin 512) (k : Fin 1024) :
    (iblk m c 4 t : FVec Ideal S512x1024 .bf16) (ix2 r k) = inG m c (rowOf t r) ⟨9216 + k.val, by omega⟩ := by
  obtain ⟨e0, e1⟩ := (starts t).2.2.2.2.1
  unfold iblk
  rw [View.read_apply]
  show m ((c : Thread nD τ).loc main_arg2) _ = m ((c : Thread nD τ).loc main_arg2) _
  congr 1
  funext a
  apply Fin.ext
  match a with
  | ⟨0, _⟩ => show win0_4.index t (0 : Fin 2) * 512 + 1 * r.val = 512 * t.val + r.val; omega
  | ⟨1, _⟩ => show win0_4.index t (1 : Fin 2) * 1024 + 1 * k.val = 9216 + k.val; omega

/-- A block of gates: the point's rows, 1024 columns from column 10240. -/
theorem block_5 (t : Fin cfg0.N) (r : Fin 512) (k : Fin 1024) :
    (iblk m c 5 t : FVec Ideal S512x1024 .bf16) (ix2 r k) = inG m c (rowOf t r) ⟨10240 + k.val, by omega⟩ := by
  obtain ⟨e0, e1⟩ := (starts t).2.2.2.2.2.1
  unfold iblk
  rw [View.read_apply]
  show m ((c : Thread nD τ).loc main_arg2) _ = m ((c : Thread nD τ).loc main_arg2) _
  congr 1
  funext a
  apply Fin.ext
  match a with
  | ⟨0, _⟩ => show win0_5.index t (0 : Fin 2) * 512 + 1 * r.val = 512 * t.val + r.val; omega
  | ⟨1, _⟩ => show win0_5.index t (1 : Fin 2) * 1024 + 1 * k.val = 10240 + k.val; omega

/-- The residual's block is the point's rows. -/
theorem block_6 (t : Fin cfg0.N) (r : Fin 512) (k : Fin 2048) :
    (iblk m c 6 t : FVec Ideal S512x2048 .f32) (ix2 r k) = inX m c (rowOf t r) k := by
  obtain ⟨e0, e1⟩ := (starts t).2.2.2.2.2.2.1
  unfold iblk
  rw [View.read_apply]
  show m ((c : Thread nD τ).loc main_arg3) _ = m ((c : Thread nD τ).loc main_arg3) _
  congr 1
  funext a
  apply Fin.ext
  match a with
  | ⟨0, _⟩ => show win0_6.index t (0 : Fin 2) * 512 + 1 * r.val = 512 * t.val + r.val; omega
  | ⟨1, _⟩ => show win0_6.index t (1 : Fin 2) * 2048 + 1 * k.val = k.val; omega

/-- The first mixer's weights, whole. -/
theorem block_7 (t : Fin cfg0.N) (r : Fin 1024) (k : Fin 2048) :
    (iblk m c 7 t : FVec Ideal S1024x2048 .bf16) (ix2 r k) = inWa m c r k := by
  obtain ⟨e0, e1⟩ := (starts t).2.2.2.2.2.2.2.1
  unfold iblk
  rw [View.read_apply]
  show m ((c : Thread nD τ).loc main_arg4) _ = m ((c : Thread nD τ).loc main_arg4) _
  congr 1
  funext a
  apply Fin.ext
  match a with
  | ⟨0, _⟩ => show win0_7.index t (0 : Fin 2) * 1024 + 1 * r.val = r.val; omega
  | ⟨1, _⟩ => show win0_7.index t (1 : Fin 2) * 2048 + 1 * k.val = k.val; omega

/-- The second mixer's weights, whole. -/
theorem block_8 (t : Fin cfg0.N) (r : Fin 1024) (k : Fin 2048) :
    (iblk m c 8 t : FVec Ideal S1024x2048 .bf16) (ix2 r k) = inWb m c r k := by
  obtain ⟨e0, e1⟩ := (starts t).2.2.2.2.2.2.2.2.1
  unfold iblk
  rw [View.read_apply]
  show m ((c : Thread nD τ).loc main_arg5) _ = m ((c : Thread nD τ).loc main_arg5) _
  congr 1
  funext a
  apply Fin.ext
  match a with
  | ⟨0, _⟩ => show win0_8.index t (0 : Fin 2) * 1024 + 1 * r.val = r.val; omega
  | ⟨1, _⟩ => show win0_8.index t (1 : Fin 2) * 2048 + 1 * k.val = k.val; omega

/-- The last weights, whole. -/
theorem block_9 (t : Fin cfg0.N) (r : Fin 2048) (k : Fin 2048) :
    (iblk m c 9 t : FVec Ideal S2048x2048 .bf16) (ix2 r k) = inWo m c r k := by
  obtain ⟨e0, e1⟩ := (starts t).2.2.2.2.2.2.2.2.2.1
  unfold iblk
  rw [View.read_apply]
  show m ((c : Thread nD τ).loc main_arg6) _ = m ((c : Thread nD τ).loc main_arg6) _
  congr 1
  funext a
  apply Fin.ext
  match a with
  | ⟨0, _⟩ => show win0_9.index t (0 : Fin 2) * 2048 + 1 * r.val = r.val; omega
  | ⟨1, _⟩ => show win0_9.index t (1 : Fin 2) * 2048 + 1 * k.val = k.val; omega

/-- The gain, whole. -/
theorem block_10 (t : Fin cfg0.N) (k : Fin 2048) :
    (iblk m c 10 t : FVec Ideal S1x2048 .f32) (ix2 0 k) = inGain m c k := by
  obtain ⟨e0, e1⟩ := (starts t).2.2.2.2.2.2.2.2.2.2.1
  unfold iblk
  rw [View.read_apply]
  show m ((c : Thread nD τ).loc main_arg7) _ = m ((c : Thread nD τ).loc main_arg7) _
  congr 1
  funext a
  apply Fin.ext
  match a with
  | ⟨0, _⟩ => show win0_10.index t (0 : Fin 2) * 1 + 1 * 0 = 0; omega
  | ⟨1, _⟩ => show win0_10.index t (1 : Fin 2) * 2048 + 1 * k.val = k.val; omega

/-- The gates' two halves are the gates of the point's rows, from a first column on. -/
theorem gate_halves (t : Fin cfg0.N) (r : Fin 512) (j : Fin 2048) :
    gateAt (iblk m c 2 t) (iblk m c 3 t) r j = inG m c (rowOf t r) ⟨7168 + j.val, by omega⟩
    ∧ gateAt (iblk m c 4 t) (iblk m c 5 t) r j = inG m c (rowOf t r) ⟨9216 + j.val, by omega⟩ := by
  unfold gateAt
  by_cases h : j.val < 1024
  · rw [dif_pos h, dif_pos h]
    exact ⟨block_2 m c t r ⟨j.val, h⟩, block_4 m c t r ⟨j.val, h⟩⟩
  · rw [dif_neg h, dif_neg h]
    refine ⟨(block_3 m c t r ⟨j.val - 1024, by omega⟩).trans (congrArg (inG m c (rowOf t r)) (Fin.ext ?_)),
      (block_5 m c t r ⟨j.val - 1024, by omega⟩).trans (congrArg (inG m c (rowOf t r)) (Fin.ext ?_))⟩
    · show 8192 + (j.val - 1024) = 7168 + j.val; omega
    · show 10240 + (j.val - 1024) = 9216 + j.val; omega

/-- A row of the merged block at point `t` is the row of the result. -/
theorem row_at (t : Fin cfg0.N) (r : Fin 512) :
    rowAt (iblk m c 0 t) (iblk m c 1 t) (iblk m c 7 t) (iblk m c 8 t) (iblk m c 2 t) (iblk m c 3 t) (iblk m c 4 t) (iblk m c 5 t) (iblk m c 6 t) (iblk m c 9 t) r
      = row m c (rowOf t r) := by
  unfold rowAt row
  rw [show gateAt (iblk m c 2 t) (iblk m c 3 t) r = _ from funext fun j => (gate_halves m c t r j).1,
    show gateAt (iblk m c 4 t) (iblk m c 5 t) r = _ from funext fun j => (gate_halves m c t r j).2]
  congr 1
  · exact funext fun k => block_0 m c t r k
  · exact funext fun k => block_1 m c t r k
  · exact funext fun k => funext fun j => block_7 m c t k j
  · exact funext fun k => funext fun j => block_8 m c t k j
  · exact funext fun k => block_6 m c t r k
  · exact funext fun k => funext fun j => block_9 m c t k j

/-! The body's loads read whole blocks. -/

theorem load_mixer (X : FVec Ideal S512x1024 .bf16) : View.ld (Val := Elt Ideal) (e' := .bf16) X r0_0 = X :=
  View.ld_unit_lit (Val := Elt Ideal) (e := .bf16) (S := S512x1024) (off := ![0, 0]) inb_S512x1024_S512x1024_0_0 X (by decide)
theorem load_weight (X : FVec Ideal S1024x2048 .bf16) : View.ld (Val := Elt Ideal) (e' := .bf16) X r0_1 = X :=
  View.ld_unit_lit (Val := Elt Ideal) (e := .bf16) (S := S1024x2048) (off := ![0, 0]) inb_S1024x2048_S1024x2048_0_0 X (by decide)
theorem load_rows (X : FVec Ideal S512x2048 .f32) : View.ld (Val := Elt Ideal) (e' := .f32) X r0_2 = X :=
  View.ld_unit_lit (Val := Elt Ideal) (e := .f32) (S := S512x2048) (off := ![0, 0]) inb_S512x2048_S512x2048_0_0 X (by decide)
theorem load_last (X : FVec Ideal S2048x2048 .bf16) : View.ld (Val := Elt Ideal) (e' := .bf16) X r0_3 = X :=
  View.ld_unit_lit (Val := Elt Ideal) (e := .bf16) (S := S2048x2048) (off := ![0, 0]) inb_S2048x2048_S2048x2048_0_0 X (by decide)
theorem load_gain (X : FVec Ideal S1x2048 .f32) : View.ld (Val := Elt Ideal) (e' := .f32) X r0_4 = X :=
  View.ld_unit_lit (Val := Elt Ideal) (e := .f32) (S := S1x2048) (off := ![0, 0]) inb_S1x2048_S1x2048_0_0 X (by decide)

/-- What a point leaves in the first result's buffer. -/
theorem left1 (t : Fin cfg0.N) (r : Fin 512) (e : Fin 2048) :
    ((dats m 0 c).after 11 t : FVec Ideal S512x2048 .f32) (ix2 r e) = row m c (rowOf t r) e := by
  rw [after0_11]
  unfold out0_11
  rw [View.canon_cons_unit_lit _ _ _ (by decide)]
  rw [load_mixer, load_mixer, load_mixer, load_mixer, load_mixer, load_mixer, load_weight, load_weight, load_rows, load_last]
  rw [pay2_apply, row_at]

/-- What a point leaves in the second result's buffer. -/
theorem left2 (t : Fin cfg0.N) (r : Fin 512) (e : Fin 2048) :
    ((dats m 0 c).after 12 t : FVec Ideal S512x2048 .bf16) (ix2 r e) = normed (row m c (rowOf t r)) (inGain m c) e := by
  rw [after0_12]
  unfold out0_12
  rw [canon12_eq]
  rw [load_mixer, load_mixer, load_mixer, load_mixer, load_mixer, load_mixer, load_weight, load_weight, load_rows, load_last, load_gain]
  unfold E12 normed
  rw [squares_apply]
  have h : ∀ e : Fin 2048, k0_pay2 (F := Ideal) (iblk m c 0 t) (iblk m c 7 t) (iblk m c 1 t) (iblk m c 8 t) (iblk m c 2 t) (iblk m c 3 t)
      (iblk m c 4 t) (iblk m c 5 t) (iblk m c 6 t) (iblk m c 9 t) (ix2 r e) = row m c (rowOf t r) e := fun e => by rw [pay2_apply, row_at]
  have i0 : ix12_0 (ix2 r e) = ix2 r e := by
    funext a
    match a with
    | ⟨0, _⟩ => rfl
    | ⟨1, _⟩ => rfl
  have i1 : ix12_1 (ix2 r e) 0 = r := rfl
  have i2 : ix12_2 (ix2 r e) = ix2 0 e := by
    funext a
    match a with
    | ⟨0, _⟩ => rfl
    | ⟨1, _⟩ => rfl
  rw [i0, i2, h, block_10]
  simp only [i1, h]
  rfl

/-- Result array 1 after the run. -/
theorem array_1 : (dats m 0 c).arrAt 11 cfg0.N = result1 m c := by
  refine (dats m 0 c).arrAt_eq_of_cover 11 (result1 m c) ?_ ?_
  · intro t _
    obtain ⟨e0, e1⟩ := (starts t).2.2.2.2.2.2.2.2.2.2.2.1
    show (dats m 0 c).after 11 t = _
    funext y
    rw [View.read_apply]
    have hy : y = ix2 (y 0) (y 1) := by
      funext a
      match a with
      | ⟨0, _⟩ => rfl
      | ⟨1, _⟩ => rfl
    refine (congrArg ((dats m 0 c).after 11 t) hy).trans ((left1 m c t (y 0) (y 1)).trans ?_)
    unfold result1
    have h0 : rowOf t (y 0) = ((cfg0.win 11).blk t).view.emb y 0 := Fin.ext (by
      show 512 * t.val + (y 0).val = win0_11.index t (0 : Fin 2) * 512 + 1 * (y 0).val; omega)
    have h1 : (y 1 : Fin 2048) = ((cfg0.win 11).blk t).view.emb y 1 := Fin.ext (by
      show (y 1).val = win0_11.index t (1 : Fin 2) * 2048 + 1 * (y 1).val; omega)
    exact congrArg₂ (fun (a : Fin 8192) (b : Fin 2048) => row m c a b) h0 h1
  · intro i
    have hi0 : (i 0).val < 8192 := (i 0).isLt
    have hi1 : (i 1).val < 2048 := (i 1).isLt
    have hN : (i 0).val / 512 < cfg0.N := lt_of_lt_of_eq (show (i 0).val / 512 < 16 by omega) N_0.symm
    refine ⟨⟨(i 0).val / 512, hN⟩, flush0_11 _, ?_⟩
    obtain ⟨e0, e1⟩ := (starts ⟨(i 0).val / 512, hN⟩).2.2.2.2.2.2.2.2.2.2.2.1
    simp only at e0
    have hx : ((cfg0.win 11).blk ⟨(i 0).val / 512, hN⟩).view.emb (ix2 ⟨(i 0).val % 512, Nat.mod_lt _ (by norm_num)⟩ ⟨(i 1).val, hi1⟩) = i := by
      funext a
      apply Fin.ext
      match a with
      | ⟨0, _⟩ => show win0_11.index _ (0 : Fin 2) * 512 + 1 * ((i 0).val % 512) = (i 0).val; omega
      | ⟨1, _⟩ => show win0_11.index _ (1 : Fin 2) * 2048 + 1 * (i 1).val = (i 1).val; omega
    have hm := ((cfg0.win 11).blk ⟨(i 0).val / 512, hN⟩).view.emb_mem_set (ix2 ⟨(i 0).val % 512, Nat.mod_lt _ (by norm_num)⟩ ⟨(i 1).val, hi1⟩)
    rw [hx] at hm
    exact hm

/-- Result array 2 after the run. -/
theorem array_2 : (dats m 0 c).arrAt 12 cfg0.N = result2 m c := by
  refine (dats m 0 c).arrAt_eq_of_cover 12 (result2 m c) ?_ ?_
  · intro t _
    obtain ⟨e0, e1⟩ := (starts t).2.2.2.2.2.2.2.2.2.2.2.2
    show (dats m 0 c).after 12 t = _
    funext y
    rw [View.read_apply]
    have hy : y = ix2 (y 0) (y 1) := by
      funext a
      match a with
      | ⟨0, _⟩ => rfl
      | ⟨1, _⟩ => rfl
    refine (congrArg ((dats m 0 c).after 12 t) hy).trans ((left2 m c t (y 0) (y 1)).trans ?_)
    unfold result2
    have h0 : rowOf t (y 0) = ((cfg0.win 12).blk t).view.emb y 0 := Fin.ext (by
      show 512 * t.val + (y 0).val = win0_12.index t (0 : Fin 2) * 512 + 1 * (y 0).val; omega)
    have h1 : (y 1 : Fin 2048) = ((cfg0.win 12).blk t).view.emb y 1 := Fin.ext (by
      show (y 1).val = win0_12.index t (1 : Fin 2) * 2048 + 1 * (y 1).val; omega)
    exact congrArg₂ (fun (a : Fin 8192) (b : Fin 2048) => normed (row m c a) (inGain m c) b) h0 h1
  · intro i
    have hi0 : (i 0).val < 8192 := (i 0).isLt
    have hi1 : (i 1).val < 2048 := (i 1).isLt
    have hN : (i 0).val / 512 < cfg0.N := lt_of_lt_of_eq (show (i 0).val / 512 < 16 by omega) N_0.symm
    refine ⟨⟨(i 0).val / 512, hN⟩, flush0_12 _, ?_⟩
    obtain ⟨e0, e1⟩ := (starts ⟨(i 0).val / 512, hN⟩).2.2.2.2.2.2.2.2.2.2.2.2
    simp only at e0
    have hx : ((cfg0.win 12).blk ⟨(i 0).val / 512, hN⟩).view.emb (ix2 ⟨(i 0).val % 512, Nat.mod_lt _ (by norm_num)⟩ ⟨(i 1).val, hi1⟩) = i := by
      funext a
      apply Fin.ext
      match a with
      | ⟨0, _⟩ => show win0_12.index _ (0 : Fin 2) * 512 + 1 * ((i 0).val % 512) = (i 0).val; omega
      | ⟨1, _⟩ => show win0_12.index _ (1 : Fin 2) * 2048 + 1 * (i 1).val = (i 1).val; omega
    have hm := ((cfg0.win 12).blk ⟨(i 0).val / 512, hN⟩).view.emb_mem_set (ix2 ⟨(i 0).val % 512, Nat.mod_lt _ (by norm_num)⟩ ⟨(i 1).val, hi1⟩)
    rw [hx] at hm
    exact hm

/-- Every run ends with the two results at the merge and its norm, the arguments unchanged. -/
theorem run_value (ρ : Dev nD → PrngReg) : θ_run defs (onTc (τ := τ) (main (F := Ideal))) ⟨m, fun _ => 0, ρ⟩ (fun r => ∀ c : Dev nD,
      r.2.mem ((c.tc : Thread nD τ).loc main_v0_0) = result1 m c
      ∧ r.2.mem ((c.tc : Thread nD τ).loc main_v0_1) = result2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c).1.trans (array_1 m c), (h c).2.1.trans (array_2 m c), (h c).2.2⟩) (run_blocks m ρ)

end Cert.MergeIdeal.Hand

end
-- ==== Proof.MergeRef.lean ====
/- The merge's reference: the merge of its arguments and its norm. -/
module

public import proofs.«01_k».proof.Proof.FfnSpec
public import proofs.«01_k».proof.Proof.MergeSpec
public import proofs.«01_k».proof.Proof.Gen.MergeReferenceIdeal.Run
public import Idealize.ShloMosaic.Lib.StackMember
public import Idealize.ShloMosaic.Lib.Pointwise

@[expose] public section

set_option maxRecDepth 16384

noncomputable section

namespace Cert.MergeReferenceIdeal.Hand

open Cert.MergeReferenceIdeal Cert.MergeReferenceIdeal.Gen Cert.MergeMath
open Cert.FfnMath (pair_same)
open Idealize.ShloMosaic Idealize.ShloMosaic.TcCoe Idealize.ShloMosaic.StableHlo
open Idealize.SL.Sem

/-- A mixer's projection. -/
def proj (y : FVec Ideal S8192x1024 .bf16) (w : FVec Ideal S1024x2048 .bf16) : FVec Ideal S8192x2048 .f32 :=
  Host.dotGeneral dot_S8192x1024_S1024x2048_S8192x2048_1_0_0_1_n_n none (extf .f32 y bitsLt_bf16_f32) (extf .f32 w bitsLt_bf16_f32)

/-- The merged array's projection. -/
def projOut (y : FVec Ideal S8192x2048 .f32) (w : FVec Ideal S2048x2048 .bf16) : FVec Ideal S8192x2048 .f32 :=
  Host.dotGeneral dot_S8192x2048_S2048x2048_S8192x2048_1_0_0_1_n_n none y (extf .f32 w bitsLt_bf16_f32)

/-- The gates of both mixers, cut from the projections. -/
def bothGates (p : FVec Ideal S8192x11264 .bf16) : FVec Ideal S8192x4096 .f32 :=
  extf .f32 (extractStridedSlice S8192x4096 ![0, 7168] p slices_S8192x11264_S8192x4096_0_7168) bitsLt_bf16_f32

/-- The first mixer's gates. -/
def gatesA (p : FVec Ideal S8192x11264 .bf16) : FVec Ideal S8192x2048 .f32 :=
  extractStridedSlice S8192x2048 ![0, 0] (bothGates p) slices_S8192x4096_S8192x2048_0_0

/-- The second mixer's gates. -/
def gatesB (p : FVec Ideal S8192x11264 .bf16) : FVec Ideal S8192x2048 .f32 :=
  extractStridedSlice S8192x2048 ![0, 2048] (bothGates p) slices_S8192x4096_S8192x2048_0_2048

/-- The array after the merge. -/
def mergedOf (ya yb : FVec Ideal S8192x1024 .bf16) (p : FVec Ideal S8192x11264 .bf16) (x : FVec Ideal S8192x2048 .f32)
    (wa wb : FVec Ideal S1024x2048 .bf16) (wo : FVec Ideal S2048x2048 .bf16) : FVec Ideal S8192x2048 .f32 :=
  addf x (projOut (addf (mulf (gatesA p) (proj ya wa)) (mulf (gatesB p) (proj yb wb))) wo)

/-- The rows' norms. -/
def normedOf (v : FVec Ideal S8192x2048 .f32) (gain : FVec Ideal S1x2048 .f32) : FVec Ideal S8192x2048 .bf16 :=
  truncf .bf16 (mulf (mulf v (broadcastInDim S8192x2048 ![0, 1] bcast_S8192x1_S8192x2048_0_1 (Host.rsqrt (addf (Host.divf
    (broadcastInDim S8192x1 ![0] bcast_S8192_S8192x1_0 (Host.reduceAdd (mulf v v) (constant S_ .f32 0x00000000#32) reducesTo_S8192x2048_S8192_d1 h_S_))
    (broadcastInDim S8192x1 ![] bcast_S_S8192x1 (constant S_ .f32 0x45000000#32)))
    (broadcastInDim S8192x1 ![] bcast_S_S8192x1 (constant S_ .f32 0x358637BD#32))))))
    (broadcastInDim S8192x2048 ![0, 1] bcast_S1x2048_S8192x2048_0_1 gain)) bitsLt_bf16_f32

theorem proj_apply (y : FVec Ideal S8192x1024 .bf16) (w : FVec Ideal S1024x2048 .bf16) (r : Fin 8192) (j : Fin 2048) :
    proj y w (ix2 r j) = ∑ k : Fin 1024, y (ix2 r k) * w (ix2 k j) := by
  refine (StackMember.dotGeneral_plain_apply none (extf .f32 y bitsLt_bf16_f32) (extf .f32 w bitsLt_bf16_f32) r j).trans ?_
  simp only [pair_same]
  rfl

theorem projOut_apply (y : FVec Ideal S8192x2048 .f32) (w : FVec Ideal S2048x2048 .bf16) (r : Fin 8192) (e : Fin 2048) :
    projOut y w (ix2 r e) = ∑ j : Fin 2048, y (ix2 r j) * w (ix2 j e) := by
  refine (StackMember.dotGeneral_plain_apply none y (extf .f32 w bitsLt_bf16_f32) r e).trans ?_
  simp only [pair_same]
  rfl

theorem gatesA_apply (p : FVec Ideal S8192x11264 .bf16) (r : Fin 8192) (j : Fin 2048) :
    gatesA p (ix2 r j) = p (ix2 r ⟨7168 + j.val, by omega⟩) := by
  show p _ = p _
  congr 1
  funext a
  apply Fin.ext
  match a with
  | ⟨0, _⟩ => show 0 + (0 + r.val) = r.val; omega
  | ⟨1, _⟩ => show 7168 + (0 + j.val) = 7168 + j.val; omega

theorem gatesB_apply (p : FVec Ideal S8192x11264 .bf16) (r : Fin 8192) (j : Fin 2048) :
    gatesB p (ix2 r j) = p (ix2 r ⟨9216 + j.val, by omega⟩) := by
  show p _ = p _
  congr 1
  funext a
  apply Fin.ext
  match a with
  | ⟨0, _⟩ => show 0 + (0 + r.val) = r.val; omega
  | ⟨1, _⟩ => show 7168 + (2048 + j.val) = 9216 + j.val; omega

/-- The merge, read at an entry. -/
theorem mergedOf_apply (ya yb : FVec Ideal S8192x1024 .bf16) (p : FVec Ideal S8192x11264 .bf16) (x : FVec Ideal S8192x2048 .f32)
    (wa wb : FVec Ideal S1024x2048 .bf16) (wo : FVec Ideal S2048x2048 .bf16) (r : Fin 8192) (e : Fin 2048) :
    mergedOf ya yb p x wa wb wo (ix2 r e)
      = merged (fun k => ya (ix2 r k)) (fun k => yb (ix2 r k)) (fun k j => wa (ix2 k j)) (fun k j => wb (ix2 k j))
          (fun j => p (ix2 r ⟨7168 + j.val, by omega⟩)) (fun j => p (ix2 r ⟨9216 + j.val, by omega⟩)) (fun e => x (ix2 r e)) (fun j e => wo (ix2 j e)) e := by
  unfold merged mixed
  refine congrArg (x (ix2 r e) + ·) ((projOut_apply _ _ r e).trans (Finset.sum_congr rfl fun j _ => congrArg (· * wo (ix2 j e)) ?_))
  simp only [← gatesA_apply, ← gatesB_apply, ← proj_apply]
  rfl

/-- The sum of an array's squares along a row. -/
theorem squares_apply (v : FVec Ideal S8192x2048 .f32) (r : Fin 8192) :
    Host.reduceAdd (mulf v v) (constant (F := Ideal) S_ .f32 0x00000000#32) reducesTo_S8192x2048_S8192_d1 h_S_ (ix1 r)
      = ∑ k : Fin 2048, v (ix2 r k) * v (ix2 r k) := by
  rw [Host.reduceAdd_apply, Ideal.hostReduceAdd_def, Ideal.hostReduceAdd_r2_a1]
  refine (congrArg (· + _) (show _ = (0 : EReal) from zero_word)).trans ((zero_add _).trans ?_)
  rfl

/-- The norm, read at an entry. -/
theorem normedOf_apply (v : FVec Ideal S8192x2048 .f32) (gain : FVec Ideal S1x2048 .f32) (r : Fin 8192) (e : Fin 2048) :
    normedOf v gain (ix2 r e) = normed (fun k => v (ix2 r k)) (fun k => gain (ix2 0 k)) e := by
  unfold normed
  rw [← squares_apply]
  unfold normedOf
  pointwise []

end Cert.MergeReferenceIdeal.Hand

end
-- ==== Proof.MergeEqual.lean ====
/- The merge: the reference's frame, and that the kernel's two results are the reference's. -/
module

public import proofs.«01_k».proof.Defs
public import proofs.«01_k».proof.Proof.MergeValue
public import proofs.«01_k».proof.Proof.MergeRef
public import Idealize.ShloMosaic.Lib.Quiescent

@[expose] public section

noncomputable section

namespace Cert.MergeProof

open Idealize.ShloMosaic Idealize.SL.Sem

/-- The merge's reference runs, leaves its arguments unchanged, and has no semaphore to leave above zero. -/
theorem reference_frame (m : (ℓ : Loc MergeReferenceIdeal.nD MergeReferenceIdeal.τ MergeReferenceIdeal.sig) → Buf (Elt Ideal) ℓ) (g : Dev MergeReferenceIdeal.nD → PrngReg) :
    θ_run (MergeReferenceIdeal.defs (F := Ideal)) (onTc (τ := MergeReferenceIdeal.τ) (MergeReferenceIdeal.main (F := Ideal))) ⟨m, fun _ => 0, g⟩ (fun r => (∀ c : Dev MergeReferenceIdeal.nD,
      r.2.mem ((c.tc : Thread MergeReferenceIdeal.nD MergeReferenceIdeal.τ).loc MergeReferenceIdeal.main_arg0) = m ((c.tc : Thread MergeReferenceIdeal.nD MergeReferenceIdeal.τ).loc MergeReferenceIdeal.main_arg0)
      ∧ r.2.mem ((c.tc : Thread MergeReferenceIdeal.nD MergeReferenceIdeal.τ).loc MergeReferenceIdeal.main_arg1) = m ((c.tc : Thread MergeReferenceIdeal.nD MergeReferenceIdeal.τ).loc MergeReferenceIdeal.main_arg1)
      ∧ r.2.mem ((c.tc : Thread MergeReferenceIdeal.nD MergeReferenceIdeal.τ).loc MergeReferenceIdeal.main_arg2) = m ((c.tc : Thread MergeReferenceIdeal.nD MergeReferenceIdeal.τ).loc MergeReferenceIdeal.main_arg2)
      ∧ r.2.mem ((c.tc : Thread MergeReferenceIdeal.nD MergeReferenceIdeal.τ).loc MergeReferenceIdeal.main_arg3) = m ((c.tc : Thread MergeReferenceIdeal.nD MergeReferenceIdeal.τ).loc MergeReferenceIdeal.main_arg3)
      ∧ r.2.mem ((c.tc : Thread MergeReferenceIdeal.nD MergeReferenceIdeal.τ).loc MergeReferenceIdeal.main_arg4) = m ((c.tc : Thread MergeReferenceIdeal.nD MergeReferenceIdeal.τ).loc MergeReferenceIdeal.main_arg4)
      ∧ r.2.mem ((c.tc : Thread MergeReferenceIdeal.nD MergeReferenceIdeal.τ).loc MergeReferenceIdeal.main_arg5) = m ((c.tc : Thread MergeReferenceIdeal.nD MergeReferenceIdeal.τ).loc MergeReferenceIdeal.main_arg5)
      ∧ r.2.mem ((c.tc : Thread MergeReferenceIdeal.nD MergeReferenceIdeal.τ).loc MergeReferenceIdeal.main_arg6) = m ((c.tc : Thread MergeReferenceIdeal.nD MergeReferenceIdeal.τ).loc MergeReferenceIdeal.main_arg6)
      ∧ r.2.mem ((c.tc : Thread MergeReferenceIdeal.nD MergeReferenceIdeal.τ).loc MergeReferenceIdeal.main_arg7) = m ((c.tc : Thread MergeReferenceIdeal.nD MergeReferenceIdeal.τ).loc MergeReferenceIdeal.main_arg7))
      ∧ r.2.sem = fun _ => 0) :=
  (θ_run (MergeReferenceIdeal.defs (F := Ideal)) _ _).mono
    (fun r h => ⟨fun c => (h c).2.2, sem_eq_zero_of_no_sems (by decide) r.2⟩)
    (MergeReferenceIdeal.Value.run (F := Ideal) m g)

/-- An index of the results from its two coordinates. -/
theorem pair_of (i : MergeReferenceIdeal.S8192x2048.Idx) : i = ix2 (i 0) (i 1) := by
  funext a
  match a with
  | ⟨0, _⟩ => rfl
  | ⟨1, _⟩ => rfl

/-- The reference's merge is the kernel's, on equal arguments. -/
theorem equal1 (m : (ℓ : Loc MergeIdeal.nD MergeIdeal.τ MergeIdeal.sig) → Buf (Elt Ideal) ℓ) (c : Dev MergeIdeal.nD)
    (x0 : FVec Ideal MergeReferenceIdeal.S8192x1024 .bf16) (x1 : FVec Ideal MergeReferenceIdeal.S8192x1024 .bf16) (x2 : FVec Ideal MergeReferenceIdeal.S8192x11264 .bf16) (x3 : FVec Ideal MergeReferenceIdeal.S8192x2048 .f32) (x4 : FVec Ideal MergeReferenceIdeal.S1024x2048 .bf16) (x5 : FVec Ideal MergeReferenceIdeal.S1024x2048 .bf16) (x6 : FVec Ideal MergeReferenceIdeal.S2048x2048 .bf16)
    (h0 : x0 = m ((c.tc : Thread MergeIdeal.nD MergeIdeal.τ).loc MergeIdeal.main_arg0))
    (h1 : x1 = m ((c.tc : Thread MergeIdeal.nD MergeIdeal.τ).loc MergeIdeal.main_arg1))
    (h2 : x2 = m ((c.tc : Thread MergeIdeal.nD MergeIdeal.τ).loc MergeIdeal.main_arg2))
    (h3 : x3 = m ((c.tc : Thread MergeIdeal.nD MergeIdeal.τ).loc MergeIdeal.main_arg3))
    (h4 : x4 = m ((c.tc : Thread MergeIdeal.nD MergeIdeal.τ).loc MergeIdeal.main_arg4))
    (h5 : x5 = m ((c.tc : Thread MergeIdeal.nD MergeIdeal.τ).loc MergeIdeal.main_arg5))
    (h6 : x6 = m ((c.tc : Thread MergeIdeal.nD MergeIdeal.τ).loc MergeIdeal.main_arg6)) :
    MergeReferenceIdeal.Hand.mergedOf x0 x1 x2 x3 x4 x5 x6 = MergeIdeal.Hand.result1 m c := by
  funext i
  refine (congrArg _ (pair_of i)).trans ((MergeReferenceIdeal.Hand.mergedOf_apply x0 x1 x2 x3 x4 x5 x6 (i 0) (i 1)).trans ?_)
  subst h0 h1 h2 h3 h4 h5 h6
  rfl

/-- The reference's norm is the kernel's, on equal arguments. -/
theorem equal2 (m : (ℓ : Loc MergeIdeal.nD MergeIdeal.τ MergeIdeal.sig) → Buf (Elt Ideal) ℓ) (c : Dev MergeIdeal.nD)
    (x0 : FVec Ideal MergeReferenceIdeal.S8192x1024 .bf16) (x1 : FVec Ideal MergeReferenceIdeal.S8192x1024 .bf16) (x2 : FVec Ideal MergeReferenceIdeal.S8192x11264 .bf16) (x3 : FVec Ideal MergeReferenceIdeal.S8192x2048 .f32) (x4 : FVec Ideal MergeReferenceIdeal.S1024x2048 .bf16) (x5 : FVec Ideal MergeReferenceIdeal.S1024x2048 .bf16) (x6 : FVec Ideal MergeReferenceIdeal.S2048x2048 .bf16) (x7 : FVec Ideal MergeReferenceIdeal.S1x2048 .f32)
    (h0 : x0 = m ((c.tc : Thread MergeIdeal.nD MergeIdeal.τ).loc MergeIdeal.main_arg0))
    (h1 : x1 = m ((c.tc : Thread MergeIdeal.nD MergeIdeal.τ).loc MergeIdeal.main_arg1))
    (h2 : x2 = m ((c.tc : Thread MergeIdeal.nD MergeIdeal.τ).loc MergeIdeal.main_arg2))
    (h3 : x3 = m ((c.tc : Thread MergeIdeal.nD MergeIdeal.τ).loc MergeIdeal.main_arg3))
    (h4 : x4 = m ((c.tc : Thread MergeIdeal.nD MergeIdeal.τ).loc MergeIdeal.main_arg4))
    (h5 : x5 = m ((c.tc : Thread MergeIdeal.nD MergeIdeal.τ).loc MergeIdeal.main_arg5))
    (h6 : x6 = m ((c.tc : Thread MergeIdeal.nD MergeIdeal.τ).loc MergeIdeal.main_arg6))
    (h7 : x7 = m ((c.tc : Thread MergeIdeal.nD MergeIdeal.τ).loc MergeIdeal.main_arg7)) :
    MergeReferenceIdeal.Hand.normedOf (MergeReferenceIdeal.Hand.mergedOf x0 x1 x2 x3 x4 x5 x6) x7 = MergeIdeal.Hand.result2 m c := by
  rw [equal1 m c x0 x1 x2 x3 x4 x5 x6 h0 h1 h2 h3 h4 h5 h6]
  funext i
  refine (congrArg _ (pair_of i)).trans ((MergeReferenceIdeal.Hand.normedOf_apply _ x7 (i 0) (i 1)).trans ?_)
  subst h7
  rfl

/-- The kernel's two results are the reference's, for all arguments. -/
theorem algebraic : algebraic_MergeIdeal_MergeReferenceIdeal := by
  intro m g m' g' _ hargs
  refine ⟨fun c => MergeIdeal.Hand.result1 m c, fun c => MergeIdeal.Hand.result2 m c, MergeIdeal.Hand.run_value m g, ?_⟩
  refine (θ_run _ _ _).mono (fun r h c => ?_) (MergeReferenceIdeal.Value.run (F := Ideal) m' g')
  obtain ⟨a0, a1, a2, a3, a4, a5, a6, a7⟩ := hargs c
  exact ⟨(h c).1.trans (equal1 m c _ _ _ _ _ _ _ a0 a1 a2 a3 a4 a5 a6),
    (h c).2.1.trans (equal2 m c _ _ _ _ _ _ _ _ a0 a1 a2 a3 a4 a5 a6 a7), (h c).2.2⟩

end Cert.MergeProof

end
-- ==== Proof.InProjRef.lean ====
/- The input projection: its reference's frame. -/
module

public import proofs.«01_k».proof.Defs
public import proofs.«01_k».proof.Proof.Gen.InProjReferenceIdeal.Run
public import Idealize.ShloMosaic.Lib.Quiescent
public import Idealize.ShloMosaic.Adequacy
public import Idealize.ShloMosaic.Init

@[expose] public section

noncomputable section

namespace Cert.InProjProof

open Idealize.ShloMosaic Idealize.ShloMosaic.TcCoe Idealize.SL.Sem
open Cert.InProjReferenceIdeal (nD τ sig defs main main_arg0 main_arg1 main_arg2 main_arg3 main_arg4 main_arg5 main_arg6)

/-- The input projection's reference runs, leaves its arguments unchanged, and has no semaphore to leave above zero. -/
theorem reference_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run (defs (F := Ideal)) _ _).mono
    (fun r h => ⟨fun c => (h c).2.2, sem_eq_zero_of_no_sems (by decide) r.2⟩)
    (InProjReferenceIdeal.Value.run (F := Ideal) m g)

end Cert.InProjProof

end
-- ==== Proof.InProjSpec.lean ====
/- The input projection's functions of single entries: the sections' functions, the gates' lower bounds, one tile. -/
module

public import proofs.«01_k».proof.Proof.FfnSpec
public import proofs.«01_k».proof.Proof.MergeSpec

@[expose] public section

noncomputable section

namespace Cert.InProjMath

open Idealize.ShloMosaic

/-- The scale of the queries, 1/(√128 · log 2), and 1/log 2. -/
abbrev qScale : EReal := ((((Real.sqrt 128) * (Real.log 2))⁻¹ : ℝ) : EReal)
abbrev log2e : EReal := (((Real.log 2)⁻¹ : ℝ) : EReal)

/-- `x` times the logistic function of `x`. -/
def silu (x : EReal) : EReal := x * Ideal.logistic x

/-- The larger of two numbers, the weight of the first among their exponentials. -/
def top (u : Fin 2 → EReal) : EReal := max (u 0) (u 1)
def lower (u : Fin 2 → EReal) : EReal :=
  Ideal.div (Ideal.exp (u 0 - top u)) (Ideal.exp (u 0 - top u) + Ideal.exp (u 1 - top u))

/-- What the forget gate lets in, and its scaled logarithm. -/
def letIn (l a : EReal) : EReal := (1 - l) * (1 - Ideal.logistic a)
def logGate (l a : EReal) : EReal := Ideal.log (l + (1 - l) * Ideal.logistic a) * log2e

/-- A tile's row divided, head by head, by the root of the head's mean square. -/
def headAt (a : Fin 1024 → EReal) (c : Fin 1024) : EReal :=
  a c * Ideal.rsqrt (Ideal.div (∑ d : Fin 128, a ⟨c.val / 128 * 128 + d.val, by omega⟩ * a ⟨c.val / 128 * 128 + d.val, by omega⟩)
    (Ideal.ofBits .f32 0x43000000#32) + Ideal.ofBits .f32 0x358637BD#32)

/-- A row of tile `j` of the first result, from the tile's columns of the projected row, the gates' lower bounds, the gains
    of queries and keys, and the tile's columns of the gates' biases. -/
def tileFn (j : ℕ) (a l : Fin 1024 → EReal) (qg kg : Fin 128 → EReal) (b : Fin 1024 → EReal) (c : Fin 1024) : EReal :=
  if j = 0 then silu (a c)
  else if j = 1 then letIn (l c) (a c)
  else if j = 3 then silu (a c)
  else if j = 4 then headAt a c * (qg ⟨c.val % 128, Nat.mod_lt _ (by norm_num)⟩ * qScale)
  else if j = 5 then headAt a c * (kg ⟨c.val % 128, Nat.mod_lt _ (by norm_num)⟩ * 1)
  else if 7 ≤ j then Ideal.logistic (a c + b c)
  else a c

/-- An entry of the normed input's product with the weights. -/
def projected (x : (⟨2, ![8192, 2048]⟩ : Shape).Idx → EReal) (gain : (⟨2, ![1, 2048]⟩ : Shape).Idx → EReal) (w : (⟨2, ![2048, 11264]⟩ : Shape).Idx → EReal)
    (r : Fin 8192) (e : Fin 11264) : EReal :=
  ∑ k : Fin 2048, Cert.MergeMath.normed (fun k => x (ix2 r k)) (fun k => gain (ix2 0 k)) k * w (ix2 k e)

/-- An entry of the first result, in column `c` of tile `j`. -/
def entryAt (x : (⟨2, ![8192, 2048]⟩ : Shape).Idx → EReal) (gain : (⟨2, ![1, 2048]⟩ : Shape).Idx → EReal) (w : (⟨2, ![2048, 11264]⟩ : Shape).Idx → EReal)
    (bias : (⟨2, ![1, 4096]⟩ : Shape).Idx → EReal) (u : (⟨2, ![2, 1024]⟩ : Shape).Idx → EReal) (qg kg : (⟨2, ![1, 128]⟩ : Shape).Idx → EReal)
    (r : Fin 8192) (j : Fin 11) (c : Fin 1024) : EReal :=
  tileFn j.val (fun c => projected x gain w r ⟨1024 * j.val + c.val, by omega⟩) (fun c => lower fun k => u (ix2 k c))
    (fun d => qg (ix2 0 d)) (fun d => kg (ix2 0 d)) (fun c => bias (ix2 0 ⟨1024 * (j.val - 7) + c.val, by omega⟩)) c

/-- An entry of the first result. -/
def entry1 (x : (⟨2, ![8192, 2048]⟩ : Shape).Idx → EReal) (gain : (⟨2, ![1, 2048]⟩ : Shape).Idx → EReal) (w : (⟨2, ![2048, 11264]⟩ : Shape).Idx → EReal)
    (bias : (⟨2, ![1, 4096]⟩ : Shape).Idx → EReal) (u : (⟨2, ![2, 1024]⟩ : Shape).Idx → EReal) (qg kg : (⟨2, ![1, 128]⟩ : Shape).Idx → EReal)
    (r : Fin 8192) (e : Fin 11264) : EReal :=
  entryAt x gain w bias u qg kg r ⟨e.val / 1024, by omega⟩ ⟨e.val % 1024, Nat.mod_lt _ (by norm_num)⟩

/-- A row of the second result: the scaled logarithms, then zeros. -/
def logRow (l a : Fin 1024 → EReal) (c : Fin 3072) : EReal := if hc : c.val < 1024 then logGate (l ⟨c.val, hc⟩) (a ⟨c.val, hc⟩) else 0

/-- An entry of the second result. -/
def entry2 (x : (⟨2, ![8192, 2048]⟩ : Shape).Idx → EReal) (gain : (⟨2, ![1, 2048]⟩ : Shape).Idx → EReal) (w : (⟨2, ![2048, 11264]⟩ : Shape).Idx → EReal)
    (u : (⟨2, ![2, 1024]⟩ : Shape).Idx → EReal) (r : Fin 8192) (e : Fin 3072) : EReal :=
  logRow (fun c => lower fun k => u (ix2 k c)) (fun c => projected x gain w r ⟨1024 + c.val, by omega⟩) e

/-- The logistic function takes real values from zero to one. -/
theorem logistic_real (x : EReal) : ∃ s : ℝ, 0 ≤ s ∧ s ≤ 1 ∧ Ideal.logistic x = (s : EReal) := by
  induction x with
  | bot => exact ⟨0, le_refl _, zero_le_one, by rw [Ideal.logistic_bot]; rfl⟩
  | top => exact ⟨1, zero_le_one, le_refl _, by rw [Ideal.logistic_top]; rfl⟩
  | coe r =>
    have hp : 0 < Real.exp (-r) := Real.exp_pos _
    refine ⟨(1 + Real.exp (-r))⁻¹, by positivity, inv_le_one_of_one_le₀ (by linarith), Ideal.logistic_coe r⟩

/-- For real logits the lower bound is a real strictly between zero and one. -/
theorem lower_real (u : Fin 2 → EReal) (h : ∀ k, u k = ((u k).toReal : EReal)) :
    ∃ l : ℝ, 0 < l ∧ l < 1 ∧ lower u = (l : EReal) := by
  have ht : top u = ((max (u 0).toReal (u 1).toReal : ℝ) : EReal) := by
    unfold top
    rw [EReal.coe_strictMono.monotone.map_max, ← h 0, ← h 1]
  unfold lower
  rw [ht, h 0, h 1]
  simp only [EReal.toReal_coe, ← EReal.coe_sub, Ideal.exp_coe, ← EReal.coe_add]
  generalize (u 0).toReal - _ = p
  generalize (u 1).toReal - _ = q
  have hp := Real.exp_pos p
  have hq := Real.exp_pos q
  rw [Ideal.div_coe (by positivity), ← EReal.coe_mul]
  refine ⟨_, by positivity, ?_, rfl⟩
  rw [mul_one_div, div_lt_one (by positivity)]
  linarith

/-- Letting in is one minus forgetting. -/
theorem letIn_eq (l : ℝ) (a : EReal) : 1 - ((l : EReal) + (1 - (l : EReal)) * Ideal.logistic a) = letIn l a := by
  obtain ⟨s, -, -, hs⟩ := logistic_real a
  unfold letIn
  rw [hs, ← EReal.coe_one]
  simp only [← EReal.coe_sub, ← EReal.coe_mul, ← EReal.coe_add]
  congr 1
  ring

/-- The scaled logarithm is a real. -/
theorem logGate_real (l : ℝ) (h0 : 0 < l) (h1 : l < 1) (a : EReal) : ∃ g : ℝ, logGate l a = (g : EReal) := by
  obtain ⟨s, s0, s1, hs⟩ := logistic_real a
  unfold logGate log2e
  rw [hs, ← EReal.coe_one]
  simp only [← EReal.coe_sub, ← EReal.coe_mul, ← EReal.coe_add]
  have hp : 0 < l + (1 - l) * s := by nlinarith
  rw [Ideal.log_coe, if_neg (not_le.mpr hp), ← EReal.coe_mul]
  exact ⟨_, rfl⟩

end Cert.InProjMath

end
-- ==== Proof.InProjTile.lean ====
/- The input projection's stored blocks, read at an entry: one tile, section by section. -/
module

public import proofs.«01_k».proof.Proof.InProjSpec
public import proofs.«01_k».proof.Proof.InProjIdealRuns
public import Idealize.ShloMosaic.Lib.MatmulPlain
public import Idealize.ShloMosaic.Lib.StackMember
public import Idealize.ShloMosaic.Lib.Pointwise
public import Idealize.ShloMosaic.Lib.Pipeline.ValueKit

@[expose] public section

set_option maxRecDepth 16384

noncomputable section

namespace Cert.InProjIdeal.Hand

open Cert.InProjIdeal Cert.InProjIdeal.Gen Cert.InProjMath
open Cert.FfnMath (pair_same half logistic_by_tanh one)
open Cert.MergeMath (normed)
open Idealize.ShloMosaic Idealize.ShloMosaic.TcCoe

/-- An index from its two coordinates. -/
theorem pair_of {M N : ℕ} (x : (⟨2, ![M, N]⟩ : Shape).Idx) : x = ix2 (x 0) (x 1) := by
  funext a
  match a with
  | ⟨0, _⟩ => rfl
  | ⟨1, _⟩ => rfl

/-- A stored block agrees with a function of the coordinates where it lies, when it does at each of its own entries. -/
theorem at_of {M N p q : ℕ} (y : (⟨2, ![M, N]⟩ : Shape).Idx) (o0 o1 : ℕ) (P : (⟨2, ![p, q]⟩ : Shape).Idx → EReal)
    (G : Fin M → Fin N → EReal)
    (h : ∀ (r : Fin p) (j : Fin q) (hr : o0 + r.val < M) (hj : o1 + j.val < N), P (ix2 r j) = G ⟨o0 + r.val, hr⟩ ⟨o1 + j.val, hj⟩) :
    View.TileAt (S := ⟨2, ![M, N]⟩) (Val := Elt Ideal) (e := .bf16) y ![o0, o1] ![p, q] P (G (y 0) (y 1)) := by
  intro x hx
  have h0 : (y 0).val = o0 + (x 0).val := hx 0
  have h1 : (y 1).val = o1 + (x 1).val := hx 1
  have y0 : (y 0).val < M := (y 0).isLt
  have y1 : (y 1).val < N := (y 1).isLt
  refine (congrArg P (pair_of x)).trans ((h (x 0) (x 1) (by omega) (by omega)).trans ?_)
  exact congrArg₂ G (Fin.ext h0.symm) (Fin.ext h1.symm)

/-- A load through a rectangle reads at the shifted coordinates. -/
theorem ld_apply {M N p q : ℕ} {e : EltTy} (X : (⟨2, ![M, N]⟩ : Shape).Idx → Elt Ideal e) (o0 o1 : ℕ)
    (inb : ∀ a, (![o0, o1] : Fin 2 → ℕ) a + (![p, q] : Fin 2 → ℕ) a ≤ (![M, N] : Fin 2 → ℕ) a) (r : Fin p) (j : Fin q)
    (hr : o0 + r.val < M) (hj : o1 + j.val < N) :
    View.ld (Val := Elt Ideal) (e' := e) X (Rect.unit (s := ⟨2, ![M, N]⟩) ![o0, o1] ![p, q] inb) (ix2 r j) = X (ix2 ⟨o0 + r.val, hr⟩ ⟨o1 + j.val, hj⟩) := by
  show X _ = X _
  congr 1
  funext a
  apply Fin.ext
  match a with
  | ⟨0, _⟩ => show o0 + 1 * r.val = o0 + r.val; omega
  | ⟨1, _⟩ => show o1 + 1 * j.val = o1 + j.val; omega

/-- The product of a row tile and a block of columns. -/
def prod (h : FVec Ideal S1024x2048 .bf16) (v : FVec Ideal S2048x256 .f32) : FVec Ideal S1024x256 .f32 :=
  matmul dot_S1024x2048_S2048x256_S1024x256_1_0_0_1_n_n none h (truncf .bf16 v bitsLt_bf16_f32) (constant S1024x256 .f32 0x00000000#32)

/-- The logistic function, as the kernel takes it. -/
def sigV (a : FVec Ideal S1024x256 .f32) : FVec Ideal S1024x256 .f32 :=
  addf (mulf (broadcast S1024x256 (Scalar.ofBits .f32 0x3F000000#32)) (tanh (mulf (broadcast S1024x256 (Scalar.ofBits .f32 0x3F000000#32)) a)))
    (broadcast S1024x256 (Scalar.ofBits .f32 0x3F000000#32))

theorem prod_apply (h : FVec Ideal S1024x2048 .bf16) (v : FVec Ideal S2048x256 .f32) (r : Fin 1024) (j : Fin 256) :
    prod h v (ix2 r j) = ∑ k : Fin 2048, h (ix2 r k) * v (ix2 k j) := by
  refine (Ideal.matmul_plain_apply none h (truncf .bf16 v bitsLt_bf16_f32) (constant S1024x256 .f32 0x00000000#32) r j).trans ?_
  simp only [pair_same]
  rw [show (constant (F := Ideal) S1024x256 .f32 0x00000000#32) (ix2 r j) = 0 from by pointwise, zero_add]
  rfl

theorem sigV_apply (a : FVec Ideal S1024x256 .f32) (y : S1024x256.Idx) : sigV a y = Ideal.logistic (a y) := by
  rw [← logistic_by_tanh, ← half]
  rfl

variable (h : FVec Ideal S1024x2048 .bf16) (w : FVec Ideal S2048x1024 .f32)

/-- An entry of a row tile's product with a column tile. -/
def acc (r c : Fin 1024) : EReal := ∑ k : Fin 2048, h (ix2 r k) * w (ix2 k c)

/-- The columns of a tile from column `o` on. -/
abbrev colsFrom (o : ℕ) (inb : ∀ a, (![0, o] : Fin 2 → ℕ) a + S2048x256.size a ≤ S2048x1024.size a) : FVec Ideal S2048x256 .f32 :=
  View.ld (Val := Elt Ideal) (e' := .f32) w (Rect.unit (s := S2048x1024) ![0, o] S2048x256.size inb)

theorem prod_cols (o : ℕ) (inb) (r : Fin 1024) (j : Fin 256) (hj : o + j.val < 1024) :
    prod h (colsFrom w o inb) (ix2 r j) = acc h w r ⟨o + j.val, hj⟩ := by
  rw [prod_apply]
  unfold acc
  refine Finset.sum_congr rfl fun k _ => congrArg (h (ix2 r k) * ·) ?_
  refine (ld_apply (e := .f32) w 0 o inb k j (by omega) hj).trans ?_
  congr 2
  exact Fin.ext (Nat.zero_add _)

/-- Four blocks of 256 columns, each agreeing with one function, are that function. -/
theorem four (P0 P1 P2 P3 : FVec Ideal S1024x256 .bf16) (G : Fin 1024 → Fin 1024 → EReal) (i0 i1 i2 i3)
    (h0 : ∀ (r : Fin 1024) (j : Fin 256) (hj : 0 + j.val < 1024), P0 (ix2 r j) = G r ⟨0 + j.val, hj⟩)
    (h1 : ∀ (r : Fin 1024) (j : Fin 256) (hj : 256 + j.val < 1024), P1 (ix2 r j) = G r ⟨256 + j.val, hj⟩)
    (h2 : ∀ (r : Fin 1024) (j : Fin 256) (hj : 512 + j.val < 1024), P2 (ix2 r j) = G r ⟨512 + j.val, hj⟩)
    (h3 : ∀ (r : Fin 1024) (j : Fin 256) (hj : 768 + j.val < 1024), P3 (ix2 r j) = G r ⟨768 + j.val, hj⟩) (r c : Fin 1024) :
    View.canon (Val := Elt Ideal) (s := S1024x1024) (e := .bf16) [
      ⟨Rect.unit (s := S1024x1024) ![0, 768] S1024x256.size i3, P3⟩, ⟨Rect.unit (s := S1024x1024) ![0, 512] S1024x256.size i2, P2⟩,
      ⟨Rect.unit (s := S1024x1024) ![0, 256] S1024x256.size i1, P1⟩, ⟨Rect.unit (s := S1024x1024) ![0, 0] S1024x256.size i0, P0⟩] (ix2 r c) = G r c := by
  have e : ∀ (r : Fin 1024) (hr : 0 + r.val < 1024), (⟨0 + r.val, hr⟩ : Fin 1024) = r := fun r _ => Fin.ext (Nat.zero_add _)
  refine View.canon_eq_of_allAt (Val := Elt Ideal) (e := .bf16) _ (ix2 r c) (G r c) ?_ ?_
  · exact View.cover_of_tiled _ ![1024, 256] (by rfl) _
  refine View.allAt_cons_unit _ _ _ _ _ (at_of (ix2 r c) 0 768 P3 G fun r j hr hj => (h3 r j hj).trans (congrArg (G · _) (e r hr).symm)) ?_
  refine View.allAt_cons_unit _ _ _ _ _ (at_of (ix2 r c) 0 512 P2 G fun r j hr hj => (h2 r j hj).trans (congrArg (G · _) (e r hr).symm)) ?_
  refine View.allAt_cons_unit _ _ _ _ _ (at_of (ix2 r c) 0 256 P1 G fun r j hr hj => (h1 r j hj).trans (congrArg (G · _) (e r hr).symm)) ?_
  refine View.allAt_cons_unit _ _ _ _ _ (at_of (ix2 r c) 0 0 P0 G fun r j hr hj => (h0 r j hj).trans (congrArg (G · _) (e r hr).symm)) ?_
  exact View.allAt_nil _ _

/-- The first and the fourth section. -/
def siluV (a : FVec Ideal S1024x256 .f32) : FVec Ideal S1024x256 .bf16 := truncf .bf16 (mulf a (sigV a)) bitsLt_bf16_f32

theorem silu_cols (o : ℕ) (inb) (r : Fin 1024) (j : Fin 256) (hj : o + j.val < 1024) :
    siluV (prod h (colsFrom w o inb)) (ix2 r j) = silu (acc h w r ⟨o + j.val, hj⟩) := by
  rw [← prod_cols h w o inb]
  unfold silu
  rw [← sigV_apply]
  rfl

theorem outSilu_apply (r c : Fin 1024) : outSilu (F := Ideal) h w (ix2 r c) = silu (acc h w r c) :=
  four (siluV (prod h (colsFrom w 0 _))) (siluV (prod h (colsFrom w 256 _))) (siluV (prod h (colsFrom w 512 _))) (siluV (prod h (colsFrom w 768 _)))
    (fun r c => silu (acc h w r c)) _ _ _ _ (silu_cols h w 0 _) (silu_cols h w 256 _) (silu_cols h w 512 _) (silu_cols h w 768 _) r c

theorem outNorm_apply (r c : Fin 1024) : outNorm (F := Ideal) h w (ix2 r c) = silu (acc h w r c) :=
  four (siluV (prod h (colsFrom w 0 _))) (siluV (prod h (colsFrom w 256 _))) (siluV (prod h (colsFrom w 512 _))) (siluV (prod h (colsFrom w 768 _)))
    (fun r c => silu (acc h w r c)) _ _ _ _ (silu_cols h w 0 _) (silu_cols h w 256 _) (silu_cols h w 512 _) (silu_cols h w 768 _) r c

/-- The sections left as they are. -/
theorem outPlain_apply (r c : Fin 1024) : outPlain (F := Ideal) h w (ix2 r c) = acc h w r c :=
  four (prod h (colsFrom w 0 _)) (prod h (colsFrom w 256 _)) (prod h (colsFrom w 512 _)) (prod h (colsFrom w 768 _))
    (acc h w) _ _ _ _ (prod_cols h w 0 _) (prod_cols h w 256 _) (prod_cols h w 512 _) (prod_cols h w 768 _) r c

/-- A row of 256 columns over all rows. -/
theorem spread (v : FVec Ideal S1x256 .f32) (r : Fin 1024) (j : Fin 256) :
    broadcastTo S1024x256 v broadcasts_S1x256_S1024x256 (ix2 r j) = v (ix2 0 j) := by
  pointwise []

/-- The gates. -/
def gateV (a : FVec Ideal S1024x256 .f32) (b : FVec Ideal S1x256 .f32) : FVec Ideal S1024x256 .bf16 :=
  truncf .bf16 (sigV (addf a (broadcastTo S1024x256 b broadcasts_S1x256_S1024x256))) bitsLt_bf16_f32

abbrev rowFrom (u : FVec Ideal S1x1024 .f32) (o : ℕ) (inb : ∀ a, (![0, o] : Fin 2 → ℕ) a + S1x256.size a ≤ S1x1024.size a) : FVec Ideal S1x256 .f32 :=
  View.ld (Val := Elt Ideal) (e' := .f32) u (Rect.unit (s := S1x1024) ![0, o] S1x256.size inb)

theorem gate_cols (u : FVec Ideal S1x1024 .f32) (o : ℕ) (inb inb') (r : Fin 1024) (j : Fin 256) (hj : o + j.val < 1024) :
    gateV (prod h (colsFrom w o inb)) (rowFrom u o inb') (ix2 r j) = Ideal.logistic (acc h w r ⟨o + j.val, hj⟩ + u (ix2 0 ⟨o + j.val, hj⟩)) := by
  rw [← prod_cols h w o inb]
  refine (sigV_apply _ (ix2 r j)).trans (congrArg (fun z => Ideal.logistic (prod h (colsFrom w o inb) (ix2 r j) + z)) ?_)
  refine (spread _ r j).trans (ld_apply (e := .f32) u 0 o inb' 0 j (by decide) hj)

theorem outGate_apply (u : FVec Ideal S1x1024 .f32) (r c : Fin 1024) :
    outGate (F := Ideal) u h w (ix2 r c) = Ideal.logistic (acc h w r c + u (ix2 0 c)) :=
  four (gateV (prod h (colsFrom w 0 _)) (rowFrom u 0 _)) (gateV (prod h (colsFrom w 256 _)) (rowFrom u 256 _))
    (gateV (prod h (colsFrom w 512 _)) (rowFrom u 512 _)) (gateV (prod h (colsFrom w 768 _)) (rowFrom u 768 _))
    (fun r c => Ideal.logistic (acc h w r c + u (ix2 0 c))) _ _ _ _ (gate_cols h w u 0 _ _) (gate_cols h w u 256 _ _) (gate_cols h w u 512 _ _) (gate_cols h w u 768 _ _) r c

/-- The logits' softmax over its two rows, at the first. -/
theorem low_apply (u : FVec Ideal S2x1024 .f32) (c : Fin 1024) : k0_pay23 (F := Ideal) u (ix2 0 c) = lower fun k => u (ix2 k c) := by
  have ht : (Finset.univ : Finset (Fin 2)).fold max (Ideal.ofBits .f32 0xFF800000#32) (fun x => u (ix2 x c)) = top fun k => u (ix2 k c) := by
    rw [show Ideal.ofBits .f32 0xFF800000#32 = (⊥ : EReal) from by simp [Ideal.ofBits, Ideal.ieee]]
    rw [show (Finset.univ : Finset (Fin 2)) = {0, 1} from rfl]
    simp [top]
  unfold k0_pay23 lower
  pointwise []
  simp only [Fin.sum_univ_two]
  rw [← ht]

/-- A piece of a row of bounds. -/
theorem part_apply (v : FVec Ideal S1x1024 .f32) (o : ℕ) (hs) (j : Fin 256) (hj : o + j.val < 1024) :
    extractStridedSlice S1x256 ![0, o] v hs (ix2 0 j) = v (ix2 0 ⟨o + j.val, hj⟩) := by
  show v _ = v _
  congr 1
  funext a
  apply Fin.ext
  match a with
  | ⟨0, _⟩ => rfl
  | ⟨1, _⟩ => rfl

/-- What the forget gate lets in. -/
def forgetV (l : FVec Ideal S1x256 .f32) (s : FVec Ideal S1024x256 .f32) : FVec Ideal S1024x256 .bf16 :=
  truncf .bf16 (mulf (broadcastTo S1024x256 (subf (broadcast S1x256 (Scalar.ofBits .f32 0x3F800000#32)) l) broadcasts_S1x256_S1024x256)
    (subf (broadcast S1024x256 (Scalar.ofBits .f32 0x3F800000#32)) s)) bitsLt_bf16_f32

/-- The forget gate's scaled logarithm. -/
def logV (l : FVec Ideal S1x256 .f32) (s : FVec Ideal S1024x256 .f32) : FVec Ideal S1024x256 .f32 :=
  mulf (log (addf (broadcastTo S1024x256 l broadcasts_S1x256_S1024x256)
    (mulf (broadcastTo S1024x256 (subf (broadcast S1x256 (Scalar.ofBits .f32 0x3F800000#32)) l) broadcasts_S1x256_S1024x256) s)))
    (broadcast S1024x256 (Named.named κ "log2e" 0x3FB8AA3B#32))

theorem forgetV_apply (l : FVec Ideal S1x256 .f32) (a : FVec Ideal S1024x256 .f32) (r : Fin 1024) (j : Fin 256) :
    forgetV l (sigV a) (ix2 r j) = letIn (l (ix2 0 j)) (a (ix2 r j)) := by
  unfold letIn
  rw [← sigV_apply, ← one]
  unfold forgetV
  pointwise []

theorem logV_apply (l : FVec Ideal S1x256 .f32) (a : FVec Ideal S1024x256 .f32) (r : Fin 1024) (j : Fin 256) :
    logV l (sigV a) (ix2 r j) = logGate (l (ix2 0 j)) (a (ix2 r j)) := by
  unfold logGate
  rw [← sigV_apply, ← one]
  unfold logV
  pointwise []
  rfl

/-- The logarithm rounded, what the rounding leaves, and what a second rounding leaves. -/
def hiV (x : FVec Ideal S1024x256 .f32) : FVec Ideal S1024x256 .bf16 := truncf .bf16 x bitsLt_bf16_f32
def midV (x : FVec Ideal S1024x256 .f32) : FVec Ideal S1024x256 .bf16 := truncf .bf16 (subf x (extf .f32 (hiV x) bitsLt_bf16_f32)) bitsLt_bf16_f32
def lowV (x : FVec Ideal S1024x256 .f32) : FVec Ideal S1024x256 .bf16 :=
  truncf .bf16 (subf (subf x (extf .f32 (hiV x) bitsLt_bf16_f32)) (extf .f32 (midV x) bitsLt_bf16_f32)) bitsLt_bf16_f32

theorem mid_zero (x : FVec Ideal S1024x256 .f32) (y : S1024x256.Idx) (g : ℝ) (hg : x y = (g : EReal)) : midV x y = 0 := by
  show x y - x y = 0
  rw [hg, ← EReal.coe_sub, sub_self, EReal.coe_zero]

theorem low_zero (x : FVec Ideal S1024x256 .f32) (y : S1024x256.Idx) (g : ℝ) (hg : x y = (g : EReal)) : lowV x y = 0 := by
  show (x y - x y) - (x y - x y) = 0
  rw [hg, ← EReal.coe_sub, sub_self, EReal.coe_zero, sub_zero]

/-- The bounds' piece from column `o` on. -/
abbrev lowFrom (u : FVec Ideal S2x1024 .f32) (o : ℕ) (hs : S1x1024.Slices ![0, o] S1x256) : FVec Ideal S1x256 .f32 :=
  extractStridedSlice S1x256 ![0, o] (k0_pay23 (F := Ideal) u) hs

theorem lowFrom_apply (u : FVec Ideal S2x1024 .f32) (o : ℕ) (hs) (j : Fin 256) (hj : o + j.val < 1024) :
    lowFrom u o hs (ix2 0 j) = lower fun k => u (ix2 k ⟨o + j.val, hj⟩) :=
  (part_apply _ o hs j hj).trans (low_apply u _)

theorem forget_cols (u : FVec Ideal S2x1024 .f32) (o : ℕ) (inb hs) (r : Fin 1024) (j : Fin 256) (hj : o + j.val < 1024) :
    forgetV (lowFrom u o hs) (sigV (prod h (colsFrom w o inb))) (ix2 r j) = letIn (lower fun k => u (ix2 k ⟨o + j.val, hj⟩)) (acc h w r ⟨o + j.val, hj⟩) := by
  rw [forgetV_apply, lowFrom_apply u o hs j hj, prod_cols h w o inb r j hj]

theorem outForget_apply (u : FVec Ideal S2x1024 .f32) (r c : Fin 1024) :
    outForget (F := Ideal) u h w (ix2 r c) = letIn (lower fun k => u (ix2 k c)) (acc h w r c) :=
  four (forgetV (lowFrom u 0 _) (sigV (prod h (colsFrom w 0 _)))) (forgetV (lowFrom u 256 _) (sigV (prod h (colsFrom w 256 _))))
    (forgetV (lowFrom u 512 _) (sigV (prod h (colsFrom w 512 _)))) (forgetV (lowFrom u 768 _) (sigV (prod h (colsFrom w 768 _))))
    (fun r c => letIn (lower fun k => u (ix2 k c)) (acc h w r c)) _ _ _ _
    (forget_cols h w u 0 _ slices_S1x1024_o0_0_S1x256) (forget_cols h w u 256 _ slices_S1x1024_o0_256_S1x256)
    (forget_cols h w u 512 _ slices_S1x1024_o0_512_S1x256) (forget_cols h w u 768 _ slices_S1x1024_o0_768_S1x256) r c

/-- The logarithms' tile from column `o` on. -/
abbrev logFrom (u : FVec Ideal S2x1024 .f32) (o : ℕ) (inb : ∀ a, (![0, o] : Fin 2 → ℕ) a + S2048x256.size a ≤ S2048x1024.size a)
    (hs : S1x1024.Slices ![0, o] S1x256) : FVec Ideal S1024x256 .f32 := logV (lowFrom u o hs) (sigV (prod h (colsFrom w o inb)))

theorem logFrom_apply (u : FVec Ideal S2x1024 .f32) (o : ℕ) (inb hs) (r : Fin 1024) (j : Fin 256) (hj : o + j.val < 1024) :
    logFrom h w u o inb hs (ix2 r j) = logGate (lower fun k => u (ix2 k ⟨o + j.val, hj⟩)) (acc h w r ⟨o + j.val, hj⟩) := by
  refine (logV_apply _ _ r j).trans ?_
  rw [lowFrom_apply u o hs j hj, prod_cols h w o inb r j hj]

/-- Where the logits are reals, the logarithms' tile. -/
theorem logOutForget_apply (u : FVec Ideal S2x1024 .f32) (hu : ∀ k c, u (ix2 k c) = ((u (ix2 k c)).toReal : EReal)) (r : Fin 1024) (c : Fin 3072) :
    logOutForget (F := Ideal) u h w (ix2 r c) = logRow (fun c => lower fun k => u (ix2 k c)) (acc h w r) c := by
  let G : Fin 1024 → Fin 3072 → EReal := fun r c => logRow (fun c => lower fun k => u (ix2 k c)) (acc h w r) c
  have hi : ∀ (o : ℕ) (inb hs), o + 256 ≤ 1024 → View.TileAt (S := S1024x3072) (Val := Elt Ideal) (e := .bf16) (ix2 r c) ![0, o] ![1024, 256]
      (hiV (logFrom h w u o inb hs)) (G r c) := fun o inb hs ho => at_of (ix2 r c) 0 o _ G fun r j hr hj => by
    have h0 : (⟨0 + r.val, hr⟩ : Fin 1024) = r := Fin.ext (Nat.zero_add _)
    show logFrom h w u o inb hs (ix2 r j) = logRow _ (acc h w ⟨0 + r.val, hr⟩) _
    rw [h0, logFrom_apply h w u o inb hs r j (by omega)]
    unfold logRow
    rw [dif_pos (show o + j.val < 1024 by omega)]
  have real : ∀ (o : ℕ) (inb hs), o + 256 ≤ 1024 → ∀ (r : Fin 1024) (j : Fin 256), ∃ g : ℝ, logFrom h w u o inb hs (ix2 r j) = (g : EReal) := fun o inb hs ho r j => by
    rw [logFrom_apply h w u o inb hs r j (by omega)]
    obtain ⟨l, l0, l1, hl⟩ := lower_real (fun k => u (ix2 k ⟨o + j.val, by omega⟩)) fun k => hu k _
    rw [hl]
    exact logGate_real l l0 l1 _
  have rest : ∀ (p : ℕ) (P : FVec Ideal S1024x256 .bf16), 1024 ≤ p → (∀ r j, P (ix2 r j) = 0) → View.TileAt (S := S1024x3072) (Val := Elt Ideal) (e := .bf16) (ix2 r c) ![0, p] ![1024, 256]
      P (G r c) := fun p P hp hP => at_of (ix2 r c) 0 p P G fun r j hr hj => by
    show P (ix2 r j) = logRow _ (acc h w ⟨0 + r.val, hr⟩) _
    unfold logRow
    rw [hP, dif_neg (show ¬ p + j.val < 1024 by omega)]
  have mid : ∀ (o : ℕ) (inb hs) (p : ℕ), o + 256 ≤ 1024 → 1024 ≤ p → View.TileAt (S := S1024x3072) (Val := Elt Ideal) (e := .bf16) (ix2 r c) ![0, p] ![1024, 256]
      (midV (logFrom h w u o inb hs)) (G r c) := fun o inb hs p ho hp => rest p _ hp fun r j => let ⟨g, hg⟩ := real o inb hs ho r j; mid_zero _ _ g hg
  have low : ∀ (o : ℕ) (inb hs) (p : ℕ), o + 256 ≤ 1024 → 1024 ≤ p → View.TileAt (S := S1024x3072) (Val := Elt Ideal) (e := .bf16) (ix2 r c) ![0, p] ![1024, 256]
      (lowV (logFrom h w u o inb hs)) (G r c) := fun o inb hs p ho hp => rest p _ hp fun r j => let ⟨g, hg⟩ := real o inb hs ho r j; low_zero _ _ g hg
  refine View.canon_eq_of_allAt (Val := Elt Ideal) (e := .bf16) _ (ix2 r c) (G r c) ?_ ?_
  · exact View.cover_of_tiled _ ![1024, 256] (by rfl) _
  refine View.allAt_cons_unit _ _ _ _ _ (low 768 inb_S2048x1024_S2048x256_0_768 slices_S1x1024_o0_768_S1x256 2816 (by norm_num) (by norm_num)) ?_
  refine View.allAt_cons_unit _ _ _ _ _ (mid 768 inb_S2048x1024_S2048x256_0_768 slices_S1x1024_o0_768_S1x256 1792 (by norm_num) (by norm_num)) ?_
  refine View.allAt_cons_unit _ _ _ _ _ (hi 768 inb_S2048x1024_S2048x256_0_768 slices_S1x1024_o0_768_S1x256 (by norm_num)) ?_
  refine View.allAt_cons_unit _ _ _ _ _ (low 512 inb_S2048x1024_S2048x256_0_512 slices_S1x1024_o0_512_S1x256 2560 (by norm_num) (by norm_num)) ?_
  refine View.allAt_cons_unit _ _ _ _ _ (mid 512 inb_S2048x1024_S2048x256_0_512 slices_S1x1024_o0_512_S1x256 1536 (by norm_num) (by norm_num)) ?_
  refine View.allAt_cons_unit _ _ _ _ _ (hi 512 inb_S2048x1024_S2048x256_0_512 slices_S1x1024_o0_512_S1x256 (by norm_num)) ?_
  refine View.allAt_cons_unit _ _ _ _ _ (low 256 inb_S2048x1024_S2048x256_0_256 slices_S1x1024_o0_256_S1x256 2304 (by norm_num) (by norm_num)) ?_
  refine View.allAt_cons_unit _ _ _ _ _ (mid 256 inb_S2048x1024_S2048x256_0_256 slices_S1x1024_o0_256_S1x256 1280 (by norm_num) (by norm_num)) ?_
  refine View.allAt_cons_unit _ _ _ _ _ (hi 256 inb_S2048x1024_S2048x256_0_256 slices_S1x1024_o0_256_S1x256 (by norm_num)) ?_
  refine View.allAt_cons_unit _ _ _ _ _ (low 0 inb_S2048x1024_S2048x256_0_0 slices_S1x1024_o0_0_S1x256 2048 (by norm_num) (by norm_num)) ?_
  refine View.allAt_cons_unit _ _ _ _ _ (mid 0 inb_S2048x1024_S2048x256_0_0 slices_S1x1024_o0_0_S1x256 1024 (by norm_num) (by norm_num)) ?_
  refine View.allAt_cons_unit _ _ _ _ _ (hi 0 inb_S2048x1024_S2048x256_0_0 slices_S1x1024_o0_0_S1x256 (by norm_num)) ?_
  exact View.allAt_nil _ _

/-- A head's columns divided by the root of their mean square, times scaled gains. -/
def headV (a : Ideal .f32) (t : FVec Ideal S1024x128 .f32) (g : FVec Ideal S1x128 .f32) : FVec Ideal S1024x128 .bf16 :=
  truncf .bf16 (mulf (mulf t (broadcastTo S1024x128 (rsqrt (addf (divf
    (shapeCast S1024x1 (multiReduction .add [1] S1024 (mulf t t) 0x00000000#32 reduces_S1024x128_S1024 (.inl rfl) rfl) shapeCasts_S1024_S1024x1)
    (broadcast S1024x1 (Scalar.ofBits .f32 0x43000000#32))) (broadcast S1024x1 (Scalar.ofBits .f32 0x358637BD#32)))) broadcasts_S1024x1_S1024x128))
    (broadcastTo S1024x128 (mulf g (broadcast S1x128 a)) broadcasts_S1x128_S1024x128)) bitsLt_bf16_f32

theorem headV_apply (a : Ideal .f32) (t : FVec Ideal S1024x128 .f32) (g : FVec Ideal S1x128 .f32) (r : Fin 1024) (j : Fin 128) :
    headV a t g (ix2 r j) = t (ix2 r j) * Ideal.rsqrt (Ideal.div (∑ d : Fin 128, t (ix2 r d) * t (ix2 r d)) (Ideal.ofBits .f32 0x43000000#32)
      + Ideal.ofBits .f32 0x358637BD#32) * (g (ix2 0 j) * a) := by
  unfold headV
  pointwise []

/-- A head's columns of a block of columns. -/
abbrev headFrom (o q : ℕ) (inb : ∀ a, (![0, o] : Fin 2 → ℕ) a + S2048x256.size a ≤ S2048x1024.size a) (hs : S1024x256.Slices ![0, q] S1024x128) :
    FVec Ideal S1024x128 .f32 := extractStridedSlice S1024x128 ![0, q] (prod h (colsFrom w o inb)) hs

theorem headFrom_apply (o q : ℕ) (inb hs) (r : Fin 1024) (j : Fin 128) (hq : q + j.val < 256) (hj : o + q + j.val < 1024) :
    headFrom h w o q inb hs (ix2 r j) = acc h w r ⟨o + q + j.val, hj⟩ := by
  refine Eq.trans ?_ ((prod_cols h w o inb r ⟨q + j.val, hq⟩ (by show o + (q + j.val) < 1024; omega)).trans (congrArg (acc h w r) (Fin.ext (Nat.add_assoc _ _ _).symm)))
  show prod h (colsFrom w o inb) _ = prod h (colsFrom w o inb) _
  congr 1
  funext a
  apply Fin.ext
  match a with
  | ⟨0, _⟩ => show 0 + r.val = r.val; omega
  | ⟨1, _⟩ => rfl

theorem head_at (a : Ideal .f32) (g : FVec Ideal S1x128 .f32) (y : S1024x1024.Idx) (o q : ℕ) (inb hs) (p : ℕ) (hp : o + q = p) (hq : q + 128 ≤ 256) (ho : p + 128 ≤ 1024)
    (hd : p % 128 = 0) : View.TileAt (S := S1024x1024) (Val := Elt Ideal) (e := .bf16) y ![0, p] ![1024, 128] (headV a (headFrom h w o q inb hs) g)
      (headAt (acc h w (y 0)) (y 1) * (g (ix2 0 ⟨(y 1).val % 128, Nat.mod_lt _ (by norm_num)⟩) * a)) := by
  subst hp
  refine at_of y 0 (o + q) _ (fun r c => headAt (acc h w r) c * (g (ix2 0 ⟨c.val % 128, Nat.mod_lt _ (by norm_num)⟩) * a)) fun r j hr hj => ?_
  have h0 : (⟨0 + r.val, hr⟩ : Fin 1024) = r := Fin.ext (Nat.zero_add _)
  have hm : (o + q + j.val) % 128 = j.val := by omega
  have hdv : (o + q + j.val) / 128 * 128 = o + q := by omega
  rw [headV_apply, h0]
  unfold headAt
  have hg : (⟨(o + q + j.val) % 128, Nat.mod_lt _ (by norm_num)⟩ : Fin 128) = j := Fin.ext hm
  have hsum : (∑ d : Fin 128, headFrom h w o q inb hs (ix2 r d) * headFrom h w o q inb hs (ix2 r d))
      = ∑ d : Fin 128, acc h w r ⟨(o + q + j.val) / 128 * 128 + d.val, by omega⟩ * acc h w r ⟨(o + q + j.val) / 128 * 128 + d.val, by omega⟩ :=
    Finset.sum_congr rfl fun d _ => by
      have e := (headFrom_apply h w o q inb hs r d (by omega) (by omega)).trans
        (congrArg (acc h w r) (Fin.ext (by show o + q + d.val = (o + q + j.val) / 128 * 128 + d.val; rw [hdv]) :
          (_ : Fin 1024) = ⟨(o + q + j.val) / 128 * 128 + d.val, by omega⟩))
      exact congrArg₂ (· * ·) e e
  rw [hsum, headFrom_apply h w o q inb hs r j (by omega) hj]
  show _ = _ * (g (ix2 0 ⟨(o + q + j.val) % 128, _⟩) * _)
  rw [hg]

/-- Eight heads of 128 columns, each normed and scaled alike, are the tile. -/
theorem eight (a : Ideal .f32) (g : FVec Ideal S1x128 .f32) (r c : Fin 1024) (i0 i1 i2 i3 i4 i5 i6 i7) :
    View.canon (Val := Elt Ideal) (s := S1024x1024) (e := .bf16) [
      ⟨Rect.unit (s := S1024x1024) ![0, 896] S1024x128.size i7, headV a (headFrom h w 768 128 inb_S2048x1024_S2048x256_0_768 slices_S1024x256_o0_128_S1024x128) g⟩,
      ⟨Rect.unit (s := S1024x1024) ![0, 768] S1024x128.size i6, headV a (headFrom h w 768 0 inb_S2048x1024_S2048x256_0_768 slices_S1024x256_o0_0_S1024x128) g⟩,
      ⟨Rect.unit (s := S1024x1024) ![0, 640] S1024x128.size i5, headV a (headFrom h w 512 128 inb_S2048x1024_S2048x256_0_512 slices_S1024x256_o0_128_S1024x128) g⟩,
      ⟨Rect.unit (s := S1024x1024) ![0, 512] S1024x128.size i4, headV a (headFrom h w 512 0 inb_S2048x1024_S2048x256_0_512 slices_S1024x256_o0_0_S1024x128) g⟩,
      ⟨Rect.unit (s := S1024x1024) ![0, 384] S1024x128.size i3, headV a (headFrom h w 256 128 inb_S2048x1024_S2048x256_0_256 slices_S1024x256_o0_128_S1024x128) g⟩,
      ⟨Rect.unit (s := S1024x1024) ![0, 256] S1024x128.size i2, headV a (headFrom h w 256 0 inb_S2048x1024_S2048x256_0_256 slices_S1024x256_o0_0_S1024x128) g⟩,
      ⟨Rect.unit (s := S1024x1024) ![0, 128] S1024x128.size i1, headV a (headFrom h w 0 128 inb_S2048x1024_S2048x256_0_0 slices_S1024x256_o0_128_S1024x128) g⟩,
      ⟨Rect.unit (s := S1024x1024) ![0, 0] S1024x128.size i0, headV a (headFrom h w 0 0 inb_S2048x1024_S2048x256_0_0 slices_S1024x256_o0_0_S1024x128) g⟩] (ix2 r c)
      = headAt (acc h w r) c * (g (ix2 0 ⟨c.val % 128, Nat.mod_lt _ (by norm_num)⟩) * a) := by
  refine View.canon_eq_of_allAt (Val := Elt Ideal) (e := .bf16) _ (ix2 r c) _ ?_ ?_
  · exact View.cover_of_tiled _ ![1024, 128] (by rfl) _
  refine View.allAt_cons_unit _ _ _ _ _ (head_at h w a g (ix2 r c) _ _ _ _ _ (by norm_num) (by norm_num) (by norm_num) (by norm_num)) ?_
  refine View.allAt_cons_unit _ _ _ _ _ (head_at h w a g (ix2 r c) _ _ _ _ _ (by norm_num) (by norm_num) (by norm_num) (by norm_num)) ?_
  refine View.allAt_cons_unit _ _ _ _ _ (head_at h w a g (ix2 r c) _ _ _ _ _ (by norm_num) (by norm_num) (by norm_num) (by norm_num)) ?_
  refine View.allAt_cons_unit _ _ _ _ _ (head_at h w a g (ix2 r c) _ _ _ _ _ (by norm_num) (by norm_num) (by norm_num) (by norm_num)) ?_
  refine View.allAt_cons_unit _ _ _ _ _ (head_at h w a g (ix2 r c) _ _ _ _ _ (by norm_num) (by norm_num) (by norm_num) (by norm_num)) ?_
  refine View.allAt_cons_unit _ _ _ _ _ (head_at h w a g (ix2 r c) _ _ _ _ _ (by norm_num) (by norm_num) (by norm_num) (by norm_num)) ?_
  refine View.allAt_cons_unit _ _ _ _ _ (head_at h w a g (ix2 r c) _ _ _ _ _ (by norm_num) (by norm_num) (by norm_num) (by norm_num)) ?_
  refine View.allAt_cons_unit _ _ _ _ _ (head_at h w a g (ix2 r c) _ _ _ _ _ (by norm_num) (by norm_num) (by norm_num) (by norm_num)) ?_
  exact View.allAt_nil _ _

theorem outQ_apply (u : FVec Ideal S1x128 .f32) (r c : Fin 1024) : outQ (F := Ideal) u h w (ix2 r c)
    = headAt (acc h w r) c * (u (ix2 0 ⟨c.val % 128, Nat.mod_lt _ (by norm_num)⟩) * qScale) :=
  eight h w (Named.named κ "scale" 0x3E0293EE#32) u r c _ _ _ _ _ _ _ _

theorem outK_apply (u : FVec Ideal S1x128 .f32) (r c : Fin 1024) : outK (F := Ideal) u h w (ix2 r c)
    = headAt (acc h w r) c * (u (ix2 0 ⟨c.val % 128, Nat.mod_lt _ (by norm_num)⟩) * 1) :=
  (eight h w (Scalar.ofBits .f32 0x3F800000#32) u r c _ _ _ _ _ _ _ _).trans (congrArg (fun v => _ * (_ * v)) one)

/-- A piece of rows, normed. -/
theorem rows_apply (x : FVec Ideal S256x2048 .f32) (u : FVec Ideal S1x2048 .f32) (r : Fin 256) (k : Fin 2048) :
    k0_pay15 (F := Ideal) x u (ix2 r k) = normed (fun k => x (ix2 r k)) (fun k => u (ix2 0 k)) k := by
  unfold k0_pay15 normed
  pointwise []

/-- A row tile, normed. -/
theorem hidden_apply (u : FVec Ideal S1x2048 .f32) (x : FVec Ideal S1024x2048 .f32) (r : Fin 1024) (k : Fin 2048) :
    hidden (F := Ideal) u x (ix2 r k) = normed (fun k => x (ix2 r k)) (fun k => u (ix2 0 k)) k := by
  have piece : ∀ (o : ℕ) (inb : ∀ a, (![o, 0] : Fin 2 → ℕ) a + S256x2048.size a ≤ S1024x2048.size a),
      View.TileAt (S := S1024x2048) (Val := Elt Ideal) (e := .bf16) (ix2 r k) ![o, 0] ![256, 2048]
      (k0_pay15 (F := Ideal) (View.ld (Val := Elt Ideal) (e' := .f32) x (Rect.unit (s := S1024x2048) ![o, 0] S256x2048.size inb)) u)
      (normed (fun k => x (ix2 r k)) (fun k => u (ix2 0 k)) k) := fun o inb =>
    at_of (ix2 r k) o 0 _ (fun r k => normed (fun k => x (ix2 r k)) (fun k => u (ix2 0 k)) k) fun r j hr hj => by
      have h0 : (⟨0 + j.val, hj⟩ : Fin 2048) = j := Fin.ext (Nat.zero_add _)
      refine (rows_apply _ u r j).trans ?_
      rw [h0]
      refine congrArg (fun row => normed row (fun k => u (ix2 0 k)) j) (funext fun k => ?_)
      refine (ld_apply (e := .f32) x o 0 inb r k hr (by omega)).trans (congrArg (fun z => x (ix2 _ z)) (Fin.ext (Nat.zero_add _)))
  refine View.canon_eq_of_allAt (Val := Elt Ideal) (e := .bf16) _ (ix2 r k) _ ?_ ?_
  · exact View.cover_of_tiled _ ![256, 2048] (by rfl) _
  refine View.allAt_cons_unit _ _ _ _ _ (piece 768 inb_S1024x2048_S256x2048_768_0) ?_
  refine View.allAt_cons_unit _ _ _ _ _ (piece 512 inb_S1024x2048_S256x2048_512_0) ?_
  refine View.allAt_cons_unit _ _ _ _ _ (piece 256 inb_S1024x2048_S256x2048_256_0) ?_
  refine View.allAt_cons_unit _ _ _ _ _ (piece 0 inb_S1024x2048_S256x2048_0_0) ?_
  exact View.allAt_nil _ _

end Cert.InProjIdeal.Hand

end
-- ==== Proof.InProjValue.lean ====
/- What the input projection's launch leaves in its two results, entry by entry. -/
module

public import proofs.«01_k».proof.Proof.InProjTile
public import proofs.«01_k».proof.Proof.InProjIdealBody

@[expose] public section

set_option maxRecDepth 16384

noncomputable section

namespace Cert.InProjIdeal.Hand

open Cert.InProjIdeal Cert.InProjIdeal.Gen Cert.InProjMath
open Cert.MergeMath (normed)
open Idealize.ShloMosaic Idealize.ShloMosaic.TcCoe Idealize.ShloMosaic.Tactic
open Idealize.SL.Sem
open Idealize.ShloMosaic.Pipeline (Dat Cfg Window)

variable (m : (ℓ : Loc nD τ sig) → Buf (Elt Ideal) ℓ) (c : Dev nD)

/-- The arguments. -/
abbrev inX : FVec Ideal S8192x2048 .f32 := m ((c : Thread nD τ).loc main_arg0)
abbrev inGain : FVec Ideal S1x2048 .f32 := m ((c : Thread nD τ).loc main_arg1)
abbrev inW : FVec Ideal S2048x11264 .f32 := m ((c : Thread nD τ).loc main_arg2)
abbrev inBias : FVec Ideal S1x4096 .f32 := m ((c : Thread nD τ).loc main_arg3)
abbrev inLogits : FVec Ideal S2x1024 .f32 := m ((c : Thread nD τ).loc main_arg4)
abbrev inQg : FVec Ideal S1x128 .f32 := m ((c : Thread nD τ).loc main_arg5)
abbrev inKg : FVec Ideal S1x128 .f32 := m ((c : Thread nD τ).loc main_arg6)

/-- The results. -/
def result1 : FVec Ideal S8192x11264 .bf16 := fun i => entry1 (inX m c) (inGain m c) (inW m c) (inBias m c) (inLogits m c) (inQg m c) (inKg m c) (i 0) (i 1)
def result2 : FVec Ideal S8192x3072 .bf16 := fun i => entry2 (inX m c) (inGain m c) (inW m c) (inLogits m c) (i 0) (i 1)

/-- Where each window's block lies, over the points. -/
theorem starts : ∀ t : Fin cfg0.N,
    (win0_0.index t (0 : Fin 2) = 0 ∧ win0_0.index t (1 : Fin 2) = 0)
    ∧ (win0_1.index t (0 : Fin 2) = 0 ∧ win0_1.index t (1 : Fin 2) = t.val % 11 - 7)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = t.val / 11 ∧ win0_5.index t (1 : Fin 2) = t.val % 11)
    ∧ (win0_6.index t (0 : Fin 2) = t.val / 11 ∧ win0_6.index t (1 : Fin 2) = 0) :=
  (by decide +kernel : ∀ t : Fin grid0.N, _)

/-- The gains. -/
theorem block_0 (t : Fin cfg0.N) (r : Fin 1) (k : Fin 2048) : (iblk m c 0 t : FVec Ideal S1x2048 .f32) (ix2 r k) = inGain m c (ix2 r k) := by
  obtain ⟨e0, e1⟩ := (starts t).1
  unfold iblk
  rw [View.read_apply]
  show m ((c : Thread nD τ).loc main_arg1) _ = m ((c : Thread nD τ).loc main_arg1) _
  congr 1
  funext a
  apply Fin.ext
  match a with
  | ⟨0, _⟩ => show win0_0.index t (0 : Fin 2) * 1 + 1 * r.val = r.val; omega
  | ⟨1, _⟩ => show win0_0.index t (1 : Fin 2) * 2048 + 1 * k.val = k.val; omega

/-- The point's biases. -/
theorem block_1 (t : Fin cfg0.N) (r : Fin 1) (k : Fin 1024) (hk : 1024 * (t.val % 11 - 7) + k.val < 4096) :
    (iblk m c 1 t : FVec Ideal S1x1024 .f32) (ix2 r k) = inBias m c (ix2 0 ⟨1024 * (t.val % 11 - 7) + k.val, hk⟩) := by
  obtain ⟨e0, e1⟩ := (starts t).2.1
  unfold iblk
  rw [View.read_apply]
  show m ((c : Thread nD τ).loc main_arg3) _ = m ((c : Thread nD τ).loc main_arg3) _
  congr 1
  funext a
  apply Fin.ext
  match a with
  | ⟨0, _⟩ => show win0_1.index t (0 : Fin 2) * 1 + 1 * r.val = 0; omega
  | ⟨1, _⟩ => show win0_1.index t (1 : Fin 2) * 1024 + 1 * k.val = 1024 * (t.val % 11 - 7) + k.val; omega

/-- The bounds' logits. -/
theorem block_2 (t : Fin cfg0.N) (r : Fin 2) (k : Fin 1024) : (iblk m c 2 t : FVec Ideal S2x1024 .f32) (ix2 r k) = inLogits m c (ix2 r k) := by
  obtain ⟨e0, e1⟩ := (starts t).2.2.1
  unfold iblk
  rw [View.read_apply]
  show m ((c : Thread nD τ).loc main_arg4) _ = m ((c : Thread nD τ).loc main_arg4) _
  congr 1
  funext a
  apply Fin.ext
  match a with
  | ⟨0, _⟩ => show win0_2.index t (0 : Fin 2) * 2 + 1 * r.val = r.val; omega
  | ⟨1, _⟩ => show win0_2.index t (1 : Fin 2) * 1024 + 1 * k.val = k.val; omega

/-- The queries' gains. -/
theorem block_3 (t : Fin cfg0.N) (r : Fin 1) (k : Fin 128) : (iblk m c 3 t : FVec Ideal S1x128 .f32) (ix2 r k) = inQg m c (ix2 r k) := by
  obtain ⟨e0, e1⟩ := (starts t).2.2.2.1
  unfold iblk
  rw [View.read_apply]
  show m ((c : Thread nD τ).loc main_arg5) _ = m ((c : Thread nD τ).loc main_arg5) _
  congr 1
  funext a
  apply Fin.ext
  match a with
  | ⟨0, _⟩ => show win0_3.index t (0 : Fin 2) * 1 + 1 * r.val = r.val; omega
  | ⟨1, _⟩ => show win0_3.index t (1 : Fin 2) * 128 + 1 * k.val = k.val; omega

/-- The keys' gains. -/
theorem block_4 (t : Fin cfg0.N) (r : Fin 1) (k : Fin 128) : (iblk m c 4 t : FVec Ideal S1x128 .f32) (ix2 r k) = inKg m c (ix2 r k) := by
  obtain ⟨e0, e1⟩ := (starts t).2.2.2.2.1
  unfold iblk
  rw [View.read_apply]
  show m ((c : Thread nD τ).loc main_arg6) _ = m ((c : Thread nD τ).loc main_arg6) _
  congr 1
  funext a
  apply Fin.ext
  match a with
  | ⟨0, _⟩ => show win0_4.index t (0 : Fin 2) * 1 + 1 * r.val = r.val; omega
  | ⟨1, _⟩ => show win0_4.index t (1 : Fin 2) * 128 + 1 * k.val = k.val; omega

/-- A column tile of the weights. -/
theorem cols_at (n : ℕ) (k : Fin 2048) (j : Fin 1024) (hj : 1024 * (n % 11) + j.val < 11264) :
    (wcols m c n : FVec Ideal S2048x1024 .f32) (ix2 k j) = inW m c (ix2 k ⟨1024 * (n % 11) + j.val, hj⟩) := by
  unfold wcols colsOf
  rw [View.read_apply]
  show m ((c : Thread nD τ).loc main_arg2) _ = m ((c : Thread nD τ).loc main_arg2) _
  congr 1
  funext a
  apply Fin.ext
  match a with
  | ⟨0, _⟩ => show 0 + 1 * k.val = k.val; omega
  | ⟨1, _⟩ => show 1024 * (n % 11) + 1 * j.val = 1024 * (n % 11) + j.val; omega

/-- A row tile of the input. -/
theorem rows_at (n : ℕ) (r : Fin 1024) (k : Fin 2048) (hr : 1024 * (n % 8) + r.val < 8192) :
    (xrows m c n : FVec Ideal S1024x2048 .f32) (ix2 r k) = inX m c (ix2 ⟨1024 * (n % 8) + r.val, hr⟩ k) := by
  unfold xrows rowsOf
  rw [View.read_apply]
  show m ((c : Thread nD τ).loc main_arg0) _ = m ((c : Thread nD τ).loc main_arg0) _
  congr 1
  funext a
  apply Fin.ext
  match a with
  | ⟨0, _⟩ => show 1024 * (n % 8) + 1 * r.val = 1024 * (n % 8) + r.val; omega
  | ⟨1, _⟩ => show 0 + 1 * k.val = k.val; omega

/-- An entry of a tile's product is an entry of the projection. -/
theorem acc_at (q n : ℕ) (r j : Fin 1024) (hr : 1024 * (q % 8) + r.val < 8192) (hj : 1024 * (n % 11) + j.val < 11264) :
    acc (hid m c q) (wcols m c n) r j = projected (inX m c) (inGain m c) (inW m c) ⟨1024 * (q % 8) + r.val, hr⟩ ⟨1024 * (n % 11) + j.val, hj⟩ := by
  unfold acc projected
  refine Finset.sum_congr rfl fun k _ => congrArg₂ (· * ·) ?_ (cols_at m c n k j hj)
  refine (hidden_apply _ _ r k).trans (congrArg₂ (fun a b => normed a b k) (funext fun k => rows_at m c q r k hr) (funext fun k => block_0 m c _ 0 k))

/-- The row tile and the column tile of a point. -/
def rowTile (t : Fin cfg0.N) (r : Fin 1024) : Fin 8192 := ⟨1024 * (t.val / 11) + r.val, by have := lt88 t; omega⟩
def colTile (t : Fin cfg0.N) : Fin 11 := ⟨t.val % 11, Nat.mod_lt _ (by norm_num)⟩

theorem acc_point (t : Fin cfg0.N) (r j : Fin 1024) : acc (hid m c (t.val / 11)) (wcols m c t.val) r j
    = projected (inX m c) (inGain m c) (inW m c) (rowTile t r) ⟨1024 * (colTile t).val + j.val, by have := (colTile t).isLt; omega⟩ := by
  have ht := lt88 t
  refine (acc_at m c _ _ r j (by omega) (by omega)).trans (congrArg (projected _ _ _ · _) (Fin.ext ?_))
  show 1024 * (t.val / 11 % 8) + r.val = 1024 * (t.val / 11) + r.val
  omega

/-- What a point leaves in the first result's buffer. -/
theorem left5 (t : Fin cfg0.N) (r j : Fin 1024) : (outAt m c t : FVec Ideal S1024x1024 .bf16) (ix2 r j)
    = entryAt (inX m c) (inGain m c) (inW m c) (inBias m c) (inLogits m c) (inQg m c) (inKg m c) (rowTile t r) (colTile t) j := by
  have ha : ∀ j, acc (hid m c (t.val / 11)) (wcols m c t.val) r j = _ := acc_point m c t r
  have hrow : acc (hid m c (t.val / 11)) (wcols m c t.val) r = _ := funext ha
  unfold outAt entryAt tileFn
  show _ = if t.val % 11 = 0 then _ else if t.val % 11 = 1 then _ else if t.val % 11 = 3 then _ else if t.val % 11 = 4 then _
    else if t.val % 11 = 5 then _ else if 7 ≤ t.val % 11 then _ else _
  by_cases h0 : t.val % 11 = 0
  · rw [if_pos h0, if_pos h0]
    exact (outNorm_apply _ _ r j).trans (congrArg silu (ha j))
  rw [if_neg h0, if_neg h0]
  by_cases h1 : t.val % 11 = 1
  · rw [if_pos h1, if_pos h1]
    refine (outForget_apply _ _ _ r j).trans (congrArg₂ letIn (congrArg lower (funext fun k => block_2 m c t k j)) (ha j))
  rw [if_neg h1, if_neg h1]
  by_cases h3 : t.val % 11 = 3
  · rw [if_pos h3, if_pos h3]
    exact (outSilu_apply _ _ r j).trans (congrArg silu (ha j))
  rw [if_neg h3, if_neg h3]
  by_cases h4 : t.val % 11 = 4
  · rw [if_pos h4, if_pos h4]
    exact (outQ_apply _ _ _ r j).trans (congrArg₂ (· * ·) (congrArg (headAt · j) hrow) (congrArg (· * qScale) (block_3 m c t 0 _)))
  rw [if_neg h4, if_neg h4]
  by_cases h5 : t.val % 11 = 5
  · rw [if_pos h5, if_pos h5]
    exact (outK_apply _ _ _ r j).trans (congrArg₂ (· * ·) (congrArg (headAt · j) hrow) (congrArg (· * 1) (block_4 m c t 0 _)))
  rw [if_neg h5, if_neg h5]
  by_cases h7 : 7 ≤ t.val % 11
  · rw [if_pos h7, if_pos h7]
    exact (outGate_apply _ _ _ r j).trans (congrArg Ideal.logistic (congrArg₂ (· + ·) (ha j) (block_1 m c t 0 j (by omega))))
  rw [if_neg h7, if_neg h7]
  exact (outPlain_apply _ _ r j).trans (ha j)

/-- What a row tile leaves in the second result's buffer, where the logits are reals. -/
theorem left6 (hu : ∀ k j, inLogits m c (ix2 k j) = ((inLogits m c (ix2 k j)).toReal : EReal)) (t : Fin cfg0.N) (r : Fin 1024) (e : Fin 3072) :
    (logAt m c (t.val / 11) : FVec Ideal S1024x3072 .bf16) (ix2 r e) = entry2 (inX m c) (inGain m c) (inW m c) (inLogits m c) (rowTile t r) e := by
  have ht := lt88 t
  unfold logAt entry2
  refine (logOutForget_apply _ _ _ (fun k j => by rw [block_2]; exact hu k j) r e).trans (congrArg₂ (fun a b => logRow a b e) ?_ ?_)
  · exact funext fun j => congrArg lower (funext fun k => block_2 m c _ k j)
  · refine funext fun j => (acc_at m c _ 1 r j (by omega) (by omega)).trans (congrArg₂ (projected _ _ _) (Fin.ext ?_) (Fin.ext ?_))
    · show 1024 * (t.val / 11 % 8) + r.val = 1024 * (t.val / 11) + r.val
      omega
    · show 1024 * (1 % 11) + j.val = 1024 + j.val
      omega

/-- Result array 1 after the run. -/
theorem array_1 : (dats m 0 c).arrAt 5 cfg0.N = result1 m c := by
  refine (dats m 0 c).arrAt_eq_of_cover 5 (result1 m c) ?_ ?_
  · intro t _
    obtain ⟨e0, e1⟩ := (starts t).2.2.2.2.2.1
    show (dats m 0 c).after 5 t = _
    funext y
    rw [View.read_apply, after_5]
    refine (congrArg (outAt m c t) (pair_of y)).trans ((left5 m c t (y 0) (y 1)).trans ?_)
    unfold result1 entry1
    have hy0 : (y 0).val < 1024 := (y 0).isLt
    have hy1 : (y 1).val < 1024 := (y 1).isLt
    have v0 : (((cfg0.win 5).blk t).view.emb y 0).val = 1024 * (t.val / 11) + (y 0).val := by
      show win0_5.index t (0 : Fin 2) * 1024 + 1 * (y 0).val = _; omega
    have v1 : (((cfg0.win 5).blk t).view.emb y 1).val = 1024 * (t.val % 11) + (y 1).val := by
      show win0_5.index t (1 : Fin 2) * 1024 + 1 * (y 1).val = _; omega
    have h0 : rowTile t (y 0) = ((cfg0.win 5).blk t).view.emb y 0 := Fin.ext v0.symm
    have h1 : colTile t = ⟨(((cfg0.win 5).blk t).view.emb y 1).val / 1024, by rw [v1]; omega⟩ := Fin.ext (by
      show t.val % 11 = (((cfg0.win 5).blk t).view.emb y 1).val / 1024; omega)
    have h2 : (y 1 : Fin 1024) = ⟨(((cfg0.win 5).blk t).view.emb y 1).val % 1024, Nat.mod_lt _ (by norm_num)⟩ := Fin.ext (by
      show (y 1).val = (((cfg0.win 5).blk t).view.emb y 1).val % 1024; omega)
    rw [h0, h1]
    exact congrArg (entryAt _ _ _ _ _ _ _ _ _) h2
  · intro i
    have hi0 : (i 0).val < 8192 := (i 0).isLt
    have hi1 : (i 1).val < 11264 := (i 1).isLt
    have hN : 11 * ((i 0).val / 1024) + (i 1).val / 1024 < cfg0.N := lt_of_lt_of_eq (show _ < 88 by omega) N_0.symm
    refine ⟨⟨11 * ((i 0).val / 1024) + (i 1).val / 1024, hN⟩, flush0_5 _, ?_⟩
    obtain ⟨e0, e1⟩ := (starts ⟨11 * ((i 0).val / 1024) + (i 1).val / 1024, hN⟩).2.2.2.2.2.1
    simp only at e0 e1
    have hx : ((cfg0.win 5).blk ⟨11 * ((i 0).val / 1024) + (i 1).val / 1024, hN⟩).view.emb
        (ix2 ⟨(i 0).val % 1024, Nat.mod_lt _ (by norm_num)⟩ ⟨(i 1).val % 1024, Nat.mod_lt _ (by norm_num)⟩) = i := by
      funext a
      apply Fin.ext
      match a with
      | ⟨0, _⟩ => show win0_5.index _ (0 : Fin 2) * 1024 + 1 * ((i 0).val % 1024) = (i 0).val; omega
      | ⟨1, _⟩ => show win0_5.index _ (1 : Fin 2) * 1024 + 1 * ((i 1).val % 1024) = (i 1).val; omega
    have hm := ((cfg0.win 5).blk ⟨11 * ((i 0).val / 1024) + (i 1).val / 1024, hN⟩).view.emb_mem_set
      (ix2 ⟨(i 0).val % 1024, Nat.mod_lt _ (by norm_num)⟩ ⟨(i 1).val % 1024, Nat.mod_lt _ (by norm_num)⟩)
    rw [hx] at hm
    exact hm

/-- Result array 2 after the run, where the logits are reals. -/
theorem array_2 (hu : ∀ k j, inLogits m c (ix2 k j) = ((inLogits m c (ix2 k j)).toReal : EReal)) : (dats m 0 c).arrAt 6 cfg0.N = result2 m c := by
  refine (dats m 0 c).arrAt_eq_of_cover 6 (result2 m c) ?_ ?_
  · intro t _
    obtain ⟨e0, e1⟩ := (starts t).2.2.2.2.2.2
    show (dats m 0 c).after 6 t = _
    funext y
    rw [View.read_apply, after_6]
    refine (congrArg (logAt m c (t.val / 11)) (pair_of y)).trans ((left6 m c hu t (y 0) (y 1)).trans ?_)
    unfold result2
    have h0 : rowTile t (y 0) = ((cfg0.win 6).blk t).view.emb y 0 := Fin.ext (by
      show 1024 * (t.val / 11) + (y 0).val = win0_6.index t (0 : Fin 2) * 1024 + 1 * (y 0).val; omega)
    have h1 : (y 1 : Fin 3072) = ((cfg0.win 6).blk t).view.emb y 1 := Fin.ext (by
      show (y 1).val = win0_6.index t (1 : Fin 2) * 3072 + 1 * (y 1).val; omega)
    exact congrArg₂ (fun (a : Fin 8192) (b : Fin 3072) => entry2 _ _ _ _ a b) h0 h1
  · intro i
    have hi0 : (i 0).val < 8192 := (i 0).isLt
    have hi1 : (i 1).val < 3072 := (i 1).isLt
    have hN : 11 * ((i 0).val / 1024) + 10 < cfg0.N := lt_of_lt_of_eq (show _ < 88 by omega) N_0.symm
    refine ⟨⟨11 * ((i 0).val / 1024) + 10, hN⟩, (flush_6 _).trans (decide_eq_true (by show (11 * ((i 0).val / 1024) + 10) % 11 = 10; omega)), ?_⟩
    obtain ⟨e0, e1⟩ := (starts ⟨11 * ((i 0).val / 1024) + 10, hN⟩).2.2.2.2.2.2
    simp only at e0 e1
    have hx : ((cfg0.win 6).blk ⟨11 * ((i 0).val / 1024) + 10, hN⟩).view.emb (ix2 ⟨(i 0).val % 1024, Nat.mod_lt _ (by norm_num)⟩ ⟨(i 1).val, hi1⟩) = i := by
      funext a
      apply Fin.ext
      match a with
      | ⟨0, _⟩ => show win0_6.index _ (0 : Fin 2) * 1024 + 1 * ((i 0).val % 1024) = (i 0).val; omega
      | ⟨1, _⟩ => show win0_6.index _ (1 : Fin 2) * 3072 + 1 * (i 1).val = (i 1).val; omega
    have hm := ((cfg0.win 6).blk ⟨11 * ((i 0).val / 1024) + 10, hN⟩).view.emb_mem_set (ix2 ⟨(i 0).val % 1024, Nat.mod_lt _ (by norm_num)⟩ ⟨(i 1).val, hi1⟩)
    rw [hx] at hm
    exact hm

/-- Every run ends with the two results at their entries, the arguments unchanged, where the logits are reals. -/
theorem run_value (hu : ∀ (c : Dev nD) k j, inLogits m c (ix2 k j) = ((inLogits m c (ix2 k j)).toReal : EReal)) (ρ : Dev nD → PrngReg) :
    θ_run defs (onTc (τ := τ) (main (F := Ideal))) ⟨m, fun _ => 0, ρ⟩ (fun r => ∀ c : Dev nD,
      r.2.mem ((c.tc : Thread nD τ).loc main_v0_0) = result1 m c
      ∧ r.2.mem ((c.tc : Thread nD τ).loc main_v0_1) = result2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h.1 c).1 5).trans (array_1 m c), ((h.1 c).1 6).trans (array_2 m c (hu c)),
      (h.1 c).2 main_arg0 (Pipeline.mem_restRefs_of main_arg0 (by decide) (by decide)),
      ((h.1 c).1 0).trans (((dats m 0 c).arrAt_in 0 rfl _).trans (A_eq m c 0)),
      (h.1 c).2 main_arg2 (Pipeline.mem_restRefs_of main_arg2 (by decide) (by decide)),
      ((h.1 c).1 1).trans (((dats m 0 c).arrAt_in 1 rfl _).trans (A_eq m c 1)),
      ((h.1 c).1 2).trans (((dats m 0 c).arrAt_in 2 rfl _).trans (A_eq m c 2)),
      ((h.1 c).1 3).trans (((dats m 0 c).arrAt_in 3 rfl _).trans (A_eq m c 3)),
      ((h.1 c).1 4).trans (((dats m 0 c).arrAt_in 4 rfl _).trans (A_eq m c 4))⟩) (run_main m ρ)

end Cert.InProjIdeal.Hand

end
-- ==== Proof.InProjRefValue.lean ====
/- The input projection's reference: its two results, entry by entry. -/
module

public import proofs.«01_k».proof.Proof.FfnSpec
public import proofs.«01_k».proof.Proof.InProjSpec
public import proofs.«01_k».proof.Proof.Gen.InProjReferenceIdeal.Run
public import Idealize.ShloMosaic.Lib.StackMember
public import Idealize.ShloMosaic.Lib.Pipeline.Value
public import Idealize.ShloMosaic.Lib.KernelVsHost
public import Idealize.ShloMosaic.Lib.Pointwise
public import proofs.«01_k».proof.Proof.RefSteps

@[expose] public section

set_option maxRecDepth 16384

noncomputable section

namespace Cert.InProjReferenceIdeal.Hand

open Cert.InProjReferenceIdeal Cert.InProjReferenceIdeal.Gen Cert.InProjMath
open Cert.FfnMath (pair_same one)
open Cert.MergeMath (normed zero_word)
open Idealize.ShloMosaic Idealize.ShloMosaic.TcCoe Idealize.ShloMosaic.StableHlo
open Idealize.SL.Sem

/-- The normed input. -/
def normedOf (v : FVec Ideal S8192x2048 .f32) (gain : FVec Ideal S1x2048 .f32) : FVec Ideal S8192x2048 .f32 :=
  mulf (mulf v (broadcastInDim S8192x2048 ![0, 1] bcast_S8192x1_S8192x2048_0_1 (Host.rsqrt (addf (Host.divf
    (broadcastInDim S8192x1 ![0] bcast_S8192_S8192x1_0 (Host.reduceAdd (mulf v v) (constant S_ .f32 0x00000000#32) reducesTo_S8192x2048_S8192_d1 h_S_))
    (broadcastInDim S8192x1 ![] bcast_S_S8192x1 (constant S_ .f32 0x45000000#32)))
    (broadcastInDim S8192x1 ![] bcast_S_S8192x1 (constant S_ .f32 0x358637BD#32))))))
    (broadcastInDim S8192x2048 ![0, 1] bcast_S1x2048_S8192x2048_0_1 gain)

/-- The projection. -/
def proj (x : FVec Ideal S8192x2048 .f32) (gain : FVec Ideal S1x2048 .f32) (w : FVec Ideal S2048x11264 .f32) : FVec Ideal S8192x11264 .f32 :=
  Host.dotGeneral dot_S8192x2048_S2048x11264_S8192x11264_1_0_0_1_n_n none (normedOf x gain) w

/-- A constant over a section. -/
abbrev fill (wd : BitVec 32) : FVec Ideal S8192x1024 .f32 := broadcastInDim S8192x1024 ![] bcast_S_S8192x1024 (constant (F := Ideal) S_ .f32 wd)

/-- The logistic function of a section, and of the gates. -/
def sig (a : FVec Ideal S8192x1024 .f32) : FVec Ideal S8192x1024 .f32 :=
  Host.divf (fill 0x3F800000#32) (addf (fill 0x3F800000#32) (Host.exp (Host.negf a)))
def sigWide (a : FVec Ideal S8192x4096 .f32) : FVec Ideal S8192x4096 .f32 :=
  Host.divf (broadcastInDim S8192x4096 ![] bcast_S_S8192x4096 (constant S_ .f32 0x3F800000#32))
    (addf (broadcastInDim S8192x4096 ![] bcast_S_S8192x4096 (constant S_ .f32 0x3F800000#32)) (Host.exp (Host.negf a)))

/-- The logits' exponentials, less their larger one. -/
def powers (u : FVec Ideal S2x1024 .f32) : FVec Ideal S2x1024 .f32 :=
  Host.exp (subf u (broadcastInDim S2x1024 ![0, 1] bcast_S1x1024_S2x1024_0_1 (broadcastInDim S1x1024 ![1] bcast_S1024_S1x1024_1
    (maximumf (broadcastInDim S1024 ![] bcast_S_S1024 (constant S_ .f32 0xFF800000#32))
      (Host.reduce FloatOps.maximumf u (constant S_ .f32 0xFF800000#32) reducesTo_S2x1024_S1024_d0 h_S_)))))

/-- The gates' lower bounds. -/
def low (u : FVec Ideal S2x1024 .f32) : FVec Ideal S1x1024 .f32 :=
  extractStridedSlice S1x1024 ![0, 0] (Host.divf (powers u) (broadcastInDim S2x1024 ![0, 1] bcast_S1x1024_S2x1024_0_1 (broadcastInDim S1x1024 ![1] bcast_S1024_S1x1024_1
    (Host.reduceAdd (powers u) (constant S_ .f32 0x00000000#32) reducesTo_S2x1024_S1024_d0 h_S_)))) slices_S2x1024_S1x1024_0_0

/-- The forget gate. -/
def forget (u : FVec Ideal S2x1024 .f32) (a : FVec Ideal S8192x1024 .f32) : FVec Ideal S8192x1024 .f32 :=
  addf (broadcastInDim S8192x1024 ![0, 1] bcast_S1x1024_S8192x1024_0_1 (low u))
    (mulf (broadcastInDim S8192x1024 ![0, 1] bcast_S1x1024_S8192x1024_0_1
      (subf (broadcastInDim S1x1024 ![] bcast_S_S1x1024 (constant S_ .f32 0x3F800000#32)) (low u))) (sig a))

/-- A section's heads, normed. -/
def heads (a : FVec Ideal S8192x1024 .f32) (g : FVec Ideal S1x128 .f32) : FVec Ideal S8192x8x128 .f32 :=
  let t := shapeCast S8192x8x128 a shapeCasts_S8192x1024_S8192x8x128
  mulf (mulf t (broadcastInDim S8192x8x128 ![0, 1, 2] bcast_S8192x8x1_S8192x8x128_0_1_2 (Host.rsqrt (addf (Host.divf
    (broadcastInDim S8192x8x1 ![0, 1] bcast_S8192x8_S8192x8x1_0_1 (Host.reduceAdd (mulf t t) (constant S_ .f32 0x00000000#32) reducesTo_S8192x8x128_S8192x8_d2 h_S_))
    (broadcastInDim S8192x8x1 ![] bcast_S_S8192x8x1 (constant S_ .f32 0x43000000#32)))
    (broadcastInDim S8192x8x1 ![] bcast_S_S8192x8x1 (constant S_ .f32 0x358637BD#32))))))
    (broadcastInDim S8192x8x128 ![0, 1, 2] bcast_S1x1x128_S8192x8x128_0_1_2 (broadcastInDim S1x1x128 ![0, 2] bcast_S1x128_S1x1x128_0_2 g))
def headsFlat (a : FVec Ideal S8192x1024 .f32) (g : FVec Ideal S1x128 .f32) : FVec Ideal S8192x1024 .f32 :=
  shapeCast S8192x1024 (heads a g) shapeCasts_S8192x8x128_S8192x1024

/-- The gates. -/
def gates (P : FVec Ideal S8192x11264 .f32) (b : FVec Ideal S1x4096 .f32) : FVec Ideal S8192x4096 .f32 :=
  sigWide (addf (extractStridedSlice S8192x4096 ![0, 7168] P slices_S8192x11264_S8192x4096_0_7168)
    (broadcastInDim S8192x4096 ![0, 1] bcast_S1x4096_S8192x4096_0_1 b))

variable (P : FVec Ideal S8192x11264 .f32) (b : FVec Ideal S1x4096 .f32) (u : FVec Ideal S2x1024 .f32) (qg kg : FVec Ideal S1x128 .f32)

/-- A scalar over all entries, and the logarithm of two. -/
def wide (v : FVec Ideal S_ .f32) : FVec Ideal S8192x1024 .f32 := broadcastInDim S8192x1024 ![] bcast_S_S8192x1024 (id v)
def log2 : FVec Ideal S_ .f32 := Host.log (constant S_ .f32 0x40000000#32)

/-- The sections. -/
abbrev cut (o : ℕ) (hs : S8192x11264.Slices ![0, o] S8192x1024) : FVec Ideal S8192x1024 .f32 := extractStridedSlice S8192x1024 ![0, o] P hs

/-- The first result's pieces, in order. -/
def pieces : List ((s : Shape) × (s.Idx → EReal)) :=
  [⟨S8192x1024, mulf (cut P 0 slices_S8192x11264_S8192x1024_0_0) (sig (cut P 0 slices_S8192x11264_S8192x1024_0_0))⟩,
    ⟨S8192x1024, subf (fill 0x3F800000#32) (forget u (cut P 1024 slices_S8192x11264_S8192x1024_0_1024))⟩,
    ⟨S8192x1024, cut P 2048 slices_S8192x11264_S8192x1024_0_2048⟩,
    ⟨S8192x1024, mulf (cut P 3072 slices_S8192x11264_S8192x1024_0_3072) (sig (cut P 3072 slices_S8192x11264_S8192x1024_0_3072))⟩,
    ⟨S8192x1024, Host.divf (headsFlat (cut P 4096 slices_S8192x11264_S8192x1024_0_4096) qg) (wide (mulf (Host.sqrt (constant S_ .f32 0x43000000#32)) log2))⟩,
    ⟨S8192x1024, headsFlat (cut P 5120 slices_S8192x11264_S8192x1024_0_5120) kg⟩,
    ⟨S8192x1024, cut P 6144 slices_S8192x11264_S8192x1024_0_6144⟩,
    ⟨S8192x4096, gates P b⟩]

/-- The results. -/
def out1 : FVec Ideal S8192x11264 .bf16 := fun i => concatenate S8192x11264 1 (pieces P b u qg kg)
  concatenates_S8192x1024_S8192x1024_S8192x1024_S8192x1024_S8192x1024_S8192x1024_S8192x1024_S8192x4096_S8192x11264_d1 i
def out2 : FVec Ideal S8192x3072 .bf16 := fun i => concatenate S8192x3072 1
  [⟨S8192x1024, Host.divf (Host.log (forget u (cut P 1024 slices_S8192x11264_S8192x1024_0_1024))) (wide log2)⟩,
    ⟨S8192x2048, broadcastInDim S8192x2048 ![] bcast_S_S8192x2048 (constant (F := Ideal) S_ .f32 0x00000000#32)⟩]
  concatenates_S8192x1024_S8192x2048_S8192x3072_d1 i

/-- Division by the logarithm of two. -/
theorem div_log2 (x : EReal) : Ideal.div x (Ideal.log (Ideal.ofBits .f32 0x40000000#32)) = x * log2e := by
  have h : (Real.log 2 : ℝ) ≠ 0 := (Real.log_pos (by norm_num)).ne'
  rw [Cert.ReferenceIdeal.Attn.log_two, Ideal.div_coe h, one_div]

/-- The root of the word of 128. -/
theorem sqrt_128 : Ideal.sqrt (Ideal.ofBits .f32 0x43000000#32) = ((Real.sqrt 128 : ℝ) : EReal) := by
  have h : Ideal.ofBits .f32 0x43000000#32 = ((128 : ℝ) : EReal) := by
    simp [Ideal.ofBits, Ideal.ieee, -EReal.coe_mul]; norm_num
  rw [h]
  show (if (128 : ℝ) < 0 then (⊥ : EReal) else (Real.sqrt 128 : EReal)) = _
  rw [if_neg (by norm_num)]

/-- Division by the root of 128 times the logarithm of two. -/
theorem div_scale (x : EReal) :
    Ideal.div x (Ideal.sqrt (Ideal.ofBits .f32 0x43000000#32) * Ideal.log (Ideal.ofBits .f32 0x40000000#32)) = x * qScale := by
  have h : Real.sqrt 128 * Real.log 2 ≠ 0 := mul_ne_zero (Real.sqrt_pos.mpr (by norm_num)).ne' (Real.log_pos (by norm_num)).ne'
  rw [Cert.ReferenceIdeal.Attn.log_two, sqrt_128, ← EReal.coe_mul, Ideal.div_coe h, one_div]

theorem normedOf_apply (v : FVec Ideal S8192x2048 .f32) (gain : FVec Ideal S1x2048 .f32) (r : Fin 8192) (e : Fin 2048) :
    normedOf v gain (ix2 r e) = normed (fun k => v (ix2 r k)) (fun k => gain (ix2 0 k)) e := by
  unfold normedOf normed
  pointwise []

theorem proj_apply (x : FVec Ideal S8192x2048 .f32) (gain : FVec Ideal S1x2048 .f32) (w : FVec Ideal S2048x11264 .f32) (r : Fin 8192) (e : Fin 11264) :
    proj x gain w (ix2 r e) = projected x gain w r e := by
  refine (StackMember.dotGeneral_plain_apply none (normedOf x gain) w r e).trans ?_
  simp only [pair_same]
  unfold projected
  exact Finset.sum_congr rfl fun k _ => congrArg (· * w (ix2 k e)) (normedOf_apply x gain r k)

theorem sig_apply (a : FVec Ideal S8192x1024 .f32) (i : S8192x1024.Idx) : sig a i = Ideal.logistic (a i) := by
  unfold Ideal.logistic
  rw [← one]
  rfl

theorem sigWide_apply (a : FVec Ideal S8192x4096 .f32) (i : S8192x4096.Idx) : sigWide a i = Ideal.logistic (a i) := by
  unfold Ideal.logistic
  rw [← one]
  rfl

theorem cut_apply (o : ℕ) (hs) (r : Fin 8192) (c : Fin 1024) (ho : o + c.val < 11264) : cut P o hs (ix2 r c) = P (ix2 r ⟨o + c.val, ho⟩) := by
  show P _ = P _
  congr 1
  funext a
  apply Fin.ext
  match a with
  | ⟨0, _⟩ => show 0 + r.val = r.val; omega
  | ⟨1, _⟩ => rfl

theorem top_apply (f : Fin 2 → EReal) :
    max (Ideal.ofBits .f32 0xFF800000#32) (Finset.fold max (Ideal.ofBits .f32 0xFF800000#32) f Finset.univ) = top f := by
  have hb : Ideal.ofBits .f32 0xFF800000#32 = ⊥ := by simp [Ideal.ofBits, Ideal.ieee]
  have hu : (Finset.univ : Finset (Fin 2)) = {0, 1} := rfl
  rw [hb, hu]
  simp [top]

theorem low_apply (c : Fin 1024) : low u (ix2 0 c) = lower fun k => u (ix2 k c) := by
  unfold low powers lower
  pointwise []
  simp only [top_apply, Fin.sum_univ_two]

theorem forget_apply (a : FVec Ideal S8192x1024 .f32) (r : Fin 8192) (c : Fin 1024) :
    forget u a (ix2 r c) = lower (fun k => u (ix2 k c)) + (1 - lower fun k => u (ix2 k c)) * Ideal.logistic (a (ix2 r c)) := by
  rw [← sig_apply, ← low_apply, ← one]
  unfold forget
  pointwise []

theorem headsFlat_apply (a : FVec Ideal S8192x1024 .f32) (g : FVec Ideal S1x128 .f32) (r : Fin 8192) (c : Fin 1024) :
    headsFlat a g (ix2 r c) = headAt (fun c => a (ix2 r c)) c * g (ix2 0 ⟨c.val % 128, Nat.mod_lt _ (by norm_num)⟩) := by
  unfold headsFlat heads headAt
  pointwise []

theorem gates_apply (r : Fin 8192) (e : Fin 4096) : gates P b (ix2 r e) = Ideal.logistic (P (ix2 r ⟨7168 + e.val, by omega⟩) + b (ix2 0 e)) := by
  unfold gates
  rw [sigWide_apply]
  pointwise []

theorem out1_narrow (k : ℕ) (hk : k < 7) (r : Fin 8192) (c : Fin 1024) (x : FVec Ideal S8192x1024 .f32)
    (hx : (pieces P b u qg kg)[k]'(by simp [pieces]; omega) = ⟨S8192x1024, x⟩) :
    out1 P b u qg kg (ix2 r ⟨1024 * k + c.val, by omega⟩) = x (ix2 r c) := by
  refine concatenate_apply_piece (t := S8192x11264) (1 : Fin 2) (pieces P b u qg kg) _ _ k (by simp [pieces]; omega) S8192x1024 x hx rfl (1024 * k) ?_ (ix2 r c) ?_ ?_
  · interval_cases k <;> rfl
  · intro a ha
    match a with
    | ⟨0, _⟩ => rfl
    | ⟨1, _⟩ => exact absurd rfl ha
  · rfl

theorem out1_wide (r : Fin 8192) (e : Fin 4096) :
    out1 P b u qg kg (ix2 r ⟨7168 + e.val, by omega⟩) = gates P b (ix2 r e) := by
  refine concatenate_apply_piece (t := S8192x11264) (1 : Fin 2) (pieces P b u qg kg) _ _ 7 (by simp [pieces]) S8192x4096 (gates P b) rfl rfl 7168 rfl (ix2 r e) ?_ ?_
  · intro a ha
    match a with
    | ⟨0, _⟩ => rfl
    | ⟨1, _⟩ => exact absurd rfl ha
  · rfl

section
variable (x : FVec Ideal S8192x2048 .f32) (gain : FVec Ideal S1x2048 .f32) (w : FVec Ideal S2048x11264 .f32)

theorem cut_proj (j : ℕ) (hj : j < 7) (hs) (r : Fin 8192) (c : Fin 1024) :
    cut (proj x gain w) (1024 * j) hs (ix2 r c) = projected x gain w r ⟨1024 * j + c.val, by omega⟩ := by
  rw [cut_apply _ _ _ r c (by omega), proj_apply]

/-- A tile of the first result, for real logits. -/
theorem out1_at (hu : ∀ k c, u (ix2 k c) = ((u (ix2 k c)).toReal : EReal)) (r : Fin 8192) (j : Fin 11) (c : Fin 1024) :
    out1 (proj x gain w) b u qg kg (ix2 r ⟨1024 * j.val + c.val, by omega⟩) = entryAt x gain w b u qg kg r j c := by
  have hc := fun i hi hs c => cut_proj x gain w i hi hs r c
  unfold entryAt
  rcases Nat.lt_or_ge j.val 7 with hj | hj
  · obtain ⟨j, hj'⟩ := j
    change j < 7 at hj
    interval_cases j
    · rw [out1_narrow _ _ _ _ _ 0 (by omega) r c _ rfl]
      refine Eq.trans ?_ (congrArg silu (hc 0 (by omega) slices_S8192x11264_S8192x1024_0_0 c))
      exact congrArg (_ * ·) (sig_apply _ _)
    · rw [out1_narrow _ _ _ _ _ 1 (by omega) r c _ rfl]
      obtain ⟨l, -, -, hl⟩ := lower_real (fun k => u (ix2 k c)) (fun k => hu k c)
      refine Eq.trans (b := 1 - forget u (cut (proj x gain w) 1024 slices_S8192x11264_S8192x1024_0_1024) (ix2 r c)) ?_ ?_
      · rw [← one]; rfl
      rw [forget_apply, hl, letIn_eq, ← hl]
      exact congrArg (letIn _) (hc 1 (by omega) slices_S8192x11264_S8192x1024_0_1024 c)
    · rw [out1_narrow _ _ _ _ _ 2 (by omega) r c _ rfl]
      exact hc 2 (by omega) slices_S8192x11264_S8192x1024_0_2048 c
    · rw [out1_narrow _ _ _ _ _ 3 (by omega) r c _ rfl]
      refine Eq.trans ?_ (congrArg silu (hc 3 (by omega) slices_S8192x11264_S8192x1024_0_3072 c))
      exact congrArg (_ * ·) (sig_apply _ _)
    · rw [out1_narrow _ _ _ _ _ 4 (by omega) r c _ rfl]
      refine (div_scale _).trans ?_
      refine Eq.trans (congrArg (· * qScale) (headsFlat_apply _ qg r c)) ?_
      rw [mul_assoc]
      exact congrArg (fun f => headAt f c * _) (funext fun c => hc 4 (by omega) slices_S8192x11264_S8192x1024_0_4096 c)
    · rw [out1_narrow _ _ _ _ _ 5 (by omega) r c _ rfl]
      refine (headsFlat_apply _ kg r c).trans ?_
      refine Eq.trans (congrArg (headAt _ c * ·) (mul_one _).symm) ?_
      exact congrArg (fun f => headAt f c * _) (funext fun c => hc 5 (by omega) slices_S8192x11264_S8192x1024_0_5120 c)
    · rw [out1_narrow _ _ _ _ _ 6 (by omega) r c _ rfl]
      exact hc 6 (by omega) slices_S8192x11264_S8192x1024_0_6144 c
  · have he : (⟨1024 * j.val + c.val, by omega⟩ : Fin 11264) = ⟨7168 + (1024 * (j.val - 7) + c.val), by omega⟩ := Fin.ext (by show 1024 * j.val + c.val = 7168 + (1024 * (j.val - 7) + c.val); omega)
    rw [he, out1_wide _ _ _ _ _ r ⟨1024 * (j.val - 7) + c.val, by omega⟩, gates_apply, proj_apply]
    unfold tileFn
    rw [if_neg (by omega), if_neg (by omega), if_neg (by omega), if_neg (by omega), if_neg (by omega), if_pos hj]
    exact congrArg (fun e => Ideal.logistic (projected x gain w r e + _)) he.symm

/-- The first result, for real logits. -/
theorem out1_apply (hu : ∀ k c, u (ix2 k c) = ((u (ix2 k c)).toReal : EReal)) (r : Fin 8192) (e : Fin 11264) :
    out1 (proj x gain w) b u qg kg (ix2 r e) = entry1 x gain w b u qg kg r e := by
  refine Eq.trans ?_ (out1_at b u qg kg x gain w hu r ⟨e.val / 1024, by omega⟩ ⟨e.val % 1024, Nat.mod_lt _ (by norm_num)⟩)
  congr 2
  exact Fin.ext (Nat.div_add_mod _ _).symm

/-- The second result. -/
theorem out2_apply (r : Fin 8192) (e : Fin 3072) :
    out2 (proj x gain w) u (ix2 r e) = entry2 x gain w u r e := by
  unfold entry2 logRow
  by_cases h : e.val < 1024
  · rw [dif_pos h]
    refine (concatenate_pair_apply_left (t := S8192x3072) (s₁ := S8192x1024) (s₂ := S8192x2048) (1 : Fin 2) _ _ _ (ix2 r e) rfl (ix2 r ⟨e.val, h⟩ : S8192x1024.Idx) ?_).trans ?_
    · intro a
      match a with
      | ⟨0, _⟩ => rfl
      | ⟨1, _⟩ => rfl
    refine Eq.trans ?_ (congrArg (logGate _) (cut_proj x gain w 1 (by omega) slices_S8192x11264_S8192x1024_0_1024 r ⟨e.val, h⟩))
    refine (div_log2 _).trans ?_
    exact congrArg (fun f => Ideal.log f * log2e) (forget_apply u _ r ⟨e.val, h⟩)
  · rw [dif_neg h]
    refine (concatenate_pair_apply_right (t := S8192x3072) (s₁ := S8192x1024) (s₂ := S8192x2048) (1 : Fin 2) _ _ _ (ix2 r e) rfl rfl (ix2 r ⟨e.val - 1024, by omega⟩ : S8192x2048.Idx) ?_ ?_).trans ?_
    · intro a ha
      match a with
      | ⟨0, _⟩ => rfl
      | ⟨1, _⟩ => exact absurd rfl ha
    · show e.val - 1024 + 1024 = e.val
      omega
    · exact zero_word

end

end Cert.InProjReferenceIdeal.Hand

end
-- ==== Proof.InProjEqual.lean ====
/- The input projection: what its precondition says, and that the kernel's two results are the reference's. -/
module

public import proofs.«01_k».proof.Defs
public import proofs.«01_k».proof.Proof.InProjValue
public import proofs.«01_k».proof.Proof.InProjRefValue
public import proofs.«01_k».proof.Proof.PreRead
public import proofs.«01_k».proof.Proof.Gen.Pre_finite_logits
public import Idealize.ShloMosaic.Lib.ReduceAll

@[expose] public section

set_option maxRecDepth 16384

noncomputable section

namespace Cert.InProjProof

open Idealize.ShloMosaic Idealize.ShloMosaic.TcCoe Idealize.SL.Sem
open Cert.InProjMath

/-- A rank-zero array has one index. -/
instance : Subsingleton Pre_finite_logits.S_.Idx := ⟨fun a b => funext fun x => x.elim0⟩

/-- Where the precondition holds the logits are reals. -/
theorem real_logits (m : (ℓ : Loc InProjIdeal.nD InProjIdeal.τ InProjIdeal.sig) → Buf (Elt Ideal) ℓ) (h : Pre_InProjIdeal_finite_logits m)
    (c : Dev InProjIdeal.nD) (k : Fin 2) (j : Fin 1024) :
    InProjIdeal.Hand.inLogits m c (ix2 k j) = ((InProjIdeal.Hand.inLogits m c (ix2 k j)).toReal : EReal) := by
  have := Host.reduce_andi_all _ _ _ _ _ (congrFun (h c) ix0) (ix2 k j)
  exact Pre_finite_scores.Attn.real_of_lt _ this

section
variable (m : (ℓ : Loc InProjIdeal.nD InProjIdeal.τ InProjIdeal.sig) → Buf (Elt Ideal) ℓ) (c : Dev InProjIdeal.nD)
  (x0 : FVec Ideal InProjReferenceIdeal.S8192x2048 .f32) (x1 : FVec Ideal InProjReferenceIdeal.S1x2048 .f32) (x2 : FVec Ideal InProjReferenceIdeal.S2048x11264 .f32)
  (x3 : FVec Ideal InProjReferenceIdeal.S1x4096 .f32) (x4 : FVec Ideal InProjReferenceIdeal.S2x1024 .f32) (x5 x6 : FVec Ideal InProjReferenceIdeal.S1x128 .f32)
  (h0 : x0 = InProjIdeal.Hand.inX m c) (h1 : x1 = InProjIdeal.Hand.inGain m c) (h2 : x2 = InProjIdeal.Hand.inW m c)
  (h3 : x3 = InProjIdeal.Hand.inBias m c) (h4 : x4 = InProjIdeal.Hand.inLogits m c) (h5 : x5 = InProjIdeal.Hand.inQg m c) (h6 : x6 = InProjIdeal.Hand.inKg m c)

include h0 h1 h2 h3 h4 h5 h6 in
/-- The reference's first result is the kernel's, on equal arguments with real logits. -/
theorem equal1 (hp : Pre_InProjIdeal_finite_logits m) :
    InProjReferenceIdeal.Hand.out1 (InProjReferenceIdeal.Hand.proj x0 x1 x2) x3 x4 x5 x6 = InProjIdeal.Hand.result1 m c := by
  subst h0 h1 h2 h3 h4 h5 h6
  funext i
  have hi : i = ix2 (i 0) (i 1) := by
    funext a
    match a with
    | ⟨0, _⟩ => rfl
    | ⟨1, _⟩ => rfl
  exact (congrArg _ hi).trans (InProjReferenceIdeal.Hand.out1_apply _ _ _ _ _ _ _ (real_logits m hp c) (i 0) (i 1))

include h0 h1 h2 h4 in
/-- The reference's second result is the kernel's, on equal arguments. -/
theorem equal2 : InProjReferenceIdeal.Hand.out2 (InProjReferenceIdeal.Hand.proj x0 x1 x2) x4 = InProjIdeal.Hand.result2 m c := by
  subst h0 h1 h2 h4
  funext i
  have hi : i = ix2 (i 0) (i 1) := by
    funext a
    match a with
    | ⟨0, _⟩ => rfl
    | ⟨1, _⟩ => rfl
  exact (congrArg _ hi).trans (InProjReferenceIdeal.Hand.out2_apply _ _ _ _ (i 0) (i 1))

end

/-- The kernel's two results are the reference's, for all arguments with finite logits. -/
theorem algebraic : algebraic_InProjIdeal_InProjReferenceIdeal_pre_finite_logits := by
  intro m g m' g' hpre hargs
  refine ⟨fun c => InProjIdeal.Hand.result1 m c, fun c => InProjIdeal.Hand.result2 m c, InProjIdeal.Hand.run_value m (real_logits m hpre) g, ?_⟩
  refine (θ_run _ _ _).mono (fun r h c => ?_) (InProjReferenceIdeal.Value.run (F := Ideal) m' g')
  obtain ⟨a0, a1, a2, a3, a4, a5, a6⟩ := hargs c
  exact ⟨(h c).1.trans (equal1 m c _ _ _ _ _ _ _ a0 a1 a2 a3 a4 a5 a6 hpre),
    (h c).2.1.trans (equal2 m c _ _ _ _ a0 a1 a2 a4), (h c).2.2⟩

end Cert.InProjProof

end
-- ==== Proof.lean ====
/- The certificate: the programs' frames, the rewritten constants, and that the attention's five results, the feed-forward
   layer's one and the merge's two are their references'. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_scores
public import proofs.«01_k».proof.Proof.Gen.Pre_finite_logits
public import proofs.«01_k».proof.Proof.Gen.KernelIdeal.Value
public import proofs.«01_k».proof.Proof.Gen.ReferenceIdeal.Run
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnReferenceIdeal
public import proofs.«01_k».proof.Proof.Gen.FfnReferenceIdeal.Run
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.MergeReferenceIdeal
public import proofs.«01_k».proof.Proof.Gen.MergeReferenceIdeal.Run
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjReferenceIdeal
public import proofs.«01_k».proof.Proof.Gen.InProjReferenceIdeal.Run
public import proofs.«01_k».proof.Proof.Results
public import proofs.«01_k».proof.Proof.RefValue
public import proofs.«01_k».proof.Proof.PreRead
public import proofs.«01_k».proof.Proof.AtBits
public import proofs.«01_k».proof.Proof.FfnIdealBody
public import proofs.«01_k».proof.Proof.FfnEqual
public import proofs.«01_k».proof.Proof.MergeEqual
public import proofs.«01_k».proof.Proof.InProjIdealBody
public import proofs.«01_k».proof.Proof.InProjRef
public import proofs.«01_k».proof.Proof.InProjEqual
public import Idealize.ShloMosaic.Lib.Quiescent
public import Idealize.ShloMosaic.Adequacy
public import Idealize.ShloMosaic.Init

@[expose] public section

noncomputable section

namespace Cert.Proof

open Idealize.ShloMosaic Idealize.SL.Sem

/-- The reference runs, leaves its arguments unchanged, and has no semaphore to leave above zero. -/
theorem reference_frame (m : (ℓ : Loc ReferenceIdeal.nD ReferenceIdeal.τ ReferenceIdeal.sig) → Buf (Elt Ideal) ℓ) (g : Dev ReferenceIdeal.nD → PrngReg) :
    θ_run (ReferenceIdeal.defs (F := Ideal)) (onTc (τ := ReferenceIdeal.τ) (ReferenceIdeal.main (F := Ideal))) ⟨m, fun _ => 0, g⟩ (fun r => (∀ c : Dev ReferenceIdeal.nD,
      r.2.mem ((c.tc : Thread ReferenceIdeal.nD ReferenceIdeal.τ).loc ReferenceIdeal.main_arg0) = m ((c.tc : Thread ReferenceIdeal.nD ReferenceIdeal.τ).loc ReferenceIdeal.main_arg0)
      ∧ r.2.mem ((c.tc : Thread ReferenceIdeal.nD ReferenceIdeal.τ).loc ReferenceIdeal.main_arg1) = m ((c.tc : Thread ReferenceIdeal.nD ReferenceIdeal.τ).loc ReferenceIdeal.main_arg1)
      ∧ r.2.mem ((c.tc : Thread ReferenceIdeal.nD ReferenceIdeal.τ).loc ReferenceIdeal.main_arg2) = m ((c.tc : Thread ReferenceIdeal.nD ReferenceIdeal.τ).loc ReferenceIdeal.main_arg2)
      ∧ r.2.mem ((c.tc : Thread ReferenceIdeal.nD ReferenceIdeal.τ).loc ReferenceIdeal.main_arg3) = m ((c.tc : Thread ReferenceIdeal.nD ReferenceIdeal.τ).loc ReferenceIdeal.main_arg3)
      ∧ r.2.mem ((c.tc : Thread ReferenceIdeal.nD ReferenceIdeal.τ).loc ReferenceIdeal.main_arg4) = m ((c.tc : Thread ReferenceIdeal.nD ReferenceIdeal.τ).loc ReferenceIdeal.main_arg4)
      ∧ r.2.mem ((c.tc : Thread ReferenceIdeal.nD ReferenceIdeal.τ).loc ReferenceIdeal.main_arg5) = m ((c.tc : Thread ReferenceIdeal.nD ReferenceIdeal.τ).loc ReferenceIdeal.main_arg5))
      ∧ r.2.sem = fun _ => 0) :=
  (θ_run (ReferenceIdeal.defs (F := Ideal)) _ _).mono
    (fun r h => ⟨fun c => (h c).2.2.2.2.2, sem_eq_zero_of_no_sems (by decide) r.2⟩)
    (ReferenceIdeal.Value.run (F := Ideal) m g)

section Equal

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ) (c : Dev KernelIdeal.nD)

/-- The reference's attention is the kernel's. -/
theorem equal0 (hP : Cert.Attn.FiniteColumns (m ((c.tc : Thread KernelIdeal.nD KernelIdeal.τ).loc KernelIdeal.main_arg0)))
    (hR : Cert.Attn.FiniteBias (m ((c.tc : Thread KernelIdeal.nD KernelIdeal.τ).loc KernelIdeal.main_arg1)))
    (h0 : m' ((c.tc : Thread ReferenceIdeal.nD ReferenceIdeal.τ).loc ReferenceIdeal.main_arg0) = m ((c.tc : Thread KernelIdeal.nD KernelIdeal.τ).loc KernelIdeal.main_arg0))
    (h1 : m' ((c.tc : Thread ReferenceIdeal.nD ReferenceIdeal.τ).loc ReferenceIdeal.main_arg1) = m ((c.tc : Thread KernelIdeal.nD KernelIdeal.τ).loc KernelIdeal.main_arg1)) :
    (ReferenceIdeal.Value.res_main_v98 m' c : FVec Ideal ReferenceIdeal.S4x2048x1024 .bf16) = KernelIdeal.Value.G8 m c := by
  rw [ReferenceIdeal.Attn.result_eq, h0, h1]
  funext i
  refine Eq.trans ?_ (KernelIdeal.Attn.result0 m c hP hR i).symm
  refine Eq.trans (congrArg _ ?_) (ReferenceIdeal.Attn.rows_attention _ _ hP hR (i 0) (i 1) (i 2))
  funext a
  match a with
  | ⟨0, _⟩ => rfl
  | ⟨1, _⟩ => rfl
  | ⟨2, _⟩ => rfl

/-- The first weight, narrowed. -/
theorem equal1 (h : m' ((c.tc : Thread ReferenceIdeal.nD ReferenceIdeal.τ).loc ReferenceIdeal.main_arg2) = m ((c.tc : Thread KernelIdeal.nD KernelIdeal.τ).loc KernelIdeal.main_arg2)) :
    (truncf .bf16 (m' ((c.tc : Thread ReferenceIdeal.nD ReferenceIdeal.τ).loc ReferenceIdeal.main_arg2) : FVec Ideal ReferenceIdeal.S1024x2048 .f32) ReferenceIdeal.Gen.bitsLt_bf16_f32
      : FVec Ideal ReferenceIdeal.S1024x2048 .bf16) = KernelIdeal.Value.G9 m c := by
  rw [h]
  funext i
  exact (KernelIdeal.Attn.result1 m c i i rfl (Nat.zero_add _).symm).symm

/-- The second weight, narrowed. -/
theorem equal2 (h : m' ((c.tc : Thread ReferenceIdeal.nD ReferenceIdeal.τ).loc ReferenceIdeal.main_arg3) = m ((c.tc : Thread KernelIdeal.nD KernelIdeal.τ).loc KernelIdeal.main_arg3)) :
    (truncf .bf16 (m' ((c.tc : Thread ReferenceIdeal.nD ReferenceIdeal.τ).loc ReferenceIdeal.main_arg3) : FVec Ideal ReferenceIdeal.S1024x2048 .f32) ReferenceIdeal.Gen.bitsLt_bf16_f32
      : FVec Ideal ReferenceIdeal.S1024x2048 .bf16) = KernelIdeal.Value.G10 m c := by
  rw [h]
  funext i
  exact (KernelIdeal.Attn.result2 m c i i rfl (Nat.zero_add _).symm).symm

/-- The third weight, narrowed. -/
theorem equal3 (h : m' ((c.tc : Thread ReferenceIdeal.nD ReferenceIdeal.τ).loc ReferenceIdeal.main_arg4) = m ((c.tc : Thread KernelIdeal.nD KernelIdeal.τ).loc KernelIdeal.main_arg4)) :
    (truncf .bf16 (m' ((c.tc : Thread ReferenceIdeal.nD ReferenceIdeal.τ).loc ReferenceIdeal.main_arg4) : FVec Ideal ReferenceIdeal.S2048x2048 .f32) ReferenceIdeal.Gen.bitsLt_bf16_f32
      : FVec Ideal ReferenceIdeal.S2048x2048 .bf16) = KernelIdeal.Value.G11 m c := by
  rw [h]
  funext i
  exact (KernelIdeal.Attn.result3 m c i i rfl (Nat.zero_add _).symm).symm

/-- The fourth weight's right half, narrowed. -/
theorem equal4 (h : m' ((c.tc : Thread ReferenceIdeal.nD ReferenceIdeal.τ).loc ReferenceIdeal.main_arg5) = m ((c.tc : Thread KernelIdeal.nD KernelIdeal.τ).loc KernelIdeal.main_arg5)) :
    (truncf .bf16 (extractStridedSlice ReferenceIdeal.S2048x5632 ![0, 5632] (m' ((c.tc : Thread ReferenceIdeal.nD ReferenceIdeal.τ).loc ReferenceIdeal.main_arg5) : FVec Ideal ReferenceIdeal.S2048x11264 .f32)
        ReferenceIdeal.Gen.slices_S2048x11264_S2048x5632_0_5632) ReferenceIdeal.Gen.bitsLt_bf16_f32
      : FVec Ideal ReferenceIdeal.S2048x5632 .bf16) = KernelIdeal.Value.G12 m c := by
  rw [h]
  funext i
  exact (KernelIdeal.Attn.result4 m c i _ (Nat.zero_add _) rfl).symm

end Equal

/-- Where the queries, the keys and the biases are finite, the kernel's five results are the reference's. -/
theorem algebraic : algebraic_KernelIdeal_ReferenceIdeal_pre_finite_scores := by
  intro m g m' g' hpre hargs
  have hf : ∀ c : Dev KernelIdeal.nD, Cert.Attn.FiniteColumns (m ((c.tc : Thread KernelIdeal.nD KernelIdeal.τ).loc KernelIdeal.main_arg0))
      ∧ Cert.Attn.FiniteBias (m ((c.tc : Thread KernelIdeal.nD KernelIdeal.τ).loc KernelIdeal.main_arg1)) :=
    fun c => Pre_finite_scores.Attn.both _ _ _ _ _ _ (hpre c)
  refine ⟨fun c => KernelIdeal.Value.G8 m c, fun c => KernelIdeal.Value.G9 m c, fun c => KernelIdeal.Value.G10 m c,
    fun c => KernelIdeal.Value.G11 m c, fun c => KernelIdeal.Value.G12 m c, KernelIdeal.Value.run m g, ?_⟩
  refine (θ_run _ _ _).mono (fun r h c => ?_) (ReferenceIdeal.Value.run (F := Ideal) m' g')
  obtain ⟨h0, h1, h2, h3, h4, h5⟩ := h c
  obtain ⟨a0, a1, a2, a3, a4, a5⟩ := hargs c
  exact ⟨h0.trans (equal0 m m' c (hf c).1 (hf c).2 a0 a1), h1.trans (equal1 m m' c a2), h2.trans (equal2 m m' c a3),
    h3.trans (equal3 m m' c a4), h4.trans (equal4 m m' c a5), h5⟩

/-- Everything the certificate claims. -/
theorem claim : Cert.Claim := ⟨Cert.Kernel.Gen.facts, Cert.KernelIdeal.Gen.facts, Cert.ReferenceIdeal.Gen.facts,
  Cert.Ffn.Gen.facts, Cert.FfnIdeal.Gen.facts, Cert.FfnReferenceIdeal.Gen.facts,
  Cert.Merge.Gen.facts, Cert.MergeIdeal.Gen.facts, Cert.MergeReferenceIdeal.Gen.facts,
  Cert.InProj.Gen.facts, Cert.InProjIdeal.Gen.facts, Cert.InProjReferenceIdeal.Gen.facts, Cert.Pre_finite_scores.Gen.facts, Cert.Pre_finite_logits.Gen.facts,
  fun m g _ => Kernel.Gen.frame m g,
  fun m g _ => KernelIdeal.Gen.frame m g,
  fun m g _ => KernelIdeal.Gen.frame m g,
  fun m g _ => reference_frame m g,
  fun m g _ => reference_frame m g,
  AtBits.ffn,
  fun m g _ => FfnIdeal.Hand.frame m g,
  fun m g _ => FfnProof.reference_frame m g,
  fun m g _ => Merge.Gen.frame m g,
  fun m g _ => MergeIdeal.Gen.frame m g,
  fun m g _ => MergeProof.reference_frame m g,
  AtBits.in_proj,
  fun m g _ => InProjIdeal.Hand.frame m g,
  fun m g _ => InProjIdeal.Hand.frame m g,
  fun m g _ => InProjProof.reference_frame m g,
  fun m g _ => InProjProof.reference_frame m g,
  ⟨IdealRules.named_const.statement Cert.KernelIdeal.κ "log2e" .f32 0x3FB8AA3B#32 (((Real.log 2)⁻¹ : ℝ) : EReal) rfl,
    IdealRules.named_const.statement Cert.KernelIdeal.κ "mask" .f32 0xF149F2CA#32 ⊥ rfl⟩,
  algebraic,
  trivial,
  FfnProof.algebraic,
  trivial,
  MergeProof.algebraic,
  ⟨IdealRules.named_const.statement Cert.InProjIdeal.κ "log2e" .f32 0x3FB8AA3B#32 (((Real.log 2)⁻¹ : ℝ) : EReal) rfl,
    IdealRules.named_const.statement Cert.InProjIdeal.κ "scale" .f32 0x3E0293EE#32 ((((Real.sqrt 128) * (Real.log 2))⁻¹ : ℝ) : EReal) rfl⟩,
  InProjProof.algebraic⟩

end Cert.Proof

end
